-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInIdeal_finite_odd_in [hPre_finite_odd_in : Cert.Pre_finite_odd_in.Facts] (m : (ℓ : Loc Cert.OddInIdeal.nD Cert.OddInIdeal.τ Cert.OddInIdeal.sig) → Buf (Elt Ideal) ℓ) : Prop :=
  ∀ c : Dev Cert.OddInIdeal.nD,
    (Cert.Pre_finite_odd_in.fn (F := Ideal) (m ((c.tc : Thread Cert.OddInIdeal.nD Cert.OddInIdeal.τ).loc Cert.OddInIdeal.main_arg0)) (m ((c.tc : Thread Cert.OddInIdeal.nD Cert.OddInIdeal.τ).loc Cert.OddInIdeal.main_arg1))).1 = (fun _ => 1#1)
    ∧ (Cert.Pre_finite_odd_in.fn (F := Ideal) (m ((c.tc : Thread Cert.OddInIdeal.nD Cert.OddInIdeal.τ).loc Cert.OddInIdeal.main_arg0)) (m ((c.tc : Thread Cert.OddInIdeal.nD Cert.OddInIdeal.τ).loc Cert.OddInIdeal.main_arg1))).2 = (fun _ => 1#1)

def Pre_OddInReferenceIdeal (m : (ℓ : Loc Cert.OddInReferenceIdeal.nD Cert.OddInReferenceIdeal.τ Cert.OddInReferenceIdeal.sig) → Buf (Elt Ideal) ℓ) : Prop :=
  True

def Pre_OddInReferenceIdeal_finite_odd_in [hPre_finite_odd_in : Cert.Pre_finite_odd_in.Facts] (m : (ℓ : Loc Cert.OddInReferenceIdeal.nD Cert.OddInReferenceIdeal.τ Cert.OddInReferenceIdeal.sig) → Buf (Elt Ideal) ℓ) : Prop :=
  ∀ c : Dev Cert.OddInReferenceIdeal.nD,
    (Cert.Pre_finite_odd_in.fn (F := Ideal) (m ((c.tc : Thread Cert.OddInReferenceIdeal.nD Cert.OddInReferenceIdeal.τ).loc Cert.OddInReferenceIdeal.main_arg0)) (m ((c.tc : Thread Cert.OddInReferenceIdeal.nD Cert.OddInReferenceIdeal.τ).loc Cert.OddInReferenceIdeal.main_arg1))).1 = (fun _ => 1#1)
    ∧ (Cert.Pre_finite_odd_in.fn (F := Ideal) (m ((c.tc : Thread Cert.OddInReferenceIdeal.nD Cert.OddInReferenceIdeal.τ).loc Cert.OddInReferenceIdeal.main_arg0)) (m ((c.tc : Thread Cert.OddInReferenceIdeal.nD Cert.OddInReferenceIdeal.τ).loc Cert.OddInReferenceIdeal.main_arg1))).2 = (fun _ => 1#1)

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqIdeal_finite_uq [hPre_finite_uq : Cert.Pre_finite_uq.Facts] (m : (ℓ : Loc Cert.UqIdeal.nD Cert.UqIdeal.τ Cert.UqIdeal.sig) → Buf (Elt Ideal) ℓ) : Prop :=
  ∀ c : Dev Cert.UqIdeal.nD,
    (Cert.Pre_finite_uq.fn (F := Ideal) (m ((c.tc : Thread Cert.UqIdeal.nD Cert.UqIdeal.τ).loc Cert.UqIdeal.main_arg0)) (m ((c.tc : Thread Cert.UqIdeal.nD Cert.UqIdeal.τ).loc Cert.UqIdeal.main_arg1))).1 = (fun _ => 1#1)
    ∧ (Cert.Pre_finite_uq.fn (F := Ideal) (m ((c.tc : Thread Cert.UqIdeal.nD Cert.UqIdeal.τ).loc Cert.UqIdeal.main_arg0)) (m ((c.tc : Thread Cert.UqIdeal.nD Cert.UqIdeal.τ).loc Cert.UqIdeal.main_arg1))).2 = (fun _ => 1#1)

def Pre_UqReferenceIdeal (m : (ℓ : Loc Cert.UqReferenceIdeal.nD Cert.UqReferenceIdeal.τ Cert.UqReferenceIdeal.sig) → Buf (Elt Ideal) ℓ) : Prop :=
  True

def Pre_UqReferenceIdeal_finite_uq [hPre_finite_uq : Cert.Pre_finite_uq.Facts] (m : (ℓ : Loc Cert.UqReferenceIdeal.nD Cert.UqReferenceIdeal.τ Cert.UqReferenceIdeal.sig) → Buf (Elt Ideal) ℓ) : Prop :=
  ∀ c : Dev Cert.UqReferenceIdeal.nD,
    (Cert.Pre_finite_uq.fn (F := Ideal) (m ((c.tc : Thread Cert.UqReferenceIdeal.nD Cert.UqReferenceIdeal.τ).loc Cert.UqReferenceIdeal.main_arg0)) (m ((c.tc : Thread Cert.UqReferenceIdeal.nD Cert.UqReferenceIdeal.τ).loc Cert.UqReferenceIdeal.main_arg1))).1 = (fun _ => 1#1)
    ∧ (Cert.Pre_finite_uq.fn (F := Ideal) (m ((c.tc : Thread Cert.UqReferenceIdeal.nD Cert.UqReferenceIdeal.τ).loc Cert.UqReferenceIdeal.main_arg0)) (m ((c.tc : Thread Cert.UqReferenceIdeal.nD Cert.UqReferenceIdeal.τ).loc Cert.UqReferenceIdeal.main_arg1))).2 = (fun _ => 1#1)

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvReferenceIdeal (m : (ℓ : Loc Cert.UkvReferenceIdeal.nD Cert.UkvReferenceIdeal.τ Cert.UkvReferenceIdeal.sig) → Buf (Elt Ideal) ℓ) : Prop :=
  True

def Pre_SharedUp (m : (ℓ : Loc Cert.SharedUp.nD Cert.SharedUp.τ Cert.SharedUp.sig) → Buf (Elt Bits) ℓ) : Prop :=
  True

def Pre_SharedUpIdeal (m : (ℓ : Loc Cert.SharedUpIdeal.nD Cert.SharedUpIdeal.τ Cert.SharedUpIdeal.sig) → Buf (Elt Ideal) ℓ) : Prop :=
  True

def Pre_SharedUpReferenceIdeal (m : (ℓ : Loc Cert.SharedUpReferenceIdeal.nD Cert.SharedUpReferenceIdeal.τ Cert.SharedUpReferenceIdeal.sig) → Buf (Elt Ideal) ℓ) : Prop :=
  True

def Pre_EvenCombine (m : (ℓ : Loc Cert.EvenCombine.nD Cert.EvenCombine.τ Cert.EvenCombine.sig) → Buf (Elt Bits) ℓ) : Prop :=
  True

def Pre_EvenCombineIdeal (m : (ℓ : Loc Cert.EvenCombineIdeal.nD Cert.EvenCombineIdeal.τ Cert.EvenCombineIdeal.sig) → Buf (Elt Ideal) ℓ) : Prop :=
  True

def Pre_EvenCombineReferenceIdeal (m : (ℓ : Loc Cert.EvenCombineReferenceIdeal.nD Cert.EvenCombineReferenceIdeal.τ Cert.EvenCombineReferenceIdeal.sig) → Buf (Elt Ideal) ℓ) : Prop :=
  True

def Pre_OddCombine (m : (ℓ : Loc Cert.OddCombine.nD Cert.OddCombine.τ Cert.OddCombine.sig) → Buf (Elt Bits) ℓ) : Prop :=
  True

def Pre_OddCombineIdeal (m : (ℓ : Loc Cert.OddCombineIdeal.nD Cert.OddCombineIdeal.τ Cert.OddCombineIdeal.sig) → Buf (Elt Ideal) ℓ) : Prop :=
  True

def Pre_OddCombineReferenceIdeal (m : (ℓ : Loc Cert.OddCombineReferenceIdeal.nD Cert.OddCombineReferenceIdeal.τ Cert.OddCombineReferenceIdeal.sig) → Buf (Elt Ideal) ℓ) : Prop :=
  True

def Pre_MoeUp [hPre_experts_named : Cert.Pre_experts_named.Facts] (m : (ℓ : Loc Cert.MoeUp.nD Cert.MoeUp.τ Cert.MoeUp.sig) → Buf (Elt Bits) ℓ) : Prop :=
  ∀ c : Dev Cert.MoeUp.nD,
    (Cert.Pre_experts_named.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3))) = (fun _ => 1#1)

def Pre_MoeUpIdeal [hPre_experts_named : Cert.Pre_experts_named.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_experts_named.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3))) = (fun _ => 1#1)

def Pre_MoeUpReferenceIdeal [hPre_experts_named : Cert.Pre_experts_named.Facts] (m : (ℓ : Loc Cert.MoeUpReferenceIdeal.nD Cert.MoeUpReferenceIdeal.τ Cert.MoeUpReferenceIdeal.sig) → Buf (Elt Ideal) ℓ) : Prop :=
  ∀ c : Dev Cert.MoeUpReferenceIdeal.nD,
    (Cert.Pre_experts_named.fn (F := Ideal) (m ((c.tc : Thread Cert.MoeUpReferenceIdeal.nD Cert.MoeUpReferenceIdeal.τ).loc Cert.MoeUpReferenceIdeal.main_arg0)) (m ((c.tc : Thread Cert.MoeUpReferenceIdeal.nD Cert.MoeUpReferenceIdeal.τ).loc Cert.MoeUpReferenceIdeal.main_arg1)) (m ((c.tc : Thread Cert.MoeUpReferenceIdeal.nD Cert.MoeUpReferenceIdeal.τ).loc Cert.MoeUpReferenceIdeal.main_arg2)) (m ((c.tc : Thread Cert.MoeUpReferenceIdeal.nD Cert.MoeUpReferenceIdeal.τ).loc Cert.MoeUpReferenceIdeal.main_arg3))) = (fun _ => 1#1)

def Pre_SharedUpLast (m : (ℓ : Loc Cert.SharedUpLast.nD Cert.SharedUpLast.τ Cert.SharedUpLast.sig) → Buf (Elt Bits) ℓ) : Prop :=
  True

def Pre_SharedUpLastIdeal (m : (ℓ : Loc Cert.SharedUpLastIdeal.nD Cert.SharedUpLastIdeal.τ Cert.SharedUpLastIdeal.sig) → Buf (Elt Ideal) ℓ) : Prop :=
  True

def Pre_SharedUpLastReferenceIdeal (m : (ℓ : Loc Cert.SharedUpLastReferenceIdeal.nD Cert.SharedUpLastReferenceIdeal.τ Cert.SharedUpLastReferenceIdeal.sig) → Buf (Elt Ideal) ℓ) : Prop :=
  True

def Pre_MoeUpLast [hPre_experts_named_last : Cert.Pre_experts_named_last.Facts] (m : (ℓ : Loc Cert.MoeUpLast.nD Cert.MoeUpLast.τ Cert.MoeUpLast.sig) → Buf (Elt Bits) ℓ) : Prop :=
  ∀ c : Dev Cert.MoeUpLast.nD,
    (Cert.Pre_experts_named_last.fn (F := Bits) (m ((c.tc : Thread Cert.MoeUpLast.nD Cert.MoeUpLast.τ).loc Cert.MoeUpLast.main_arg0)) (m ((c.tc : Thread Cert.MoeUpLast.nD Cert.MoeUpLast.τ).loc Cert.MoeUpLast.main_arg1)) (m ((c.tc : Thread Cert.MoeUpLast.nD Cert.MoeUpLast.τ).loc Cert.MoeUpLast.main_arg2)) (m ((c.tc : Thread Cert.MoeUpLast.nD Cert.MoeUpLast.τ).loc Cert.MoeUpLast.main_arg3))) = (fun _ => 1#1)

def Pre_MoeUpLastIdeal [hPre_experts_named_last : Cert.Pre_experts_named_last.Facts] (m : (ℓ : Loc Cert.MoeUpLastIdeal.nD Cert.MoeUpLastIdeal.τ Cert.MoeUpLastIdeal.sig) → Buf (Elt Ideal) ℓ) : Prop :=
  ∀ c : Dev Cert.MoeUpLastIdeal.nD,
    (Cert.Pre_experts_named_last.fn (F := Ideal) (m ((c.tc : Thread Cert.MoeUpLastIdeal.nD Cert.MoeUpLastIdeal.τ).loc Cert.MoeUpLastIdeal.main_arg0)) (m ((c.tc : Thread Cert.MoeUpLastIdeal.nD Cert.MoeUpLastIdeal.τ).loc Cert.MoeUpLastIdeal.main_arg1)) (m ((c.tc : Thread Cert.MoeUpLastIdeal.nD Cert.MoeUpLastIdeal.τ).loc Cert.MoeUpLastIdeal.main_arg2)) (m ((c.tc : Thread Cert.MoeUpLastIdeal.nD Cert.MoeUpLastIdeal.τ).loc Cert.MoeUpLastIdeal.main_arg3))) = (fun _ => 1#1)

def Pre_MoeUpLastReferenceIdeal [hPre_experts_named_last : Cert.Pre_experts_named_last.Facts] (m : (ℓ : Loc Cert.MoeUpLastReferenceIdeal.nD Cert.MoeUpLastReferenceIdeal.τ Cert.MoeUpLastReferenceIdeal.sig) → Buf (Elt Ideal) ℓ) : Prop :=
  ∀ c : Dev Cert.MoeUpLastReferenceIdeal.nD,
    (Cert.Pre_experts_named_last.fn (F := Ideal) (m ((c.tc : Thread Cert.MoeUpLastReferenceIdeal.nD Cert.MoeUpLastReferenceIdeal.τ).loc Cert.MoeUpLastReferenceIdeal.main_arg0)) (m ((c.tc : Thread Cert.MoeUpLastReferenceIdeal.nD Cert.MoeUpLastReferenceIdeal.τ).loc Cert.MoeUpLastReferenceIdeal.main_arg1)) (m ((c.tc : Thread Cert.MoeUpLastReferenceIdeal.nD Cert.MoeUpLastReferenceIdeal.τ).loc Cert.MoeUpLastReferenceIdeal.main_arg2)) (m ((c.tc : Thread Cert.MoeUpLastReferenceIdeal.nD Cert.MoeUpLastReferenceIdeal.τ).loc Cert.MoeUpLastReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3)
      ∧ r.2.mem ((c.tc : Thread Cert.EvenOutReferenceIdeal.nD Cert.EvenOutReferenceIdeal.τ).loc Cert.EvenOutReferenceIdeal.main_arg4) = m ((c.tc : Thread Cert.EvenOutReferenceIdeal.nD Cert.EvenOutReferenceIdeal.τ).loc Cert.EvenOutReferenceIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInIdeal_pre_finite_odd_in [hOddInIdeal : Cert.OddInIdeal.Facts] [hPre_finite_odd_in : Cert.Pre_finite_odd_in.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal_finite_odd_in m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_OddInReferenceIdeal_pre_finite_odd_in [hOddInReferenceIdeal : Cert.OddInReferenceIdeal.Facts] [hPre_finite_odd_in : Cert.Pre_finite_odd_in.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal_finite_odd_in m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2)
      ∧ r.2.mem ((c.tc : Thread Cert.OddOutReferenceIdeal.nD Cert.OddOutReferenceIdeal.τ).loc Cert.OddOutReferenceIdeal.main_arg3) = m ((c.tc : Thread Cert.OddOutReferenceIdeal.nD Cert.OddOutReferenceIdeal.τ).loc Cert.OddOutReferenceIdeal.main_arg3)
      ∧ r.2.mem ((c.tc : Thread Cert.OddOutReferenceIdeal.nD Cert.OddOutReferenceIdeal.τ).loc Cert.OddOutReferenceIdeal.main_arg4) = m ((c.tc : Thread Cert.OddOutReferenceIdeal.nD Cert.OddOutReferenceIdeal.τ).loc Cert.OddOutReferenceIdeal.main_arg4))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqIdeal_pre_finite_uq [hUqIdeal : Cert.UqIdeal.Facts] [hPre_finite_uq : Cert.Pre_finite_uq.Facts] : Prop :=
  ∀ (m : (ℓ : Loc Cert.UqIdeal.nD Cert.UqIdeal.τ Cert.UqIdeal.sig) → Buf (Elt Ideal) ℓ) (g : Dev Cert.UqIdeal.nD → PrngReg), Pre_UqIdeal_finite_uq m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqReferenceIdeal [hUqReferenceIdeal : Cert.UqReferenceIdeal.Facts] : Prop :=
  ∀ (m : (ℓ : Loc Cert.UqReferenceIdeal.nD Cert.UqReferenceIdeal.τ Cert.UqReferenceIdeal.sig) → Buf (Elt Ideal) ℓ) (g : Dev Cert.UqReferenceIdeal.nD → PrngReg), Pre_UqReferenceIdeal m →
    θ_run (Cert.UqReferenceIdeal.defs (F := Ideal)) (onTc (τ := Cert.UqReferenceIdeal.τ) (Cert.UqReferenceIdeal.main (F := Ideal))) ⟨m, fun _ => 0, g⟩ (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1))
      ∧ r.2.sem = fun _ => 0)

def quiescent_UqReferenceIdeal_pre_finite_uq [hUqReferenceIdeal : Cert.UqReferenceIdeal.Facts] [hPre_finite_uq : Cert.Pre_finite_uq.Facts] : Prop :=
  ∀ (m : (ℓ : Loc Cert.UqReferenceIdeal.nD Cert.UqReferenceIdeal.τ Cert.UqReferenceIdeal.sig) → Buf (Elt Ideal) ℓ) (g : Dev Cert.UqReferenceIdeal.nD → PrngReg), Pre_UqReferenceIdeal_finite_uq m →
    θ_run (Cert.UqReferenceIdeal.defs (F := Ideal)) (onTc (τ := Cert.UqReferenceIdeal.τ) (Cert.UqReferenceIdeal.main (F := Ideal))) ⟨m, fun _ => 0, g⟩ (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvReferenceIdeal [hUkvReferenceIdeal : Cert.UkvReferenceIdeal.Facts] : Prop :=
  ∀ (m : (ℓ : Loc Cert.UkvReferenceIdeal.nD Cert.UkvReferenceIdeal.τ Cert.UkvReferenceIdeal.sig) → Buf (Elt Ideal) ℓ) (g : Dev Cert.UkvReferenceIdeal.nD → PrngReg), Pre_UkvReferenceIdeal m →
    θ_run (Cert.UkvReferenceIdeal.defs (F := Ideal)) (onTc (τ := Cert.UkvReferenceIdeal.τ) (Cert.UkvReferenceIdeal.main (F := Ideal))) ⟨m, fun _ => 0, g⟩ (fun r => (∀ c : Dev Cert.UkvReferenceIdeal.nD,
      r.2.mem ((c.tc : Thread Cert.UkvReferenceIdeal.nD Cert.UkvReferenceIdeal.τ).loc Cert.UkvReferenceIdeal.main_arg0) = m ((c.tc : Thread Cert.UkvReferenceIdeal.nD Cert.UkvReferenceIdeal.τ).loc Cert.UkvReferenceIdeal.main_arg0)
      ∧ r.2.mem ((c.tc : Thread Cert.UkvReferenceIdeal.nD Cert.UkvReferenceIdeal.τ).loc Cert.UkvReferenceIdeal.main_arg1) = m ((c.tc : Thread Cert.UkvReferenceIdeal.nD Cert.UkvReferenceIdeal.τ).loc Cert.UkvReferenceIdeal.main_arg1))
      ∧ r.2.sem = fun _ => 0)

def quiescent_SharedUp [hSharedUp : Cert.SharedUp.Facts] : Prop :=
  ∀ (m : (ℓ : Loc Cert.SharedUp.nD Cert.SharedUp.τ Cert.SharedUp.sig) → Buf (Elt Bits) ℓ) (g : Dev Cert.SharedUp.nD → PrngReg), Pre_SharedUp m →
    θ_run (Cert.SharedUp.defs (F := Bits)) (onTc (τ := Cert.SharedUp.τ) (Cert.SharedUp.main (F := Bits))) ⟨m, fun _ => 0, g⟩ (fun r => (∀ c : Dev Cert.SharedUp.nD,
      r.2.mem ((c.tc : Thread Cert.SharedUp.nD Cert.SharedUp.τ).loc Cert.SharedUp.main_arg0) = m ((c.tc : Thread Cert.SharedUp.nD Cert.SharedUp.τ).loc Cert.SharedUp.main_arg0)
      ∧ r.2.mem ((c.tc : Thread Cert.SharedUp.nD Cert.SharedUp.τ).loc Cert.SharedUp.main_arg1) = m ((c.tc : Thread Cert.SharedUp.nD Cert.SharedUp.τ).loc Cert.SharedUp.main_arg1)
      ∧ r.2.mem ((c.tc : Thread Cert.SharedUp.nD Cert.SharedUp.τ).loc Cert.SharedUp.main_arg2) = m ((c.tc : Thread Cert.SharedUp.nD Cert.SharedUp.τ).loc Cert.SharedUp.main_arg2))
      ∧ r.2.sem = fun _ => 0)

def quiescent_SharedUpIdeal [hSharedUpIdeal : Cert.SharedUpIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg), Pre_SharedUpIdeal m →
    θ_run (Cert.SharedUpIdeal.defs (F := Ideal)) (onTc (τ := Cert.SharedUpIdeal.τ) (Cert.SharedUpIdeal.main (F := Ideal))) ⟨m, fun _ => 0, g⟩ (fun r => (∀ c : Dev Cert.SharedUpIdeal.nD,
      r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
      ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
      ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2))
      ∧ r.2.sem = fun _ => 0)

def quiescent_SharedUpReferenceIdeal [hSharedUpReferenceIdeal : Cert.SharedUpReferenceIdeal.Facts] : Prop :=
  ∀ (m : (ℓ : Loc Cert.SharedUpReferenceIdeal.nD Cert.SharedUpReferenceIdeal.τ Cert.SharedUpReferenceIdeal.sig) → Buf (Elt Ideal) ℓ) (g : Dev Cert.SharedUpReferenceIdeal.nD → PrngReg), Pre_SharedUpReferenceIdeal m →
    θ_run (Cert.SharedUpReferenceIdeal.defs (F := Ideal)) (onTc (τ := Cert.SharedUpReferenceIdeal.τ) (Cert.SharedUpReferenceIdeal.main (F := Ideal))) ⟨m, fun _ => 0, g⟩ (fun r => (∀ c : Dev Cert.SharedUpReferenceIdeal.nD,
      r.2.mem ((c.tc : Thread Cert.SharedUpReferenceIdeal.nD Cert.SharedUpReferenceIdeal.τ).loc Cert.SharedUpReferenceIdeal.main_arg0) = m ((c.tc : Thread Cert.SharedUpReferenceIdeal.nD Cert.SharedUpReferenceIdeal.τ).loc Cert.SharedUpReferenceIdeal.main_arg0)
      ∧ r.2.mem ((c.tc : Thread Cert.SharedUpReferenceIdeal.nD Cert.SharedUpReferenceIdeal.τ).loc Cert.SharedUpReferenceIdeal.main_arg1) = m ((c.tc : Thread Cert.SharedUpReferenceIdeal.nD Cert.SharedUpReferenceIdeal.τ).loc Cert.SharedUpReferenceIdeal.main_arg1)
      ∧ r.2.mem ((c.tc : Thread Cert.SharedUpReferenceIdeal.nD Cert.SharedUpReferenceIdeal.τ).loc Cert.SharedUpReferenceIdeal.main_arg2) = m ((c.tc : Thread Cert.SharedUpReferenceIdeal.nD Cert.SharedUpReferenceIdeal.τ).loc Cert.SharedUpReferenceIdeal.main_arg2))
      ∧ r.2.sem = fun _ => 0)

def quiescent_EvenCombine [hEvenCombine : Cert.EvenCombine.Facts] : Prop :=
  ∀ (m : (ℓ : Loc Cert.EvenCombine.nD Cert.EvenCombine.τ Cert.EvenCombine.sig) → Buf (Elt Bits) ℓ) (g : Dev Cert.EvenCombine.nD → PrngReg), Pre_EvenCombine m →
    θ_run (Cert.EvenCombine.defs (F := Bits)) (onTc (τ := Cert.EvenCombine.τ) (Cert.EvenCombine.main (F := Bits))) ⟨m, fun _ => 0, g⟩ (fun r => (∀ c : Dev Cert.EvenCombine.nD,
      r.2.mem ((c.tc : Thread Cert.EvenCombine.nD Cert.EvenCombine.τ).loc Cert.EvenCombine.main_arg0) = m ((c.tc : Thread Cert.EvenCombine.nD Cert.EvenCombine.τ).loc Cert.EvenCombine.main_arg0)
      ∧ r.2.mem ((c.tc : Thread Cert.EvenCombine.nD Cert.EvenCombine.τ).loc Cert.EvenCombine.main_arg1) = m ((c.tc : Thread Cert.EvenCombine.nD Cert.EvenCombine.τ).loc Cert.EvenCombine.main_arg1)
      ∧ r.2.mem ((c.tc : Thread Cert.EvenCombine.nD Cert.EvenCombine.τ).loc Cert.EvenCombine.main_arg2) = m ((c.tc : Thread Cert.EvenCombine.nD Cert.EvenCombine.τ).loc Cert.EvenCombine.main_arg2)
      ∧ r.2.mem ((c.tc : Thread Cert.EvenCombine.nD Cert.EvenCombine.τ).loc Cert.EvenCombine.main_arg3) = m ((c.tc : Thread Cert.EvenCombine.nD Cert.EvenCombine.τ).loc Cert.EvenCombine.main_arg3)
      ∧ r.2.mem ((c.tc : Thread Cert.EvenCombine.nD Cert.EvenCombine.τ).loc Cert.EvenCombine.main_arg4) = m ((c.tc : Thread Cert.EvenCombine.nD Cert.EvenCombine.τ).loc Cert.EvenCombine.main_arg4)
      ∧ r.2.mem ((c.tc : Thread Cert.EvenCombine.nD Cert.EvenCombine.τ).loc Cert.EvenCombine.main_arg5) = m ((c.tc : Thread Cert.EvenCombine.nD Cert.EvenCombine.τ).loc Cert.EvenCombine.main_arg5)
      ∧ r.2.mem ((c.tc : Thread Cert.EvenCombine.nD Cert.EvenCombine.τ).loc Cert.EvenCombine.main_arg6) = m ((c.tc : Thread Cert.EvenCombine.nD Cert.EvenCombine.τ).loc Cert.EvenCombine.main_arg6))
      ∧ r.2.sem = fun _ => 0)

def quiescent_EvenCombineIdeal [hEvenCombineIdeal : Cert.EvenCombineIdeal.Facts] : Prop :=
  ∀ (m : (ℓ : Loc Cert.EvenCombineIdeal.nD Cert.EvenCombineIdeal.τ Cert.EvenCombineIdeal.sig) → Buf (Elt Ideal) ℓ) (g : Dev Cert.EvenCombineIdeal.nD → PrngReg), Pre_EvenCombineIdeal m →
    θ_run (Cert.EvenCombineIdeal.defs (F := Ideal)) (onTc (τ := Cert.EvenCombineIdeal.τ) (Cert.EvenCombineIdeal.main (F := Ideal))) ⟨m, fun _ => 0, g⟩ (fun r => (∀ c : Dev Cert.EvenCombineIdeal.nD,
      r.2.mem ((c.tc : Thread Cert.EvenCombineIdeal.nD Cert.EvenCombineIdeal.τ).loc Cert.EvenCombineIdeal.main_arg0) = m ((c.tc : Thread Cert.EvenCombineIdeal.nD Cert.EvenCombineIdeal.τ).loc Cert.EvenCombineIdeal.main_arg0)
      ∧ r.2.mem ((c.tc : Thread Cert.EvenCombineIdeal.nD Cert.EvenCombineIdeal.τ).loc Cert.EvenCombineIdeal.main_arg1) = m ((c.tc : Thread Cert.EvenCombineIdeal.nD Cert.EvenCombineIdeal.τ).loc Cert.EvenCombineIdeal.main_arg1)
      ∧ r.2.mem ((c.tc : Thread Cert.EvenCombineIdeal.nD Cert.EvenCombineIdeal.τ).loc Cert.EvenCombineIdeal.main_arg2) = m ((c.tc : Thread Cert.EvenCombineIdeal.nD Cert.EvenCombineIdeal.τ).loc Cert.EvenCombineIdeal.main_arg2)
      ∧ r.2.mem ((c.tc : Thread Cert.EvenCombineIdeal.nD Cert.EvenCombineIdeal.τ).loc Cert.EvenCombineIdeal.main_arg3) = m ((c.tc : Thread Cert.EvenCombineIdeal.nD Cert.EvenCombineIdeal.τ).loc Cert.EvenCombineIdeal.main_arg3)
      ∧ r.2.mem ((c.tc : Thread Cert.EvenCombineIdeal.nD Cert.EvenCombineIdeal.τ).loc Cert.EvenCombineIdeal.main_arg4) = m ((c.tc : Thread Cert.EvenCombineIdeal.nD Cert.EvenCombineIdeal.τ).loc Cert.EvenCombineIdeal.main_arg4)
      ∧ r.2.mem ((c.tc : Thread Cert.EvenCombineIdeal.nD Cert.EvenCombineIdeal.τ).loc Cert.EvenCombineIdeal.main_arg5) = m ((c.tc : Thread Cert.EvenCombineIdeal.nD Cert.EvenCombineIdeal.τ).loc Cert.EvenCombineIdeal.main_arg5)
      ∧ r.2.mem ((c.tc : Thread Cert.EvenCombineIdeal.nD Cert.EvenCombineIdeal.τ).loc Cert.EvenCombineIdeal.main_arg6) = m ((c.tc : Thread Cert.EvenCombineIdeal.nD Cert.EvenCombineIdeal.τ).loc Cert.EvenCombineIdeal.main_arg6))
      ∧ r.2.sem = fun _ => 0)

def quiescent_EvenCombineReferenceIdeal [hEvenCombineReferenceIdeal : Cert.EvenCombineReferenceIdeal.Facts] : Prop :=
  ∀ (m : (ℓ : Loc Cert.EvenCombineReferenceIdeal.nD Cert.EvenCombineReferenceIdeal.τ Cert.EvenCombineReferenceIdeal.sig) → Buf (Elt Ideal) ℓ) (g : Dev Cert.EvenCombineReferenceIdeal.nD → PrngReg), Pre_EvenCombineReferenceIdeal m →
    θ_run (Cert.EvenCombineReferenceIdeal.defs (F := Ideal)) (onTc (τ := Cert.EvenCombineReferenceIdeal.τ) (Cert.EvenCombineReferenceIdeal.main (F := Ideal))) ⟨m, fun _ => 0, g⟩ (fun r => (∀ c : Dev Cert.EvenCombineReferenceIdeal.nD,
      r.2.mem ((c.tc : Thread Cert.EvenCombineReferenceIdeal.nD Cert.EvenCombineReferenceIdeal.τ).loc Cert.EvenCombineReferenceIdeal.main_arg0) = m ((c.tc : Thread Cert.EvenCombineReferenceIdeal.nD Cert.EvenCombineReferenceIdeal.τ).loc Cert.EvenCombineReferenceIdeal.main_arg0)
      ∧ r.2.mem ((c.tc : Thread Cert.EvenCombineReferenceIdeal.nD Cert.EvenCombineReferenceIdeal.τ).loc Cert.EvenCombineReferenceIdeal.main_arg1) = m ((c.tc : Thread Cert.EvenCombineReferenceIdeal.nD Cert.EvenCombineReferenceIdeal.τ).loc Cert.EvenCombineReferenceIdeal.main_arg1)
      ∧ r.2.mem ((c.tc : Thread Cert.EvenCombineReferenceIdeal.nD Cert.EvenCombineReferenceIdeal.τ).loc Cert.EvenCombineReferenceIdeal.main_arg2) = m ((c.tc : Thread Cert.EvenCombineReferenceIdeal.nD Cert.EvenCombineReferenceIdeal.τ).loc Cert.EvenCombineReferenceIdeal.main_arg2)
      ∧ r.2.mem ((c.tc : Thread Cert.EvenCombineReferenceIdeal.nD Cert.EvenCombineReferenceIdeal.τ).loc Cert.EvenCombineReferenceIdeal.main_arg3) = m ((c.tc : Thread Cert.EvenCombineReferenceIdeal.nD Cert.EvenCombineReferenceIdeal.τ).loc Cert.EvenCombineReferenceIdeal.main_arg3)
      ∧ r.2.mem ((c.tc : Thread Cert.EvenCombineReferenceIdeal.nD Cert.EvenCombineReferenceIdeal.τ).loc Cert.EvenCombineReferenceIdeal.main_arg4) = m ((c.tc : Thread Cert.EvenCombineReferenceIdeal.nD Cert.EvenCombineReferenceIdeal.τ).loc Cert.EvenCombineReferenceIdeal.main_arg4)
      ∧ r.2.mem ((c.tc : Thread Cert.EvenCombineReferenceIdeal.nD Cert.EvenCombineReferenceIdeal.τ).loc Cert.EvenCombineReferenceIdeal.main_arg5) = m ((c.tc : Thread Cert.EvenCombineReferenceIdeal.nD Cert.EvenCombineReferenceIdeal.τ).loc Cert.EvenCombineReferenceIdeal.main_arg5)
      ∧ r.2.mem ((c.tc : Thread Cert.EvenCombineReferenceIdeal.nD Cert.EvenCombineReferenceIdeal.τ).loc Cert.EvenCombineReferenceIdeal.main_arg6) = m ((c.tc : Thread Cert.EvenCombineReferenceIdeal.nD Cert.EvenCombineReferenceIdeal.τ).loc Cert.EvenCombineReferenceIdeal.main_arg6))
      ∧ r.2.sem = fun _ => 0)

def quiescent_OddCombine [hOddCombine : Cert.OddCombine.Facts] : Prop :=
  ∀ (m : (ℓ : Loc Cert.OddCombine.nD Cert.OddCombine.τ Cert.OddCombine.sig) → Buf (Elt Bits) ℓ) (g : Dev Cert.OddCombine.nD → PrngReg), Pre_OddCombine m →
    θ_run (Cert.OddCombine.defs (F := Bits)) (onTc (τ := Cert.OddCombine.τ) (Cert.OddCombine.main (F := Bits))) ⟨m, fun _ => 0, g⟩ (fun r => (∀ c : Dev Cert.OddCombine.nD,
      r.2.mem ((c.tc : Thread Cert.OddCombine.nD Cert.OddCombine.τ).loc Cert.OddCombine.main_arg0) = m ((c.tc : Thread Cert.OddCombine.nD Cert.OddCombine.τ).loc Cert.OddCombine.main_arg0)
      ∧ r.2.mem ((c.tc : Thread Cert.OddCombine.nD Cert.OddCombine.τ).loc Cert.OddCombine.main_arg1) = m ((c.tc : Thread Cert.OddCombine.nD Cert.OddCombine.τ).loc Cert.OddCombine.main_arg1)
      ∧ r.2.mem ((c.tc : Thread Cert.OddCombine.nD Cert.OddCombine.τ).loc Cert.OddCombine.main_arg2) = m ((c.tc : Thread Cert.OddCombine.nD Cert.OddCombine.τ).loc Cert.OddCombine.main_arg2)
      ∧ r.2.mem ((c.tc : Thread Cert.OddCombine.nD Cert.OddCombine.τ).loc Cert.OddCombine.main_arg3) = m ((c.tc : Thread Cert.OddCombine.nD Cert.OddCombine.τ).loc Cert.OddCombine.main_arg3)
      ∧ r.2.mem ((c.tc : Thread Cert.OddCombine.nD Cert.OddCombine.τ).loc Cert.OddCombine.main_arg4) = m ((c.tc : Thread Cert.OddCombine.nD Cert.OddCombine.τ).loc Cert.OddCombine.main_arg4)
      ∧ r.2.mem ((c.tc : Thread Cert.OddCombine.nD Cert.OddCombine.τ).loc Cert.OddCombine.main_arg5) = m ((c.tc : Thread Cert.OddCombine.nD Cert.OddCombine.τ).loc Cert.OddCombine.main_arg5)
      ∧ r.2.mem ((c.tc : Thread Cert.OddCombine.nD Cert.OddCombine.τ).loc Cert.OddCombine.main_arg6) = m ((c.tc : Thread Cert.OddCombine.nD Cert.OddCombine.τ).loc Cert.OddCombine.main_arg6)
      ∧ r.2.mem ((c.tc : Thread Cert.OddCombine.nD Cert.OddCombine.τ).loc Cert.OddCombine.main_arg7) = m ((c.tc : Thread Cert.OddCombine.nD Cert.OddCombine.τ).loc Cert.OddCombine.main_arg7))
      ∧ r.2.sem = fun _ => 0)

def quiescent_OddCombineIdeal [hOddCombineIdeal : Cert.OddCombineIdeal.Facts] : Prop :=
  ∀ (m : (ℓ : Loc Cert.OddCombineIdeal.nD Cert.OddCombineIdeal.τ Cert.OddCombineIdeal.sig) → Buf (Elt Ideal) ℓ) (g : Dev Cert.OddCombineIdeal.nD → PrngReg), Pre_OddCombineIdeal m →
    θ_run (Cert.OddCombineIdeal.defs (F := Ideal)) (onTc (τ := Cert.OddCombineIdeal.τ) (Cert.OddCombineIdeal.main (F := Ideal))) ⟨m, fun _ => 0, g⟩ (fun r => (∀ c : Dev Cert.OddCombineIdeal.nD,
      r.2.mem ((c.tc : Thread Cert.OddCombineIdeal.nD Cert.OddCombineIdeal.τ).loc Cert.OddCombineIdeal.main_arg0) = m ((c.tc : Thread Cert.OddCombineIdeal.nD Cert.OddCombineIdeal.τ).loc Cert.OddCombineIdeal.main_arg0)
      ∧ r.2.mem ((c.tc : Thread Cert.OddCombineIdeal.nD Cert.OddCombineIdeal.τ).loc Cert.OddCombineIdeal.main_arg1) = m ((c.tc : Thread Cert.OddCombineIdeal.nD Cert.OddCombineIdeal.τ).loc Cert.OddCombineIdeal.main_arg1)
      ∧ r.2.mem ((c.tc : Thread Cert.OddCombineIdeal.nD Cert.OddCombineIdeal.τ).loc Cert.OddCombineIdeal.main_arg2) = m ((c.tc : Thread Cert.OddCombineIdeal.nD Cert.OddCombineIdeal.τ).loc Cert.OddCombineIdeal.main_arg2)
      ∧ r.2.mem ((c.tc : Thread Cert.OddCombineIdeal.nD Cert.OddCombineIdeal.τ).loc Cert.OddCombineIdeal.main_arg3) = m ((c.tc : Thread Cert.OddCombineIdeal.nD Cert.OddCombineIdeal.τ).loc Cert.OddCombineIdeal.main_arg3)
      ∧ r.2.mem ((c.tc : Thread Cert.OddCombineIdeal.nD Cert.OddCombineIdeal.τ).loc Cert.OddCombineIdeal.main_arg4) = m ((c.tc : Thread Cert.OddCombineIdeal.nD Cert.OddCombineIdeal.τ).loc Cert.OddCombineIdeal.main_arg4)
      ∧ r.2.mem ((c.tc : Thread Cert.OddCombineIdeal.nD Cert.OddCombineIdeal.τ).loc Cert.OddCombineIdeal.main_arg5) = m ((c.tc : Thread Cert.OddCombineIdeal.nD Cert.OddCombineIdeal.τ).loc Cert.OddCombineIdeal.main_arg5)
      ∧ r.2.mem ((c.tc : Thread Cert.OddCombineIdeal.nD Cert.OddCombineIdeal.τ).loc Cert.OddCombineIdeal.main_arg6) = m ((c.tc : Thread Cert.OddCombineIdeal.nD Cert.OddCombineIdeal.τ).loc Cert.OddCombineIdeal.main_arg6)
      ∧ r.2.mem ((c.tc : Thread Cert.OddCombineIdeal.nD Cert.OddCombineIdeal.τ).loc Cert.OddCombineIdeal.main_arg7) = m ((c.tc : Thread Cert.OddCombineIdeal.nD Cert.OddCombineIdeal.τ).loc Cert.OddCombineIdeal.main_arg7))
      ∧ r.2.sem = fun _ => 0)

def quiescent_OddCombineReferenceIdeal [hOddCombineReferenceIdeal : Cert.OddCombineReferenceIdeal.Facts] : Prop :=
  ∀ (m : (ℓ : Loc Cert.OddCombineReferenceIdeal.nD Cert.OddCombineReferenceIdeal.τ Cert.OddCombineReferenceIdeal.sig) → Buf (Elt Ideal) ℓ) (g : Dev Cert.OddCombineReferenceIdeal.nD → PrngReg), Pre_OddCombineReferenceIdeal m →
    θ_run (Cert.OddCombineReferenceIdeal.defs (F := Ideal)) (onTc (τ := Cert.OddCombineReferenceIdeal.τ) (Cert.OddCombineReferenceIdeal.main (F := Ideal))) ⟨m, fun _ => 0, g⟩ (fun r => (∀ c : Dev Cert.OddCombineReferenceIdeal.nD,
      r.2.mem ((c.tc : Thread Cert.OddCombineReferenceIdeal.nD Cert.OddCombineReferenceIdeal.τ).loc Cert.OddCombineReferenceIdeal.main_arg0) = m ((c.tc : Thread Cert.OddCombineReferenceIdeal.nD Cert.OddCombineReferenceIdeal.τ).loc Cert.OddCombineReferenceIdeal.main_arg0)
      ∧ r.2.mem ((c.tc : Thread Cert.OddCombineReferenceIdeal.nD Cert.OddCombineReferenceIdeal.τ).loc Cert.OddCombineReferenceIdeal.main_arg1) = m ((c.tc : Thread Cert.OddCombineReferenceIdeal.nD Cert.OddCombineReferenceIdeal.τ).loc Cert.OddCombineReferenceIdeal.main_arg1)
      ∧ r.2.mem ((c.tc : Thread Cert.OddCombineReferenceIdeal.nD Cert.OddCombineReferenceIdeal.τ).loc Cert.OddCombineReferenceIdeal.main_arg2) = m ((c.tc : Thread Cert.OddCombineReferenceIdeal.nD Cert.OddCombineReferenceIdeal.τ).loc Cert.OddCombineReferenceIdeal.main_arg2)
      ∧ r.2.mem ((c.tc : Thread Cert.OddCombineReferenceIdeal.nD Cert.OddCombineReferenceIdeal.τ).loc Cert.OddCombineReferenceIdeal.main_arg3) = m ((c.tc : Thread Cert.OddCombineReferenceIdeal.nD Cert.OddCombineReferenceIdeal.τ).loc Cert.OddCombineReferenceIdeal.main_arg3)
      ∧ r.2.mem ((c.tc : Thread Cert.OddCombineReferenceIdeal.nD Cert.OddCombineReferenceIdeal.τ).loc Cert.OddCombineReferenceIdeal.main_arg4) = m ((c.tc : Thread Cert.OddCombineReferenceIdeal.nD Cert.OddCombineReferenceIdeal.τ).loc Cert.OddCombineReferenceIdeal.main_arg4)
      ∧ r.2.mem ((c.tc : Thread Cert.OddCombineReferenceIdeal.nD Cert.OddCombineReferenceIdeal.τ).loc Cert.OddCombineReferenceIdeal.main_arg5) = m ((c.tc : Thread Cert.OddCombineReferenceIdeal.nD Cert.OddCombineReferenceIdeal.τ).loc Cert.OddCombineReferenceIdeal.main_arg5)
      ∧ r.2.mem ((c.tc : Thread Cert.OddCombineReferenceIdeal.nD Cert.OddCombineReferenceIdeal.τ).loc Cert.OddCombineReferenceIdeal.main_arg6) = m ((c.tc : Thread Cert.OddCombineReferenceIdeal.nD Cert.OddCombineReferenceIdeal.τ).loc Cert.OddCombineReferenceIdeal.main_arg6)
      ∧ r.2.mem ((c.tc : Thread Cert.OddCombineReferenceIdeal.nD Cert.OddCombineReferenceIdeal.τ).loc Cert.OddCombineReferenceIdeal.main_arg7) = m ((c.tc : Thread Cert.OddCombineReferenceIdeal.nD Cert.OddCombineReferenceIdeal.τ).loc Cert.OddCombineReferenceIdeal.main_arg7))
      ∧ r.2.sem = fun _ => 0)

def quiescent_MoeUp [hMoeUp : Cert.MoeUp.Facts] [hPre_experts_named : Cert.Pre_experts_named.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3))
      ∧ r.2.sem = fun _ => 0)

def quiescent_MoeUpIdeal [hMoeUpIdeal : Cert.MoeUpIdeal.Facts] [hPre_experts_named : Cert.Pre_experts_named.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3))
      ∧ r.2.sem = fun _ => 0)

def quiescent_MoeUpReferenceIdeal [hMoeUpReferenceIdeal : Cert.MoeUpReferenceIdeal.Facts] [hPre_experts_named : Cert.Pre_experts_named.Facts] : Prop :=
  ∀ (m : (ℓ : Loc Cert.MoeUpReferenceIdeal.nD Cert.MoeUpReferenceIdeal.τ Cert.MoeUpReferenceIdeal.sig) → Buf (Elt Ideal) ℓ) (g : Dev Cert.MoeUpReferenceIdeal.nD → PrngReg), Pre_MoeUpReferenceIdeal m →
    θ_run (Cert.MoeUpReferenceIdeal.defs (F := Ideal)) (onTc (τ := Cert.MoeUpReferenceIdeal.τ) (Cert.MoeUpReferenceIdeal.main (F := Ideal))) ⟨m, fun _ => 0, g⟩ (fun r => (∀ c : Dev Cert.MoeUpReferenceIdeal.nD,
      r.2.mem ((c.tc : Thread Cert.MoeUpReferenceIdeal.nD Cert.MoeUpReferenceIdeal.τ).loc Cert.MoeUpReferenceIdeal.main_arg0) = m ((c.tc : Thread Cert.MoeUpReferenceIdeal.nD Cert.MoeUpReferenceIdeal.τ).loc Cert.MoeUpReferenceIdeal.main_arg0)
      ∧ r.2.mem ((c.tc : Thread Cert.MoeUpReferenceIdeal.nD Cert.MoeUpReferenceIdeal.τ).loc Cert.MoeUpReferenceIdeal.main_arg1) = m ((c.tc : Thread Cert.MoeUpReferenceIdeal.nD Cert.MoeUpReferenceIdeal.τ).loc Cert.MoeUpReferenceIdeal.main_arg1)
      ∧ r.2.mem ((c.tc : Thread Cert.MoeUpReferenceIdeal.nD Cert.MoeUpReferenceIdeal.τ).loc Cert.MoeUpReferenceIdeal.main_arg2) = m ((c.tc : Thread Cert.MoeUpReferenceIdeal.nD Cert.MoeUpReferenceIdeal.τ).loc Cert.MoeUpReferenceIdeal.main_arg2)
      ∧ r.2.mem ((c.tc : Thread Cert.MoeUpReferenceIdeal.nD Cert.MoeUpReferenceIdeal.τ).loc Cert.MoeUpReferenceIdeal.main_arg3) = m ((c.tc : Thread Cert.MoeUpReferenceIdeal.nD Cert.MoeUpReferenceIdeal.τ).loc Cert.MoeUpReferenceIdeal.main_arg3))
      ∧ r.2.sem = fun _ => 0)

def quiescent_SharedUpLast [hSharedUpLast : Cert.SharedUpLast.Facts] : Prop :=
  ∀ (m : (ℓ : Loc Cert.SharedUpLast.nD Cert.SharedUpLast.τ Cert.SharedUpLast.sig) → Buf (Elt Bits) ℓ) (g : Dev Cert.SharedUpLast.nD → PrngReg), Pre_SharedUpLast m →
    θ_run (Cert.SharedUpLast.defs (F := Bits)) (onTc (τ := Cert.SharedUpLast.τ) (Cert.SharedUpLast.main (F := Bits))) ⟨m, fun _ => 0, g⟩ (fun r => (∀ c : Dev Cert.SharedUpLast.nD,
      r.2.mem ((c.tc : Thread Cert.SharedUpLast.nD Cert.SharedUpLast.τ).loc Cert.SharedUpLast.main_arg0) = m ((c.tc : Thread Cert.SharedUpLast.nD Cert.SharedUpLast.τ).loc Cert.SharedUpLast.main_arg0)
      ∧ r.2.mem ((c.tc : Thread Cert.SharedUpLast.nD Cert.SharedUpLast.τ).loc Cert.SharedUpLast.main_arg1) = m ((c.tc : Thread Cert.SharedUpLast.nD Cert.SharedUpLast.τ).loc Cert.SharedUpLast.main_arg1)
      ∧ r.2.mem ((c.tc : Thread Cert.SharedUpLast.nD Cert.SharedUpLast.τ).loc Cert.SharedUpLast.main_arg2) = m ((c.tc : Thread Cert.SharedUpLast.nD Cert.SharedUpLast.τ).loc Cert.SharedUpLast.main_arg2))
      ∧ r.2.sem = fun _ => 0)

def quiescent_SharedUpLastIdeal [hSharedUpLastIdeal : Cert.SharedUpLastIdeal.Facts] : Prop :=
  ∀ (m : (ℓ : Loc Cert.SharedUpLastIdeal.nD Cert.SharedUpLastIdeal.τ Cert.SharedUpLastIdeal.sig) → Buf (Elt Ideal) ℓ) (g : Dev Cert.SharedUpLastIdeal.nD → PrngReg), Pre_SharedUpLastIdeal m →
    θ_run (Cert.SharedUpLastIdeal.defs (F := Ideal)) (onTc (τ := Cert.SharedUpLastIdeal.τ) (Cert.SharedUpLastIdeal.main (F := Ideal))) ⟨m, fun _ => 0, g⟩ (fun r => (∀ c : Dev Cert.SharedUpLastIdeal.nD,
      r.2.mem ((c.tc : Thread Cert.SharedUpLastIdeal.nD Cert.SharedUpLastIdeal.τ).loc Cert.SharedUpLastIdeal.main_arg0) = m ((c.tc : Thread Cert.SharedUpLastIdeal.nD Cert.SharedUpLastIdeal.τ).loc Cert.SharedUpLastIdeal.main_arg0)
      ∧ r.2.mem ((c.tc : Thread Cert.SharedUpLastIdeal.nD Cert.SharedUpLastIdeal.τ).loc Cert.SharedUpLastIdeal.main_arg1) = m ((c.tc : Thread Cert.SharedUpLastIdeal.nD Cert.SharedUpLastIdeal.τ).loc Cert.SharedUpLastIdeal.main_arg1)
      ∧ r.2.mem ((c.tc : Thread Cert.SharedUpLastIdeal.nD Cert.SharedUpLastIdeal.τ).loc Cert.SharedUpLastIdeal.main_arg2) = m ((c.tc : Thread Cert.SharedUpLastIdeal.nD Cert.SharedUpLastIdeal.τ).loc Cert.SharedUpLastIdeal.main_arg2))
      ∧ r.2.sem = fun _ => 0)

def quiescent_SharedUpLastReferenceIdeal [hSharedUpLastReferenceIdeal : Cert.SharedUpLastReferenceIdeal.Facts] : Prop :=
  ∀ (m : (ℓ : Loc Cert.SharedUpLastReferenceIdeal.nD Cert.SharedUpLastReferenceIdeal.τ Cert.SharedUpLastReferenceIdeal.sig) → Buf (Elt Ideal) ℓ) (g : Dev Cert.SharedUpLastReferenceIdeal.nD → PrngReg), Pre_SharedUpLastReferenceIdeal m →
    θ_run (Cert.SharedUpLastReferenceIdeal.defs (F := Ideal)) (onTc (τ := Cert.SharedUpLastReferenceIdeal.τ) (Cert.SharedUpLastReferenceIdeal.main (F := Ideal))) ⟨m, fun _ => 0, g⟩ (fun r => (∀ c : Dev Cert.SharedUpLastReferenceIdeal.nD,
      r.2.mem ((c.tc : Thread Cert.SharedUpLastReferenceIdeal.nD Cert.SharedUpLastReferenceIdeal.τ).loc Cert.SharedUpLastReferenceIdeal.main_arg0) = m ((c.tc : Thread Cert.SharedUpLastReferenceIdeal.nD Cert.SharedUpLastReferenceIdeal.τ).loc Cert.SharedUpLastReferenceIdeal.main_arg0)
      ∧ r.2.mem ((c.tc : Thread Cert.SharedUpLastReferenceIdeal.nD Cert.SharedUpLastReferenceIdeal.τ).loc Cert.SharedUpLastReferenceIdeal.main_arg1) = m ((c.tc : Thread Cert.SharedUpLastReferenceIdeal.nD Cert.SharedUpLastReferenceIdeal.τ).loc Cert.SharedUpLastReferenceIdeal.main_arg1)
      ∧ r.2.mem ((c.tc : Thread Cert.SharedUpLastReferenceIdeal.nD Cert.SharedUpLastReferenceIdeal.τ).loc Cert.SharedUpLastReferenceIdeal.main_arg2) = m ((c.tc : Thread Cert.SharedUpLastReferenceIdeal.nD Cert.SharedUpLastReferenceIdeal.τ).loc Cert.SharedUpLastReferenceIdeal.main_arg2))
      ∧ r.2.sem = fun _ => 0)

def quiescent_MoeUpLast [hMoeUpLast : Cert.MoeUpLast.Facts] [hPre_experts_named_last : Cert.Pre_experts_named_last.Facts] : Prop :=
  ∀ (m : (ℓ : Loc Cert.MoeUpLast.nD Cert.MoeUpLast.τ Cert.MoeUpLast.sig) → Buf (Elt Bits) ℓ) (g : Dev Cert.MoeUpLast.nD → PrngReg), Pre_MoeUpLast m →
    θ_run (Cert.MoeUpLast.defs (F := Bits)) (onTc (τ := Cert.MoeUpLast.τ) (Cert.MoeUpLast.main (F := Bits))) ⟨m, fun _ => 0, g⟩ (fun r => (∀ c : Dev Cert.MoeUpLast.nD,
      r.2.mem ((c.tc : Thread Cert.MoeUpLast.nD Cert.MoeUpLast.τ).loc Cert.MoeUpLast.main_arg0) = m ((c.tc : Thread Cert.MoeUpLast.nD Cert.MoeUpLast.τ).loc Cert.MoeUpLast.main_arg0)
      ∧ r.2.mem ((c.tc : Thread Cert.MoeUpLast.nD Cert.MoeUpLast.τ).loc Cert.MoeUpLast.main_arg1) = m ((c.tc : Thread Cert.MoeUpLast.nD Cert.MoeUpLast.τ).loc Cert.MoeUpLast.main_arg1)
      ∧ r.2.mem ((c.tc : Thread Cert.MoeUpLast.nD Cert.MoeUpLast.τ).loc Cert.MoeUpLast.main_arg2) = m ((c.tc : Thread Cert.MoeUpLast.nD Cert.MoeUpLast.τ).loc Cert.MoeUpLast.main_arg2)
      ∧ r.2.mem ((c.tc : Thread Cert.MoeUpLast.nD Cert.MoeUpLast.τ).loc Cert.MoeUpLast.main_arg3) = m ((c.tc : Thread Cert.MoeUpLast.nD Cert.MoeUpLast.τ).loc Cert.MoeUpLast.main_arg3))
      ∧ r.2.sem = fun _ => 0)

def quiescent_MoeUpLastIdeal [hMoeUpLastIdeal : Cert.MoeUpLastIdeal.Facts] [hPre_experts_named_last : Cert.Pre_experts_named_last.Facts] : Prop :=
  ∀ (m : (ℓ : Loc Cert.MoeUpLastIdeal.nD Cert.MoeUpLastIdeal.τ Cert.MoeUpLastIdeal.sig) → Buf (Elt Ideal) ℓ) (g : Dev Cert.MoeUpLastIdeal.nD → PrngReg), Pre_MoeUpLastIdeal m →
    θ_run (Cert.MoeUpLastIdeal.defs (F := Ideal)) (onTc (τ := Cert.MoeUpLastIdeal.τ) (Cert.MoeUpLastIdeal.main (F := Ideal))) ⟨m, fun _ => 0, g⟩ (fun r => (∀ c : Dev Cert.MoeUpLastIdeal.nD,
      r.2.mem ((c.tc : Thread Cert.MoeUpLastIdeal.nD Cert.MoeUpLastIdeal.τ).loc Cert.MoeUpLastIdeal.main_arg0) = m ((c.tc : Thread Cert.MoeUpLastIdeal.nD Cert.MoeUpLastIdeal.τ).loc Cert.MoeUpLastIdeal.main_arg0)
      ∧ r.2.mem ((c.tc : Thread Cert.MoeUpLastIdeal.nD Cert.MoeUpLastIdeal.τ).loc Cert.MoeUpLastIdeal.main_arg1) = m ((c.tc : Thread Cert.MoeUpLastIdeal.nD Cert.MoeUpLastIdeal.τ).loc Cert.MoeUpLastIdeal.main_arg1)
      ∧ r.2.mem ((c.tc : Thread Cert.MoeUpLastIdeal.nD Cert.MoeUpLastIdeal.τ).loc Cert.MoeUpLastIdeal.main_arg2) = m ((c.tc : Thread Cert.MoeUpLastIdeal.nD Cert.MoeUpLastIdeal.τ).loc Cert.MoeUpLastIdeal.main_arg2)
      ∧ r.2.mem ((c.tc : Thread Cert.MoeUpLastIdeal.nD Cert.MoeUpLastIdeal.τ).loc Cert.MoeUpLastIdeal.main_arg3) = m ((c.tc : Thread Cert.MoeUpLastIdeal.nD Cert.MoeUpLastIdeal.τ).loc Cert.MoeUpLastIdeal.main_arg3))
      ∧ r.2.sem = fun _ => 0)

def quiescent_MoeUpLastReferenceIdeal [hMoeUpLastReferenceIdeal : Cert.MoeUpLastReferenceIdeal.Facts] [hPre_experts_named_last : Cert.Pre_experts_named_last.Facts] : Prop :=
  ∀ (m : (ℓ : Loc Cert.MoeUpLastReferenceIdeal.nD Cert.MoeUpLastReferenceIdeal.τ Cert.MoeUpLastReferenceIdeal.sig) → Buf (Elt Ideal) ℓ) (g : Dev Cert.MoeUpLastReferenceIdeal.nD → PrngReg), Pre_MoeUpLastReferenceIdeal m →
    θ_run (Cert.MoeUpLastReferenceIdeal.defs (F := Ideal)) (onTc (τ := Cert.MoeUpLastReferenceIdeal.τ) (Cert.MoeUpLastReferenceIdeal.main (F := Ideal))) ⟨m, fun _ => 0, g⟩ (fun r => (∀ c : Dev Cert.MoeUpLastReferenceIdeal.nD,
      r.2.mem ((c.tc : Thread Cert.MoeUpLastReferenceIdeal.nD Cert.MoeUpLastReferenceIdeal.τ).loc Cert.MoeUpLastReferenceIdeal.main_arg0) = m ((c.tc : Thread Cert.MoeUpLastReferenceIdeal.nD Cert.MoeUpLastReferenceIdeal.τ).loc Cert.MoeUpLastReferenceIdeal.main_arg0)
      ∧ r.2.mem ((c.tc : Thread Cert.MoeUpLastReferenceIdeal.nD Cert.MoeUpLastReferenceIdeal.τ).loc Cert.MoeUpLastReferenceIdeal.main_arg1) = m ((c.tc : Thread Cert.MoeUpLastReferenceIdeal.nD Cert.MoeUpLastReferenceIdeal.τ).loc Cert.MoeUpLastReferenceIdeal.main_arg1)
      ∧ r.2.mem ((c.tc : Thread Cert.MoeUpLastReferenceIdeal.nD Cert.MoeUpLastReferenceIdeal.τ).loc Cert.MoeUpLastReferenceIdeal.main_arg2) = m ((c.tc : Thread Cert.MoeUpLastReferenceIdeal.nD Cert.MoeUpLastReferenceIdeal.τ).loc Cert.MoeUpLastReferenceIdeal.main_arg2)
      ∧ r.2.mem ((c.tc : Thread Cert.MoeUpLastReferenceIdeal.nD Cert.MoeUpLastReferenceIdeal.τ).loc Cert.MoeUpLastReferenceIdeal.main_arg3) = m ((c.tc : Thread Cert.MoeUpLastReferenceIdeal.nD Cert.MoeUpLastReferenceIdeal.τ).loc Cert.MoeUpLastReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v13)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v13) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v17) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)
      ∧ m' ((c.tc : Thread Cert.EvenOutReferenceIdeal.nD Cert.EvenOutReferenceIdeal.τ).loc Cert.EvenOutReferenceIdeal.main_arg3) = m ((c.tc : Thread Cert.EvenOutIdeal.nD Cert.EvenOutIdeal.τ).loc Cert.EvenOutIdeal.main_arg3)
      ∧ m' ((c.tc : Thread Cert.EvenOutReferenceIdeal.nD Cert.EvenOutReferenceIdeal.τ).loc Cert.EvenOutReferenceIdeal.main_arg4) = m ((c.tc : Thread Cert.EvenOutIdeal.nD Cert.EvenOutIdeal.τ).loc Cert.EvenOutIdeal.main_arg4)) →
    ∃ (v0 : (c : Dev Cert.EvenOutIdeal.nD) → Buf (Elt Ideal) ((c.tc : Thread Cert.EvenOutIdeal.nD Cert.EvenOutIdeal.τ).loc Cert.EvenOutIdeal.main_v3)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v3) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v19) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3)
          ∧ r.2.mem ((c.tc : Thread Cert.EvenOutReferenceIdeal.nD Cert.EvenOutReferenceIdeal.τ).loc Cert.EvenOutReferenceIdeal.main_arg4) = m' ((c.tc : Thread Cert.EvenOutReferenceIdeal.nD Cert.EvenOutReferenceIdeal.τ).loc Cert.EvenOutReferenceIdeal.main_arg4))

def preserves_OddIn_OddInIdeal : Prop :=
  True

def algebraic_OddInIdeal_OddInReferenceIdeal_pre_finite_odd_in [hOddInIdeal : Cert.OddInIdeal.Facts] [hOddInReferenceIdeal : Cert.OddInReferenceIdeal.Facts] [hPre_finite_odd_in : Cert.Pre_finite_odd_in.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal_finite_odd_in m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v14)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v14) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v14) = v0 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)
      ∧ m' ((c.tc : Thread Cert.OddOutReferenceIdeal.nD Cert.OddOutReferenceIdeal.τ).loc Cert.OddOutReferenceIdeal.main_arg2) = m ((c.tc : Thread Cert.OddOutIdeal.nD Cert.OddOutIdeal.τ).loc Cert.OddOutIdeal.main_arg2)
      ∧ m' ((c.tc : Thread Cert.OddOutReferenceIdeal.nD Cert.OddOutReferenceIdeal.τ).loc Cert.OddOutReferenceIdeal.main_arg3) = m ((c.tc : Thread Cert.OddOutIdeal.nD Cert.OddOutIdeal.τ).loc Cert.OddOutIdeal.main_arg3)
      ∧ m' ((c.tc : Thread Cert.OddOutReferenceIdeal.nD Cert.OddOutReferenceIdeal.τ).loc Cert.OddOutReferenceIdeal.main_arg4) = m ((c.tc : Thread Cert.OddOutIdeal.nD Cert.OddOutIdeal.τ).loc Cert.OddOutIdeal.main_arg4)) →
    ∃ (v0 : (c : Dev Cert.OddOutIdeal.nD) → Buf (Elt Ideal) ((c.tc : Thread Cert.OddOutIdeal.nD Cert.OddOutIdeal.τ).loc Cert.OddOutIdeal.main_v4)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v4) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v9) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2)
          ∧ r.2.mem ((c.tc : Thread Cert.OddOutReferenceIdeal.nD Cert.OddOutReferenceIdeal.τ).loc Cert.OddOutReferenceIdeal.main_arg3) = m' ((c.tc : Thread Cert.OddOutReferenceIdeal.nD Cert.OddOutReferenceIdeal.τ).loc Cert.OddOutReferenceIdeal.main_arg3)
          ∧ r.2.mem ((c.tc : Thread Cert.OddOutReferenceIdeal.nD Cert.OddOutReferenceIdeal.τ).loc Cert.OddOutReferenceIdeal.main_arg4) = m' ((c.tc : Thread Cert.OddOutReferenceIdeal.nD Cert.OddOutReferenceIdeal.τ).loc Cert.OddOutReferenceIdeal.main_arg4))

def preserves_Uq_UqIdeal : Prop :=
  True

def algebraic_UqIdeal_UqReferenceIdeal_pre_finite_uq [hUqIdeal : Cert.UqIdeal.Facts] [hUqReferenceIdeal : Cert.UqReferenceIdeal.Facts] [hPre_finite_uq : Cert.Pre_finite_uq.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqReferenceIdeal.nD Cert.UqReferenceIdeal.τ Cert.UqReferenceIdeal.sig) → Buf (Elt Ideal) ℓ) (g' : Dev Cert.UqReferenceIdeal.nD → PrngReg), Pre_UqIdeal_finite_uq m →
    (∀ c : Dev Cert.UqIdeal.nD,
      m' ((c.tc : Thread Cert.UqReferenceIdeal.nD Cert.UqReferenceIdeal.τ).loc Cert.UqReferenceIdeal.main_arg0) = m ((c.tc : Thread Cert.UqIdeal.nD Cert.UqIdeal.τ).loc Cert.UqIdeal.main_arg0)
      ∧ m' ((c.tc : Thread Cert.UqReferenceIdeal.nD Cert.UqReferenceIdeal.τ).loc Cert.UqReferenceIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v19)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v19) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqReferenceIdeal.defs (F := Ideal)) (onTc (τ := Cert.UqReferenceIdeal.τ) (Cert.UqReferenceIdeal.main (F := Ideal))) ⟨m', fun _ => 0, g'⟩ (fun r => ∀ c : Dev Cert.UqReferenceIdeal.nD,
          r.2.mem ((c.tc : Thread Cert.UqReferenceIdeal.nD Cert.UqReferenceIdeal.τ).loc Cert.UqReferenceIdeal.main_v19) = v0 c
          ∧ r.2.mem ((c.tc : Thread Cert.UqReferenceIdeal.nD Cert.UqReferenceIdeal.τ).loc Cert.UqReferenceIdeal.main_arg0) = m' ((c.tc : Thread Cert.UqReferenceIdeal.nD Cert.UqReferenceIdeal.τ).loc Cert.UqReferenceIdeal.main_arg0)
          ∧ r.2.mem ((c.tc : Thread Cert.UqReferenceIdeal.nD Cert.UqReferenceIdeal.τ).loc Cert.UqReferenceIdeal.main_arg1) = m' ((c.tc : Thread Cert.UqReferenceIdeal.nD Cert.UqReferenceIdeal.τ).loc Cert.UqReferenceIdeal.main_arg1))

def preserves_Ukv_UkvIdeal : Prop :=
  True

def algebraic_UkvIdeal_UkvReferenceIdeal [hUkvIdeal : Cert.UkvIdeal.Facts] [hUkvReferenceIdeal : Cert.UkvReferenceIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvReferenceIdeal.nD Cert.UkvReferenceIdeal.τ Cert.UkvReferenceIdeal.sig) → Buf (Elt Ideal) ℓ) (g' : Dev Cert.UkvReferenceIdeal.nD → PrngReg), Pre_UkvIdeal m →
    (∀ c : Dev Cert.UkvIdeal.nD,
      m' ((c.tc : Thread Cert.UkvReferenceIdeal.nD Cert.UkvReferenceIdeal.τ).loc Cert.UkvReferenceIdeal.main_arg0) = m ((c.tc : Thread Cert.UkvIdeal.nD Cert.UkvIdeal.τ).loc Cert.UkvIdeal.main_arg0)
      ∧ m' ((c.tc : Thread Cert.UkvReferenceIdeal.nD Cert.UkvReferenceIdeal.τ).loc Cert.UkvReferenceIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v1)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v1) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvReferenceIdeal.defs (F := Ideal)) (onTc (τ := Cert.UkvReferenceIdeal.τ) (Cert.UkvReferenceIdeal.main (F := Ideal))) ⟨m', fun _ => 0, g'⟩ (fun r => ∀ c : Dev Cert.UkvReferenceIdeal.nD,
          r.2.mem ((c.tc : Thread Cert.UkvReferenceIdeal.nD Cert.UkvReferenceIdeal.τ).loc Cert.UkvReferenceIdeal.main_v2) = v0 c
          ∧ r.2.mem ((c.tc : Thread Cert.UkvReferenceIdeal.nD Cert.UkvReferenceIdeal.τ).loc Cert.UkvReferenceIdeal.main_arg0) = m' ((c.tc : Thread Cert.UkvReferenceIdeal.nD Cert.UkvReferenceIdeal.τ).loc Cert.UkvReferenceIdeal.main_arg0)
          ∧ r.2.mem ((c.tc : Thread Cert.UkvReferenceIdeal.nD Cert.UkvReferenceIdeal.τ).loc Cert.UkvReferenceIdeal.main_arg1) = m' ((c.tc : Thread Cert.UkvReferenceIdeal.nD Cert.UkvReferenceIdeal.τ).loc Cert.UkvReferenceIdeal.main_arg1))

def preserves_SharedUp_SharedUpIdeal : Prop :=
  True

def algebraic_SharedUpIdeal_SharedUpReferenceIdeal [hSharedUpIdeal : Cert.SharedUpIdeal.Facts] [hSharedUpReferenceIdeal : Cert.SharedUpReferenceIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg)
    (m' : (ℓ : Loc Cert.SharedUpReferenceIdeal.nD Cert.SharedUpReferenceIdeal.τ Cert.SharedUpReferenceIdeal.sig) → Buf (Elt Ideal) ℓ) (g' : Dev Cert.SharedUpReferenceIdeal.nD → PrngReg), Pre_SharedUpIdeal m →
    (∀ c : Dev Cert.SharedUpIdeal.nD,
      m' ((c.tc : Thread Cert.SharedUpReferenceIdeal.nD Cert.SharedUpReferenceIdeal.τ).loc Cert.SharedUpReferenceIdeal.main_arg0) = m ((c.tc : Thread Cert.SharedUpIdeal.nD Cert.SharedUpIdeal.τ).loc Cert.SharedUpIdeal.main_arg0)
      ∧ m' ((c.tc : Thread Cert.SharedUpReferenceIdeal.nD Cert.SharedUpReferenceIdeal.τ).loc Cert.SharedUpReferenceIdeal.main_arg1) = m ((c.tc : Thread Cert.SharedUpIdeal.nD Cert.SharedUpIdeal.τ).loc Cert.SharedUpIdeal.main_arg1)
      ∧ m' ((c.tc : Thread Cert.SharedUpReferenceIdeal.nD Cert.SharedUpReferenceIdeal.τ).loc Cert.SharedUpReferenceIdeal.main_arg2) = m ((c.tc : Thread Cert.SharedUpIdeal.nD Cert.SharedUpIdeal.τ).loc Cert.SharedUpIdeal.main_arg2)) →
    ∃ (v0 : (c : Dev Cert.SharedUpIdeal.nD) → Buf (Elt Ideal) ((c.tc : Thread Cert.SharedUpIdeal.nD Cert.SharedUpIdeal.τ).loc Cert.SharedUpIdeal.main_v0)),
      θ_run (Cert.SharedUpIdeal.defs (F := Ideal)) (onTc (τ := Cert.SharedUpIdeal.τ) (Cert.SharedUpIdeal.main (F := Ideal))) ⟨m, fun _ => 0, g⟩ (fun r => ∀ c : Dev Cert.SharedUpIdeal.nD,
          r.2.mem ((c.tc : Thread Cert.SharedUpIdeal.nD Cert.SharedUpIdeal.τ).loc Cert.SharedUpIdeal.main_v0) = v0 c
          ∧ r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
          ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1)
          ∧ r.2.mem ((c.tc : Thread Cert.SharedUpIdeal.nD Cert.SharedUpIdeal.τ).loc Cert.SharedUpIdeal.main_arg2) = m ((c.tc : Thread Cert.SharedUpIdeal.nD Cert.SharedUpIdeal.τ).loc Cert.SharedUpIdeal.main_arg2))
      ∧ θ_run (Cert.SharedUpReferenceIdeal.defs (F := Ideal)) (onTc (τ := Cert.SharedUpReferenceIdeal.τ) (Cert.SharedUpReferenceIdeal.main (F := Ideal))) ⟨m', fun _ => 0, g'⟩ (fun r => ∀ c : Dev Cert.SharedUpReferenceIdeal.nD,
          r.2.mem ((c.tc : Thread Cert.SharedUpReferenceIdeal.nD Cert.SharedUpReferenceIdeal.τ).loc Cert.SharedUpReferenceIdeal.main_v9) = v0 c
          ∧ r.2.mem ((c.tc : Thread Cert.SharedUpReferenceIdeal.nD Cert.SharedUpReferenceIdeal.τ).loc Cert.SharedUpReferenceIdeal.main_arg0) = m' ((c.tc : Thread Cert.SharedUpReferenceIdeal.nD Cert.SharedUpReferenceIdeal.τ).loc Cert.SharedUpReferenceIdeal.main_arg0)
          ∧ r.2.mem ((c.tc : Thread Cert.SharedUpReferenceIdeal.nD Cert.SharedUpReferenceIdeal.τ).loc Cert.SharedUpReferenceIdeal.main_arg1) = m' ((c.tc : Thread Cert.SharedUpReferenceIdeal.nD Cert.SharedUpReferenceIdeal.τ).loc Cert.SharedUpReferenceIdeal.main_arg1)
          ∧ r.2.mem ((c.tc : Thread Cert.SharedUpReferenceIdeal.nD Cert.SharedUpReferenceIdeal.τ).loc Cert.SharedUpReferenceIdeal.main_arg2) = m' ((c.tc : Thread Cert.SharedUpReferenceIdeal.nD Cert.SharedUpReferenceIdeal.τ).loc Cert.SharedUpReferenceIdeal.main_arg2))

def preserves_EvenCombine_EvenCombineIdeal : Prop :=
  True

def algebraic_EvenCombineIdeal_EvenCombineReferenceIdeal [hEvenCombineIdeal : Cert.EvenCombineIdeal.Facts] [hEvenCombineReferenceIdeal : Cert.EvenCombineReferenceIdeal.Facts] : Prop :=
  ∀ (m : (ℓ : Loc Cert.EvenCombineIdeal.nD Cert.EvenCombineIdeal.τ Cert.EvenCombineIdeal.sig) → Buf (Elt Ideal) ℓ) (g : Dev Cert.EvenCombineIdeal.nD → PrngReg)
    (m' : (ℓ : Loc Cert.EvenCombineReferenceIdeal.nD Cert.EvenCombineReferenceIdeal.τ Cert.EvenCombineReferenceIdeal.sig) → Buf (Elt Ideal) ℓ) (g' : Dev Cert.EvenCombineReferenceIdeal.nD → PrngReg), Pre_EvenCombineIdeal m →
    (∀ c : Dev Cert.EvenCombineIdeal.nD,
      m' ((c.tc : Thread Cert.EvenCombineReferenceIdeal.nD Cert.EvenCombineReferenceIdeal.τ).loc Cert.EvenCombineReferenceIdeal.main_arg0) = m ((c.tc : Thread Cert.EvenCombineIdeal.nD Cert.EvenCombineIdeal.τ).loc Cert.EvenCombineIdeal.main_arg0)
      ∧ m' ((c.tc : Thread Cert.EvenCombineReferenceIdeal.nD Cert.EvenCombineReferenceIdeal.τ).loc Cert.EvenCombineReferenceIdeal.main_arg1) = m ((c.tc : Thread Cert.EvenCombineIdeal.nD Cert.EvenCombineIdeal.τ).loc Cert.EvenCombineIdeal.main_arg1)
      ∧ m' ((c.tc : Thread Cert.EvenCombineReferenceIdeal.nD Cert.EvenCombineReferenceIdeal.τ).loc Cert.EvenCombineReferenceIdeal.main_arg2) = m ((c.tc : Thread Cert.EvenCombineIdeal.nD Cert.EvenCombineIdeal.τ).loc Cert.EvenCombineIdeal.main_arg2)
      ∧ m' ((c.tc : Thread Cert.EvenCombineReferenceIdeal.nD Cert.EvenCombineReferenceIdeal.τ).loc Cert.EvenCombineReferenceIdeal.main_arg3) = m ((c.tc : Thread Cert.EvenCombineIdeal.nD Cert.EvenCombineIdeal.τ).loc Cert.EvenCombineIdeal.main_arg3)
      ∧ m' ((c.tc : Thread Cert.EvenCombineReferenceIdeal.nD Cert.EvenCombineReferenceIdeal.τ).loc Cert.EvenCombineReferenceIdeal.main_arg4) = m ((c.tc : Thread Cert.EvenCombineIdeal.nD Cert.EvenCombineIdeal.τ).loc Cert.EvenCombineIdeal.main_arg4)
      ∧ m' ((c.tc : Thread Cert.EvenCombineReferenceIdeal.nD Cert.EvenCombineReferenceIdeal.τ).loc Cert.EvenCombineReferenceIdeal.main_arg5) = m ((c.tc : Thread Cert.EvenCombineIdeal.nD Cert.EvenCombineIdeal.τ).loc Cert.EvenCombineIdeal.main_arg5)
      ∧ m' ((c.tc : Thread Cert.EvenCombineReferenceIdeal.nD Cert.EvenCombineReferenceIdeal.τ).loc Cert.EvenCombineReferenceIdeal.main_arg6) = m ((c.tc : Thread Cert.EvenCombineIdeal.nD Cert.EvenCombineIdeal.τ).loc Cert.EvenCombineIdeal.main_arg6)) →
    ∃ (v0 : (c : Dev Cert.EvenCombineIdeal.nD) → Buf (Elt Ideal) ((c.tc : Thread Cert.EvenCombineIdeal.nD Cert.EvenCombineIdeal.τ).loc Cert.EvenCombineIdeal.main_v9)),
      θ_run (Cert.EvenCombineIdeal.defs (F := Ideal)) (onTc (τ := Cert.EvenCombineIdeal.τ) (Cert.EvenCombineIdeal.main (F := Ideal))) ⟨m, fun _ => 0, g⟩ (fun r => ∀ c : Dev Cert.EvenCombineIdeal.nD,
          r.2.mem ((c.tc : Thread Cert.EvenCombineIdeal.nD Cert.EvenCombineIdeal.τ).loc Cert.EvenCombineIdeal.main_v9) = v0 c
          ∧ r.2.mem ((c.tc : Thread Cert.EvenCombineIdeal.nD Cert.EvenCombineIdeal.τ).loc Cert.EvenCombineIdeal.main_arg0) = m ((c.tc : Thread Cert.EvenCombineIdeal.nD Cert.EvenCombineIdeal.τ).loc Cert.EvenCombineIdeal.main_arg0)
          ∧ r.2.mem ((c.tc : Thread Cert.EvenCombineIdeal.nD Cert.EvenCombineIdeal.τ).loc Cert.EvenCombineIdeal.main_arg1) = m ((c.tc : Thread Cert.EvenCombineIdeal.nD Cert.EvenCombineIdeal.τ).loc Cert.EvenCombineIdeal.main_arg1)
          ∧ r.2.mem ((c.tc : Thread Cert.EvenCombineIdeal.nD Cert.EvenCombineIdeal.τ).loc Cert.EvenCombineIdeal.main_arg2) = m ((c.tc : Thread Cert.EvenCombineIdeal.nD Cert.EvenCombineIdeal.τ).loc Cert.EvenCombineIdeal.main_arg2)
          ∧ r.2.mem ((c.tc : Thread Cert.EvenCombineIdeal.nD Cert.EvenCombineIdeal.τ).loc Cert.EvenCombineIdeal.main_arg3) = m ((c.tc : Thread Cert.EvenCombineIdeal.nD Cert.EvenCombineIdeal.τ).loc Cert.EvenCombineIdeal.main_arg3)
          ∧ r.2.mem ((c.tc : Thread Cert.EvenCombineIdeal.nD Cert.EvenCombineIdeal.τ).loc Cert.EvenCombineIdeal.main_arg4) = m ((c.tc : Thread Cert.EvenCombineIdeal.nD Cert.EvenCombineIdeal.τ).loc Cert.EvenCombineIdeal.main_arg4)
          ∧ r.2.mem ((c.tc : Thread Cert.EvenCombineIdeal.nD Cert.EvenCombineIdeal.τ).loc Cert.EvenCombineIdeal.main_arg5) = m ((c.tc : Thread Cert.EvenCombineIdeal.nD Cert.EvenCombineIdeal.τ).loc Cert.EvenCombineIdeal.main_arg5)
          ∧ r.2.mem ((c.tc : Thread Cert.EvenCombineIdeal.nD Cert.EvenCombineIdeal.τ).loc Cert.EvenCombineIdeal.main_arg6) = m ((c.tc : Thread Cert.EvenCombineIdeal.nD Cert.EvenCombineIdeal.τ).loc Cert.EvenCombineIdeal.main_arg6))
      ∧ θ_run (Cert.EvenCombineReferenceIdeal.defs (F := Ideal)) (onTc (τ := Cert.EvenCombineReferenceIdeal.τ) (Cert.EvenCombineReferenceIdeal.main (F := Ideal))) ⟨m', fun _ => 0, g'⟩ (fun r => ∀ c : Dev Cert.EvenCombineReferenceIdeal.nD,
          r.2.mem ((c.tc : Thread Cert.EvenCombineReferenceIdeal.nD Cert.EvenCombineReferenceIdeal.τ).loc Cert.EvenCombineReferenceIdeal.main_v38) = v0 c
          ∧ r.2.mem ((c.tc : Thread Cert.EvenCombineReferenceIdeal.nD Cert.EvenCombineReferenceIdeal.τ).loc Cert.EvenCombineReferenceIdeal.main_arg0) = m' ((c.tc : Thread Cert.EvenCombineReferenceIdeal.nD Cert.EvenCombineReferenceIdeal.τ).loc Cert.EvenCombineReferenceIdeal.main_arg0)
          ∧ r.2.mem ((c.tc : Thread Cert.EvenCombineReferenceIdeal.nD Cert.EvenCombineReferenceIdeal.τ).loc Cert.EvenCombineReferenceIdeal.main_arg1) = m' ((c.tc : Thread Cert.EvenCombineReferenceIdeal.nD Cert.EvenCombineReferenceIdeal.τ).loc Cert.EvenCombineReferenceIdeal.main_arg1)
          ∧ r.2.mem ((c.tc : Thread Cert.EvenCombineReferenceIdeal.nD Cert.EvenCombineReferenceIdeal.τ).loc Cert.EvenCombineReferenceIdeal.main_arg2) = m' ((c.tc : Thread Cert.EvenCombineReferenceIdeal.nD Cert.EvenCombineReferenceIdeal.τ).loc Cert.EvenCombineReferenceIdeal.main_arg2)
          ∧ r.2.mem ((c.tc : Thread Cert.EvenCombineReferenceIdeal.nD Cert.EvenCombineReferenceIdeal.τ).loc Cert.EvenCombineReferenceIdeal.main_arg3) = m' ((c.tc : Thread Cert.EvenCombineReferenceIdeal.nD Cert.EvenCombineReferenceIdeal.τ).loc Cert.EvenCombineReferenceIdeal.main_arg3)
          ∧ r.2.mem ((c.tc : Thread Cert.EvenCombineReferenceIdeal.nD Cert.EvenCombineReferenceIdeal.τ).loc Cert.EvenCombineReferenceIdeal.main_arg4) = m' ((c.tc : Thread Cert.EvenCombineReferenceIdeal.nD Cert.EvenCombineReferenceIdeal.τ).loc Cert.EvenCombineReferenceIdeal.main_arg4)
          ∧ r.2.mem ((c.tc : Thread Cert.EvenCombineReferenceIdeal.nD Cert.EvenCombineReferenceIdeal.τ).loc Cert.EvenCombineReferenceIdeal.main_arg5) = m' ((c.tc : Thread Cert.EvenCombineReferenceIdeal.nD Cert.EvenCombineReferenceIdeal.τ).loc Cert.EvenCombineReferenceIdeal.main_arg5)
          ∧ r.2.mem ((c.tc : Thread Cert.EvenCombineReferenceIdeal.nD Cert.EvenCombineReferenceIdeal.τ).loc Cert.EvenCombineReferenceIdeal.main_arg6) = m' ((c.tc : Thread Cert.EvenCombineReferenceIdeal.nD Cert.EvenCombineReferenceIdeal.τ).loc Cert.EvenCombineReferenceIdeal.main_arg6))

def preserves_OddCombine_OddCombineIdeal : Prop :=
  True

def algebraic_OddCombineIdeal_OddCombineReferenceIdeal [hOddCombineIdeal : Cert.OddCombineIdeal.Facts] [hOddCombineReferenceIdeal : Cert.OddCombineReferenceIdeal.Facts] : Prop :=
  ∀ (m : (ℓ : Loc Cert.OddCombineIdeal.nD Cert.OddCombineIdeal.τ Cert.OddCombineIdeal.sig) → Buf (Elt Ideal) ℓ) (g : Dev Cert.OddCombineIdeal.nD → PrngReg)
    (m' : (ℓ : Loc Cert.OddCombineReferenceIdeal.nD Cert.OddCombineReferenceIdeal.τ Cert.OddCombineReferenceIdeal.sig) → Buf (Elt Ideal) ℓ) (g' : Dev Cert.OddCombineReferenceIdeal.nD → PrngReg), Pre_OddCombineIdeal m →
    (∀ c : Dev Cert.OddCombineIdeal.nD,
      m' ((c.tc : Thread Cert.OddCombineReferenceIdeal.nD Cert.OddCombineReferenceIdeal.τ).loc Cert.OddCombineReferenceIdeal.main_arg0) = m ((c.tc : Thread Cert.OddCombineIdeal.nD Cert.OddCombineIdeal.τ).loc Cert.OddCombineIdeal.main_arg0)
      ∧ m' ((c.tc : Thread Cert.OddCombineReferenceIdeal.nD Cert.OddCombineReferenceIdeal.τ).loc Cert.OddCombineReferenceIdeal.main_arg1) = m ((c.tc : Thread Cert.OddCombineIdeal.nD Cert.OddCombineIdeal.τ).loc Cert.OddCombineIdeal.main_arg1)
      ∧ m' ((c.tc : Thread Cert.OddCombineReferenceIdeal.nD Cert.OddCombineReferenceIdeal.τ).loc Cert.OddCombineReferenceIdeal.main_arg2) = m ((c.tc : Thread Cert.OddCombineIdeal.nD Cert.OddCombineIdeal.τ).loc Cert.OddCombineIdeal.main_arg2)
      ∧ m' ((c.tc : Thread Cert.OddCombineReferenceIdeal.nD Cert.OddCombineReferenceIdeal.τ).loc Cert.OddCombineReferenceIdeal.main_arg3) = m ((c.tc : Thread Cert.OddCombineIdeal.nD Cert.OddCombineIdeal.τ).loc Cert.OddCombineIdeal.main_arg3)
      ∧ m' ((c.tc : Thread Cert.OddCombineReferenceIdeal.nD Cert.OddCombineReferenceIdeal.τ).loc Cert.OddCombineReferenceIdeal.main_arg4) = m ((c.tc : Thread Cert.OddCombineIdeal.nD Cert.OddCombineIdeal.τ).loc Cert.OddCombineIdeal.main_arg4)
      ∧ m' ((c.tc : Thread Cert.OddCombineReferenceIdeal.nD Cert.OddCombineReferenceIdeal.τ).loc Cert.OddCombineReferenceIdeal.main_arg5) = m ((c.tc : Thread Cert.OddCombineIdeal.nD Cert.OddCombineIdeal.τ).loc Cert.OddCombineIdeal.main_arg5)
      ∧ m' ((c.tc : Thread Cert.OddCombineReferenceIdeal.nD Cert.OddCombineReferenceIdeal.τ).loc Cert.OddCombineReferenceIdeal.main_arg6) = m ((c.tc : Thread Cert.OddCombineIdeal.nD Cert.OddCombineIdeal.τ).loc Cert.OddCombineIdeal.main_arg6)
      ∧ m' ((c.tc : Thread Cert.OddCombineReferenceIdeal.nD Cert.OddCombineReferenceIdeal.τ).loc Cert.OddCombineReferenceIdeal.main_arg7) = m ((c.tc : Thread Cert.OddCombineIdeal.nD Cert.OddCombineIdeal.τ).loc Cert.OddCombineIdeal.main_arg7)) →
    ∃ (v0 : (c : Dev Cert.OddCombineIdeal.nD) → Buf (Elt Ideal) ((c.tc : Thread Cert.OddCombineIdeal.nD Cert.OddCombineIdeal.τ).loc Cert.OddCombineIdeal.main_v10)),
      θ_run (Cert.OddCombineIdeal.defs (F := Ideal)) (onTc (τ := Cert.OddCombineIdeal.τ) (Cert.OddCombineIdeal.main (F := Ideal))) ⟨m, fun _ => 0, g⟩ (fun r => ∀ c : Dev Cert.OddCombineIdeal.nD,
          r.2.mem ((c.tc : Thread Cert.OddCombineIdeal.nD Cert.OddCombineIdeal.τ).loc Cert.OddCombineIdeal.main_v10) = v0 c
          ∧ r.2.mem ((c.tc : Thread Cert.OddCombineIdeal.nD Cert.OddCombineIdeal.τ).loc Cert.OddCombineIdeal.main_arg0) = m ((c.tc : Thread Cert.OddCombineIdeal.nD Cert.OddCombineIdeal.τ).loc Cert.OddCombineIdeal.main_arg0)
          ∧ r.2.mem ((c.tc : Thread Cert.OddCombineIdeal.nD Cert.OddCombineIdeal.τ).loc Cert.OddCombineIdeal.main_arg1) = m ((c.tc : Thread Cert.OddCombineIdeal.nD Cert.OddCombineIdeal.τ).loc Cert.OddCombineIdeal.main_arg1)
          ∧ r.2.mem ((c.tc : Thread Cert.OddCombineIdeal.nD Cert.OddCombineIdeal.τ).loc Cert.OddCombineIdeal.main_arg2) = m ((c.tc : Thread Cert.OddCombineIdeal.nD Cert.OddCombineIdeal.τ).loc Cert.OddCombineIdeal.main_arg2)
          ∧ r.2.mem ((c.tc : Thread Cert.OddCombineIdeal.nD Cert.OddCombineIdeal.τ).loc Cert.OddCombineIdeal.main_arg3) = m ((c.tc : Thread Cert.OddCombineIdeal.nD Cert.OddCombineIdeal.τ).loc Cert.OddCombineIdeal.main_arg3)
          ∧ r.2.mem ((c.tc : Thread Cert.OddCombineIdeal.nD Cert.OddCombineIdeal.τ).loc Cert.OddCombineIdeal.main_arg4) = m ((c.tc : Thread Cert.OddCombineIdeal.nD Cert.OddCombineIdeal.τ).loc Cert.OddCombineIdeal.main_arg4)
          ∧ r.2.mem ((c.tc : Thread Cert.OddCombineIdeal.nD Cert.OddCombineIdeal.τ).loc Cert.OddCombineIdeal.main_arg5) = m ((c.tc : Thread Cert.OddCombineIdeal.nD Cert.OddCombineIdeal.τ).loc Cert.OddCombineIdeal.main_arg5)
          ∧ r.2.mem ((c.tc : Thread Cert.OddCombineIdeal.nD Cert.OddCombineIdeal.τ).loc Cert.OddCombineIdeal.main_arg6) = m ((c.tc : Thread Cert.OddCombineIdeal.nD Cert.OddCombineIdeal.τ).loc Cert.OddCombineIdeal.main_arg6)
          ∧ r.2.mem ((c.tc : Thread Cert.OddCombineIdeal.nD Cert.OddCombineIdeal.τ).loc Cert.OddCombineIdeal.main_arg7) = m ((c.tc : Thread Cert.OddCombineIdeal.nD Cert.OddCombineIdeal.τ).loc Cert.OddCombineIdeal.main_arg7))
      ∧ θ_run (Cert.OddCombineReferenceIdeal.defs (F := Ideal)) (onTc (τ := Cert.OddCombineReferenceIdeal.τ) (Cert.OddCombineReferenceIdeal.main (F := Ideal))) ⟨m', fun _ => 0, g'⟩ (fun r => ∀ c : Dev Cert.OddCombineReferenceIdeal.nD,
          r.2.mem ((c.tc : Thread Cert.OddCombineReferenceIdeal.nD Cert.OddCombineReferenceIdeal.τ).loc Cert.OddCombineReferenceIdeal.main_v40) = v0 c
          ∧ r.2.mem ((c.tc : Thread Cert.OddCombineReferenceIdeal.nD Cert.OddCombineReferenceIdeal.τ).loc Cert.OddCombineReferenceIdeal.main_arg0) = m' ((c.tc : Thread Cert.OddCombineReferenceIdeal.nD Cert.OddCombineReferenceIdeal.τ).loc Cert.OddCombineReferenceIdeal.main_arg0)
          ∧ r.2.mem ((c.tc : Thread Cert.OddCombineReferenceIdeal.nD Cert.OddCombineReferenceIdeal.τ).loc Cert.OddCombineReferenceIdeal.main_arg1) = m' ((c.tc : Thread Cert.OddCombineReferenceIdeal.nD Cert.OddCombineReferenceIdeal.τ).loc Cert.OddCombineReferenceIdeal.main_arg1)
          ∧ r.2.mem ((c.tc : Thread Cert.OddCombineReferenceIdeal.nD Cert.OddCombineReferenceIdeal.τ).loc Cert.OddCombineReferenceIdeal.main_arg2) = m' ((c.tc : Thread Cert.OddCombineReferenceIdeal.nD Cert.OddCombineReferenceIdeal.τ).loc Cert.OddCombineReferenceIdeal.main_arg2)
          ∧ r.2.mem ((c.tc : Thread Cert.OddCombineReferenceIdeal.nD Cert.OddCombineReferenceIdeal.τ).loc Cert.OddCombineReferenceIdeal.main_arg3) = m' ((c.tc : Thread Cert.OddCombineReferenceIdeal.nD Cert.OddCombineReferenceIdeal.τ).loc Cert.OddCombineReferenceIdeal.main_arg3)
          ∧ r.2.mem ((c.tc : Thread Cert.OddCombineReferenceIdeal.nD Cert.OddCombineReferenceIdeal.τ).loc Cert.OddCombineReferenceIdeal.main_arg4) = m' ((c.tc : Thread Cert.OddCombineReferenceIdeal.nD Cert.OddCombineReferenceIdeal.τ).loc Cert.OddCombineReferenceIdeal.main_arg4)
          ∧ r.2.mem ((c.tc : Thread Cert.OddCombineReferenceIdeal.nD Cert.OddCombineReferenceIdeal.τ).loc Cert.OddCombineReferenceIdeal.main_arg5) = m' ((c.tc : Thread Cert.OddCombineReferenceIdeal.nD Cert.OddCombineReferenceIdeal.τ).loc Cert.OddCombineReferenceIdeal.main_arg5)
          ∧ r.2.mem ((c.tc : Thread Cert.OddCombineReferenceIdeal.nD Cert.OddCombineReferenceIdeal.τ).loc Cert.OddCombineReferenceIdeal.main_arg6) = m' ((c.tc : Thread Cert.OddCombineReferenceIdeal.nD Cert.OddCombineReferenceIdeal.τ).loc Cert.OddCombineReferenceIdeal.main_arg6)
          ∧ r.2.mem ((c.tc : Thread Cert.OddCombineReferenceIdeal.nD Cert.OddCombineReferenceIdeal.τ).loc Cert.OddCombineReferenceIdeal.main_arg7) = m' ((c.tc : Thread Cert.OddCombineReferenceIdeal.nD Cert.OddCombineReferenceIdeal.τ).loc Cert.OddCombineReferenceIdeal.main_arg7))

def preserves_MoeUp_MoeUpIdeal : Prop :=
  True

def algebraic_MoeUpIdeal_MoeUpReferenceIdeal [hMoeUpIdeal : Cert.MoeUpIdeal.Facts] [hMoeUpReferenceIdeal : Cert.MoeUpReferenceIdeal.Facts] [hPre_experts_named : Cert.Pre_experts_named.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpReferenceIdeal.nD Cert.MoeUpReferenceIdeal.τ Cert.MoeUpReferenceIdeal.sig) → Buf (Elt Ideal) ℓ) (g' : Dev Cert.MoeUpReferenceIdeal.nD → PrngReg), Pre_MoeUpIdeal m →
    (∀ c : Dev Cert.MoeUpIdeal.nD,
      m' ((c.tc : Thread Cert.MoeUpReferenceIdeal.nD Cert.MoeUpReferenceIdeal.τ).loc Cert.MoeUpReferenceIdeal.main_arg0) = m ((c.tc : Thread Cert.MoeUpIdeal.nD Cert.MoeUpIdeal.τ).loc Cert.MoeUpIdeal.main_arg0)
      ∧ m' ((c.tc : Thread Cert.MoeUpReferenceIdeal.nD Cert.MoeUpReferenceIdeal.τ).loc Cert.MoeUpReferenceIdeal.main_arg1) = m ((c.tc : Thread Cert.MoeUpIdeal.nD Cert.MoeUpIdeal.τ).loc Cert.MoeUpIdeal.main_arg1)
      ∧ m' ((c.tc : Thread Cert.MoeUpReferenceIdeal.nD Cert.MoeUpReferenceIdeal.τ).loc Cert.MoeUpReferenceIdeal.main_arg2) = m ((c.tc : Thread Cert.MoeUpIdeal.nD Cert.MoeUpIdeal.τ).loc Cert.MoeUpIdeal.main_arg2)
      ∧ m' ((c.tc : Thread Cert.MoeUpReferenceIdeal.nD Cert.MoeUpReferenceIdeal.τ).loc Cert.MoeUpReferenceIdeal.main_arg3) = m ((c.tc : Thread Cert.MoeUpIdeal.nD Cert.MoeUpIdeal.τ).loc Cert.MoeUpIdeal.main_arg3)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3))
      ∧ θ_run (Cert.MoeUpReferenceIdeal.defs (F := Ideal)) (onTc (τ := Cert.MoeUpReferenceIdeal.τ) (Cert.MoeUpReferenceIdeal.main (F := Ideal))) ⟨m', fun _ => 0, g'⟩ (fun r => ∀ c : Dev Cert.MoeUpReferenceIdeal.nD,
          r.2.mem ((c.tc : Thread Cert.MoeUpReferenceIdeal.nD Cert.MoeUpReferenceIdeal.τ).loc Cert.MoeUpReferenceIdeal.main_v22) = v0 c
          ∧ r.2.mem ((c.tc : Thread Cert.MoeUpReferenceIdeal.nD Cert.MoeUpReferenceIdeal.τ).loc Cert.MoeUpReferenceIdeal.main_arg0) = m' ((c.tc : Thread Cert.MoeUpReferenceIdeal.nD Cert.MoeUpReferenceIdeal.τ).loc Cert.MoeUpReferenceIdeal.main_arg0)
          ∧ r.2.mem ((c.tc : Thread Cert.MoeUpReferenceIdeal.nD Cert.MoeUpReferenceIdeal.τ).loc Cert.MoeUpReferenceIdeal.main_arg1) = m' ((c.tc : Thread Cert.MoeUpReferenceIdeal.nD Cert.MoeUpReferenceIdeal.τ).loc Cert.MoeUpReferenceIdeal.main_arg1)
          ∧ r.2.mem ((c.tc : Thread Cert.MoeUpReferenceIdeal.nD Cert.MoeUpReferenceIdeal.τ).loc Cert.MoeUpReferenceIdeal.main_arg2) = m' ((c.tc : Thread Cert.MoeUpReferenceIdeal.nD Cert.MoeUpReferenceIdeal.τ).loc Cert.MoeUpReferenceIdeal.main_arg2)
          ∧ r.2.mem ((c.tc : Thread Cert.MoeUpReferenceIdeal.nD Cert.MoeUpReferenceIdeal.τ).loc Cert.MoeUpReferenceIdeal.main_arg3) = m' ((c.tc : Thread Cert.MoeUpReferenceIdeal.nD Cert.MoeUpReferenceIdeal.τ).loc Cert.MoeUpReferenceIdeal.main_arg3))

def preserves_SharedUpLast_SharedUpLastIdeal : Prop :=
  True

def algebraic_SharedUpLastIdeal_SharedUpLastReferenceIdeal [hSharedUpLastIdeal : Cert.SharedUpLastIdeal.Facts] [hSharedUpLastReferenceIdeal : Cert.SharedUpLastReferenceIdeal.Facts] : Prop :=
  ∀ (m : (ℓ : Loc Cert.SharedUpLastIdeal.nD Cert.SharedUpLastIdeal.τ Cert.SharedUpLastIdeal.sig) → Buf (Elt Ideal) ℓ) (g : Dev Cert.SharedUpLastIdeal.nD → PrngReg)
    (m' : (ℓ : Loc Cert.SharedUpLastReferenceIdeal.nD Cert.SharedUpLastReferenceIdeal.τ Cert.SharedUpLastReferenceIdeal.sig) → Buf (Elt Ideal) ℓ) (g' : Dev Cert.SharedUpLastReferenceIdeal.nD → PrngReg), Pre_SharedUpLastIdeal m →
    (∀ c : Dev Cert.SharedUpLastIdeal.nD,
      m' ((c.tc : Thread Cert.SharedUpLastReferenceIdeal.nD Cert.SharedUpLastReferenceIdeal.τ).loc Cert.SharedUpLastReferenceIdeal.main_arg0) = m ((c.tc : Thread Cert.SharedUpLastIdeal.nD Cert.SharedUpLastIdeal.τ).loc Cert.SharedUpLastIdeal.main_arg0)
      ∧ m' ((c.tc : Thread Cert.SharedUpLastReferenceIdeal.nD Cert.SharedUpLastReferenceIdeal.τ).loc Cert.SharedUpLastReferenceIdeal.main_arg1) = m ((c.tc : Thread Cert.SharedUpLastIdeal.nD Cert.SharedUpLastIdeal.τ).loc Cert.SharedUpLastIdeal.main_arg1)
      ∧ m' ((c.tc : Thread Cert.SharedUpLastReferenceIdeal.nD Cert.SharedUpLastReferenceIdeal.τ).loc Cert.SharedUpLastReferenceIdeal.main_arg2) = m ((c.tc : Thread Cert.SharedUpLastIdeal.nD Cert.SharedUpLastIdeal.τ).loc Cert.SharedUpLastIdeal.main_arg2)) →
    ∃ (v0 : (c : Dev Cert.SharedUpLastIdeal.nD) → Buf (Elt Ideal) ((c.tc : Thread Cert.SharedUpLastIdeal.nD Cert.SharedUpLastIdeal.τ).loc Cert.SharedUpLastIdeal.main_v0)),
      θ_run (Cert.SharedUpLastIdeal.defs (F := Ideal)) (onTc (τ := Cert.SharedUpLastIdeal.τ) (Cert.SharedUpLastIdeal.main (F := Ideal))) ⟨m, fun _ => 0, g⟩ (fun r => ∀ c : Dev Cert.SharedUpLastIdeal.nD,
          r.2.mem ((c.tc : Thread Cert.SharedUpLastIdeal.nD Cert.SharedUpLastIdeal.τ).loc Cert.SharedUpLastIdeal.main_v0) = v0 c
          ∧ r.2.mem ((c.tc : Thread Cert.SharedUpLastIdeal.nD Cert.SharedUpLastIdeal.τ).loc Cert.SharedUpLastIdeal.main_arg0) = m ((c.tc : Thread Cert.SharedUpLastIdeal.nD Cert.SharedUpLastIdeal.τ).loc Cert.SharedUpLastIdeal.main_arg0)
          ∧ r.2.mem ((c.tc : Thread Cert.SharedUpLastIdeal.nD Cert.SharedUpLastIdeal.τ).loc Cert.SharedUpLastIdeal.main_arg1) = m ((c.tc : Thread Cert.SharedUpLastIdeal.nD Cert.SharedUpLastIdeal.τ).loc Cert.SharedUpLastIdeal.main_arg1)
          ∧ r.2.mem ((c.tc : Thread Cert.SharedUpLastIdeal.nD Cert.SharedUpLastIdeal.τ).loc Cert.SharedUpLastIdeal.main_arg2) = m ((c.tc : Thread Cert.SharedUpLastIdeal.nD Cert.SharedUpLastIdeal.τ).loc Cert.SharedUpLastIdeal.main_arg2))
      ∧ θ_run (Cert.SharedUpLastReferenceIdeal.defs (F := Ideal)) (onTc (τ := Cert.SharedUpLastReferenceIdeal.τ) (Cert.SharedUpLastReferenceIdeal.main (F := Ideal))) ⟨m', fun _ => 0, g'⟩ (fun r => ∀ c : Dev Cert.SharedUpLastReferenceIdeal.nD,
          r.2.mem ((c.tc : Thread Cert.SharedUpLastReferenceIdeal.nD Cert.SharedUpLastReferenceIdeal.τ).loc Cert.SharedUpLastReferenceIdeal.main_v9) = v0 c
          ∧ r.2.mem ((c.tc : Thread Cert.SharedUpLastReferenceIdeal.nD Cert.SharedUpLastReferenceIdeal.τ).loc Cert.SharedUpLastReferenceIdeal.main_arg0) = m' ((c.tc : Thread Cert.SharedUpLastReferenceIdeal.nD Cert.SharedUpLastReferenceIdeal.τ).loc Cert.SharedUpLastReferenceIdeal.main_arg0)
          ∧ r.2.mem ((c.tc : Thread Cert.SharedUpLastReferenceIdeal.nD Cert.SharedUpLastReferenceIdeal.τ).loc Cert.SharedUpLastReferenceIdeal.main_arg1) = m' ((c.tc : Thread Cert.SharedUpLastReferenceIdeal.nD Cert.SharedUpLastReferenceIdeal.τ).loc Cert.SharedUpLastReferenceIdeal.main_arg1)
          ∧ r.2.mem ((c.tc : Thread Cert.SharedUpLastReferenceIdeal.nD Cert.SharedUpLastReferenceIdeal.τ).loc Cert.SharedUpLastReferenceIdeal.main_arg2) = m' ((c.tc : Thread Cert.SharedUpLastReferenceIdeal.nD Cert.SharedUpLastReferenceIdeal.τ).loc Cert.SharedUpLastReferenceIdeal.main_arg2))

def preserves_MoeUpLast_MoeUpLastIdeal : Prop :=
  True

def algebraic_MoeUpLastIdeal_MoeUpLastReferenceIdeal [hMoeUpLastIdeal : Cert.MoeUpLastIdeal.Facts] [hMoeUpLastReferenceIdeal : Cert.MoeUpLastReferenceIdeal.Facts] [hPre_experts_named_last : Cert.Pre_experts_named_last.Facts] : Prop :=
  ∀ (m : (ℓ : Loc Cert.MoeUpLastIdeal.nD Cert.MoeUpLastIdeal.τ Cert.MoeUpLastIdeal.sig) → Buf (Elt Ideal) ℓ) (g : Dev Cert.MoeUpLastIdeal.nD → PrngReg)
    (m' : (ℓ : Loc Cert.MoeUpLastReferenceIdeal.nD Cert.MoeUpLastReferenceIdeal.τ Cert.MoeUpLastReferenceIdeal.sig) → Buf (Elt Ideal) ℓ) (g' : Dev Cert.MoeUpLastReferenceIdeal.nD → PrngReg), Pre_MoeUpLastIdeal m →
    (∀ c : Dev Cert.MoeUpLastIdeal.nD,
      m' ((c.tc : Thread Cert.MoeUpLastReferenceIdeal.nD Cert.MoeUpLastReferenceIdeal.τ).loc Cert.MoeUpLastReferenceIdeal.main_arg0) = m ((c.tc : Thread Cert.MoeUpLastIdeal.nD Cert.MoeUpLastIdeal.τ).loc Cert.MoeUpLastIdeal.main_arg0)
      ∧ m' ((c.tc : Thread Cert.MoeUpLastReferenceIdeal.nD Cert.MoeUpLastReferenceIdeal.τ).loc Cert.MoeUpLastReferenceIdeal.main_arg1) = m ((c.tc : Thread Cert.MoeUpLastIdeal.nD Cert.MoeUpLastIdeal.τ).loc Cert.MoeUpLastIdeal.main_arg1)
      ∧ m' ((c.tc : Thread Cert.MoeUpLastReferenceIdeal.nD Cert.MoeUpLastReferenceIdeal.τ).loc Cert.MoeUpLastReferenceIdeal.main_arg2) = m ((c.tc : Thread Cert.MoeUpLastIdeal.nD Cert.MoeUpLastIdeal.τ).loc Cert.MoeUpLastIdeal.main_arg2)
      ∧ m' ((c.tc : Thread Cert.MoeUpLastReferenceIdeal.nD Cert.MoeUpLastReferenceIdeal.τ).loc Cert.MoeUpLastReferenceIdeal.main_arg3) = m ((c.tc : Thread Cert.MoeUpLastIdeal.nD Cert.MoeUpLastIdeal.τ).loc Cert.MoeUpLastIdeal.main_arg3)) →
    ∃ (v0 : (c : Dev Cert.MoeUpLastIdeal.nD) → Buf (Elt Ideal) ((c.tc : Thread Cert.MoeUpLastIdeal.nD Cert.MoeUpLastIdeal.τ).loc Cert.MoeUpLastIdeal.main_v0)),
      θ_run (Cert.MoeUpLastIdeal.defs (F := Ideal)) (onTc (τ := Cert.MoeUpLastIdeal.τ) (Cert.MoeUpLastIdeal.main (F := Ideal))) ⟨m, fun _ => 0, g⟩ (fun r => ∀ c : Dev Cert.MoeUpLastIdeal.nD,
          r.2.mem ((c.tc : Thread Cert.MoeUpLastIdeal.nD Cert.MoeUpLastIdeal.τ).loc Cert.MoeUpLastIdeal.main_v0) = v0 c
          ∧ r.2.mem ((c.tc : Thread Cert.MoeUpLastIdeal.nD Cert.MoeUpLastIdeal.τ).loc Cert.MoeUpLastIdeal.main_arg0) = m ((c.tc : Thread Cert.MoeUpLastIdeal.nD Cert.MoeUpLastIdeal.τ).loc Cert.MoeUpLastIdeal.main_arg0)
          ∧ r.2.mem ((c.tc : Thread Cert.MoeUpLastIdeal.nD Cert.MoeUpLastIdeal.τ).loc Cert.MoeUpLastIdeal.main_arg1) = m ((c.tc : Thread Cert.MoeUpLastIdeal.nD Cert.MoeUpLastIdeal.τ).loc Cert.MoeUpLastIdeal.main_arg1)
          ∧ r.2.mem ((c.tc : Thread Cert.MoeUpLastIdeal.nD Cert.MoeUpLastIdeal.τ).loc Cert.MoeUpLastIdeal.main_arg2) = m ((c.tc : Thread Cert.MoeUpLastIdeal.nD Cert.MoeUpLastIdeal.τ).loc Cert.MoeUpLastIdeal.main_arg2)
          ∧ r.2.mem ((c.tc : Thread Cert.MoeUpLastIdeal.nD Cert.MoeUpLastIdeal.τ).loc Cert.MoeUpLastIdeal.main_arg3) = m ((c.tc : Thread Cert.MoeUpLastIdeal.nD Cert.MoeUpLastIdeal.τ).loc Cert.MoeUpLastIdeal.main_arg3))
      ∧ θ_run (Cert.MoeUpLastReferenceIdeal.defs (F := Ideal)) (onTc (τ := Cert.MoeUpLastReferenceIdeal.τ) (Cert.MoeUpLastReferenceIdeal.main (F := Ideal))) ⟨m', fun _ => 0, g'⟩ (fun r => ∀ c : Dev Cert.MoeUpLastReferenceIdeal.nD,
          r.2.mem ((c.tc : Thread Cert.MoeUpLastReferenceIdeal.nD Cert.MoeUpLastReferenceIdeal.τ).loc Cert.MoeUpLastReferenceIdeal.main_v22) = v0 c
          ∧ r.2.mem ((c.tc : Thread Cert.MoeUpLastReferenceIdeal.nD Cert.MoeUpLastReferenceIdeal.τ).loc Cert.MoeUpLastReferenceIdeal.main_arg0) = m' ((c.tc : Thread Cert.MoeUpLastReferenceIdeal.nD Cert.MoeUpLastReferenceIdeal.τ).loc Cert.MoeUpLastReferenceIdeal.main_arg0)
          ∧ r.2.mem ((c.tc : Thread Cert.MoeUpLastReferenceIdeal.nD Cert.MoeUpLastReferenceIdeal.τ).loc Cert.MoeUpLastReferenceIdeal.main_arg1) = m' ((c.tc : Thread Cert.MoeUpLastReferenceIdeal.nD Cert.MoeUpLastReferenceIdeal.τ).loc Cert.MoeUpLastReferenceIdeal.main_arg1)
          ∧ r.2.mem ((c.tc : Thread Cert.MoeUpLastReferenceIdeal.nD Cert.MoeUpLastReferenceIdeal.τ).loc Cert.MoeUpLastReferenceIdeal.main_arg2) = m' ((c.tc : Thread Cert.MoeUpLastReferenceIdeal.nD Cert.MoeUpLastReferenceIdeal.τ).loc Cert.MoeUpLastReferenceIdeal.main_arg2)
          ∧ r.2.mem ((c.tc : Thread Cert.MoeUpLastReferenceIdeal.nD Cert.MoeUpLastReferenceIdeal.τ).loc Cert.MoeUpLastReferenceIdeal.main_arg3) = m' ((c.tc : Thread Cert.MoeUpLastReferenceIdeal.nD Cert.MoeUpLastReferenceIdeal.τ).loc Cert.MoeUpLastReferenceIdeal.main_arg3))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInReferenceIdeal : Cert.EvenInReferenceIdeal.Facts) (hEvenOut : Cert.EvenOut.Facts) (hEvenOutIdeal : Cert.EvenOutIdeal.Facts) (hEvenOutReferenceIdeal : Cert.EvenOutReferenceIdeal.Facts) (hOddIn : Cert.OddIn.Facts) (hOddInIdeal : Cert.OddInIdeal.Facts) (hOddInReferenceIdeal : Cert.OddInReferenceIdeal.Facts) (hOddOut : Cert.OddOut.Facts) (hOddOutIdeal : Cert.OddOutIdeal.Facts) (hOddOutReferenceIdeal : Cert.OddOutReferenceIdeal.Facts) (hUq : Cert.Uq.Facts) (hUqIdeal : Cert.UqIdeal.Facts) (hUqReferenceIdeal : Cert.UqReferenceIdeal.Facts) (hUkv : Cert.Ukv.Facts) (hUkvIdeal : Cert.UkvIdeal.Facts) (hUkvReferenceIdeal : Cert.UkvReferenceIdeal.Facts) (hSharedUp : Cert.SharedUp.Facts) (hSharedUpIdeal : Cert.SharedUpIdeal.Facts) (hSharedUpReferenceIdeal : Cert.SharedUpReferenceIdeal.Facts) (hEvenCombine : Cert.EvenCombine.Facts) (hEvenCombineIdeal : Cert.EvenCombineIdeal.Facts) (hEvenCombineReferenceIdeal : Cert.EvenCombineReferenceIdeal.Facts) (hOddCombine : Cert.OddCombine.Facts) (hOddCombineIdeal : Cert.OddCombineIdeal.Facts) (hOddCombineReferenceIdeal : Cert.OddCombineReferenceIdeal.Facts) (hMoeUp : Cert.MoeUp.Facts) (hMoeUpIdeal : Cert.MoeUpIdeal.Facts) (hMoeUpReferenceIdeal : Cert.MoeUpReferenceIdeal.Facts) (hSharedUpLast : Cert.SharedUpLast.Facts) (hSharedUpLastIdeal : Cert.SharedUpLastIdeal.Facts) (hSharedUpLastReferenceIdeal : Cert.SharedUpLastReferenceIdeal.Facts) (hMoeUpLast : Cert.MoeUpLast.Facts) (hMoeUpLastIdeal : Cert.MoeUpLastIdeal.Facts) (hMoeUpLastReferenceIdeal : Cert.MoeUpLastReferenceIdeal.Facts) (hPre_finite : Cert.Pre_finite.Facts) (hPre_finite_odd_in : Cert.Pre_finite_odd_in.Facts) (hPre_finite_uq : Cert.Pre_finite_uq.Facts) (hPre_experts_named : Cert.Pre_experts_named.Facts) (hPre_experts_named_last : Cert.Pre_experts_named_last.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_OddIn (hOddIn := hOddIn)
    ∧ quiescent_OddInIdeal (hOddInIdeal := hOddInIdeal)
    ∧ quiescent_OddInIdeal_pre_finite_odd_in (hOddInIdeal := hOddInIdeal) (hPre_finite_odd_in := hPre_finite_odd_in)
    ∧ quiescent_OddInReferenceIdeal (hOddInReferenceIdeal := hOddInReferenceIdeal)
    ∧ quiescent_OddInReferenceIdeal_pre_finite_odd_in (hOddInReferenceIdeal := hOddInReferenceIdeal) (hPre_finite_odd_in := hPre_finite_odd_in)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ quiescent_Uq (hUq := hUq)
    ∧ quiescent_UqIdeal (hUqIdeal := hUqIdeal)
    ∧ quiescent_UqIdeal_pre_finite_uq (hUqIdeal := hUqIdeal) (hPre_finite_uq := hPre_finite_uq)
    ∧ quiescent_UqReferenceIdeal (hUqReferenceIdeal := hUqReferenceIdeal)
    ∧ quiescent_UqReferenceIdeal_pre_finite_uq (hUqReferenceIdeal := hUqReferenceIdeal) (hPre_finite_uq := hPre_finite_uq)
    ∧ quiescent_Ukv (hUkv := hUkv)
    ∧ quiescent_UkvIdeal (hUkvIdeal := hUkvIdeal)
    ∧ quiescent_UkvReferenceIdeal (hUkvReferenceIdeal := hUkvReferenceIdeal)
    ∧ quiescent_SharedUp (hSharedUp := hSharedUp)
    ∧ quiescent_SharedUpIdeal (hSharedUpIdeal := hSharedUpIdeal)
    ∧ quiescent_SharedUpReferenceIdeal (hSharedUpReferenceIdeal := hSharedUpReferenceIdeal)
    ∧ quiescent_EvenCombine (hEvenCombine := hEvenCombine)
    ∧ quiescent_EvenCombineIdeal (hEvenCombineIdeal := hEvenCombineIdeal)
    ∧ quiescent_EvenCombineReferenceIdeal (hEvenCombineReferenceIdeal := hEvenCombineReferenceIdeal)
    ∧ quiescent_OddCombine (hOddCombine := hOddCombine)
    ∧ quiescent_OddCombineIdeal (hOddCombineIdeal := hOddCombineIdeal)
    ∧ quiescent_OddCombineReferenceIdeal (hOddCombineReferenceIdeal := hOddCombineReferenceIdeal)
    ∧ quiescent_MoeUp (hMoeUp := hMoeUp) (hPre_experts_named := hPre_experts_named)
    ∧ quiescent_MoeUpIdeal (hMoeUpIdeal := hMoeUpIdeal) (hPre_experts_named := hPre_experts_named)
    ∧ quiescent_MoeUpReferenceIdeal (hMoeUpReferenceIdeal := hMoeUpReferenceIdeal) (hPre_experts_named := hPre_experts_named)
    ∧ quiescent_SharedUpLast (hSharedUpLast := hSharedUpLast)
    ∧ quiescent_SharedUpLastIdeal (hSharedUpLastIdeal := hSharedUpLastIdeal)
    ∧ quiescent_SharedUpLastReferenceIdeal (hSharedUpLastReferenceIdeal := hSharedUpLastReferenceIdeal)
    ∧ quiescent_MoeUpLast (hMoeUpLast := hMoeUpLast) (hPre_experts_named_last := hPre_experts_named_last)
    ∧ quiescent_MoeUpLastIdeal (hMoeUpLastIdeal := hMoeUpLastIdeal) (hPre_experts_named_last := hPre_experts_named_last)
    ∧ quiescent_MoeUpLastReferenceIdeal (hMoeUpLastReferenceIdeal := hMoeUpLastReferenceIdeal) (hPre_experts_named_last := hPre_experts_named_last)
    ∧ preserves_Kernel_KernelIdeal
    ∧ algebraic_KernelIdeal_ReferenceIdeal_pre_finite (hKernelIdeal := hKernelIdeal) (hReferenceIdeal := hReferenceIdeal) (hPre_finite := hPre_finite)
    ∧ preserves_EvenIn_EvenInIdeal
    ∧ algebraic_EvenInIdeal_EvenInReferenceIdeal (hEvenInIdeal := hEvenInIdeal) (hEvenInReferenceIdeal := hEvenInReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_OddIn_OddInIdeal
    ∧ algebraic_OddInIdeal_OddInReferenceIdeal_pre_finite_odd_in (hOddInIdeal := hOddInIdeal) (hOddInReferenceIdeal := hOddInReferenceIdeal) (hPre_finite_odd_in := hPre_finite_odd_in)
    ∧ preserves_OddOut_OddOutIdeal
    ∧ algebraic_OddOutIdeal_OddOutReferenceIdeal (hOddOutIdeal := hOddOutIdeal) (hOddOutReferenceIdeal := hOddOutReferenceIdeal)
    ∧ preserves_Uq_UqIdeal
    ∧ algebraic_UqIdeal_UqReferenceIdeal_pre_finite_uq (hUqIdeal := hUqIdeal) (hUqReferenceIdeal := hUqReferenceIdeal) (hPre_finite_uq := hPre_finite_uq)
    ∧ preserves_Ukv_UkvIdeal
    ∧ algebraic_UkvIdeal_UkvReferenceIdeal (hUkvIdeal := hUkvIdeal) (hUkvReferenceIdeal := hUkvReferenceIdeal)
    ∧ preserves_SharedUp_SharedUpIdeal
    ∧ algebraic_SharedUpIdeal_SharedUpReferenceIdeal (hSharedUpIdeal := hSharedUpIdeal) (hSharedUpReferenceIdeal := hSharedUpReferenceIdeal)
    ∧ preserves_EvenCombine_EvenCombineIdeal
    ∧ algebraic_EvenCombineIdeal_EvenCombineReferenceIdeal (hEvenCombineIdeal := hEvenCombineIdeal) (hEvenCombineReferenceIdeal := hEvenCombineReferenceIdeal)
    ∧ preserves_OddCombine_OddCombineIdeal
    ∧ algebraic_OddCombineIdeal_OddCombineReferenceIdeal (hOddCombineIdeal := hOddCombineIdeal) (hOddCombineReferenceIdeal := hOddCombineReferenceIdeal)
    ∧ preserves_MoeUp_MoeUpIdeal
    ∧ algebraic_MoeUpIdeal_MoeUpReferenceIdeal (hMoeUpIdeal := hMoeUpIdeal) (hMoeUpReferenceIdeal := hMoeUpReferenceIdeal) (hPre_experts_named := hPre_experts_named)
    ∧ preserves_SharedUpLast_SharedUpLastIdeal
    ∧ algebraic_SharedUpLastIdeal_SharedUpLastReferenceIdeal (hSharedUpLastIdeal := hSharedUpLastIdeal) (hSharedUpLastReferenceIdeal := hSharedUpLastReferenceIdeal)
    ∧ preserves_MoeUpLast_MoeUpLastIdeal
    ∧ algebraic_MoeUpLastIdeal_MoeUpLastReferenceIdeal (hMoeUpLastIdeal := hMoeUpLastIdeal) (hMoeUpLastReferenceIdeal := hMoeUpLastReferenceIdeal) (hPre_experts_named_last := hPre_experts_named_last)
-- ==== Pre_experts_named.lean ====
abbrev S196 : Shape := ⟨1, ![196]⟩
abbrev S25088x2048 : Shape := ⟨2, ![25088, 2048]⟩
abbrev S2x16x4096x1024 : Shape := ⟨4, ![2, 16, 4096, 1024]⟩
abbrev S98 : Shape := ⟨1, ![98]⟩
abbrev S_ : Shape := ⟨0, ![]⟩

class Facts : Prop where
  slices_S196_S98_0 : S196.Slices ![0] S98
  bcast_S_S98 : S_.BroadcastsInDim S98 (![] : Fin 0 → Fin S98.rank)

variable [Facts]

def fn {F : FTy → Type} [FloatOps F] (main_arg0 : IVec S196 32) (main_arg1 : IVec S25088x2048 32) (main_arg2 : FVec F S2x16x4096x1024 .f32) (main_arg3 : FVec F S2x16x4096x1024 .f32) : IVec S98 1 :=
  let main_v0 : IVec S98 32 := (extractStridedSlice S98 ![0] · slices_S196_S98_0) main_arg0
  let main_c : IVec S_ 32 := constantI S_ 32 0#32
  let main_v1 : IVec S98 32 := broadcastInDim S98 ![] bcast_S_S98 main_c
  let main_v2 : IVec S98 1 := cmpi .sge main_v0 main_v1
  let main_c_0 : IVec S_ 32 := constantI S_ 32 15#32
  let main_v3 : IVec S98 32 := broadcastInDim S98 ![] bcast_S_S98 main_c_0
  let main_v4 : IVec S98 1 := cmpi .sle main_v0 main_v3
  let main_v5 : IVec S98 1 := andi main_v2 main_v4
  main_v5
-- ==== Pre_experts_named_last.lean ====
abbrev S192 : Shape := ⟨1, ![192]⟩
abbrev S24576x2048 : Shape := ⟨2, ![24576, 2048]⟩
abbrev S2x16x4096x1024 : Shape := ⟨4, ![2, 16, 4096, 1024]⟩
abbrev S96 : Shape := ⟨1, ![96]⟩
abbrev S_ : Shape := ⟨0, ![]⟩

class Facts : Prop where
  slices_S192_S96_0 : S192.Slices ![0] S96
  bcast_S_S96 : S_.BroadcastsInDim S96 (![] : Fin 0 → Fin S96.rank)

variable [Facts]

def fn {F : FTy → Type} [FloatOps F] (main_arg0 : IVec S192 32) (main_arg1 : IVec S24576x2048 32) (main_arg2 : FVec F S2x16x4096x1024 .f32) (main_arg3 : FVec F S2x16x4096x1024 .f32) : IVec S96 1 :=
  let main_v0 : IVec S96 32 := (extractStridedSlice S96 ![0] · slices_S192_S96_0) main_arg0
  let main_c : IVec S_ 32 := constantI S_ 32 0#32
  let main_v1 : IVec S96 32 := broadcastInDim S96 ![] bcast_S_S96 main_c
  let main_v2 : IVec S96 1 := cmpi .sge main_v0 main_v1
  let main_c_0 : IVec S_ 32 := constantI S_ 32 15#32
  let main_v3 : IVec S96 32 := broadcastInDim S96 ![] bcast_S_S96 main_c_0
  let main_v4 : IVec S96 1 := cmpi .sle main_v0 main_v3
  let main_v5 : IVec S96 1 := andi main_v2 main_v4
  main_v5
-- ==== Pre_finite.lean ====
abbrev S8192x4096 : Shape := ⟨2, ![8192, 4096]⟩
abbrev S8448x4096 : Shape := ⟨2, ![8448, 4096]⟩
abbrev S8448x128 : Shape := ⟨2, ![8448, 128]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S8448x4096 : S_.BroadcastsInDim S8448x4096 (![] : Fin 0 → Fin S8448x4096.rank)
  bcast_S_S8448x128 : S_.BroadcastsInDim S8448x128 (![] : Fin 0 → Fin S8448x128.rank)

variable [Facts]

def fn {F : FTy → Type} [FloatOps F] (main_arg0 : FVec F S8192x4096 .bf16) (main_arg1 : FVec F S8448x4096 .bf16) (main_arg2 : FVec F S8448x128 .bf16) : IVec S8192x4096 1 × IVec S8448x4096 1 × IVec S8448x128 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S8448x4096 .f32 := (extf .f32 · bitsLt_bf16_f32) main_arg1
  let main_v5 : FVec F S8448x4096 .f32 := Host.absf main_v4
  let main_cst_0 : FVec F S_ .f32 := constant S_ .f32 0x7F800000#32
  let main_v6 : FVec F S8448x4096 .f32 := broadcastInDim S8448x4096 ![] bcast_S_S8448x4096 main_cst_0
  let main_v7 : IVec S8448x4096 1 := cmpf .olt main_v5 main_v6
  let main_v8 : FVec F S8448x128 .f32 := (extf .f32 · bitsLt_bf16_f32) main_arg2
  let main_v9 : FVec F S8448x128 .f32 := Host.absf main_v8
  let main_cst_1 : FVec F S_ .f32 := constant S_ .f32 0x7F800000#32
  let main_v10 : FVec F S8448x128 .f32 := broadcastInDim S8448x128 ![] bcast_S_S8448x128 main_cst_1
  let main_v11 : IVec S8448x128 1 := cmpf .olt main_v9 main_v10
  (main_v3, main_v7, main_v11)
-- ==== Pre_finite_odd_in.lean ====
abbrev S8448x4096 : Shape := ⟨2, ![8448, 4096]⟩
abbrev S4096x3648 : Shape := ⟨2, ![4096, 3648]⟩
abbrev S_ : Shape := ⟨0, ![]⟩

class Facts : Prop where
  bitsLt_bf16_f32 : FTy.bits .bf16 < FTy.bits .f32
  bcast_S_S8448x4096 : S_.BroadcastsInDim S8448x4096 (![] : Fin 0 → Fin S8448x4096.rank)
  bcast_S_S4096x3648 : S_.BroadcastsInDim S4096x3648 (![] : Fin 0 → Fin S4096x3648.rank)

variable [Facts]

def fn {F : FTy → Type} [FloatOps F] (main_arg0 : FVec F S8448x4096 .bf16) (main_arg1 : FVec F S4096x3648 .f32) : IVec S8448x4096 1 × IVec S4096x3648 1 :=
  let main_v0 : FVec F S8448x4096 .f32 := (extf .f32 · bitsLt_bf16_f32) main_arg0
  let main_v1 : FVec F S8448x4096 .f32 := Host.absf main_v0
  let main_cst : FVec F S_ .f32 := constant S_ .f32 0x7F800000#32
  let main_v2 : FVec F S8448x4096 .f32 := broadcastInDim S8448x4096 ![] bcast_S_S8448x4096 main_cst
  let main_v3 : IVec S8448x4096 1 := cmpf .olt main_v1 main_v2
  let main_v4 : FVec F S4096x3648 .f32 := Host.absf main_arg1
  let main_cst_0 : FVec F S_ .f32 := constant S_ .f32 0x7F800000#32
  let main_v5 : FVec F S4096x3648 .f32 := broadcastInDim S4096x3648 ![] bcast_S_S4096x3648 main_cst_0
  let main_v6 : IVec S4096x3648 1 := cmpf .olt main_v4 main_v5
  (main_v3, main_v6)
-- ==== Pre_finite_uq.lean ====
abbrev S8448x1024 : Shape := ⟨2, ![8448, 1024]⟩
abbrev S1024x3072 : Shape := ⟨2, ![1024, 3072]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  bcast_S_S1024x3072 : S_.BroadcastsInDim S1024x3072 (![] : Fin 0 → Fin S1024x3072.rank)

variable [Facts]

def fn {F : FTy → Type} [FloatOps F] (main_arg0 : FVec F S8448x1024 .bf16) (main_arg1 : FVec F S1024x3072 .f32) : IVec S8448x1024 1 × IVec S1024x3072 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  (main_v3, main_v6)
-- ==== Kernel.lean ====
abbrev S8192x4096 : Shape := ⟨2, ![8192, 4096]⟩
abbrev S8448x4096 : Shape := ⟨2, ![8448, 4096]⟩
abbrev S8448x128 : Shape := ⟨2, ![8448, 128]⟩
abbrev S8192x2048 : Shape := ⟨2, ![8192, 2048]⟩
abbrev S1024x256 : Shape := ⟨2, ![1024, 256]⟩
abbrev S1024x128 : Shape := ⟨2, ![1024, 128]⟩
abbrev S8448x256 : Shape := ⟨2, ![8448, 256]⟩
abbrev S1024x1 : Shape := ⟨2, ![1024, 1]⟩
abbrev S768x256 : Shape := ⟨2, ![768, 256]⟩
abbrev S1024x768 : Shape := ⟨2, ![1024, 768]⟩
abbrev S1024 : Shape := ⟨1, ![1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S8448x4096, .bf16⟩
  | .hbm, ⟨2, _⟩ => ⟨S8448x128, .bf16⟩
  | .hbm, ⟨3, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S8448x128, .bf16⟩
  | .local _ .vmem, ⟨7, _⟩ => ⟨S1024x128, .bf16⟩
  | .local _ .vmem, ⟨8, _⟩ => ⟨S1024x128, .bf16⟩
  | .local _ .vmem, ⟨9, _⟩ => ⟨S8448x256, .bf16⟩
  | .local _ .vmem, ⟨10, _⟩ => ⟨S8448x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8448x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x4096 : Shape := ⟨2, ![8192, 4096]⟩
abbrev S8448x4096 : Shape := ⟨2, ![8448, 4096]⟩
abbrev S8448x128 : Shape := ⟨2, ![8448, 128]⟩
abbrev S8192x16x256 : Shape := ⟨3, ![8192, 16, 256]⟩
abbrev S8448x16x256 : Shape := ⟨3, ![8448, 16, 256]⟩
abbrev S8448x16x128 : Shape := ⟨3, ![8448, 16, 128]⟩
abbrev S8448x1x128 : Shape := ⟨3, ![8448, 1, 128]⟩
abbrev S16x8192x8448 : Shape := ⟨3, ![16, 8192, 8448]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩
abbrev S8192x16x128 : Shape := ⟨3, ![8192, 16, 128]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8448x4096, .bf16⟩
  | .hbm, ⟨2, _⟩ => ⟨S8448x128, .bf16⟩
  | .hbm, ⟨3, _⟩ => ⟨S8192x4096, .f32⟩
  | .hbm, ⟨4, _⟩ => ⟨S8192x16x256, .f32⟩
  | .hbm, ⟨5, _⟩ => ⟨S8448x4096, .f32⟩
  | .hbm, ⟨6, _⟩ => ⟨S8448x16x256, .f32⟩
  | .hbm, ⟨7, _⟩ => ⟨S8448x16x128, .f32⟩
  | .hbm, ⟨8, _⟩ => ⟨S8448x16x128, .f32⟩
  | .hbm, ⟨9, _⟩ => ⟨S8448x128, .f32⟩
  | .hbm, ⟨10, _⟩ => ⟨S8448x1x128, .f32⟩
  | .hbm, ⟨11, _⟩ => ⟨S8448x16x128, .f32⟩
  | .hbm, ⟨12, _⟩ => ⟨S8448x16x256, .f32⟩
  | .hbm, ⟨13, _⟩ => ⟨S16x8192x8448, .f32⟩
  | .hbm, ⟨14, _⟩ => ⟨S_, .f32⟩
  | .hbm, ⟨15, _⟩ => ⟨S_, .f32⟩
  | .hbm, ⟨16, _⟩ => ⟨S16x8192x8448, .f32⟩
  | .hbm, ⟨17, _⟩ => ⟨S16x8192x8448, .f32⟩
  | .hbm, ⟨18, _⟩ => ⟨S_, .f32⟩
  | .hbm, ⟨19, _⟩ => ⟨S16x8192, .f32⟩
  | .hbm, ⟨20, _⟩ => ⟨S_, .f32⟩
  | .hbm, ⟨21, _⟩ => ⟨S16x8192, .f32⟩
  | .hbm, ⟨22, _⟩ => ⟨S16x8192, .f32⟩
  | .hbm, ⟨23, _⟩ => ⟨S16x8192x1, .f32⟩
  | .hbm, ⟨24, _⟩ => ⟨S16x8192x8448, .f32⟩
  | .hbm, ⟨25, _⟩ => ⟨S16x8192x8448, .f32⟩
  | .hbm, ⟨26, _⟩ => ⟨S16x8192x8448, .f32⟩
  | .hbm, ⟨27, _⟩ => ⟨S_, .f32⟩
  | .hbm, ⟨28, _⟩ => ⟨S16x8192, .f32⟩
  | .hbm, ⟨29, _⟩ => ⟨S16x8192x1, .f32⟩
  | .hbm, ⟨30, _⟩ => ⟨S16x8192x8448, .f32⟩
  | .hbm, ⟨31, _⟩ => ⟨S16x8192x8448, .f32⟩
  | .hbm, ⟨32, _⟩ => ⟨S16x128x8192, .f32⟩
  | .hbm, ⟨33, _⟩ => ⟨S8192x16x128, .f32⟩
  | .hbm, ⟨34, _⟩ => ⟨S8192x2048, .f32⟩
  | .hbm, ⟨35, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== EvenIn.lean ====
abbrev S8448x4096 : Shape := ⟨2, ![8448, 4096]⟩
abbrev S4096x12928 : Shape := ⟨2, ![4096, 12928]⟩
abbrev S4096x96 : Shape := ⟨2, ![4096, 96]⟩
abbrev S_ : Shape := ⟨0, ![]⟩
abbrev S4096x128 : Shape := ⟨2, ![4096, 128]⟩
abbrev S4096x6144 : Shape := ⟨2, ![4096, 6144]⟩
abbrev S4096x256 : Shape := ⟨2, ![4096, 256]⟩
abbrev S4096x13056 : Shape := ⟨2, ![4096, 13056]⟩
abbrev S8448x13056 : Shape := ⟨2, ![8448, 13056]⟩
abbrev S704x4096 : Shape := ⟨2, ![704, 4096]⟩
abbrev S4096x768 : Shape := ⟨2, ![4096, 768]⟩
abbrev S704x768 : Shape := ⟨2, ![704, 768]⟩
abbrev S8x128 : Shape := ⟨2, ![8, 128]⟩

abbrev nBuf : Space → Nat
  | .hbm => 24
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x12928, .f32⟩
  | .hbm, ⟨2, _⟩ => ⟨S4096x96, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x96, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S4096x96, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x96, .f32⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x6144, .f32⟩
  | .hbm, ⟨19, _⟩ => ⟨S4096x6144, .f32⟩
  | .hbm, ⟨20, _⟩ => ⟨S4096x256, .f32⟩
  | .hbm, ⟨21, _⟩ => ⟨S4096x13056, .f32⟩
  | .hbm, ⟨22, _⟩ => ⟨S4096x13056, .bf16⟩
  | .hbm, ⟨23, _⟩ => ⟨S8448x13056, .f32⟩
  | .local _ .vmem, ⟨0, _⟩ => ⟨S704x4096, .bf16⟩
  | .local _ .vmem, ⟨1, _⟩ => ⟨S704x4096, .bf16⟩
  | .local _ .vmem, ⟨2, _⟩ => ⟨S4096x768, .bf16⟩
  | .local _ .vmem, ⟨3, _⟩ => ⟨S4096x768, .bf16⟩
  | .local _ .vmem, ⟨4, _⟩ => ⟨S704x768, .f32⟩
  | .local _ .vmem, ⟨5, _⟩ => ⟨S704x768, .f32⟩
  | .local _ .vmem, ⟨6, _⟩ => ⟨S8x128, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call2_v0 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_call3_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInReferenceIdeal.lean ====
abbrev S8448x4096 : Shape := ⟨2, ![8448, 4096]⟩
abbrev S4096x12928 : Shape := ⟨2, ![4096, 12928]⟩
abbrev S8448x12928 : Shape := ⟨2, ![8448, 12928]⟩
abbrev S8448x2048 : Shape := ⟨2, ![8448, 2048]⟩
abbrev S8448x96 : Shape := ⟨2, ![8448, 96]⟩
abbrev S8448x256 : Shape := ⟨2, ![8448, 256]⟩
abbrev S_ : Shape := ⟨0, ![]⟩
abbrev S8448x128 : Shape := ⟨2, ![8448, 128]⟩
abbrev S8448x13056 : Shape := ⟨2, ![8448, 13056]⟩

abbrev nBuf : Space → Nat
  | .hbm => 28
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x12928, .f32⟩
  | .hbm, ⟨2, _⟩ => ⟨S8448x4096, .f32⟩
  | .hbm, ⟨3, _⟩ => ⟨S8448x12928, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x96, .f32⟩
  | .hbm, ⟨8, _⟩ => ⟨S8448x96, .f32⟩
  | .hbm, ⟨9, _⟩ => ⟨S8448x96, .f32⟩
  | .hbm, ⟨10, _⟩ => ⟨S8448x96, .f32⟩
  | .hbm, ⟨11, _⟩ => ⟨S8448x256, .f32⟩
  | .hbm, ⟨12, _⟩ => ⟨S8448x2048, .f32⟩
  | .hbm, ⟨13, _⟩ => ⟨S8448x2048, .f32⟩
  | .hbm, ⟨14, _⟩ => ⟨S8448x2048, .f32⟩
  | .hbm, ⟨15, _⟩ => ⟨S_, .i32⟩
  | .hbm, ⟨16, _⟩ => ⟨S_, .f32⟩
  | .hbm, ⟨17, _⟩ => ⟨S8448x128, .f32⟩
  | .hbm, ⟨18, _⟩ => ⟨S_, .i32⟩
  | .hbm, ⟨19, _⟩ => ⟨S_, .f32⟩
  | .hbm, ⟨20, _⟩ => ⟨S8448x128, .f32⟩
  | .hbm, ⟨21, _⟩ => ⟨S_, .i32⟩
  | .hbm, ⟨22, _⟩ => ⟨S_, .f32⟩
  | .hbm, ⟨23, _⟩ => ⟨S8448x128, .f32⟩
  | .hbm, ⟨24, _⟩ => ⟨S_, .i32⟩
  | .hbm, ⟨25, _⟩ => ⟨S_, .f32⟩
  | .hbm, ⟨26, _⟩ => ⟨S8448x128, .f32⟩
  | .hbm, ⟨27, _⟩ => ⟨S8448x13056, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_c_1 : Ref sig .tc := ⟨.hbm, 21, rfl⟩
abbrev main_call2_v0 : Ref sig .tc := ⟨.hbm, 22, rfl⟩
abbrev main_v15 : Ref sig .tc := ⟨.hbm, 23, rfl⟩
abbrev main_c_2 : Ref sig .tc := ⟨.hbm, 24, rfl⟩
abbrev main_call3_v0 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== EvenOut.lean ====
abbrev S8448x2048 : Shape := ⟨2, ![8448, 2048]⟩
abbrev S4096x4096 : Shape := ⟨2, ![4096, 4096]⟩
abbrev S2x6x4096 : Shape := ⟨3, ![2, 6, 4096]⟩
abbrev S8448x4096 : Shape := ⟨2, ![8448, 4096]⟩
abbrev S2x1x4096 : Shape := ⟨3, ![2, 1, 4096]⟩
abbrev S2x4096 : Shape := ⟨2, ![2, 4096]⟩
abbrev S1408x2048 : Shape := ⟨2, ![1408, 2048]⟩
abbrev S4096x512 : Shape := ⟨2, ![4096, 512]⟩
abbrev S2x512 : Shape := ⟨2, ![2, 512]⟩
abbrev S1408x512 : Shape := ⟨2, ![1408, 512]⟩
abbrev S8x128 : Shape := ⟨2, ![8, 128]⟩
abbrev S2048x512 : Shape := ⟨2, ![2048, 512]⟩
abbrev S1x512 : Shape := ⟨2, ![1, 512]⟩

abbrev nBuf : Space → Nat
  | .hbm => 9
  | .vmem => 13
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S4096x4096, .f32⟩
  | .hbm, ⟨3, _⟩ => ⟨S2x6x4096, .f32⟩
  | .hbm, ⟨4, _⟩ => ⟨S8448x4096, .f32⟩
  | .hbm, ⟨5, _⟩ => ⟨S4096x4096, .bf16⟩
  | .hbm, ⟨6, _⟩ => ⟨S2x1x4096, .f32⟩
  | .hbm, ⟨7, _⟩ => ⟨S2x4096, .f32⟩
  | .hbm, ⟨8, _⟩ => ⟨S8448x4096, .f32⟩
  | .local _ .vmem, ⟨0, _⟩ => ⟨S1408x2048, .bf16⟩
  | .local _ .vmem, ⟨1, _⟩ => ⟨S1408x2048, .bf16⟩
  | .local _ .vmem, ⟨2, _⟩ => ⟨S4096x512, .bf16⟩
  | .local _ .vmem, ⟨3, _⟩ => ⟨S4096x512, .bf16⟩
  | .local _ .vmem, ⟨4, _⟩ => ⟨S2x512, .f32⟩
  | .local _ .vmem, ⟨5, _⟩ => ⟨S2x512, .f32⟩
  | .local _ .vmem, ⟨6, _⟩ => ⟨S1408x512, .f32⟩
  | .local _ .vmem, ⟨7, _⟩ => ⟨S1408x512, .f32⟩
  | .local _ .vmem, ⟨8, _⟩ => ⟨S1408x2048, .bf16⟩
  | .local _ .vmem, ⟨9, _⟩ => ⟨S1408x2048, .bf16⟩
  | .local _ .vmem, ⟨10, _⟩ => ⟨S1408x512, .f32⟩
  | .local _ .vmem, ⟨11, _⟩ => ⟨S1408x512, .f32⟩
  | .local _ .vmem, ⟨12, _⟩ => ⟨S8x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1408x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== EvenOutReferenceIdeal.lean ====
abbrev S8448x2048 : Shape := ⟨2, ![8448, 2048]⟩
abbrev S4096x4096 : Shape := ⟨2, ![4096, 4096]⟩
abbrev S2x6x4096 : Shape := ⟨3, ![2, 6, 4096]⟩
abbrev S8448x4096 : Shape := ⟨2, ![8448, 4096]⟩
abbrev S256x4096 : Shape := ⟨2, ![256, 4096]⟩
abbrev S1x1x4096 : Shape := ⟨3, ![1, 1, 4096]⟩
abbrev S4096 : Shape := ⟨1, ![4096]⟩
abbrev S1x4096 : Shape := ⟨2, ![1, 4096]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S4096x4096, .f32⟩
  | .hbm, ⟨3, _⟩ => ⟨S2x6x4096, .f32⟩
  | .hbm, ⟨4, _⟩ => ⟨S8448x4096, .f32⟩
  | .hbm, ⟨5, _⟩ => ⟨S8448x4096, .bf16⟩
  | .hbm, ⟨6, _⟩ => ⟨S8448x4096, .f32⟩
  | .hbm, ⟨7, _⟩ => ⟨S8448x4096, .f32⟩
  | .hbm, ⟨8, _⟩ => ⟨S256x4096, .f32⟩
  | .hbm, ⟨9, _⟩ => ⟨S1x1x4096, .f32⟩
  | .hbm, ⟨10, _⟩ => ⟨S4096, .f32⟩
  | .hbm, ⟨11, _⟩ => ⟨S256x4096, .f32⟩
  | .hbm, ⟨12, _⟩ => ⟨S1x4096, .f32⟩
  | .hbm, ⟨13, _⟩ => ⟨S256x4096, .f32⟩
  | .hbm, ⟨14, _⟩ => ⟨S256x4096, .f32⟩
  | .hbm, ⟨15, _⟩ => ⟨S256x4096, .f32⟩
  | .hbm, ⟨16, _⟩ => ⟨S8192x4096, .f32⟩
  | .hbm, ⟨17, _⟩ => ⟨S1x1x4096, .f32⟩
  | .hbm, ⟨18, _⟩ => ⟨S4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8448x4096, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== OddIn.lean ====
abbrev S8448x4096 : Shape := ⟨2, ![8448, 4096]⟩
abbrev S4096x3648 : Shape := ⟨2, ![4096, 3648]⟩
abbrev S4096x64 : Shape := ⟨2, ![4096, 64]⟩
abbrev S4096x2x2x16 : Shape := ⟨4, ![4096, 2, 2, 16]⟩
abbrev S4096x2x1x16 : Shape := ⟨4, ![4096, 2, 1, 16]⟩
abbrev S4096x2x16 : Shape := ⟨3, ![4096, 2, 16]⟩
abbrev S4096x3712 : Shape := ⟨2, ![4096, 3712]⟩
abbrev S_ : Shape := ⟨0, ![]⟩
abbrev S4096x3840 : Shape := ⟨2, ![4096, 3840]⟩
abbrev S8448x3840 : Shape := ⟨2, ![8448, 3840]⟩
abbrev S704x4096 : Shape := ⟨2, ![704, 4096]⟩
abbrev S4096x768 : Shape := ⟨2, ![4096, 768]⟩
abbrev S704x768 : Shape := ⟨2, ![704, 768]⟩
abbrev S8x128 : Shape := ⟨2, ![8, 128]⟩

abbrev nBuf : Space → Nat
  | .hbm => 19
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S4096x3648, .f32⟩
  | .hbm, ⟨2, _⟩ => ⟨S4096x64, .f32⟩
  | .hbm, ⟨3, _⟩ => ⟨S4096x2x2x16, .f32⟩
  | .hbm, ⟨4, _⟩ => ⟨S4096x2x1x16, .f32⟩
  | .hbm, ⟨5, _⟩ => ⟨S4096x2x16, .f32⟩
  | .hbm, ⟨6, _⟩ => ⟨S4096x2x16, .f32⟩
  | .hbm, ⟨7, _⟩ => ⟨S4096x2x1x16, .f32⟩
  | .hbm, ⟨8, _⟩ => ⟨S4096x2x16, .f32⟩
  | .hbm, ⟨9, _⟩ => ⟨S4096x2x1x16, .f32⟩
  | .hbm, ⟨10, _⟩ => ⟨S4096x2x1x16, .f32⟩
  | .hbm, ⟨11, _⟩ => ⟨S4096x2x2x16, .f32⟩
  | .hbm, ⟨12, _⟩ => ⟨S4096x64, .f32⟩
  | .hbm, ⟨13, _⟩ => ⟨S4096x3712, .f32⟩
  | .hbm, ⟨14, _⟩ => ⟨S4096x3712, .bf16⟩
  | .hbm, ⟨15, _⟩ => ⟨S_, .i32⟩
  | .hbm, ⟨16, _⟩ => ⟨S_, .bf16⟩
  | .hbm, ⟨17, _⟩ => ⟨S4096x3840, .bf16⟩
  | .hbm, ⟨18, _⟩ => ⟨S8448x3840, .f32⟩
  | .local _ .vmem, ⟨0, _⟩ => ⟨S704x4096, .bf16⟩
  | .local _ .vmem, ⟨1, _⟩ => ⟨S704x4096, .bf16⟩
  | .local _ .vmem, ⟨2, _⟩ => ⟨S4096x768, .bf16⟩
  | .local _ .vmem, ⟨3, _⟩ => ⟨S4096x768, .bf16⟩
  | .local _ .vmem, ⟨4, _⟩ => ⟨S704x768, .f32⟩
  | .local _ .vmem, ⟨5, _⟩ => ⟨S704x768, .f32⟩
  | .local _ .vmem, ⟨6, _⟩ => ⟨S8x128, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInReferenceIdeal.lean ====
abbrev S8448x4096 : Shape := ⟨2, ![8448, 4096]⟩
abbrev S4096x3648 : Shape := ⟨2, ![4096, 3648]⟩
abbrev S8448x3648 : Shape := ⟨2, ![8448, 3648]⟩
abbrev S8448x64 : Shape := ⟨2, ![8448, 64]⟩
abbrev S8448x2x2x16 : Shape := ⟨4, ![8448, 2, 2, 16]⟩
abbrev S8448x2x1x16 : Shape := ⟨4, ![8448, 2, 1, 16]⟩
abbrev S8448x2x16 : Shape := ⟨3, ![8448, 2, 16]⟩
abbrev S_ : Shape := ⟨0, ![]⟩
abbrev S8448x128 : Shape := ⟨2, ![8448, 128]⟩
abbrev S8448x3840 : Shape := ⟨2, ![8448, 3840]⟩

abbrev nBuf : Space → Nat
  | .hbm => 18
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x3648, .f32⟩
  | .hbm, ⟨2, _⟩ => ⟨S8448x4096, .f32⟩
  | .hbm, ⟨3, _⟩ => ⟨S8448x3648, .f32⟩
  | .hbm, ⟨4, _⟩ => ⟨S8448x64, .f32⟩
  | .hbm, ⟨5, _⟩ => ⟨S8448x2x2x16, .f32⟩
  | .hbm, ⟨6, _⟩ => ⟨S8448x2x1x16, .f32⟩
  | .hbm, ⟨7, _⟩ => ⟨S8448x2x16, .f32⟩
  | .hbm, ⟨8, _⟩ => ⟨S8448x2x16, .f32⟩
  | .hbm, ⟨9, _⟩ => ⟨S8448x2x1x16, .f32⟩
  | .hbm, ⟨10, _⟩ => ⟨S8448x2x16, .f32⟩
  | .hbm, ⟨11, _⟩ => ⟨S8448x2x1x16, .f32⟩
  | .hbm, ⟨12, _⟩ => ⟨S8448x2x1x16, .f32⟩
  | .hbm, ⟨13, _⟩ => ⟨S8448x2x2x16, .f32⟩
  | .hbm, ⟨14, _⟩ => ⟨S8448x64, .f32⟩
  | .hbm, ⟨15, _⟩ => ⟨S_, .f32⟩
  | .hbm, ⟨16, _⟩ => ⟨S8448x128, .f32⟩
  | .hbm, ⟨17, _⟩ => ⟨S8448x3840, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== OddOut.lean ====
abbrev S8192x2048 : Shape := ⟨2, ![8192, 2048]⟩
abbrev S4096x4096 : Shape := ⟨2, ![4096, 4096]⟩
abbrev S2x6x4096 : Shape := ⟨3, ![2, 6, 4096]⟩
abbrev S8448x4096 : Shape := ⟨2, ![8448, 4096]⟩
abbrev S2x1x4096 : Shape := ⟨3, ![2, 1, 4096]⟩
abbrev S2x4096 : Shape := ⟨2, ![2, 4096]⟩
abbrev S8192x4096 : Shape := ⟨2, ![8192, 4096]⟩
abbrev S1024x2048 : Shape := ⟨2, ![1024, 2048]⟩
abbrev S4096x512 : Shape := ⟨2, ![4096, 512]⟩
abbrev S2x512 : Shape := ⟨2, ![2, 512]⟩
abbrev S1024x512 : Shape := ⟨2, ![1024, 512]⟩
abbrev S8x128 : Shape := ⟨2, ![8, 128]⟩
abbrev S2048x512 : Shape := ⟨2, ![2048, 512]⟩
abbrev S1x512 : Shape := ⟨2, ![1, 512]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S2x6x4096, .f32⟩
  | .hbm, ⟨4, _⟩ => ⟨S8448x4096, .f32⟩
  | .hbm, ⟨5, _⟩ => ⟨S4096x4096, .bf16⟩
  | .hbm, ⟨6, _⟩ => ⟨S2x1x4096, .f32⟩
  | .hbm, ⟨7, _⟩ => ⟨S2x4096, .f32⟩
  | .hbm, ⟨8, _⟩ => ⟨S8192x4096, .f32⟩
  | .hbm, ⟨9, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S4096x512, .bf16⟩
  | .local _ .vmem, ⟨3, _⟩ => ⟨S4096x512, .bf16⟩
  | .local _ .vmem, ⟨4, _⟩ => ⟨S2x512, .f32⟩
  | .local _ .vmem, ⟨5, _⟩ => ⟨S2x512, .f32⟩
  | .local _ .vmem, ⟨6, _⟩ => ⟨S1024x512, .f32⟩
  | .local _ .vmem, ⟨7, _⟩ => ⟨S1024x512, .f32⟩
  | .local _ .vmem, ⟨8, _⟩ => ⟨S1024x2048, .bf16⟩
  | .local _ .vmem, ⟨9, _⟩ => ⟨S1024x2048, .bf16⟩
  | .local _ .vmem, ⟨10, _⟩ => ⟨S1024x512, .f32⟩
  | .local _ .vmem, ⟨11, _⟩ => ⟨S1024x512, .f32⟩
  | .local _ .vmem, ⟨12, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OddOutReferenceIdeal.lean ====
abbrev S8192x2048 : Shape := ⟨2, ![8192, 2048]⟩
abbrev S4096x4096 : Shape := ⟨2, ![4096, 4096]⟩
abbrev S2x6x4096 : Shape := ⟨3, ![2, 6, 4096]⟩
abbrev S8448x4096 : Shape := ⟨2, ![8448, 4096]⟩
abbrev S8192x4096 : Shape := ⟨2, ![8192, 4096]⟩
abbrev S1x1x4096 : Shape := ⟨3, ![1, 1, 4096]⟩
abbrev S4096 : Shape := ⟨1, ![4096]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S2x6x4096, .f32⟩
  | .hbm, ⟨4, _⟩ => ⟨S8448x4096, .f32⟩
  | .hbm, ⟨5, _⟩ => ⟨S8192x4096, .f32⟩
  | .hbm, ⟨6, _⟩ => ⟨S1x1x4096, .f32⟩
  | .hbm, ⟨7, _⟩ => ⟨S4096, .f32⟩
  | .hbm, ⟨8, _⟩ => ⟨S8192x4096, .bf16⟩
  | .hbm, ⟨9, _⟩ => ⟨S8192x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Uq.lean ====
abbrev S8448x1024 : Shape := ⟨2, ![8448, 1024]⟩
abbrev S1024x3072 : Shape := ⟨2, ![1024, 3072]⟩
abbrev S1024x16x192 : Shape := ⟨3, ![1024, 16, 192]⟩
abbrev S1024x16x64 : Shape := ⟨3, ![1024, 16, 64]⟩
abbrev S1024x16x128 : Shape := ⟨3, ![1024, 16, 128]⟩
abbrev S1024x2048 : Shape := ⟨2, ![1024, 2048]⟩
abbrev S1024x16x2x2x16 : Shape := ⟨5, ![1024, 16, 2, 2, 16]⟩
abbrev S1024x16x2x1x16 : Shape := ⟨5, ![1024, 16, 2, 1, 16]⟩
abbrev S1024x16x2x16 : Shape := ⟨4, ![1024, 16, 2, 16]⟩
abbrev S1024x4096 : Shape := ⟨2, ![1024, 4096]⟩
abbrev S8192x1024 : Shape := ⟨2, ![8192, 1024]⟩
abbrev S8192x4096 : Shape := ⟨2, ![8192, 4096]⟩
abbrev S1024x1024 : Shape := ⟨2, ![1024, 1024]⟩
abbrev S8x128 : Shape := ⟨2, ![8, 128]⟩

abbrev nBuf : Space → Nat
  | .hbm => 22
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x3072, .f32⟩
  | .hbm, ⟨2, _⟩ => ⟨S1024x16x192, .f32⟩
  | .hbm, ⟨3, _⟩ => ⟨S1024x16x64, .f32⟩
  | .hbm, ⟨4, _⟩ => ⟨S1024x16x128, .f32⟩
  | .hbm, ⟨5, _⟩ => ⟨S1024x2048, .f32⟩
  | .hbm, ⟨6, _⟩ => ⟨S1024x16x2x2x16, .f32⟩
  | .hbm, ⟨7, _⟩ => ⟨S1024x16x2x1x16, .f32⟩
  | .hbm, ⟨8, _⟩ => ⟨S1024x16x2x16, .f32⟩
  | .hbm, ⟨9, _⟩ => ⟨S1024x16x2x16, .f32⟩
  | .hbm, ⟨10, _⟩ => ⟨S1024x16x2x1x16, .f32⟩
  | .hbm, ⟨11, _⟩ => ⟨S1024x16x2x16, .f32⟩
  | .hbm, ⟨12, _⟩ => ⟨S1024x16x2x1x16, .f32⟩
  | .hbm, ⟨13, _⟩ => ⟨S1024x16x2x1x16, .f32⟩
  | .hbm, ⟨14, _⟩ => ⟨S1024x16x2x2x16, .f32⟩
  | .hbm, ⟨15, _⟩ => ⟨S1024x16x64, .f32⟩
  | .hbm, ⟨16, _⟩ => ⟨S1024x16x128, .f32⟩
  | .hbm, ⟨17, _⟩ => ⟨S1024x2048, .f32⟩
  | .hbm, ⟨18, _⟩ => ⟨S1024x4096, .f32⟩
  | .hbm, ⟨19, _⟩ => ⟨S1024x4096, .bf16⟩
  | .hbm, ⟨20, _⟩ => ⟨S8192x1024, .bf16⟩
  | .hbm, ⟨21, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqReferenceIdeal.lean ====
abbrev S8448x1024 : Shape := ⟨2, ![8448, 1024]⟩
abbrev S1024x3072 : Shape := ⟨2, ![1024, 3072]⟩
abbrev S8192x1024 : Shape := ⟨2, ![8192, 1024]⟩
abbrev S8192x3072 : Shape := ⟨2, ![8192, 3072]⟩
abbrev S8192x16x192 : Shape := ⟨3, ![8192, 16, 192]⟩
abbrev S8192x16x64 : Shape := ⟨3, ![8192, 16, 64]⟩
abbrev S8192x16x2x2x16 : Shape := ⟨5, ![8192, 16, 2, 2, 16]⟩
abbrev S8192x16x2x1x16 : Shape := ⟨5, ![8192, 16, 2, 1, 16]⟩
abbrev S8192x16x2x16 : Shape := ⟨4, ![8192, 16, 2, 16]⟩
abbrev S8192x16x128 : Shape := ⟨3, ![8192, 16, 128]⟩
abbrev S8192x2048 : Shape := ⟨2, ![8192, 2048]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x3072, .f32⟩
  | .hbm, ⟨2, _⟩ => ⟨S8192x1024, .bf16⟩
  | .hbm, ⟨3, _⟩ => ⟨S8192x1024, .f32⟩
  | .hbm, ⟨4, _⟩ => ⟨S8192x3072, .f32⟩
  | .hbm, ⟨5, _⟩ => ⟨S8192x16x192, .f32⟩
  | .hbm, ⟨6, _⟩ => ⟨S8192x16x64, .f32⟩
  | .hbm, ⟨7, _⟩ => ⟨S8192x16x2x2x16, .f32⟩
  | .hbm, ⟨8, _⟩ => ⟨S8192x16x2x1x16, .f32⟩
  | .hbm, ⟨9, _⟩ => ⟨S8192x16x2x16, .f32⟩
  | .hbm, ⟨10, _⟩ => ⟨S8192x16x2x16, .f32⟩
  | .hbm, ⟨11, _⟩ => ⟨S8192x16x2x1x16, .f32⟩
  | .hbm, ⟨12, _⟩ => ⟨S8192x16x2x16, .f32⟩
  | .hbm, ⟨13, _⟩ => ⟨S8192x16x2x1x16, .f32⟩
  | .hbm, ⟨14, _⟩ => ⟨S8192x16x2x1x16, .f32⟩
  | .hbm, ⟨15, _⟩ => ⟨S8192x16x2x2x16, .f32⟩
  | .hbm, ⟨16, _⟩ => ⟨S8192x16x64, .f32⟩
  | .hbm, ⟨17, _⟩ => ⟨S8192x16x128, .f32⟩
  | .hbm, ⟨18, _⟩ => ⟨S8192x2048, .f32⟩
  | .hbm, ⟨19, _⟩ => ⟨S8192x16x128, .f32⟩
  | .hbm, ⟨20, _⟩ => ⟨S8192x2048, .f32⟩
  | .hbm, ⟨21, _⟩ => ⟨S8192x4096, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩

abbrev nD : Nat := 1
abbrev τ : Topo := Topo.v7x

variable {F : FTy → Type} [FloatOps F]
-- ==== Ukv.lean ====
abbrev S8448x512 : Shape := ⟨2, ![8448, 512]⟩
abbrev S512x4096 : Shape := ⟨2, ![512, 4096]⟩
abbrev S8448x4096 : Shape := ⟨2, ![8448, 4096]⟩
abbrev S1408x512 : Shape := ⟨2, ![1408, 512]⟩
abbrev S512x1024 : Shape := ⟨2, ![512, 1024]⟩
abbrev S1408x1024 : Shape := ⟨2, ![1408, 1024]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S8448x512, .bf16⟩
  | .hbm, ⟨1, _⟩ => ⟨S512x4096, .f32⟩
  | .hbm, ⟨2, _⟩ => ⟨S512x4096, .bf16⟩
  | .hbm, ⟨3, _⟩ => ⟨S8448x4096, .bf16⟩
  | .local _ .vmem, ⟨0, _⟩ => ⟨S1408x512, .bf16⟩
  | .local _ .vmem, ⟨1, _⟩ => ⟨S1408x512, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S8x128, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvReferenceIdeal.lean ====
abbrev S8448x512 : Shape := ⟨2, ![8448, 512]⟩
abbrev S512x4096 : Shape := ⟨2, ![512, 4096]⟩
abbrev S8448x4096 : Shape := ⟨2, ![8448, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S512x4096, .f32⟩
  | .hbm, ⟨2, _⟩ => ⟨S8448x512, .f32⟩
  | .hbm, ⟨3, _⟩ => ⟨S8448x4096, .f32⟩
  | .hbm, ⟨4, _⟩ => ⟨S8448x4096, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SharedUp.lean ====
abbrev S8448x4096 : Shape := ⟨2, ![8448, 4096]⟩
abbrev S2x4096x1024 : Shape := ⟨3, ![2, 4096, 1024]⟩
abbrev S8448x1024 : Shape := ⟨2, ![8448, 1024]⟩
abbrev S1408x4096 : Shape := ⟨2, ![1408, 4096]⟩
abbrev S1x4096x256 : Shape := ⟨3, ![1, 4096, 256]⟩
abbrev S1408x256 : Shape := ⟨2, ![1408, 256]⟩
abbrev S4096x256 : Shape := ⟨2, ![4096, 256]⟩

abbrev nBuf : Space → Nat
  | .hbm => 4
  | .vmem => 10
  | .smem => 0
  | _ => 0

abbrev bufTy : (tb : Table) → Fin (tcTables nBuf tb) → BufTy
  | .hbm, ⟨0, _⟩ => ⟨S8448x4096, .bf16⟩
  | .hbm, ⟨1, _⟩ => ⟨S2x4096x1024, .f32⟩
  | .hbm, ⟨2, _⟩ => ⟨S2x4096x1024, .f32⟩
  | .hbm, ⟨3, _⟩ => ⟨S8448x1024, .bf16⟩
  | .local _ .vmem, ⟨0, _⟩ => ⟨S1408x4096, .bf16⟩
  | .local _ .vmem, ⟨1, _⟩ => ⟨S1408x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1408x256, .bf16⟩
  | .local _ .vmem, ⟨7, _⟩ => ⟨S1408x256, .bf16⟩
  | .local _ .vmem, ⟨8, _⟩ => ⟨S4096x256, .bf16⟩
  | .local _ .vmem, ⟨9, _⟩ => ⟨S4096x256, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SharedUpReferenceIdeal.lean ====
abbrev S8448x4096 : Shape := ⟨2, ![8448, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S8448x1024 : Shape := ⟨2, ![8448, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S2x4096x1024, .f32⟩
  | .hbm, ⟨2, _⟩ => ⟨S2x4096x1024, .f32⟩
  | .hbm, ⟨3, _⟩ => ⟨S8448x4096, .f32⟩
  | .hbm, ⟨4, _⟩ => ⟨S1x4096x1024, .f32⟩
  | .hbm, ⟨5, _⟩ => ⟨S4096x1024, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S1x4096x1024, .f32⟩
  | .hbm, ⟨17, _⟩ => ⟨S4096x1024, .f32⟩
  | .hbm, ⟨18, _⟩ => ⟨S8448x1024, .f32⟩
  | .hbm, ⟨19, _⟩ => ⟨S8448x1024, .f32⟩
  | .hbm, ⟨20, _⟩ => ⟨S8448x1024, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== EvenCombine.lean ====
abbrev S8448x1024 : Shape := ⟨2, ![8448, 1024]⟩
abbrev S2x1024x4096 : Shape := ⟨3, ![2, 1024, 4096]⟩
abbrev S2x6x4096 : Shape := ⟨3, ![2, 6, 4096]⟩
abbrev S8448x4096 : Shape := ⟨2, ![8448, 4096]⟩
abbrev S8448x2048 : Shape := ⟨2, ![8448, 2048]⟩
abbrev S8448x2 : Shape := ⟨2, ![8448, 2]⟩
abbrev S8448x1 : Shape := ⟨2, ![8448, 1]⟩
abbrev S8448x128 : Shape := ⟨2, ![8448, 128]⟩
abbrev S2x1x4096 : Shape := ⟨3, ![2, 1, 4096]⟩
abbrev S2x4096 : Shape := ⟨2, ![2, 4096]⟩
abbrev S1x1024x4096 : Shape := ⟨3, ![1, 1024, 4096]⟩
abbrev S1024x4096 : Shape := ⟨2, ![1024, 4096]⟩
abbrev S256x1024 : Shape := ⟨2, ![256, 1024]⟩
abbrev S256x4096 : Shape := ⟨2, ![256, 4096]⟩
abbrev S256x2048 : Shape := ⟨2, ![256, 2048]⟩
abbrev S256x128 : Shape := ⟨2, ![256, 128]⟩
abbrev S8x128 : Shape := ⟨2, ![8, 128]⟩
abbrev S1x4096 : Shape := ⟨2, ![1, 4096]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S8448x1024, .bf16⟩
  | .hbm, ⟨1, _⟩ => ⟨S2x1024x4096, .f32⟩
  | .hbm, ⟨2, _⟩ => ⟨S2x6x4096, .f32⟩
  | .hbm, ⟨3, _⟩ => ⟨S8448x4096, .f32⟩
  | .hbm, ⟨4, _⟩ => ⟨S8448x2048, .i32⟩
  | .hbm, ⟨5, _⟩ => ⟨S8448x2048, .i32⟩
  | .hbm, ⟨6, _⟩ => ⟨S8448x2, .f32⟩
  | .hbm, ⟨7, _⟩ => ⟨S8448x1, .f32⟩
  | .hbm, ⟨8, _⟩ => ⟨S8448x128, .f32⟩
  | .hbm, ⟨9, _⟩ => ⟨S8448x1, .f32⟩
  | .hbm, ⟨10, _⟩ => ⟨S8448x128, .f32⟩
  | .hbm, ⟨11, _⟩ => ⟨S2x1x4096, .f32⟩
  | .hbm, ⟨12, _⟩ => ⟨S2x4096, .f32⟩
  | .hbm, ⟨13, _⟩ => ⟨S1x1024x4096, .f32⟩
  | .hbm, ⟨14, _⟩ => ⟨S1024x4096, .f32⟩
  | .hbm, ⟨15, _⟩ => ⟨S1024x4096, .bf16⟩
  | .hbm, ⟨16, _⟩ => ⟨S8448x4096, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S2x4096, .f32⟩
  | .local _ .vmem, ⟨4, _⟩ => ⟨S256x4096, .f32⟩
  | .local _ .vmem, ⟨5, _⟩ => ⟨S256x4096, .f32⟩
  | .local _ .vmem, ⟨6, _⟩ => ⟨S256x2048, .i32⟩
  | .local _ .vmem, ⟨7, _⟩ => ⟨S256x2048, .i32⟩
  | .local _ .vmem, ⟨8, _⟩ => ⟨S256x2048, .i32⟩
  | .local _ .vmem, ⟨9, _⟩ => ⟨S256x2048, .i32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x4096, .f32⟩
  | .local _ .vmem, ⟨15, _⟩ => ⟨S256x4096, .f32⟩
  | .local _ .vmem, ⟨16, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![33, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== EvenCombineReferenceIdeal.lean ====
abbrev S8448x1024 : Shape := ⟨2, ![8448, 1024]⟩
abbrev S2x1024x4096 : Shape := ⟨3, ![2, 1024, 4096]⟩
abbrev S2x6x4096 : Shape := ⟨3, ![2, 6, 4096]⟩
abbrev S8448x4096 : Shape := ⟨2, ![8448, 4096]⟩
abbrev S8448x2048 : Shape := ⟨2, ![8448, 2048]⟩
abbrev S8448x2 : Shape := ⟨2, ![8448, 2]⟩
abbrev S8448x2048x2 : Shape := ⟨3, ![8448, 2048, 2]⟩
abbrev S8448x2x1024x2 : Shape := ⟨4, ![8448, 2, 1024, 2]⟩
abbrev S8448x2x2x1024 : Shape := ⟨4, ![8448, 2, 2, 1024]⟩
abbrev S8448x1 : Shape := ⟨2, ![8448, 1]⟩
abbrev S1x1024x4096 : Shape := ⟨3, ![1, 1024, 4096]⟩
abbrev S1024x4096 : Shape := ⟨2, ![1024, 4096]⟩
abbrev S256x4096 : Shape := ⟨2, ![256, 4096]⟩
abbrev S1x1x4096 : Shape := ⟨3, ![1, 1, 4096]⟩
abbrev S4096 : Shape := ⟨1, ![4096]⟩
abbrev S1x4096 : Shape := ⟨2, ![1, 4096]⟩
abbrev S8192x4096 : Shape := ⟨2, ![8192, 4096]⟩

abbrev nBuf : Space → Nat
  | .hbm => 46
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2x1024x4096, .f32⟩
  | .hbm, ⟨2, _⟩ => ⟨S2x6x4096, .f32⟩
  | .hbm, ⟨3, _⟩ => ⟨S8448x4096, .f32⟩
  | .hbm, ⟨4, _⟩ => ⟨S8448x2048, .i32⟩
  | .hbm, ⟨5, _⟩ => ⟨S8448x2048, .i32⟩
  | .hbm, ⟨6, _⟩ => ⟨S8448x2, .f32⟩
  | .hbm, ⟨7, _⟩ => ⟨S8448x2048x2, .bf16⟩
  | .hbm, ⟨8, _⟩ => ⟨S8448x2x1024x2, .bf16⟩
  | .hbm, ⟨9, _⟩ => ⟨S8448x2x2x1024, .bf16⟩
  | .hbm, ⟨10, _⟩ => ⟨S8448x4096, .bf16⟩
  | .hbm, ⟨11, _⟩ => ⟨S8448x4096, .f32⟩
  | .hbm, ⟨12, _⟩ => ⟨S8448x1, .f32⟩
  | .hbm, ⟨13, _⟩ => ⟨S8448x4096, .f32⟩
  | .hbm, ⟨14, _⟩ => ⟨S8448x4096, .f32⟩
  | .hbm, ⟨15, _⟩ => ⟨S8448x2048x2, .bf16⟩
  | .hbm, ⟨16, _⟩ => ⟨S8448x2x1024x2, .bf16⟩
  | .hbm, ⟨17, _⟩ => ⟨S8448x2x2x1024, .bf16⟩
  | .hbm, ⟨18, _⟩ => ⟨S8448x4096, .bf16⟩
  | .hbm, ⟨19, _⟩ => ⟨S8448x4096, .f32⟩
  | .hbm, ⟨20, _⟩ => ⟨S8448x1, .f32⟩
  | .hbm, ⟨21, _⟩ => ⟨S8448x4096, .f32⟩
  | .hbm, ⟨22, _⟩ => ⟨S8448x4096, .f32⟩
  | .hbm, ⟨23, _⟩ => ⟨S8448x4096, .f32⟩
  | .hbm, ⟨24, _⟩ => ⟨S8448x1024, .f32⟩
  | .hbm, ⟨25, _⟩ => ⟨S1x1024x4096, .f32⟩
  | .hbm, ⟨26, _⟩ => ⟨S1024x4096, .f32⟩
  | .hbm, ⟨27, _⟩ => ⟨S8448x4096, .f32⟩
  | .hbm, ⟨28, _⟩ => ⟨S8448x4096, .f32⟩
  | .hbm, ⟨29, _⟩ => ⟨S256x4096, .f32⟩
  | .hbm, ⟨30, _⟩ => ⟨S1x1x4096, .f32⟩
  | .hbm, ⟨31, _⟩ => ⟨S4096, .f32⟩
  | .hbm, ⟨32, _⟩ => ⟨S256x4096, .f32⟩
  | .hbm, ⟨33, _⟩ => ⟨S1x4096, .f32⟩
  | .hbm, ⟨34, _⟩ => ⟨S256x4096, .f32⟩
  | .hbm, ⟨35, _⟩ => ⟨S256x4096, .f32⟩
  | .hbm, ⟨36, _⟩ => ⟨S256x4096, .f32⟩
  | .hbm, ⟨37, _⟩ => ⟨S8192x4096, .f32⟩
  | .hbm, ⟨38, _⟩ => ⟨S1x1x4096, .f32⟩
  | .hbm, ⟨39, _⟩ => ⟨S4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8448x4096, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩

abbrev nD : Nat := 1
abbrev τ : Topo := Topo.v7x

variable {F : FTy → Type} [FloatOps F]
-- ==== OddCombine.lean ====
abbrev S8192x1024 : Shape := ⟨2, ![8192, 1024]⟩
abbrev S2x1024x4096 : Shape := ⟨3, ![2, 1024, 4096]⟩
abbrev S2x6x4096 : Shape := ⟨3, ![2, 6, 4096]⟩
abbrev S8192x4096 : Shape := ⟨2, ![8192, 4096]⟩
abbrev S8192x2048 : Shape := ⟨2, ![8192, 2048]⟩
abbrev S8192x2 : Shape := ⟨2, ![8192, 2]⟩
abbrev S4096 : Shape := ⟨1, ![4096]⟩
abbrev S8192x1 : Shape := ⟨2, ![8192, 1]⟩
abbrev S8192x128 : Shape := ⟨2, ![8192, 128]⟩
abbrev S2x1x4096 : Shape := ⟨3, ![2, 1, 4096]⟩
abbrev S2x4096 : Shape := ⟨2, ![2, 4096]⟩
abbrev S1x4096 : Shape := ⟨2, ![1, 4096]⟩
abbrev S1x1024x4096 : Shape := ⟨3, ![1, 1024, 4096]⟩
abbrev S1024x4096 : Shape := ⟨2, ![1024, 4096]⟩
abbrev S256x1024 : Shape := ⟨2, ![256, 1024]⟩
abbrev S256x4096 : Shape := ⟨2, ![256, 4096]⟩
abbrev S256x2048 : Shape := ⟨2, ![256, 2048]⟩
abbrev S256x128 : Shape := ⟨2, ![256, 128]⟩
abbrev S8x128 : Shape := ⟨2, ![8, 128]⟩
abbrev S256x1 : Shape := ⟨2, ![256, 1]⟩
abbrev S256 : Shape := ⟨1, ![256]⟩

abbrev nBuf : Space → Nat
  | .hbm => 19
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S2x1024x4096, .f32⟩
  | .hbm, ⟨2, _⟩ => ⟨S2x6x4096, .f32⟩
  | .hbm, ⟨3, _⟩ => ⟨S8192x4096, .f32⟩
  | .hbm, ⟨4, _⟩ => ⟨S8192x2048, .i32⟩
  | .hbm, ⟨5, _⟩ => ⟨S8192x2048, .i32⟩
  | .hbm, ⟨6, _⟩ => ⟨S8192x2, .f32⟩
  | .hbm, ⟨7, _⟩ => ⟨S4096, .f32⟩
  | .hbm, ⟨8, _⟩ => ⟨S8192x1, .f32⟩
  | .hbm, ⟨9, _⟩ => ⟨S8192x128, .f32⟩
  | .hbm, ⟨10, _⟩ => ⟨S8192x1, .f32⟩
  | .hbm, ⟨11, _⟩ => ⟨S8192x128, .f32⟩
  | .hbm, ⟨12, _⟩ => ⟨S2x1x4096, .f32⟩
  | .hbm, ⟨13, _⟩ => ⟨S2x4096, .f32⟩
  | .hbm, ⟨14, _⟩ => ⟨S1x4096, .f32⟩
  | .hbm, ⟨15, _⟩ => ⟨S1x1024x4096, .f32⟩
  | .hbm, ⟨16, _⟩ => ⟨S1024x4096, .f32⟩
  | .hbm, ⟨17, _⟩ => ⟨S1024x4096, .bf16⟩
  | .hbm, ⟨18, _⟩ => ⟨S8192x4096, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S2x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x2048, .i32⟩
  | .local _ .vmem, ⟨8, _⟩ => ⟨S256x2048, .i32⟩
  | .local _ .vmem, ⟨9, _⟩ => ⟨S256x2048, .i32⟩
  | .local _ .vmem, ⟨10, _⟩ => ⟨S256x2048, .i32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x4096, .f32⟩
  | .local _ .vmem, ⟨16, _⟩ => ⟨S256x4096, .f32⟩
  | .local _ .vmem, ⟨17, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== OddCombineReferenceIdeal.lean ====
abbrev S8192x1024 : Shape := ⟨2, ![8192, 1024]⟩
abbrev S2x1024x4096 : Shape := ⟨3, ![2, 1024, 4096]⟩
abbrev S2x6x4096 : Shape := ⟨3, ![2, 6, 4096]⟩
abbrev S8192x4096 : Shape := ⟨2, ![8192, 4096]⟩
abbrev S8192x2048 : Shape := ⟨2, ![8192, 2048]⟩
abbrev S8192x2 : Shape := ⟨2, ![8192, 2]⟩
abbrev S4096 : Shape := ⟨1, ![4096]⟩
abbrev S8192x2048x2 : Shape := ⟨3, ![8192, 2048, 2]⟩
abbrev S8192x2x1024x2 : Shape := ⟨4, ![8192, 2, 1024, 2]⟩
abbrev S8192x2x2x1024 : Shape := ⟨4, ![8192, 2, 2, 1024]⟩
abbrev S8192x1 : Shape := ⟨2, ![8192, 1]⟩
abbrev S1x1x4096 : Shape := ⟨3, ![1, 1, 4096]⟩
abbrev S1x1024x4096 : Shape := ⟨3, ![1, 1024, 4096]⟩
abbrev S1024x4096 : Shape := ⟨2, ![1024, 4096]⟩
abbrev S1x4096 : Shape := ⟨2, ![1, 4096]⟩
abbrev S_ : Shape := ⟨0, ![]⟩
abbrev S8192 : Shape := ⟨1, ![8192]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x4096, .f32⟩
  | .hbm, ⟨2, _⟩ => ⟨S2x6x4096, .f32⟩
  | .hbm, ⟨3, _⟩ => ⟨S8192x4096, .f32⟩
  | .hbm, ⟨4, _⟩ => ⟨S8192x2048, .i32⟩
  | .hbm, ⟨5, _⟩ => ⟨S8192x2048, .i32⟩
  | .hbm, ⟨6, _⟩ => ⟨S8192x2, .f32⟩
  | .hbm, ⟨7, _⟩ => ⟨S4096, .f32⟩
  | .hbm, ⟨8, _⟩ => ⟨S8192x2048x2, .bf16⟩
  | .hbm, ⟨9, _⟩ => ⟨S8192x2x1024x2, .bf16⟩
  | .hbm, ⟨10, _⟩ => ⟨S8192x2x2x1024, .bf16⟩
  | .hbm, ⟨11, _⟩ => ⟨S8192x4096, .bf16⟩
  | .hbm, ⟨12, _⟩ => ⟨S8192x4096, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S8192x2048x2, .bf16⟩
  | .hbm, ⟨17, _⟩ => ⟨S8192x2x1024x2, .bf16⟩
  | .hbm, ⟨18, _⟩ => ⟨S8192x2x2x1024, .bf16⟩
  | .hbm, ⟨19, _⟩ => ⟨S8192x4096, .bf16⟩
  | .hbm, ⟨20, _⟩ => ⟨S8192x4096, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S1x1x4096, .f32⟩
  | .hbm, ⟨26, _⟩ => ⟨S4096, .f32⟩
  | .hbm, ⟨27, _⟩ => ⟨S8192x1024, .f32⟩
  | .hbm, ⟨28, _⟩ => ⟨S1x1024x4096, .f32⟩
  | .hbm, ⟨29, _⟩ => ⟨S1024x4096, .f32⟩
  | .hbm, ⟨30, _⟩ => ⟨S8192x4096, .f32⟩
  | .hbm, ⟨31, _⟩ => ⟨S8192x4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x4096, .f32⟩
  | .hbm, ⟨48, _⟩ => ⟨S8192x4096, .f32⟩
  | .hbm, ⟨49, _⟩ => ⟨S1x4096, .f32⟩
  | .hbm, ⟨50, _⟩ => ⟨S8192x4096, .f32⟩
  | .hbm, ⟨51, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== MoeUp.lean ====
abbrev S196 : Shape := ⟨1, ![196]⟩
abbrev S25088x2048 : Shape := ⟨2, ![25088, 2048]⟩
abbrev S2x16x4096x1024 : Shape := ⟨4, ![2, 16, 4096, 1024]⟩
abbrev S25088x1024 : Shape := ⟨2, ![25088, 1024]⟩
abbrev S256x2048 : Shape := ⟨2, ![256, 2048]⟩
abbrev S1x1x4096x512 : Shape := ⟨4, ![1, 1, 4096, 512]⟩
abbrev S1 : Shape := ⟨1, ![1]⟩
abbrev S256x512 : Shape := ⟨2, ![256, 512]⟩
abbrev S4096x512 : Shape := ⟨2, ![4096, 512]⟩
abbrev S2048x512 : Shape := ⟨2, ![2048, 512]⟩

abbrev nBuf : Space → Nat
  | .hbm => 4
  | .vmem => 10
  | .smem => 1
  | _ => 0

abbrev bufTy : (tb : Table) → Fin (tcTables nBuf tb) → BufTy
  | .hbm, ⟨0, _⟩ => ⟨S25088x2048, .i32⟩
  | .hbm, ⟨1, _⟩ => ⟨S2x16x4096x1024, .f32⟩
  | .hbm, ⟨2, _⟩ => ⟨S2x16x4096x1024, .f32⟩
  | .hbm, ⟨3, _⟩ => ⟨S25088x1024, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S196, .i32⟩
  | _, _ => ⟨S25088x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 98], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let c98_i32 : BitVec 32 := 98#32
  let arg1 : BitVec 32 := BitVec.ofNat 32 (i 1).val
  let v11 : BitVec 32 := Scalar.addi c98_i32 arg1
  let v12 : Index := Scalar.indexCast v11
  ![v12.toNat]
def k0_cond2 (v13 : BitVec 32) : BitVec 1 :=
  let c0_i32_2 : BitVec 32 := 0#32
  let v14 : BitVec 1 := Scalar.cmpi .ne v13 c0_i32_2
  let v15 : BitVec 32 := Scalar.extui v14
  let c0_i32_3 : BitVec 32 := 0#32
  let v16 : BitVec 1 := Scalar.cmpi .ne v15 c0_i32_3
  v16

def k0_cond3 (v13 : BitVec 32) : BitVec 1 :=
  let c0_i32_2 : BitVec 32 := 0#32
  let v14 : BitVec 1 := Scalar.cmpi .ne v13 c0_i32_2
  let v_true : BitVec 1 := 1#1
  let v17 : BitVec 1 := Scalar.xori v14 v_true
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S196.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S196) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S196.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S196) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpReferenceIdeal.lean ====
abbrev S196 : Shape := ⟨1, ![196]⟩
abbrev S25088x2048 : Shape := ⟨2, ![25088, 2048]⟩
abbrev S2x16x4096x1024 : Shape := ⟨4, ![2, 16, 4096, 1024]⟩
abbrev S25088x2048x2 : Shape := ⟨3, ![25088, 2048, 2]⟩
abbrev S25088x2x2048 : Shape := ⟨3, ![25088, 2, 2048]⟩
abbrev S98x256x4096 : Shape := ⟨3, ![98, 256, 4096]⟩
abbrev S1x16x4096x1024 : Shape := ⟨4, ![1, 16, 4096, 1024]⟩
abbrev S16x4096x1024 : Shape := ⟨3, ![16, 4096, 1024]⟩
abbrev S98 : Shape := ⟨1, ![98]⟩
abbrev S98x1 : Shape := ⟨2, ![98, 1]⟩
abbrev S98x4096x1024 : Shape := ⟨3, ![98, 4096, 1024]⟩
abbrev S98x256x1024 : Shape := ⟨3, ![98, 256, 1024]⟩
abbrev S_ : Shape := ⟨0, ![]⟩
abbrev S98x1x1 : Shape := ⟨3, ![98, 1, 1]⟩
abbrev S25088x1024 : Shape := ⟨2, ![25088, 1024]⟩

abbrev nBuf : Space → Nat
  | .hbm => 42
  | .vmem => 0
  | .smem => 0
  | _ => 0

abbrev bufTy : (tb : Table) → Fin (tcTables nBuf tb) → BufTy
  | .hbm, ⟨0, _⟩ => ⟨S196, .i32⟩
  | .hbm, ⟨1, _⟩ => ⟨S25088x2048, .i32⟩
  | .hbm, ⟨2, _⟩ => ⟨S2x16x4096x1024, .f32⟩
  | .hbm, ⟨3, _⟩ => ⟨S2x16x4096x1024, .f32⟩
  | .hbm, ⟨4, _⟩ => ⟨S25088x2048x2, .bf16⟩
  | .hbm, ⟨5, _⟩ => ⟨S25088x2x2048, .bf16⟩
  | .hbm, ⟨6, _⟩ => ⟨S98x256x4096, .bf16⟩
  | .hbm, ⟨7, _⟩ => ⟨S98x256x4096, .f32⟩
  | .hbm, ⟨8, _⟩ => ⟨S1x16x4096x1024, .f32⟩
  | .hbm, ⟨9, _⟩ => ⟨S16x4096x1024, .f32⟩
  | .hbm, ⟨10, _⟩ => ⟨S98, .i32⟩
  | .hbm, ⟨11, _⟩ => ⟨S98x1, .i32⟩
  | .hbm, ⟨12, _⟩ => ⟨S98x4096x1024, .f32⟩
  | .hbm, ⟨13, _⟩ => ⟨S98x256x1024, .f32⟩
  | .hbm, ⟨14, _⟩ => ⟨S1x16x4096x1024, .f32⟩
  | .hbm, ⟨15, _⟩ => ⟨S16x4096x1024, .f32⟩
  | .hbm, ⟨16, _⟩ => ⟨S98, .i32⟩
  | .hbm, ⟨17, _⟩ => ⟨S98x1, .i32⟩
  | .hbm, ⟨18, _⟩ => ⟨S98x4096x1024, .f32⟩
  | .hbm, ⟨19, _⟩ => ⟨S98x256x1024, .f32⟩
  | .hbm, ⟨20, _⟩ => ⟨S98, .i32⟩
  | .hbm, ⟨21, _⟩ => ⟨S_, .i32⟩
  | .hbm, ⟨22, _⟩ => ⟨S98, .i32⟩
  | .hbm, ⟨23, _⟩ => ⟨S98, .i1⟩
  | .hbm, ⟨24, _⟩ => ⟨S98x1x1, .i1⟩
  | .hbm, ⟨25, _⟩ => ⟨S98x256x1024, .f32⟩
  | .hbm, ⟨26, _⟩ => ⟨S98x256x1024, .f32⟩
  | .hbm, ⟨27, _⟩ => ⟨S_, .f32⟩
  | .hbm, ⟨28, _⟩ => ⟨S98x256x1024, .f32⟩
  | .hbm, ⟨29, _⟩ => ⟨S98x256x1024, .f32⟩
  | .hbm, ⟨30, _⟩ => ⟨S_, .f32⟩
  | .hbm, ⟨31, _⟩ => ⟨S98x256x1024, .f32⟩
  | .hbm, ⟨32, _⟩ => ⟨S98x256x1024, .f32⟩
  | .hbm, ⟨33, _⟩ => ⟨S98x256x1024, .f32⟩
  | .hbm, ⟨34, _⟩ => ⟨S98x256x1024, .f32⟩
  | .hbm, ⟨35, _⟩ => ⟨S_, .f32⟩
  | .hbm, ⟨36, _⟩ => ⟨S_, .f32⟩
  | .hbm, ⟨37, _⟩ => ⟨S98x256x1024, .i1⟩
  | .hbm, ⟨38, _⟩ => ⟨S98x256x1024, .f32⟩
  | .hbm, ⟨39, _⟩ => ⟨S98x256x1024, .f32⟩
  | .hbm, ⟨40, _⟩ => ⟨S25088x1024, .f32⟩
  | .hbm, ⟨41, _⟩ => ⟨S25088x1024, .bf16⟩
  | _, _ => ⟨S196, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call2_v0 : Ref sig .tc := ⟨.hbm, 25, rfl⟩
abbrev main_call2_v1 : Ref sig .tc := ⟨.hbm, 26, rfl⟩
abbrev main_call2_cst : Ref sig .tc := ⟨.hbm, 27, rfl⟩
abbrev main_call2_v2 : Ref sig .tc := ⟨.hbm, 28, rfl⟩
abbrev main_call2_v3 : Ref sig .tc := ⟨.hbm, 29, rfl⟩
abbrev main_call2_cst_0 : Ref sig .tc := ⟨.hbm, 30, rfl⟩
abbrev main_call2_v4 : Ref sig .tc := ⟨.hbm, 31, rfl⟩
abbrev main_call2_v5 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== SharedUpLast.lean ====
abbrev S8192x4096 : Shape := ⟨2, ![8192, 4096]⟩
abbrev S2x4096x1024 : Shape := ⟨3, ![2, 4096, 1024]⟩
abbrev S8192x1024 : Shape := ⟨2, ![8192, 1024]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .f32⟩
  | .hbm, ⟨2, _⟩ => ⟨S2x4096x1024, .f32⟩
  | .hbm, ⟨3, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SharedUpLastReferenceIdeal.lean ====
abbrev S8192x4096 : Shape := ⟨2, ![8192, 4096]⟩
abbrev S2x4096x1024 : Shape := ⟨3, ![2, 4096, 1024]⟩
abbrev S1x4096x1024 : Shape := ⟨3, ![1, 4096, 1024]⟩
abbrev S4096x1024 : Shape := ⟨2, ![4096, 1024]⟩
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .f32⟩
  | .hbm, ⟨2, _⟩ => ⟨S2x4096x1024, .f32⟩
  | .hbm, ⟨3, _⟩ => ⟨S8192x4096, .f32⟩
  | .hbm, ⟨4, _⟩ => ⟨S1x4096x1024, .f32⟩
  | .hbm, ⟨5, _⟩ => ⟨S4096x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x4096x1024, .f32⟩
  | .hbm, ⟨17, _⟩ => ⟨S4096x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== MoeUpLast.lean ====
abbrev S192 : Shape := ⟨1, ![192]⟩
abbrev S24576x2048 : Shape := ⟨2, ![24576, 2048]⟩
abbrev S2x16x4096x1024 : Shape := ⟨4, ![2, 16, 4096, 1024]⟩
abbrev S24576x1024 : Shape := ⟨2, ![24576, 1024]⟩
abbrev S256x2048 : Shape := ⟨2, ![256, 2048]⟩
abbrev S1x1x4096x512 : Shape := ⟨4, ![1, 1, 4096, 512]⟩
abbrev S1 : Shape := ⟨1, ![1]⟩
abbrev S256x512 : Shape := ⟨2, ![256, 512]⟩
abbrev S4096x512 : Shape := ⟨2, ![4096, 512]⟩
abbrev S2048x512 : Shape := ⟨2, ![2048, 512]⟩

abbrev nBuf : Space → Nat
  | .hbm => 4
  | .vmem => 10
  | .smem => 1
  | _ => 0

abbrev bufTy : (tb : Table) → Fin (tcTables nBuf tb) → BufTy
  | .hbm, ⟨0, _⟩ => ⟨S24576x2048, .i32⟩
  | .hbm, ⟨1, _⟩ => ⟨S2x16x4096x1024, .f32⟩
  | .hbm, ⟨2, _⟩ => ⟨S2x16x4096x1024, .f32⟩
  | .hbm, ⟨3, _⟩ => ⟨S24576x1024, .bf16⟩
  | .local _ .vmem, ⟨0, _⟩ => ⟨S256x2048, .i32⟩
  | .local _ .vmem, ⟨1, _⟩ => ⟨S256x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | .local _ .smem, ⟨0, _⟩ => ⟨S192, .i32⟩
  | _, _ => ⟨S24576x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 96], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let c96_i32 : BitVec 32 := 96#32
  let arg1 : BitVec 32 := BitVec.ofNat 32 (i 1).val
  let v11 : BitVec 32 := Scalar.addi c96_i32 arg1
  let v12 : Index := Scalar.indexCast v11
  ![v12.toNat]
def k0_cond2 (v13 : BitVec 32) : BitVec 1 :=
  let c0_i32_2 : BitVec 32 := 0#32
  let v14 : BitVec 1 := Scalar.cmpi .ne v13 c0_i32_2
  let v15 : BitVec 32 := Scalar.extui v14
  let c0_i32_3 : BitVec 32 := 0#32
  let v16 : BitVec 1 := Scalar.cmpi .ne v15 c0_i32_3
  v16

def k0_cond3 (v13 : BitVec 32) : BitVec 1 :=
  let c0_i32_2 : BitVec 32 := 0#32
  let v14 : BitVec 1 := Scalar.cmpi .ne v13 c0_i32_2
  let v_true : BitVec 1 := 1#1
  let v17 : BitVec 1 := Scalar.xori v14 v_true
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_2 (k0_off1_inb : ∀ i : grid0.Coords, ∀ a, (k0_off1 i) a + S1.size a ≤ S192.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S192) ![v0.toNat] S1.size (k0_off1_inb i)) numel1_S1
  let c1_i32 : BitVec 32 := 1#32
  let c0_i32 : BitVec 32 := 0#32
  let c0_i32_0 : BitVec 32 := 0#32
  ![c1_i32.toNat, v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeUpLastReferenceIdeal.lean ====
abbrev S192 : Shape := ⟨1, ![192]⟩
abbrev S24576x2048 : Shape := ⟨2, ![24576, 2048]⟩
abbrev S2x16x4096x1024 : Shape := ⟨4, ![2, 16, 4096, 1024]⟩
abbrev S24576x2048x2 : Shape := ⟨3, ![24576, 2048, 2]⟩
abbrev S24576x2x2048 : Shape := ⟨3, ![24576, 2, 2048]⟩
abbrev S96x256x4096 : Shape := ⟨3, ![96, 256, 4096]⟩
abbrev S1x16x4096x1024 : Shape := ⟨4, ![1, 16, 4096, 1024]⟩
abbrev S16x4096x1024 : Shape := ⟨3, ![16, 4096, 1024]⟩
abbrev S96 : Shape := ⟨1, ![96]⟩
abbrev S96x1 : Shape := ⟨2, ![96, 1]⟩
abbrev S96x4096x1024 : Shape := ⟨3, ![96, 4096, 1024]⟩
abbrev S96x256x1024 : Shape := ⟨3, ![96, 256, 1024]⟩
abbrev S_ : Shape := ⟨0, ![]⟩
abbrev S96x1x1 : Shape := ⟨3, ![96, 1, 1]⟩
abbrev S24576x1024 : Shape := ⟨2, ![24576, 1024]⟩

abbrev nBuf : Space → Nat
  | .hbm => 42
  | .vmem => 0
  | .smem => 0
  | _ => 0

abbrev bufTy : (tb : Table) → Fin (tcTables nBuf tb) → BufTy
  | .hbm, ⟨0, _⟩ => ⟨S192, .i32⟩
  | .hbm, ⟨1, _⟩ => ⟨S24576x2048, .i32⟩
  | .hbm, ⟨2, _⟩ => ⟨S2x16x4096x1024, .f32⟩
  | .hbm, ⟨3, _⟩ => ⟨S2x16x4096x1024, .f32⟩
  | .hbm, ⟨4, _⟩ => ⟨S24576x2048x2, .bf16⟩
  | .hbm, ⟨5, _⟩ => ⟨S24576x2x2048, .bf16⟩
  | .hbm, ⟨6, _⟩ => ⟨S96x256x4096, .bf16⟩
  | .hbm, ⟨7, _⟩ => ⟨S96x256x4096, .f32⟩
  | .hbm, ⟨8, _⟩ => ⟨S1x16x4096x1024, .f32⟩
  | .hbm, ⟨9, _⟩ => ⟨S16x4096x1024, .f32⟩
  | .hbm, ⟨10, _⟩ => ⟨S96, .i32⟩
  | .hbm, ⟨11, _⟩ => ⟨S96x1, .i32⟩
  | .hbm, ⟨12, _⟩ => ⟨S96x4096x1024, .f32⟩
  | .hbm, ⟨13, _⟩ => ⟨S96x256x1024, .f32⟩
  | .hbm, ⟨14, _⟩ => ⟨S1x16x4096x1024, .f32⟩
  | .hbm, ⟨15, _⟩ => ⟨S16x4096x1024, .f32⟩
  | .hbm, ⟨16, _⟩ => ⟨S96, .i32⟩
  | .hbm, ⟨17, _⟩ => ⟨S96x1, .i32⟩
  | .hbm, ⟨18, _⟩ => ⟨S96x4096x1024, .f32⟩
  | .hbm, ⟨19, _⟩ => ⟨S96x256x1024, .f32⟩
  | .hbm, ⟨20, _⟩ => ⟨S96, .i32⟩
  | .hbm, ⟨21, _⟩ => ⟨S_, .i32⟩
  | .hbm, ⟨22, _⟩ => ⟨S96, .i32⟩
  | .hbm, ⟨23, _⟩ => ⟨S96, .i1⟩
  | .hbm, ⟨24, _⟩ => ⟨S96x1x1, .i1⟩
  | .hbm, ⟨25, _⟩ => ⟨S96x256x1024, .f32⟩
  | .hbm, ⟨26, _⟩ => ⟨S96x256x1024, .f32⟩
  | .hbm, ⟨27, _⟩ => ⟨S_, .f32⟩
  | .hbm, ⟨28, _⟩ => ⟨S96x256x1024, .f32⟩
  | .hbm, ⟨29, _⟩ => ⟨S96x256x1024, .f32⟩
  | .hbm, ⟨30, _⟩ => ⟨S_, .f32⟩
  | .hbm, ⟨31, _⟩ => ⟨S96x256x1024, .f32⟩
  | .hbm, ⟨32, _⟩ => ⟨S96x256x1024, .f32⟩
  | .hbm, ⟨33, _⟩ => ⟨S96x256x1024, .f32⟩
  | .hbm, ⟨34, _⟩ => ⟨S96x256x1024, .f32⟩
  | .hbm, ⟨35, _⟩ => ⟨S_, .f32⟩
  | .hbm, ⟨36, _⟩ => ⟨S_, .f32⟩
  | .hbm, ⟨37, _⟩ => ⟨S96x256x1024, .i1⟩
  | .hbm, ⟨38, _⟩ => ⟨S96x256x1024, .f32⟩
  | .hbm, ⟨39, _⟩ => ⟨S96x256x1024, .f32⟩
  | .hbm, ⟨40, _⟩ => ⟨S24576x1024, .f32⟩
  | .hbm, ⟨41, _⟩ => ⟨S24576x1024, .bf16⟩
  | _, _ => ⟨S192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call2_v0 : Ref sig .tc := ⟨.hbm, 25, rfl⟩
abbrev main_call2_v1 : Ref sig .tc := ⟨.hbm, 26, rfl⟩
abbrev main_call2_cst : Ref sig .tc := ⟨.hbm, 27, rfl⟩
abbrev main_call2_v2 : Ref sig .tc := ⟨.hbm, 28, rfl⟩
abbrev main_call2_v3 : Ref sig .tc := ⟨.hbm, 29, rfl⟩
abbrev main_call2_cst_0 : Ref sig .tc := ⟨.hbm, 30, rfl⟩
abbrev main_call2_v4 : Ref sig .tc := ⟨.hbm, 31, rfl⟩
abbrev main_call2_v5 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== Proof.Scratch.lean ====
module

public import proofs.«01_k».proof.Proof.Gen.KernelIdeal.Value
public import Idealize.ShloMosaic.Lib.Pointwise
public import Idealize.ShloMosaic.Lib.Pipeline.ValueKit

@[expose] public section

set_option maxRecDepth 16384

noncomputable section

/-! # One query tile of the attention call, as an online softmax over eleven chunks of keys -/

namespace Cert.Attn

open Cert.KernelIdeal Cert.KernelIdeal.Gen Idealize.ShloMosaic Idealize.ShloMosaic.TcCoe Idealize.SL.Sem

variable {F : FTy → Type} [FloatOps F]

/-- Rows `768 n … 768 n + 767` of a scratch array of 8448 rows. -/
def chunk (s : Vec F S8448x256 .bf16) (n : ℕ) : Vec F S768x256 .bf16 := fun y =>
  s (ix2 (⟨(768 * n + (y 0).val) % 8448, Nat.mod_lt _ (by norm_num)⟩ : Fin 8448) (y 1))

/-- The logits of a query tile against one chunk of keys. -/
def lg (q : Vec F S1024x256 .bf16) (k : Vec F S768x256 .bf16) : FVec F S1024x768 .f32 :=
  matmul dot_S1024x256_S768x256_S1024x768_1_1_0_0_n_n none q k (constant S1024x768 .f32 0x00000000#32)

/-- The running maximum after one more chunk of logits. -/
def mx (m : FVec F S1024x1 .f32) (s : FVec F S1024x768 .f32) : FVec F S1024x1 .f32 :=
  maximumf m (shapeCast S1024x1 (multiReduction .maximumf [1] S1024 s 0xFF800000#32 reduces_S1024x768_S1024 (.inl rfl) rfl)
    shapeCasts_S1024_S1024x1)

/-- The unnormalised weights of one chunk. -/
def pr (s : FVec F S1024x768 .f32) (m : FVec F S1024x1 .f32) : FVec F S1024x768 .bf16 :=
  truncf .bf16 (exp2 (subf s (broadcastTo S1024x768 m broadcasts_S1024x1_S1024x768))) bitsLt_bf16_f32

/-- The weights times one chunk of values (and of ones). -/
def pv (p : FVec F S1024x768 .bf16) (v : Vec F S768x256 .bf16) : FVec F S1024x256 .f32 :=
  matmul dot_S1024x768_S768x256_S1024x256_1_0_0_1_n_n none p v (constant S1024x256 .f32 0x00000000#32)

/-- The accumulator rescaled to the new maximum, plus one chunk's contribution. -/
def ac (m m' : FVec F S1024x1 .f32) (a w : FVec F S1024x256 .f32) : FVec F S1024x256 .f32 :=
  addf (mulf (broadcastTo S1024x256 (exp2 (subf m m')) broadcasts_S1024x1_S1024x256) a) w

/-- The running maximum after chunk `n`. -/
def mm (q : Vec F S1024x256 .bf16) (K : ℕ → Vec F S768x256 .bf16) : ℕ → FVec F S1024x1 .f32
  | 0 => mx (broadcast S1024x1 (Scalar.ofBits .f32 0xFF800000#32)) (lg q (K 0))
  | n + 1 => mx (mm q K n) (lg q (K (n + 1)))

/-- The accumulator after chunk `n`. -/
def aa (q : Vec F S1024x256 .bf16) (K V : ℕ → Vec F S768x256 .bf16) : ℕ → FVec F S1024x256 .f32
  | 0 => pv (pr (lg q (K 0)) (mm q K 0)) (V 0)
  | n + 1 => ac (mm q K n) (mm q K (n + 1)) (aa q K V n) (pv (pr (lg q (K (n + 1))) (mm q K (n + 1))) (V (n + 1)))

/-- What a tile's body leaves: the accumulated values over the accumulated weights. -/
def tile (q : Vec F S1024x256 .bf16) (K V : ℕ → Vec F S768x256 .bf16) : FVec F S1024x128 .bf16 :=
  truncf .bf16 (divf (extractStridedSlice S1024x128 ![0, 0] (aa q K V 10) slices_S1024x256_o0_0_S1024x128)
    (extractStridedSlice S1024x128 ![0, 128] (aa q K V 10) slices_S1024x256_o0_128_S1024x128)) bitsLt_bf16_f32

theorem hz : (![0, 0] : Fin 2 → Nat) = fun _ => 0 := funext fun a => by fin_cases a <;> rfl

/-- A load of 768 rows of a scratch array at row `768 n` reads chunk `n`. -/
theorem ld_chunk (s : Vec F S8448x256 .bf16) (n : ℕ) (hn : n < 11) (off : Fin 2 → ℕ) (ho : off = ![768 * n, 0])
    (inb : ∀ a, off a + S768x256.size a ≤ S8448x256.size a) :
    View.ld s (Rect.unit (s := S8448x256) off S768x256.size inb) = chunk s n := by
  subst ho
  funext y
  have hy : (y 0).val < 768 := (y 0).isLt
  refine View.ld_unit_apply_of _ _ _ _ y _ fun a => ?_
  fin_cases a
  · show (768 * n + (y 0).val) % 8448 = 768 * n + (y 0).val
    omega
  · show (y 1).val = 0 + (y 1).val
    omega

/-- Two 128-column arrays side by side. -/
def kcat (a b : Vec F S8448x128 .bf16) : Vec F S8448x256 .bf16 := fun y =>
  if h : (y 1).val < 128 then a (ix2 (y 0) (⟨(y 1).val, h⟩ : Fin 128))
  else b (ix2 (y 0) (⟨(y 1).val - 128, by have : (y 1).val < 256 := (y 1).isLt; omega⟩ : Fin 128))

/-- The two half-width stores that fill a scratch array leave the two arrays side by side. -/
theorem canon_kcat (a b : Vec F S8448x128 .bf16) (i0 : ∀ x, (![0, 128] : Fin 2 → ℕ) x + S8448x128.size x ≤ S8448x256.size x)
    (i1 : ∀ x, (![0, 0] : Fin 2 → ℕ) x + S8448x128.size x ≤ S8448x256.size x) :
    View.canon ([⟨Rect.unit ![0, 128] S8448x128.size i0, b⟩, ⟨Rect.unit ![0, 0] S8448x128.size i1, a⟩] :
      List (View.Piece (Elt F) S8448x256 .bf16)) = kcat a b := by
  funext y
  have hy0 : (y 0).val < 8448 := (y 0).isLt
  have hy1 : (y 1).val < 256 := (y 1).isLt
  unfold kcat
  by_cases h : (y 1).val < 128
  · rw [dif_pos h, View.canon_cons_of_not_mem]
    · have e : (Rect.unit (s := S8448x256) ![0, 0] S8448x128.size i1).emb (ix2 (y 0) (⟨(y 1).val, h⟩ : Fin 128)) = y := by
        funext x; apply Fin.ext; fin_cases x
        · show 0 + 1 * (y 0).val = (y 0).val; omega
        · show 0 + 1 * (y 1).val = (y 1).val; omega
      conv_lhs => rw [← e]
      exact View.canon_cons_emb _ _ _ _
    · intro hm
      obtain ⟨x, hx⟩ := LoadRect.exists_idx_of_mem _ hm
      have h1 := congrArg (fun z => (z 1).val) hx
      have h2 : 128 + 1 * (x 1).val = (y 1).val := h1
      omega
  · rw [dif_neg h]
    have hb : (y 1).val - 128 < 128 := by omega
    have e : (Rect.unit (s := S8448x256) ![0, 128] S8448x128.size i0).emb (ix2 (y 0) (⟨(y 1).val - 128, hb⟩ : Fin 128)) = y := by
      funext x; apply Fin.ext; fin_cases x
      · show 0 + 1 * (y 0).val = (y 0).val; omega
      · show 128 + 1 * ((y 1).val - 128) = (y 1).val; omega
    conv_lhs => rw [← e]
    exact View.canon_cons_emb _ _ _ _

/-- A load of a scratch array after its fill reads the fill's contents. -/
theorem readCov_ld (v : View sig .tc .vmem S8448x256 .bf16) (L : List (View.Piece (Elt F) S8448x256 .bf16)) (r : Rect S8448x256) :
    v.readCov L r.toLoadRect = View.ld (View.canon L) r := View.readCov_eq_canon' v L r.toLoadRect

/-- The array of ones beside the values. -/
def ones : Vec F S8448x128 .bf16 := broadcast S8448x128 (Scalar.ofBits .bf16 0x3F80#16)

/-- A point that fills the scratch leaves the shared rotary keys beside the head's keys. -/
theorem sout0_A_0_eq (c : Dev nD) (i : grid0.Coords) (a2 : Memref sig .tc .vmem S1024x256 .bf16) (h2 : a2.IsWhole)
    (a3 : Memref sig .tc .vmem S8448x128 .bf16) (h3 : a3.IsWhole) (a4 : Memref sig .tc .vmem S8448x128 .bf16) (h4 : a4.IsWhole)
    (a5 : Memref sig .tc .vmem S8448x128 .bf16) (h5 : a5.IsWhole) (a6 : Memref sig .tc .vmem S1024x128 .bf16) (h6 : a6.IsWhole)
    (a7 : Memref sig .tc .vmem S8448x256 .bf16) (h7 : a7.IsWhole) (a8 : Memref sig .tc .vmem S8448x256 .bf16) (h8 : a8.IsWhole)
    (hc : cond0_0 i) (x0 : Vec F S1024x256 .bf16) (x1 : Vec F S8448x128 .bf16) (x2 : Vec F S8448x128 .bf16) (x3 : Vec F S8448x128 .bf16) :
    sout0_A_0 c i a2 h2 a3 h3 a4 h4 a5 h5 a6 h6 a7 h7 a8 h8 hc x0 x1 x2 x3 = kcat x1 x2 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [canon_kcat]
  simp only [k0_pay2, k0_pay3, k0_pay4, View.readAt_eq_ld, h3.read_unread, h4.read_unread, h5.read_unread,
    View.ld_unit_zero (S := S8448x128) hz, shapeCast_self]
  try rfl

/-- A point that fills the scratch leaves the ones beside the head's values. -/
theorem sout0_A_1_eq (c : Dev nD) (i : grid0.Coords) (a2 : Memref sig .tc .vmem S1024x256 .bf16) (h2 : a2.IsWhole)
    (a3 : Memref sig .tc .vmem S8448x128 .bf16) (h3 : a3.IsWhole) (a4 : Memref sig .tc .vmem S8448x128 .bf16) (h4 : a4.IsWhole)
    (a5 : Memref sig .tc .vmem S8448x128 .bf16) (h5 : a5.IsWhole) (a6 : Memref sig .tc .vmem S1024x128 .bf16) (h6 : a6.IsWhole)
    (a7 : Memref sig .tc .vmem S8448x256 .bf16) (h7 : a7.IsWhole) (a8 : Memref sig .tc .vmem S8448x256 .bf16) (h8 : a8.IsWhole)
    (hc : cond0_0 i) (x0 : Vec F S1024x256 .bf16) (x1 : Vec F S8448x128 .bf16) (x2 : Vec F S8448x128 .bf16) (x3 : Vec F S8448x128 .bf16) :
    sout0_A_1 c i a2 h2 a3 h3 a4 h4 a5 h5 a6 h6 a7 h7 a8 h8 hc x0 x1 x2 x3 = kcat x3 ones := by
  unfold sout0_A_1
  rw [View.read_writes_eq_canon _ _ _ (scover0_A_1 c i a2 h2 a3 h3 a4 h4 a5 h5 a6 h6 a7 h7 a8 h8 hc x0 x1 x2 x3)]
  unfold kernelRun0_A
  dsimp only
  sl_unfold_words
  rw [canon_kcat]
  simp only [k0_pay2, k0_pay3, k0_pay4, View.readAt_eq_ld, h3.read_unread, h4.read_unread, h5.read_unread,
    View.ld_unit_zero (S := S8448x128) hz, shapeCast_self]
  try rfl

set_option maxHeartbeats 2000000 in
/-- A point that fills the scratch leaves the tile of its query block over the chunks of what it filled in. -/
theorem out0_A_eq (c : Dev nD) (i : grid0.Coords) (a2 : Memref sig .tc .vmem S1024x256 .bf16) (h2 : a2.IsWhole)
    (a3 : Memref sig .tc .vmem S8448x128 .bf16) (h3 : a3.IsWhole) (a4 : Memref sig .tc .vmem S8448x128 .bf16) (h4 : a4.IsWhole)
    (a5 : Memref sig .tc .vmem S8448x128 .bf16) (h5 : a5.IsWhole) (a6 : Memref sig .tc .vmem S1024x128 .bf16) (h6 : a6.IsWhole)
    (a7 : Memref sig .tc .vmem S8448x256 .bf16) (h7 : a7.IsWhole) (a8 : Memref sig .tc .vmem S8448x256 .bf16) (h8 : a8.IsWhole)
    (hc : cond0_0 i) (x0 : Vec F S1024x256 .bf16) (x1 : Vec F S8448x128 .bf16) (x2 : Vec F S8448x128 .bf16) (x3 : Vec F S8448x128 .bf16) :
    out0_A_4 c i a2 h2 a3 h3 a4 h4 a5 h5 a6 h6 a7 h7 a8 h8 hc x0 x1 x2 x3 = tile x0 (chunk (kcat x1 x2)) (chunk (kcat x3 ones)) := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero hz]
  have e5 : (k0_pay5 : FVec F S8448x128 .bf16) = ones := by unfold k0_pay5 ones; simp only [shapeCast_self]
  simp only [readCov_ld, k0_pay2, k0_pay3, k0_pay4, View.readAt_eq_ld, h2.read_unread, h3.read_unread, h4.read_unread,
    h5.read_unread, View.ld_unit_zero (S := S8448x128) hz, View.ld_unit_zero (S := S1024x256) hz, shapeCast_self, e5]
  rw [canon_kcat x1 x2, canon_kcat x3 ones]
  simp only [
    ld_chunk (kcat x1 x2) 0 (by norm_num) ![0, 0] rfl,
    ld_chunk (kcat x1 x2) 1 (by norm_num) ![768, 0] rfl,
    ld_chunk (kcat x1 x2) 2 (by norm_num) ![1536, 0] rfl,
    ld_chunk (kcat x1 x2) 3 (by norm_num) ![2304, 0] rfl,
    ld_chunk (kcat x1 x2) 4 (by norm_num) ![3072, 0] rfl,
    ld_chunk (kcat x1 x2) 5 (by norm_num) ![3840, 0] rfl,
    ld_chunk (kcat x1 x2) 6 (by norm_num) ![4608, 0] rfl,
    ld_chunk (kcat x1 x2) 7 (by norm_num) ![5376, 0] rfl,
    ld_chunk (kcat x1 x2) 8 (by norm_num) ![6144, 0] rfl,
    ld_chunk (kcat x1 x2) 9 (by norm_num) ![6912, 0] rfl,
    ld_chunk (kcat x1 x2) 10 (by norm_num) ![7680, 0] rfl,
    ld_chunk (kcat x3 ones) 0 (by norm_num) ![0, 0] rfl,
    ld_chunk (kcat x3 ones) 1 (by norm_num) ![768, 0] rfl,
    ld_chunk (kcat x3 ones) 2 (by norm_num) ![1536, 0] rfl,
    ld_chunk (kcat x3 ones) 3 (by norm_num) ![2304, 0] rfl,
    ld_chunk (kcat x3 ones) 4 (by norm_num) ![3072, 0] rfl,
    ld_chunk (kcat x3 ones) 5 (by norm_num) ![3840, 0] rfl,
    ld_chunk (kcat x3 ones) 6 (by norm_num) ![4608, 0] rfl,
    ld_chunk (kcat x3 ones) 7 (by norm_num) ![5376, 0] rfl,
    ld_chunk (kcat x3 ones) 8 (by norm_num) ![6144, 0] rfl,
    ld_chunk (kcat x3 ones) 9 (by norm_num) ![6912, 0] rfl,
    ld_chunk (kcat x3 ones) 10 (by norm_num) ![7680, 0] rfl]
  generalize chunk (kcat x1 x2) = K
  generalize chunk (kcat x3 ones) = V
  rfl

/-- A point that finds the scratch filled leaves the tile of its query block over the scratch's chunks. -/
theorem out0_B_eq (c : Dev nD) (i : grid0.Coords) (a2 : Memref sig .tc .vmem S1024x256 .bf16) (h2 : a2.IsWhole)
    (a3 : Memref sig .tc .vmem S8448x128 .bf16) (h3 : a3.IsWhole) (a4 : Memref sig .tc .vmem S8448x128 .bf16) (h4 : a4.IsWhole)
    (a5 : Memref sig .tc .vmem S8448x128 .bf16) (h5 : a5.IsWhole) (a6 : Memref sig .tc .vmem S1024x128 .bf16) (h6 : a6.IsWhole)
    (a7 : Memref sig .tc .vmem S8448x256 .bf16) (h7 : a7.IsWhole) (a8 : Memref sig .tc .vmem S8448x256 .bf16) (h8 : a8.IsWhole)
    (hc : ¬cond0_0 i) (x0 : Vec F S1024x256 .bf16) (x1 : Vec F S8448x128 .bf16) (x2 : Vec F S8448x128 .bf16) (x3 : Vec F S8448x128 .bf16)
    (s0 s1 : Vec F S8448x256 .bf16) :
    out0_B_4 c i a2 h2 a3 h3 a4 h4 a5 h5 a6 h6 a7 h7 a8 h8 hc x0 x1 x2 x3 s0 s1 = tile x0 (chunk s0) (chunk s1) := by
  unfold out0_B_4
  rw [View.read_writes_eq_canon _ _ _ (cover0_B_4 c i a2 h2 a3 h3 a4 h4 a5 h5 a6 h6 a7 h7 a8 h8 hc x0 x1 x2 x3 s0 s1)]
  unfold kernelRun0_B
  dsimp only
  sl_unfold_words
  rw [View.canon_unit_zero hz]
  simp only [View.readAt_eq_ld, h2.read_unread, h7.read_unread, h8.read_unread, View.ld_unit_zero (S := S1024x256) hz,
    ld_chunk s0 0 (by norm_num) ![0, 0] rfl, ld_chunk s0 1 (by norm_num) ![768, 0] rfl, ld_chunk s0 2 (by norm_num) ![1536, 0] rfl,
    ld_chunk s0 3 (by norm_num) ![2304, 0] rfl, ld_chunk s0 4 (by norm_num) ![3072, 0] rfl, ld_chunk s0 5 (by norm_num) ![3840, 0] rfl,
    ld_chunk s0 6 (by norm_num) ![4608, 0] rfl, ld_chunk s0 7 (by norm_num) ![5376, 0] rfl, ld_chunk s0 8 (by norm_num) ![6144, 0] rfl,
    ld_chunk s0 9 (by norm_num) ![6912, 0] rfl, ld_chunk s0 10 (by norm_num) ![7680, 0] rfl,
    ld_chunk s1 0 (by norm_num) ![0, 0] rfl, ld_chunk s1 1 (by norm_num) ![768, 0] rfl, ld_chunk s1 2 (by norm_num) ![1536, 0] rfl,
    ld_chunk s1 3 (by norm_num) ![2304, 0] rfl, ld_chunk s1 4 (by norm_num) ![3072, 0] rfl, ld_chunk s1 5 (by norm_num) ![3840, 0] rfl,
    ld_chunk s1 6 (by norm_num) ![4608, 0] rfl, ld_chunk s1 7 (by norm_num) ![5376, 0] rfl, ld_chunk s1 8 (by norm_num) ![6144, 0] rfl,
    ld_chunk s1 9 (by norm_num) ![6912, 0] rfl, ld_chunk s1 10 (by norm_num) ![7680, 0] rfl]
  generalize chunk s0 = K
  generalize chunk s1 = V
  rfl

end Cert.Attn
-- ==== Proof.Blocks.lean ====
module

public import proofs.«01_k».proof.Proof.Scratch

@[expose] public section

set_option maxRecDepth 16384

noncomputable section

/-! # The attention call's result array, tile by tile, from its argument arrays -/

namespace Cert.Attn

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The printed index maps: point `t` is head `t / 8`, query tile `t % 8`. -/
theorem idx : ∀ t : Fin cfg0.N, win0_0.index t = ![t.val % 8, t.val / 8] ∧ win0_1.index t = ![0, 2 * (t.val / 8)]
    ∧ win0_2.index t = ![0, 0] ∧ win0_3.index t = ![0, 2 * (t.val / 8) + 1] :=
  (by decide +kernel : ∀ t : Fin grid0.N, win0_0.index t = ![t.val % 8, t.val / 8] ∧ win0_1.index t = ![0, 2 * (t.val / 8)]
    ∧ win0_2.index t = ![0, 0] ∧ win0_3.index t = ![0, 2 * (t.val / 8) + 1])

theorem lt128 (t : Fin cfg0.N) : t.val < 128 := lt_of_lt_of_eq t.isLt N_0

/-- Query tile `i` of head `h`. -/
def qT (Q : Vec F S8192x4096 .bf16) (h : ℕ) (i : ℕ) : Vec F S1024x256 .bf16 := fun y =>
  Q (ix2 (⟨(1024 * i + (y 0).val) % 8192, Nat.mod_lt _ (by norm_num)⟩ : Fin 8192)
    (⟨(256 * h + (y 1).val) % 4096, Nat.mod_lt _ (by norm_num)⟩ : Fin 4096))

/-- Columns `128 j … 128 j + 127` of the keys-and-values array. -/
def kvT (KV : Vec F S8448x4096 .bf16) (j : ℕ) : Vec F S8448x128 .bf16 := fun y =>
  KV (ix2 (y 0) (⟨(128 * j + (y 1).val) % 4096, Nat.mod_lt _ (by norm_num)⟩ : Fin 4096))

theorem iblk0_eq (c : Dev nD) (t : Fin cfg0.N) :
    iblk m c 0 t = qT (m ((c : Thread nD τ).loc main_arg0)) (t.val / 8) (t.val % 8) := by
  funext y
  have := lt128 t
  unfold qT
  blk_ext [iblk, V, idx t]

theorem iblk1_eq (c : Dev nD) (t : Fin cfg0.N) :
    iblk m c 1 t = kvT (m ((c : Thread nD τ).loc main_arg1)) (2 * (t.val / 8)) := by
  funext y
  have := lt128 t
  unfold kvT
  blk_ext [iblk, V, idx t]

theorem iblk2_eq (c : Dev nD) (t : Fin cfg0.N) :
    iblk m c 2 t = m ((c : Thread nD τ).loc main_arg2) := by
  funext y
  blk_ext [iblk, V, idx t]

theorem iblk3_eq (c : Dev nD) (t : Fin cfg0.N) :
    iblk m c 3 t = kvT (m ((c : Thread nD τ).loc main_arg1)) (2 * (t.val / 8) + 1) := by
  funext y
  have := lt128 t
  unfold kvT
  blk_ext [iblk, V, idx t]

/-- The keys of head `h`, with the shared rotary keys beside them. -/
def keys (c : Dev nD) (h : ℕ) : Vec F S8448x256 .bf16 :=
  kcat (kvT (m ((c : Thread nD τ).loc main_arg1)) (2 * h)) (m ((c : Thread nD τ).loc main_arg2))

/-- The values of head `h`, with ones beside them. -/
def vals (c : Dev nD) (h : ℕ) : Vec F S8448x256 .bf16 :=
  kcat (kvT (m ((c : Thread nD τ).loc main_arg1)) (2 * h + 1)) ones

/-- At a head's first point the scratch takes its keys and values. -/
theorem scratch_first (c : Dev nD) (t : Fin cfg0.N) (h0 : t.val % 8 = 0) :
    (outsAt0 m c t.val t.isLt).2.1 = keys m c (t.val / 8) ∧ (outsAt0 m c t.val t.isLt).2.2 = vals m c (t.val / 8) := by
  rw [outsAt0_A m c t h0]
  dsimp only
  rw [sout0_A_0_eq, sout0_A_1_eq, iblk1_eq, iblk2_eq, iblk3_eq]
  exact ⟨rfl, rfl⟩

/-- At a head's later points the scratch stays. -/
theorem scratch_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- After any point the scratch holds the keys and the values of the point's head. -/
theorem scratch_eq (c : Dev nD) : ∀ (n : ℕ) (hn : n < cfg0.N),
    (outsAt0 m c n hn).2.1 = keys m c (n / 8) ∧ (outsAt0 m c n hn).2.2 = vals m c (n / 8) := by
  intro n
  induction n with
  | zero => exact fun hn => scratch_first m c ⟨0, hn⟩ rfl
  | succ n ih =>
    intro hn
    by_cases h0 : (n + 1) % 8 = 0
    · exact scratch_first m c ⟨n + 1, hn⟩ h0
    · have e := scratch_later m c ⟨n + 1, hn⟩ h0
      have hd : (n + 1) / 8 = n / 8 := by omega
      rw [hd]
      exact ⟨(congrArg Prod.fst e).trans (ih _).1, (congrArg Prod.snd e).trans (ih _).2⟩

/-- What point `t` leaves in the result's staging block: the tile of its query block over its head's keys and values. -/
theorem out_eq (c : Dev nD) (t : Fin cfg0.N) :
    (outsAt0 m c t.val t.isLt).1 = tile (qT (m ((c : Thread nD τ).loc main_arg0)) (t.val / 8) (t.val % 8))
      (chunk (keys m c (t.val / 8))) (chunk (vals m c (t.val / 8))) := by
  by_cases h0 : t.val % 8 = 0
  · rw [outsAt0_A m c t h0]
    dsimp only
    rw [out0_A_eq, iblk0_eq, iblk1_eq, iblk2_eq, iblk3_eq]
    rfl
  · rw [outsAt0_B m c t h0]
    have hd : (t.val - 1) / 8 = t.val / 8 := by omega
    have hs := scratch_eq m c (t.val - 1) (Nat.lt_of_le_of_lt (Nat.sub_le _ _) t.isLt)
    rw [hd] at hs
    dsimp only
    rw [out0_B_eq, iblk0_eq, hs.1, hs.2]

/-- The result at row `1024 i + r`, column `128 h + d` is entry `(r, d)` of the tile of head `h` and query tile `i`. -/
theorem G_eq (c : Dev nD) (x : S8192x2048.Idx) :
    Value.G4 m c x = tile (qT (m ((c : Thread nD τ).loc main_arg0)) ((x 1).val / 128) ((x 0).val / 1024))
      (chunk (keys m c ((x 1).val / 128))) (chunk (vals m c ((x 1).val / 128)))
      (ix2 (⟨(x 0).val % 1024, Nat.mod_lt _ (by norm_num)⟩ : Fin 1024) (⟨(x 1).val % 128, Nat.mod_lt _ (by norm_num)⟩ : Fin 128)) := by
  have h0 : (x 0).val < 8192 := (x 0).isLt
  have h1 : (x 1).val < 2048 := (x 1).isLt
  have hp : Value.pt4Of x < cfg0.N := by
    rw [show cfg0.N = 128 from N_0]
    show 1 * ((x 0).val / 1024 - 0) + 8 * ((x 1).val / 128 - 0) < 128
    omega
  have e1 : Value.pt4Of x / 8 = (x 1).val / 128 := by
    show (1 * ((x 0).val / 1024 - 0) + 8 * ((x 1).val / 128 - 0)) / 8 = _
    omega
  have e2 : Value.pt4Of x % 8 = (x 0).val / 1024 := by
    show (1 * ((x 0).val / 1024 - 0) + 8 * ((x 1).val / 128 - 0)) % 8 = _
    omega
  have o := out_eq m c ⟨_, hp⟩
  rw [Value.outsAt0_sweep m c _ hp] at o
  dsimp only at o
  rw [e1, e2] at o
  unfold Value.G4
  rw [dif_pos hp]
  refine (congrFun o (Value.loc4Of x)).trans ?_
  congr 1
  funext a
  fin_cases a <;> rfl

end Cert.Attn
-- ==== Proof.Consts.lean ====
module

public import Idealize.ShloMosaic.Lib.Pointwise

@[expose] public section

noncomputable section

/-! # The float constants of the programs as extended reals, and facts on finite sums and maxima of extended reals -/

namespace Cert.Consts

open Idealize.ShloMosaic

/-- The bits of f32's minus infinity. -/
theorem negInf : Ideal.ofBits .f32 0xFF800000#32 = (⊥ : EReal) := by
  simp [Ideal.ofBits, Ideal.ieee]

/-- The bits of f32's infinity. -/
theorem posInf : Ideal.ofBits .f32 0x7F800000#32 = (⊤ : EReal) := by
  simp [Ideal.ofBits, Ideal.ieee]

/-- The bits of f32's 2. -/
theorem two : Ideal.ofBits .f32 0x40000000#32 = ((2 : ℝ) : EReal) := by
  simp [Ideal.ofBits, Ideal.ieee, -EReal.coe_mul]; norm_num

/-- The bits of f32's 0. -/
theorem zero : Ideal.ofBits .f32 0x00000000#32 = (0 : EReal) := by
  simp [Ideal.ofBits, Ideal.ieee]

/-- The bits of bf16's 1. -/
theorem one16 : Ideal.ofBits .bf16 0x3F80#16 = ((1 : ℝ) : EReal) := by
  simp [Ideal.ofBits, Ideal.ieee, -EReal.coe_mul]; norm_num

/-- A finite sum of reals, taken among the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two reals, among the extended reals. -/
theorem coe_max (a b : ℝ) : max (a : EReal) (b : EReal) = ((max a b : ℝ) : EReal) :=
  (EReal.coe_strictMono.monotone.map_max (a := a) (b := b)).symm

/-- A maximum of reals is minus infinity (over nothing) or a real. -/
theorem fold_max {ι : Type*} (s : Finset ι) (f : ι → ℝ) :
    (s.fold max ⊥ fun i => ((f i : ℝ) : EReal)) = ⊥ ∧ s = ∅ ∨ ∃ x : ℝ, (s.fold max ⊥ fun i => ((f i : ℝ) : EReal)) = x := by
  classical
  induction s using Finset.induction_on with
  | empty => left; simp
  | insert a s ha ih =>
    right
    rw [Finset.fold_insert ha]
    rcases ih with ⟨h, -⟩ | ⟨x, h⟩
    · exact ⟨f a, by rw [h, max_bot_right]⟩
    · exact ⟨max (f a) x, by rw [h, coe_max]⟩

/-- The maximum of finitely many reals, at least one, is a real. -/
theorem fold_max_real {ι : Type*} [Fintype ι] [Nonempty ι] (f : ι → ℝ) :
    ∃ x : ℝ, (Finset.univ.fold max ⊥ fun i : ι => ((f i : ℝ) : EReal)) = x := by
  rcases fold_max Finset.univ f with ⟨-, h⟩ | h
  · exact absurd h Finset.univ_nonempty.ne_empty
  · exact h

/-- An extended real whose absolute value is below infinity is a real. -/
theorem real_of_abs_lt {x : EReal} (h1 : x ≠ ⊤) (h2 : x ≠ ⊥) : ∃ r : ℝ, x = r :=
  ⟨x.toReal, (EReal.coe_toReal h1 h2).symm⟩

/-- Eleven chunks of 768 keys are the 8448 keys. -/
def keyEquiv : Fin 11 × Fin 768 ≃ Fin 8448 where
  toFun p := ⟨768 * p.1.val + p.2.val, by omega⟩
  invFun j := (⟨j.val / 768, by omega⟩, ⟨j.val % 768, by omega⟩)
  left_inv p := by
    refine Prod.ext (Fin.ext ?_) (Fin.ext ?_)
    · show (768 * p.1.val + p.2.val) / 768 = p.1.val
      omega
    · show (768 * p.1.val + p.2.val) % 768 = p.2.val
      omega
  right_inv j := by
    apply Fin.ext
    show 768 * (j.val / 768) + j.val % 768 = j.val
    omega

/-- A sum over the eleven chunks is the sum over the 8448 keys. -/
theorem sum_chunks (f : Fin 8448 → ℝ) (g : ℕ → Fin 768 → ℝ)
    (h : ∀ (n : ℕ) (l : Fin 768) (hn : 768 * n + l.val < 8448), g n l = f ⟨768 * n + l.val, hn⟩) :
    ∑ n ∈ Finset.range 11, ∑ l : Fin 768, g n l = ∑ j : Fin 8448, f j := by
  rw [Finset.sum_range, ← Fintype.sum_prod_type' fun (n : Fin 11) (l : Fin 768) => g n.val l]
  exact Fintype.sum_equiv keyEquiv _ _ fun p => h _ _ _

end Cert.Consts
-- ==== Proof.Entries.lean ====
module

public import proofs.«01_k».proof.Proof.Scratch
public import proofs.«01_k».proof.Proof.Consts

@[expose] public section

set_option maxRecDepth 16384

noncomputable section

/-! # The tile's operations at an entry -/

namespace Cert.Attn

open Cert.KernelIdeal Cert.KernelIdeal.Gen Idealize.ShloMosaic Idealize.ShloMosaic.TcCoe

theorem lg_apply (q : Vec Ideal S1024x256 .bf16) (k : Vec Ideal S768x256 .bf16) (r : Fin 1024) (l : Fin 768) :
    lg q k (ix2 r l) = ∑ c : Fin 256, q (ix2 r c) * k (ix2 l c) := by
  unfold lg
  pointwise

theorem mx_apply (m : FVec Ideal S1024x1 .f32) (s : FVec Ideal S1024x768 .f32) (r : Fin 1024) :
    mx m s (ix2 r 0) = max (m (ix2 r 0)) (Finset.univ.fold max ⊥ fun l : Fin 768 => s (ix2 r l)) := by
  unfold mx
  pointwise
  rw [Consts.negInf]

theorem mm_start (r : Fin 1024) :
    (broadcast S1024x1 (Scalar.ofBits .f32 0xFF800000#32) : FVec Ideal S1024x1 .f32) (ix2 r 0) = (⊥ : EReal) :=
  Consts.negInf

theorem pr_apply (s : FVec Ideal S1024x768 .f32) (m : FVec Ideal S1024x1 .f32) (r : Fin 1024) (l : Fin 768) :
    pr s m (ix2 r l) = Ideal.exp2 (s (ix2 r l) - m (ix2 r 0)) := by
  unfold pr
  pointwise
  rfl

theorem pv_apply (p : FVec Ideal S1024x768 .bf16) (v : Vec Ideal S768x256 .bf16) (r : Fin 1024) (d : Fin 256) :
    pv p v (ix2 r d) = ∑ l : Fin 768, p (ix2 r l) * v (ix2 l d) := by
  unfold pv
  pointwise

theorem ac_apply (m m' : FVec Ideal S1024x1 .f32) (a w : FVec Ideal S1024x256 .f32) (r : Fin 1024) (d : Fin 256) :
    ac m m' a w (ix2 r d) = Ideal.exp2 (m (ix2 r 0) - m' (ix2 r 0)) * a (ix2 r d) + w (ix2 r d) := by
  unfold ac
  pointwise
  rfl

theorem tile_apply (q : Vec Ideal S1024x256 .bf16) (K V : ℕ → Vec Ideal S768x256 .bf16) (r : Fin 1024) (d : Fin 128) :
    tile q K V (ix2 r d) = Ideal.div (aa q K V 10 (ix2 r ⟨d.val, by omega⟩)) (aa q K V 10 (ix2 r ⟨128 + d.val, by omega⟩)) := by
  unfold tile
  pointwise

end Cert.Attn
-- ==== Proof.Tile.lean ====
module

public import proofs.«01_k».proof.Proof.Entries
public import proofs.«01_k».proof.Proof.Consts

@[expose] public section

set_option maxRecDepth 16384

noncomputable section

/-! # A tile's entries over the reals: the online softmax is the softmax -/

namespace Cert.Attn

open Cert.KernelIdeal Cert.KernelIdeal.Gen Idealize.ShloMosaic Idealize.ShloMosaic.TcCoe

variable {q : Vec Ideal S1024x256 .bf16} {K V : ℕ → Vec Ideal S768x256 .bf16}
variable {qr : Fin 1024 → Fin 256 → ℝ} {kr vr : ℕ → Fin 768 → Fin 256 → ℝ}

/-- The logit of query row `r` against row `l` of chunk `n`. -/
def sc (qr : Fin 1024 → Fin 256 → ℝ) (kr : ℕ → Fin 768 → Fin 256 → ℝ) (n : ℕ) (r : Fin 1024) (l : Fin 768) : ℝ :=
  ∑ c : Fin 256, qr r c * kr n l c

theorem lg_real (hq : ∀ r c, q (ix2 r c) = ((qr r c : ℝ) : EReal)) (hk : ∀ n l c, K n (ix2 l c) = ((kr n l c : ℝ) : EReal))
    (n : ℕ) (r : Fin 1024) (l : Fin 768) : lg q (K n) (ix2 r l) = ((sc qr kr n r l : ℝ) : EReal) := by
  rw [lg_apply]
  simp only [hq, hk, ← EReal.coe_mul, Consts.coe_sum]
  rfl

/-- Every running maximum is a real. -/
theorem mm_real (hq : ∀ r c, q (ix2 r c) = ((qr r c : ℝ) : EReal)) (hk : ∀ n l c, K n (ix2 l c) = ((kr n l c : ℝ) : EReal))
    (r : Fin 1024) : ∀ n : ℕ, ∃ x : ℝ, mm q K n (ix2 r 0) = (x : EReal) := by
  intro n
  induction n with
  | zero =>
    obtain ⟨x, hx⟩ := Consts.fold_max_real fun l : Fin 768 => sc qr kr 0 r l
    refine ⟨x, ?_⟩
    rw [mm, mx_apply, mm_start]
    simp only [lg_real hq hk]
    rw [hx, max_bot_left]
  | succ n ih =>
    obtain ⟨x, hx⟩ := Consts.fold_max_real fun l : Fin 768 => sc qr kr (n + 1) r l
    obtain ⟨y, hy⟩ := ih
    refine ⟨max y x, ?_⟩
    rw [mm, mx_apply, hy]
    simp only [lg_real hq hk]
    rw [hx, Consts.coe_max]

/-- One chunk's contribution, against any real maximum. -/
theorem pv_real (hq : ∀ r c, q (ix2 r c) = ((qr r c : ℝ) : EReal)) (hk : ∀ n l c, K n (ix2 l c) = ((kr n l c : ℝ) : EReal))
    (hv : ∀ n l c, V n (ix2 l c) = ((vr n l c : ℝ) : EReal)) (n : ℕ) (m : FVec Ideal S1024x1 .f32) (r : Fin 1024) (x : ℝ)
    (hx : m (ix2 r 0) = (x : EReal)) (d : Fin 256) :
    pv (pr (lg q (K n)) m) (V n) (ix2 r d)
      = ((∑ l : Fin 768, Real.rpow 2 (sc qr kr n r l - x) * vr n l d : ℝ) : EReal) := by
  rw [pv_apply]
  simp only [pr_apply, lg_real hq hk, hx, ← EReal.coe_sub, Ideal.exp2_coe, hv, ← EReal.coe_mul, Consts.coe_sum]

/-- The accumulator after chunk `n`: the weights so far, relative to the running maximum, times the values. -/
theorem aa_real (hq : ∀ r c, q (ix2 r c) = ((qr r c : ℝ) : EReal)) (hk : ∀ n l c, K n (ix2 l c) = ((kr n l c : ℝ) : EReal))
    (hv : ∀ n l c, V n (ix2 l c) = ((vr n l c : ℝ) : EReal)) (r : Fin 1024) (d : Fin 256) : ∀ (n : ℕ) (x : ℝ),
    mm q K n (ix2 r 0) = (x : EReal) → aa q K V n (ix2 r d)
      = ((∑ k ∈ Finset.range (n + 1), ∑ l : Fin 768, Real.rpow 2 (sc qr kr k r l - x) * vr k l d : ℝ) : EReal) := by
  intro n
  induction n with
  | zero =>
    intro x hx
    rw [aa, pv_real hq hk hv 0 _ r x hx d]
    simp
  | succ n ih =>
    intro x hx
    obtain ⟨y, hy⟩ := mm_real hq hk r n
    rw [aa, ac_apply, pv_real hq hk hv (n + 1) _ r x hx d, ih y hy, hx, hy, ← EReal.coe_sub, Ideal.exp2_coe, ← EReal.coe_mul,
      ← EReal.coe_add, Finset.sum_range_succ _ (n + 1), Finset.mul_sum]
    congr 2
    refine Finset.sum_congr rfl fun k _ => ?_
    rw [Finset.mul_sum]
    refine Finset.sum_congr rfl fun l _ => ?_
    rw [← mul_assoc]
    congr 1
    show (2 : ℝ) ^ (y - x) * (2 : ℝ) ^ (sc qr kr k r l - y) = (2 : ℝ) ^ (sc qr kr k r l - x)
    rw [← Real.rpow_add (by norm_num)]
    congr 1
    ring

/-- An entry of a tile: the values weighted by `2 ^ logit`, over the sum of the weights. -/
theorem tile_real (S : Fin 8448 → ℝ) (W : Fin 8448 → ℝ) (r : Fin 1024) (d : Fin 128)
    (hq : ∀ r c, q (ix2 r c) = ((qr r c : ℝ) : EReal)) (hk : ∀ n l c, K n (ix2 l c) = ((kr n l c : ℝ) : EReal))
    (hv : ∀ n l c, V n (ix2 l c) = ((vr n l c : ℝ) : EReal))
    (hS : ∀ (n : ℕ) (l : Fin 768) (hn : 768 * n + l.val < 8448), sc qr kr n r l = S ⟨768 * n + l.val, hn⟩)
    (hW : ∀ (n : ℕ) (l : Fin 768) (hn : 768 * n + l.val < 8448), vr n l ⟨d.val, by omega⟩ = W ⟨768 * n + l.val, hn⟩)
    (h1 : ∀ (n : ℕ) (l : Fin 768), vr n l ⟨128 + d.val, by omega⟩ = 1) :
    tile q K V (ix2 r d) = (((∑ j, (2 : ℝ) ^ S j * W j) / ∑ j, (2 : ℝ) ^ S j : ℝ) : EReal) := by
  obtain ⟨x, hx⟩ := mm_real hq hk r 10
  have hp : ∀ s : ℝ, Real.rpow 2 (s - x) = (2 : ℝ) ^ s * (2 : ℝ) ^ (-x) := fun s => by
    show (2 : ℝ) ^ (s - x) = _
    rw [sub_eq_add_neg, Real.rpow_add (by norm_num)]
  rw [tile_apply, aa_real hq hk hv r _ 10 x hx, aa_real hq hk hv r _ 10 x hx,
    Consts.sum_chunks (fun j => (2 : ℝ) ^ S j * W j * (2 : ℝ) ^ (-x)) _ (fun n l hn => by
      rw [hp, hS n l hn, hW n l hn]; ring),
    Consts.sum_chunks (fun j => (2 : ℝ) ^ S j * (2 : ℝ) ^ (-x)) _ (fun n l hn => by
      rw [hp, hS n l hn, h1 n l]; ring), ← Finset.sum_mul, ← Finset.sum_mul]
  have h2 : (0 : ℝ) < (2 : ℝ) ^ (-x) := Real.rpow_pos_of_pos (by norm_num) _
  have h3 : (0 : ℝ) < ∑ j, (2 : ℝ) ^ S j := Finset.sum_pos (fun j _ => Real.rpow_pos_of_pos (by norm_num) _) ⟨0, Finset.mem_univ _⟩
  generalize (∑ j, (2 : ℝ) ^ S j * W j) = a at *
  generalize (∑ j, (2 : ℝ) ^ S j) = b at *
  generalize (2 : ℝ) ^ (-x) = e at *
  rw [Ideal.div_coe (mul_pos h3 h2).ne', ← EReal.coe_mul]
  refine congrArg _ ?_
  field_simp

end Cert.Attn
-- ==== Proof.RefEntries.lean ====
module

public import proofs.«01_k».proof.Proof.Gen.ReferenceIdeal.Run
public import proofs.«01_k».proof.Proof.Consts

@[expose] public section

set_option maxRecDepth 16384

noncomputable section

/-! # The attention reference at an entry -/

namespace Cert.AttnRef

open Cert.ReferenceIdeal Cert.ReferenceIdeal.Gen Cert.ReferenceIdeal.Value Idealize.ShloMosaic Idealize.ShloMosaic.TcCoe

/-- The keys: each head's own, then the shared rotary ones. -/
def keys (KV : FVec Ideal S8448x4096 .bf16) (KR : FVec Ideal S8448x128 .bf16) : FVec Ideal S8448x16x256 .f32 :=
  concatenate S8448x16x256 2 [⟨S8448x16x128, (extractStridedSlice S8448x16x128 ![0, 0, 0] (shapeCast _ (extf .f32 KV bitsLt_bf16_f32) shapeCasts_S8448x4096_S8448x16x256) slices_S8448x16x256_S8448x16x128_0_0_0)⟩, ⟨S8448x16x128, (broadcastInDim S8448x16x128 ![0, 1, 2] bcast_S8448x1x128_S8448x16x128_0_1_2 (broadcastInDim S8448x1x128 ![0, 2] bcast_S8448x128_S8448x1x128_0_2 (extf .f32 KR bitsLt_bf16_f32)))⟩] concatenates_S8448x16x128_S8448x16x128_S8448x16x256_d2

/-- The values of every head. -/
def vals (KV : FVec Ideal S8448x4096 .bf16) : FVec Ideal S8448x16x128 .f32 :=
  extractStridedSlice S8448x16x128 ![0, 0, 128] (shapeCast _ (extf .f32 KV bitsLt_bf16_f32) shapeCasts_S8448x4096_S8448x16x256) slices_S8448x16x256_S8448x16x128_0_0_128

/-- The queries of every head. -/
def qrys (Q : FVec Ideal S8192x4096 .bf16) : FVec Ideal S8192x16x256 .f32 :=
  shapeCast _ (extf .f32 Q bitsLt_bf16_f32) shapeCasts_S8192x4096_S8192x16x256

/-- The logits: `q · k`, times ln 2. -/
def logits (q : FVec Ideal S8192x16x256 .f32) (k : FVec Ideal S8448x16x256 .f32) : FVec Ideal S16x8192x8448 .f32 :=
  mulf (Host.dotGeneral dot_S8192x16x256_S8448x16x256_S16x8192x8448_2_2_0_0_1_1 none q k) (broadcastInDim S16x8192x8448 ![] bcast_S_S16x8192x8448 (Host.log (constant S_ .f32 0x40000000#32)))

/-- The largest logit of each query of each head. -/
def top (s : FVec Ideal S16x8192x8448 .f32) : FVec Ideal S16x8192 .f32 :=
  maximumf (broadcastInDim S16x8192 ![] bcast_S_S16x8192 (constant S_ .f32 0xFF800000#32)) (Host.reduce FloatOps.maximumf s (constant S_ .f32 0xFF800000#32) reducesTo_S16x8192x8448_S16x8192_d2 h_S_)

/-- The unnormalised weights. -/
def weights (s : FVec Ideal S16x8192x8448 .f32) (t : FVec Ideal S16x8192 .f32) : FVec Ideal S16x8192x8448 .f32 :=
  Host.exp (subf s (broadcastInDim S16x8192x8448 ![0, 1, 2] bcast_S16x8192x1_S16x8192x8448_0_1_2 (broadcastInDim S16x8192x1 ![0, 1] bcast_S16x8192_S16x8192x1_0_1 t)))

/-- The softmax: the weights over their sum. -/
def probs (w : FVec Ideal S16x8192x8448 .f32) : FVec Ideal S16x8192x8448 .f32 :=
  Host.divf w (broadcastInDim S16x8192x8448 ![0, 1, 2] bcast_S16x8192x1_S16x8192x8448_0_1_2 (broadcastInDim S16x8192x1 ![0, 1] bcast_S16x8192_S16x8192x1_0_1 (Host.reduceAdd w (constant S_ .f32 0x00000000#32) reducesTo_S16x8192x8448_S16x8192_d2 h_S_)))

/-- The weighted values, the heads side by side. -/
def outs (v : FVec Ideal S8448x16x128 .f32) (p : FVec Ideal S16x8192x8448 .f32) : FVec Ideal S8192x2048 .bf16 :=
  truncf .bf16 (shapeCast _ (transpose S8192x16x128 [2, 0, 1] (Host.dotGeneral dot_S8448x16x128_S16x8192x8448_S16x128x8192_0_2_2_1_1_0 none v p) transposes_S16x128x8192_S8192x16x128_2_0_1) shapeCasts_S8192x16x128_S8192x2048) bitsLt_bf16_f32

/-- The reference's result by its stages. -/
theorem res_eq (m : (ℓ : Loc nD τ sig) → Buf (Elt Ideal) ℓ) (c : Dev nD) :
    res_out0 m c = outs (vals (m ((c.tc : Thread nD τ).loc main_arg1)))
      (let s := logits (qrys (m ((c.tc : Thread nD τ).loc main_arg0))) (keys (m ((c.tc : Thread nD τ).loc main_arg1)) (m ((c.tc : Thread nD τ).loc main_arg2)))
       probs (weights s (top s))) := rfl

theorem keys_apply (KV : FVec Ideal S8448x4096 .bf16) (KR : FVec Ideal S8448x128 .bf16) (j : Fin 8448) (h : Fin 16) (c : Fin 256) :
    keys KV KR (ix3 j h c) = if hc : c.val < 128 then KV (ix2 j (⟨256 * h.val + c.val, by omega⟩ : Fin 4096)) else KR (ix2 j (⟨c.val - 128, by omega⟩ : Fin 128)) := by
  unfold keys
  pointwise
  refine dite_congr rfl (fun hc => ?_) fun _ => rfl
  exact congrArg (fun n => KV (ix2 j n)) (Fin.ext (by show h.val * 256 + c.val = 256 * h.val + c.val; omega))

theorem vals_apply (KV : FVec Ideal S8448x4096 .bf16) (j : Fin 8448) (h : Fin 16) (d : Fin 128) :
    vals KV (ix3 j h d) = KV (ix2 j (⟨256 * h.val + 128 + d.val, by omega⟩ : Fin 4096)) := by
  unfold vals
  pointwise
  exact congrArg (fun n => KV (ix2 j n)) (Fin.ext (by show h.val * 256 + (128 + d.val) = 256 * h.val + 128 + d.val; omega))

theorem qrys_apply (Q : FVec Ideal S8192x4096 .bf16) (i : Fin 8192) (h : Fin 16) (c : Fin 256) :
    qrys Q (ix3 i h c) = Q (ix2 i (⟨256 * h.val + c.val, by omega⟩ : Fin 4096)) := by
  unfold qrys
  pointwise
  exact congrArg (fun n => Q (ix2 i n)) (Fin.ext (by show h.val * 256 + c.val = 256 * h.val + c.val; omega))

theorem logits_apply (q : FVec Ideal S8192x16x256 .f32) (k : FVec Ideal S8448x16x256 .f32) (h : Fin 16) (i : Fin 8192) (j : Fin 8448) :
    logits q k (ix3 h i j) = (∑ c : Fin 256, q (ix3 i h c) * k (ix3 j h c)) * Ideal.log ((2 : ℝ) : EReal) := by
  unfold logits
  pointwise
  rw [Consts.two]

theorem weights_apply (s : FVec Ideal S16x8192x8448 .f32) (t : FVec Ideal S16x8192 .f32) (h : Fin 16) (i : Fin 8192) (j : Fin 8448) :
    weights s t (ix3 h i j) = Ideal.exp (s (ix3 h i j) - t (ix2 h i)) := by
  unfold weights
  pointwise

theorem probs_apply (w : FVec Ideal S16x8192x8448 .f32) (h : Fin 16) (i : Fin 8192) (j : Fin 8448) :
    probs w (ix3 h i j) = Ideal.div (w (ix3 h i j)) (∑ j : Fin 8448, w (ix3 h i j)) := by
  unfold probs
  pointwise

theorem outs_apply (v : FVec Ideal S8448x16x128 .f32) (p : FVec Ideal S16x8192x8448 .f32) (i : Fin 8192) (e : Fin 2048) :
    outs v p (ix2 i e) = ∑ j : Fin 8448, v (ix3 j (⟨e.val / 128, by omega⟩ : Fin 16) (⟨e.val % 128, by omega⟩ : Fin 128)) * p (ix3 (⟨e.val / 128, by omega⟩ : Fin 16) i j) := by
  unfold outs
  pointwise

end Cert.AttnRef
-- ==== Proof.RefTop.lean ====
module

public import proofs.«01_k».proof.Proof.Gen.ReferenceIdeal.Run
public import proofs.«01_k».proof.Proof.RefEntries

@[expose] public section

set_option maxRecDepth 16384

noncomputable section

/-! # The reference's largest logits at an entry -/

namespace Cert.AttnRef

open Cert.ReferenceIdeal Cert.ReferenceIdeal.Gen Cert.ReferenceIdeal.Value Idealize.ShloMosaic Idealize.ShloMosaic.TcCoe

/-- A maximum over the last of three axes, at an entry. -/
theorem reduce_max {n0 n1 n2 : ℕ} {u : Shape} (x : (⟨3, ![n0, n1, n2]⟩ : Shape).Idx → EReal) (c : u.Idx → EReal)
    (h : (⟨3, ![n0, n1, n2]⟩ : Shape).ReducesTo [2] (⟨2, ![n0, n1]⟩ : Shape)) (hu : 0 < u.numel) (a : Fin n0) (b : Fin n1) :
    Host.reduce (FloatOps.maximumf (F := Ideal) (φ := .f32)) x c h hu (ix2 a b)
      = Finset.univ.fold max (c (Shape.Idx.first hu)) fun k : Fin n2 => x (ix3 a b k) := by
  rw [Host.reduce_eq_fold, Shape.ReducesTo.fold_fiber_r3_a2]
  rfl

/-- The largest logit found by the reference, before the lower bound of minus infinity. -/
theorem top_reduce (s : FVec Ideal S16x8192x8448 .f32) (c : FVec Ideal S_ .f32) (h : Fin 16) (i : Fin 8192) :
    Host.reduce (FloatOps.maximumf (F := Ideal) (φ := .f32)) s c reducesTo_S16x8192x8448_S16x8192_d2 h_S_ (ix2 h i)
      = Finset.univ.fold max (c (Shape.Idx.first h_S_)) fun j : Fin 8448 => s (ix3 h i j) :=
  reduce_max s c reducesTo_S16x8192x8448_S16x8192_d2 h_S_ h i

theorem max_entry (a b : FVec Ideal S16x8192 .f32) (j : S16x8192.Idx) : maximumf a b j = max (a j) (b j) := rfl

theorem lo_entry (j : S16x8192.Idx) :
    (broadcastInDim S16x8192 ![] bcast_S_S16x8192 (constant (F := Ideal) S_ .f32 0xFF800000#32)) j = (⊥ : EReal) :=
  Consts.negInf

theorem init_entry (j : S_.Idx) : constant (F := Ideal) S_ .f32 0xFF800000#32 j = (⊥ : EReal) := Consts.negInf

/-- The largest logit of a query. -/
theorem top_apply (s : FVec Ideal S16x8192x8448 .f32) (h : Fin 16) (i : Fin 8192) :
    top s (ix2 h i) = max ⊥ (Finset.univ.fold max ⊥ fun j : Fin 8448 => s (ix3 h i j)) := by
  unfold top
  rw [max_entry, top_reduce, lo_entry, init_entry]

end Cert.AttnRef
-- ==== Proof.Equation.lean ====
module

public import proofs.«01_k».proof.Proof.Blocks
public import proofs.«01_k».proof.Proof.Tile
public import proofs.«01_k».proof.Proof.RefTop

@[expose] public section

set_option maxRecDepth 16384

noncomputable section

/-! # The two sides of the attention claim are one function of the argument arrays -/

namespace Cert.Attn

open Cert.KernelIdeal Cert.KernelIdeal.Gen Idealize.ShloMosaic Idealize.ShloMosaic.TcCoe

variable {Q : FVec Ideal S8192x4096 .bf16} {KV : FVec Ideal S8448x4096 .bf16} {KR : FVec Ideal S8448x128 .bf16}
variable {qr : Fin 8192 → Fin 4096 → ℝ} {kv : Fin 8448 → Fin 4096 → ℝ} {kr : Fin 8448 → Fin 128 → ℝ}

/-- Column `c` of key `j` of head `h`: the head's own key, then the shared rotary one. -/
def key (kv : Fin 8448 → Fin 4096 → ℝ) (kr : Fin 8448 → Fin 128 → ℝ) (h : Fin 16) (j : Fin 8448) (c : Fin 256) : ℝ :=
  if hc : c.val < 128 then kv j ⟨256 * h.val + c.val, by omega⟩ else kr j ⟨c.val - 128, by omega⟩

/-- The logit of query `i` against key `j` in head `h`. -/
def score (qr : Fin 8192 → Fin 4096 → ℝ) (kv : Fin 8448 → Fin 4096 → ℝ) (kr : Fin 8448 → Fin 128 → ℝ) (h : Fin 16) (i : Fin 8192)
    (j : Fin 8448) : ℝ :=
  ∑ c : Fin 256, qr i ⟨256 * h.val + c.val, by omega⟩ * key kv kr h j c

/-- Attention: the values weighted by `2 ^ score`, over the sum of the weights. -/
def att (qr : Fin 8192 → Fin 4096 → ℝ) (kv : Fin 8448 → Fin 4096 → ℝ) (kr : Fin 8448 → Fin 128 → ℝ) (h : Fin 16) (i : Fin 8192)
    (d : Fin 128) : ℝ :=
  (∑ j, (2 : ℝ) ^ score qr kv kr h i j * kv j ⟨256 * h.val + 128 + d.val, by omega⟩) / ∑ j, (2 : ℝ) ^ score qr kv kr h i j

/-- The reference's entry is attention. -/
theorem ref_real (hq : ∀ i n, Q (ix2 i n) = ((qr i n : ℝ) : EReal)) (hkv : ∀ j n, KV (ix2 j n) = ((kv j n : ℝ) : EReal))
    (hkr : ∀ j n, KR (ix2 j n) = ((kr j n : ℝ) : EReal)) (i : Fin 8192) (e : Fin 2048) :
    AttnRef.outs (AttnRef.vals KV) (AttnRef.probs (AttnRef.weights (AttnRef.logits (AttnRef.qrys Q) (AttnRef.keys KV KR))
        (AttnRef.top (AttnRef.logits (AttnRef.qrys Q) (AttnRef.keys KV KR))))) (ix2 i e)
      = ((att qr kv kr ⟨e.val / 128, by omega⟩ i ⟨e.val % 128, by omega⟩ : ℝ) : EReal) := by
  generalize hh : (⟨e.val / 128, by omega⟩ : Fin 16) = h
  generalize hd : (⟨e.val % 128, by omega⟩ : Fin 128) = d
  have hkey : ∀ j c, AttnRef.keys KV KR (ix3 j h c) = ((key kv kr h j c : ℝ) : EReal) := fun j c => by
    rw [AttnRef.keys_apply]
    unfold key
    split
    · rw [hkv]
    · rw [hkr]
  have hlog : Ideal.log ((2 : ℝ) : EReal) = ((Real.log 2 : ℝ) : EReal) := by
    rw [Ideal.log_coe, if_neg (by norm_num)]
  have hs : ∀ j, AttnRef.logits (AttnRef.qrys Q) (AttnRef.keys KV KR) (ix3 h i j) = ((score qr kv kr h i j * Real.log 2 : ℝ) : EReal) := fun j => by
    rw [AttnRef.logits_apply, hlog]
    simp only [AttnRef.qrys_apply, hq, hkey, ← EReal.coe_mul, Consts.coe_sum]
    rfl
  obtain ⟨x, hx⟩ := Consts.fold_max_real fun j : Fin 8448 => score qr kv kr h i j * Real.log 2
  have ht : AttnRef.top (AttnRef.logits (AttnRef.qrys Q) (AttnRef.keys KV KR)) (ix2 h i) = (x : EReal) := by
    rw [AttnRef.top_apply]
    simp only [hs]
    rw [hx, max_bot_left]
  have hw : ∀ j, AttnRef.weights (AttnRef.logits (AttnRef.qrys Q) (AttnRef.keys KV KR))
      (AttnRef.top (AttnRef.logits (AttnRef.qrys Q) (AttnRef.keys KV KR))) (ix3 h i j)
        = (((2 : ℝ) ^ score qr kv kr h i j * Real.exp (-x) : ℝ) : EReal) := fun j => by
    rw [AttnRef.weights_apply, hs, ht, ← EReal.coe_sub, Ideal.exp_coe, sub_eq_add_neg, Real.exp_add,
      Real.rpow_def_of_pos (by norm_num), mul_comm (Real.log 2)]
  have hb : (0 : ℝ) < ∑ j, (2 : ℝ) ^ score qr kv kr h i j :=
    Finset.sum_pos (fun j _ => Real.rpow_pos_of_pos (by norm_num) _) ⟨0, Finset.mem_univ _⟩
  have hp : ∀ j, AttnRef.probs (AttnRef.weights (AttnRef.logits (AttnRef.qrys Q) (AttnRef.keys KV KR))
      (AttnRef.top (AttnRef.logits (AttnRef.qrys Q) (AttnRef.keys KV KR)))) (ix3 h i j)
        = (((2 : ℝ) ^ score qr kv kr h i j / ∑ j, (2 : ℝ) ^ score qr kv kr h i j : ℝ) : EReal) := fun j => by
    rw [AttnRef.probs_apply]
    simp only [hw, Consts.coe_sum]
    rw [← Finset.sum_mul]
    have he := Real.exp_pos (-x)
    generalize Real.exp (-x) = y at *
    generalize (∑ j, (2 : ℝ) ^ score qr kv kr h i j) = b at *
    generalize (2 : ℝ) ^ score qr kv kr h i j = a at *
    rw [Ideal.div_coe (mul_pos hb he).ne', ← EReal.coe_mul]
    refine congrArg _ ?_
    field_simp
  rw [AttnRef.outs_apply, hh, hd]
  simp only [hp, AttnRef.vals_apply, hkv, ← EReal.coe_mul, Consts.coe_sum]
  refine congrArg _ ?_
  unfold att
  rw [Finset.sum_div]
  exact Finset.sum_congr rfl fun j _ => by ring

/-- The kernel's tile at an entry is attention. -/
theorem ker_real (hq : ∀ i n, Q (ix2 i n) = ((qr i n : ℝ) : EReal)) (hkv : ∀ j n, KV (ix2 j n) = ((kv j n : ℝ) : EReal))
    (hkr : ∀ j n, KR (ix2 j n) = ((kr j n : ℝ) : EReal)) (h : Fin 16) (i : Fin 8192) (d : Fin 128) :
    tile (F := Ideal) (qT Q h.val (i.val / 1024)) (chunk (kcat (kvT KV (2 * h.val)) KR)) (chunk (kcat (kvT KV (2 * h.val + 1)) ones))
      (ix2 (⟨i.val % 1024, Nat.mod_lt _ (by norm_num)⟩ : Fin 1024) d) = ((att qr kv kr h i d : ℝ) : EReal) := by
  refine tile_real (fun j => score qr kv kr h i j) (fun j => kv j ⟨256 * h.val + 128 + d.val, by omega⟩) _ d
    (qr := fun r c => qr ⟨(1024 * (i.val / 1024) + r.val) % 8192, Nat.mod_lt _ (by norm_num)⟩ ⟨(256 * h.val + c.val) % 4096, Nat.mod_lt _ (by norm_num)⟩)
    (kr := fun n l c => key kv kr h ⟨(768 * n + l.val) % 8448, Nat.mod_lt _ (by norm_num)⟩ c)
    (vr := fun n l c => if hc : c.val < 128 then kv ⟨(768 * n + l.val) % 8448, Nat.mod_lt _ (by norm_num)⟩ ⟨256 * h.val + 128 + c.val, by omega⟩ else 1)
    ?_ ?_ ?_ ?_ ?_ ?_
  · intro r c
    exact hq _ _
  · intro n l c
    show kcat (F := Ideal) (kvT (F := Ideal) KV (2 * h.val)) KR (ix2 (⟨(768 * n + l.val) % 8448, _⟩ : Fin 8448) c) = _
    unfold key
    by_cases hc : c.val < 128
    · rw [dif_pos hc]
      refine (dif_pos hc).trans ((hkv _ _).trans (congrArg (fun n => ((kv _ n : ℝ) : EReal)) (Fin.ext ?_)))
      show (128 * (2 * h.val) + c.val) % 4096 = 256 * h.val + c.val
      omega
    · rw [dif_neg hc]
      exact (dif_neg hc).trans (hkr _ _)
  · intro n l c
    show kcat (F := Ideal) (kvT (F := Ideal) KV (2 * h.val + 1)) (ones (F := Ideal)) (ix2 (⟨(768 * n + l.val) % 8448, _⟩ : Fin 8448) c) = _
    by_cases hc : c.val < 128
    · rw [dif_pos hc]
      refine (dif_pos hc).trans ((hkv _ _).trans (congrArg (fun n => ((kv _ n : ℝ) : EReal)) (Fin.ext ?_)))
      show (128 * (2 * h.val + 1) + c.val) % 4096 = 256 * h.val + 128 + c.val
      omega
    · rw [dif_neg hc]
      exact (dif_neg hc).trans Consts.one16
  · intro n l hn
    unfold sc score
    refine Finset.sum_congr rfl fun c _ => ?_
    have e1 : (⟨(1024 * (i.val / 1024) + i.val % 1024) % 8192, Nat.mod_lt _ (by norm_num)⟩ : Fin 8192) = i := Fin.ext (by show (1024 * (i.val / 1024) + i.val % 1024) % 8192 = i.val; omega)
    have e2 : (⟨(256 * h.val + c.val) % 4096, Nat.mod_lt _ (by norm_num)⟩ : Fin 4096) = ⟨256 * h.val + c.val, by omega⟩ := Fin.ext (by show (256 * h.val + c.val) % 4096 = 256 * h.val + c.val; omega)
    have e3 : (⟨(768 * n + l.val) % 8448, Nat.mod_lt _ (by norm_num)⟩ : Fin 8448) = ⟨768 * n + l.val, hn⟩ := Fin.ext (Nat.mod_eq_of_lt hn)
    simp only [e1, e2, e3]
  · intro n l hn
    have e3 : (⟨(768 * n + l.val) % 8448, Nat.mod_lt _ (by norm_num)⟩ : Fin 8448) = ⟨768 * n + l.val, hn⟩ := Fin.ext (Nat.mod_eq_of_lt hn)
    rw [dif_pos d.isLt, e3]
  · intro n l
    exact dif_neg (by show ¬ (128 + d.val < 128); omega)

/-- On finite arrays the kernel's result array is the reference's. -/
theorem value_eq (m : (ℓ : Loc nD τ sig) → Buf (Elt Ideal) ℓ) (c : Dev nD)
    (hQ : ∀ j, ∃ r : ℝ, (m ((c : Thread nD τ).loc main_arg0) : FVec Ideal S8192x4096 .bf16) j = ((r : ℝ) : EReal))
    (hKV : ∀ j, ∃ r : ℝ, (m ((c : Thread nD τ).loc main_arg1) : FVec Ideal S8448x4096 .bf16) j = ((r : ℝ) : EReal))
    (hKR : ∀ j, ∃ r : ℝ, (m ((c : Thread nD τ).loc main_arg2) : FVec Ideal S8448x128 .bf16) j = ((r : ℝ) : EReal)) :
    AttnRef.outs (AttnRef.vals (m ((c : Thread nD τ).loc main_arg1)))
      (AttnRef.probs (AttnRef.weights (AttnRef.logits (AttnRef.qrys (m ((c : Thread nD τ).loc main_arg0)))
          (AttnRef.keys (m ((c : Thread nD τ).loc main_arg1)) (m ((c : Thread nD τ).loc main_arg2))))
        (AttnRef.top (AttnRef.logits (AttnRef.qrys (m ((c : Thread nD τ).loc main_arg0)))
          (AttnRef.keys (m ((c : Thread nD τ).loc main_arg1)) (m ((c : Thread nD τ).loc main_arg2)))))))
      = Value.G4 m c := by
  choose qr hq using hQ
  choose kv hkv using hKV
  choose kr hkr using hKR
  funext x
  have hx : x = ix2 (x 0) (x 1) := by funext a; fin_cases a <;> rfl
  have h1 : (x 1).val < 2048 := (x 1).isLt
  rw [G_eq, hx]
  refine (ref_real (qr := fun i n => qr (ix2 i n)) (kv := fun j n => kv (ix2 j n)) (kr := fun j n => kr (ix2 j n))
    (fun i n => hq _) (fun j n => hkv _) (fun j n => hkr _) (x 0) (x 1)).trans ?_
  exact (ker_real (fun i n => hq _) (fun j n => hkv _) (fun j n => hkr _) ⟨(x 1).val / 128, by omega⟩ (x 0) ⟨(x 1).val % 128, by omega⟩).symm

end Cert.Attn
-- ==== Proof.EvenInBlocks.lean ====
module

public import proofs.«01_k».proof.Proof.Gen.EvenInIdeal.Value
public import proofs.«01_k».proof.Proof.Consts
public import Idealize.ShloMosaic.Lib.Pointwise
public import Idealize.ShloMosaic.Lib.Pipeline.ValueKit

@[expose] public section

set_option maxRecDepth 16384

noncomputable section

/-! # The even layers' input projection: its result array as one product of its two operands -/

namespace Cert.EvenInCall

open Cert.EvenInIdeal Cert.EvenInIdeal.Gen Cert.EvenInIdeal.Value Idealize.ShloMosaic Idealize.ShloMosaic.TcCoe Idealize.SL.Sem

/-- What the body stores: the product of its two blocks. -/
def blockProd (a : FVec Ideal S704x4096 .bf16) (b : FVec Ideal S4096x768 .bf16) : FVec Ideal S704x768 .f32 :=
  matmul dot_S704x4096_S4096x768_S704x768_1_0_0_1_n_n none a b (constant S704x768 .f32 0x00000000#32)

theorem hz : (![0, 0] : Fin 2 → Nat) = fun _ => 0 := funext fun a => by fin_cases a <;> rfl

/-- The body leaves the product of its blocks. -/
theorem out_eq (c : Dev nD) (i : grid0.Coords) (a3 : Memref sig .tc .vmem S704x4096 .bf16) (h3 : a3.IsWhole)
    (a4 : Memref sig .tc .vmem S4096x768 .bf16) (h4 : a4.IsWhole) (a5 : Memref sig .tc .vmem S704x768 .f32) (h5 : a5.IsWhole)
    (a6 : Memref sig .tc .vmem S8x128 .f32) (h6 : a6.IsWhole) (x0 : Vec Ideal S704x4096 .bf16) (x1 : Vec Ideal S4096x768 .bf16) :
    out0_A_2 c i a3 h3 a4 h4 a5 h5 a6 h6 x0 x1 = blockProd x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [k0_pay1, View.readAt_eq_ld, h3.read_unread, h4.read_unread,
    View.ld_unit_zero (S := S704x4096) hz, View.ld_unit_zero (S := S4096x768) hz, shapeCast_self]
  rfl

/-- An entry of the product of two blocks. -/
theorem blockProd_apply (a : FVec Ideal S704x4096 .bf16) (b : FVec Ideal S4096x768 .bf16) (r : Fin 704) (s : Fin 768) :
    blockProd a b (ix2 r s) = ∑ k : Fin 4096, a (ix2 r k) * b (ix2 k s) := by
  unfold blockProd
  pointwise

/-- The product of the two whole arrays. -/
def prod (A : FVec Ideal S8448x4096 .bf16) (B : FVec Ideal S4096x13056 .bf16) : FVec Ideal S8448x13056 .f32 := fun i =>
  ∑ k : Fin 4096, A (ix2 (⟨(i 0).val, (i 0).isLt⟩ : Fin 8448) k) * B (ix2 k (⟨(i 1).val, (i 1).isLt⟩ : Fin 13056))

/-- The index maps: point `t` is row block `t / 17`, column block `t % 17`. -/
theorem idx : ∀ t : Fin cfg0.N, win0_0.index t = ![t.val / 17, 0] ∧ win0_1.index t = ![0, t.val % 17]
    ∧ win0_2.index t = ![t.val / 17, t.val % 17] ∧ win0_2.flush t = true :=
  (by decide +kernel : ∀ t : Fin grid0.N, win0_0.index t = ![t.val / 17, 0] ∧ win0_1.index t = ![0, t.val % 17]
    ∧ win0_2.index t = ![t.val / 17, t.val % 17] ∧ win0_2.flush t = true)

theorem lt_N (t : Fin cfg0.N) : t.val < 204 := lt_of_lt_of_eq t.isLt N_0

/-- Row block `i` of the left operand. -/
def rowsOf (A : FVec Ideal S8448x4096 .bf16) (i : ℕ) : FVec Ideal S704x4096 .bf16 := fun y =>
  A (ix2 (⟨(704 * i + (y 0).val) % 8448, Nat.mod_lt _ (by norm_num)⟩ : Fin 8448) (y 1))

/-- Column block `j` of the right operand. -/
def colsOf (B : FVec Ideal S4096x13056 .bf16) (j : ℕ) : FVec Ideal S4096x768 .bf16 := fun y =>
  B (ix2 (y 0) (⟨(768 * j + (y 1).val) % 13056, Nat.mod_lt _ (by norm_num)⟩ : Fin 13056))

variable (m : (ℓ : Loc nD τ sig) → Buf (Elt Ideal) ℓ)

theorem iblk0_eq (c : Dev nD) (t : Fin cfg0.N) : iblk m c 0 t = rowsOf (V m c main_arg0) (t.val / 17) := by
  funext y
  have := lt_N t
  unfold rowsOf
  blk_ext [iblk, idx t]

theorem iblk1_eq (c : Dev nD) (t : Fin cfg0.N) : iblk m c 1 t = colsOf (V m c main_v12) (t.val % 17) := by
  funext y
  have := lt_N t
  unfold colsOf
  blk_ext [iblk, idx t]

/-- What point `t` writes back is its block of the product of the whole arrays. -/
theorem flushed_eq (c : Dev nD) (t : Fin cfg0.N) :
    (dats m 0 c).flushed 2 t = ((cfg0.win 2).blk t).view.read (Elt Ideal) (prod (V m c main_arg0) (V m c main_v12)) := by
  rw [flushed2_A, out_eq, iblk0_eq, iblk1_eq]
  have ht := lt_N t
  have hidx := (idx t).2.2.1
  funext y
  have hy0 : (y 0).val < 704 := (y 0).isLt
  have hy1 : (y 1).val < 768 := (y 1).isLt
  have hb0 : (((cfg0.win 2).blk t).view.emb y 0).val = win0_2.index t (0 : Fin 2) * 704 + 1 * (y 0).val := rfl
  have hb1 : (((cfg0.win 2).blk t).view.emb y 1).val = win0_2.index t (1 : Fin 2) * 768 + 1 * (y 1).val := rfl
  rw [hidx] at hb0 hb1
  have hb0 : (((cfg0.win 2).blk t).view.emb y 0).val = t.val / 17 * 704 + 1 * (y 0).val := hb0
  have hb1 : (((cfg0.win 2).blk t).view.emb y 1).val = t.val % 17 * 768 + 1 * (y 1).val := hb1
  have e : (cfg0.win 2).xinj (grid0.coords t) y = ix2 (⟨(y 0).val, hy0⟩ : Fin 704) (⟨(y 1).val, hy1⟩ : Fin 768) := by
    funext a; fin_cases a <;> rfl
  show blockProd _ _ ((cfg0.win 2).xinj (grid0.coords t) y) = prod _ _ (((cfg0.win 2).blk t).view.emb y)
  rw [e, blockProd_apply]
  unfold prod rowsOf colsOf
  refine Finset.sum_congr rfl fun k _ => congrArg₂ (· * ·) ?_ ?_
  · refine congrArg (fun r => V m c main_arg0 (ix2 r k)) (Fin.ext ?_)
    show (704 * (t.val / 17) + (y 0).val) % 8448 = (((cfg0.win 2).blk t).view.emb y 0).val
    rw [hb0]; omega
  · refine congrArg (fun r => V m c main_v12 (ix2 k r)) (Fin.ext ?_)
    show (768 * (t.val % 17) + (y 1).val) % 13056 = (((cfg0.win 2).blk t).view.emb y 1).val
    rw [hb1]; omega

theorem mem_blk (t : Fin cfg0.N) (i : S8448x13056.Idx) :
    i ∈ ((cfg0.win 2).blk t).view.set ↔ ∀ a : Fin 2, win0_2.index t a * S704x768.size a ≤ (i a).val ∧ (i a).val < win0_2.index t a * S704x768.size a + S704x768.size a := by
  show i ∈ ((View.whole main_v13).slice (win0_2.rect t)).set ↔ _
  rw [View.set_slice_whole, Rect.mem_set_unit]
  exact Iff.rfl

/-- The result array after the run: the product of the two operands. -/
theorem final (c : Dev nD) : (dats m 0 c).arrAt 2 cfg0.N = prod (V m c main_arg0) (V m c main_v12) :=
  (dats m 0 c).arrAt_eq_of_cover 2 _ (fun t _ => flushed_eq m c t) fun i => by
    have h0 : (i 0).val < 8448 := (i 0).isLt
    have h1 : (i 1).val < 13056 := (i 1).isLt
    have hN : 17 * ((i 0).val / 704) + (i 1).val / 768 < cfg0.N := by
      rw [show cfg0.N = 204 from N_0]; omega
    obtain ⟨-, -, hi, hf⟩ := idx ⟨17 * ((i 0).val / 704) + (i 1).val / 768, hN⟩
    refine ⟨⟨_, hN⟩, hf, (mem_blk _ _).2 fun a => ?_⟩
    rw [hi]
    fin_cases a
    · show (17 * ((i 0).val / 704) + (i 1).val / 768) / 17 * 704 ≤ (i 0).val ∧ (i 0).val < (17 * ((i 0).val / 704) + (i 1).val / 768) / 17 * 704 + 704
      omega
    · show (17 * ((i 0).val / 704) + (i 1).val / 768) % 17 * 768 ≤ (i 1).val ∧ (i 1).val < (17 * ((i 0).val / 704) + (i 1).val / 768) % 17 * 768 + 768
      omega

end Cert.EvenInCall
-- ==== Proof.EvenInWeights.lean ====
module

public import proofs.«01_k».proof.Proof.Gen.EvenInIdeal.Value
public import proofs.«01_k».proof.Proof.Gen.EvenInReferenceIdeal.Run
public import proofs.«01_k».proof.Proof.Consts
public import Idealize.ShloMosaic.Lib.Pointwise

@[expose] public section

set_option maxRecDepth 16384

noncomputable section

/-! # The even layers' input projection: the columns of the call's weights and of the reference's result -/

namespace Cert.EvenInCall

/-- The padding value is zero. -/
theorem sitofp_zero : Idealize.ShloMosaic.FloatOps.sitofp (F := Idealize.ShloMosaic.Ideal) .f32 0#32 = (0 : EReal) := by
  show ((((0#32 : BitVec 32).toInt : ℝ)) : EReal) = 0
  simp

section Weights

open Cert.EvenInIdeal Cert.EvenInIdeal.Gen Idealize.ShloMosaic Idealize.ShloMosaic.TcCoe Idealize.SL.Sem

/-- The call's weights, arranged before the call: the six full parts, the four narrow ones padded with zero columns, the last. -/
def weights (w : FVec Ideal S4096x12928 .f32) : FVec Ideal S4096x13056 .bf16 :=
  truncf .bf16 (concatenate S4096x13056 1 [⟨S4096x6144, extractStridedSlice S4096x6144 ![0, 0] w slices_S4096x12928_S4096x6144_0_0⟩,
    ⟨S4096x6144, extractStridedSlice S4096x6144 ![0, 6784] w slices_S4096x12928_S4096x6144_0_6784⟩,
    ⟨S4096x128, pad S4096x128 ![0, 0] ![0, 32] ![0, 0] (extractStridedSlice S4096x96 ![0, 6144] w slices_S4096x12928_S4096x96_0_6144) (sitofp .f32 (constantI S_ 32 0#32)) pads_S4096x96_S4096x128_000_0320 h_S_⟩,
    ⟨S4096x128, pad S4096x128 ![0, 0] ![0, 32] ![0, 0] (extractStridedSlice S4096x96 ![0, 6240] w slices_S4096x12928_S4096x96_0_6240) (sitofp .f32 (constantI S_ 32 0#32)) pads_S4096x96_S4096x128_000_0320 h_S_⟩,
    ⟨S4096x128, pad S4096x128 ![0, 0] ![0, 32] ![0, 0] (extractStridedSlice S4096x96 ![0, 6336] w slices_S4096x12928_S4096x96_0_6336) (sitofp .f32 (constantI S_ 32 0#32)) pads_S4096x96_S4096x128_000_0320 h_S_⟩,
    ⟨S4096x128, pad S4096x128 ![0, 0] ![0, 32] ![0, 0] (extractStridedSlice S4096x96 ![0, 6432] w slices_S4096x12928_S4096x96_0_6432) (sitofp .f32 (constantI S_ 32 0#32)) pads_S4096x96_S4096x128_000_0320 h_S_⟩,
    ⟨S4096x256, extractStridedSlice S4096x256 ![0, 6528] w slices_S4096x12928_S4096x256_0_6528⟩]
    concatenates_S4096x6144_S4096x6144_S4096x128_S4096x128_S4096x128_S4096x128_S4096x256_S4096x13056_d1) bitsLt_bf16_f32

/-- The call's second operand is the arranged weights. -/
theorem V_weights (m : (ℓ : Loc nD τ sig) → Buf (Elt Ideal) ℓ) (c : Dev nD) :
    V m c main_v12 = weights (m ((c : Thread nD τ).loc main_arg1)) := by
  unfold weights
  simp only [V, hostOps0, hostOps0_1, hostOps0_2, hostOps0_3, hostOps0_4, hostOps0_5, hostOps0_6, hostOps0_7, hostOps0_8,
    List.flatten_cons, List.flatten_nil, List.append_nil, List.cons_append, List.nil_append, StableHlo.TRef.binary, StableHlo.TRef.unary,
    StableHlo.TRef.toBuf, StableHlo.TRef.ofBuf, cast_eq]
  after_results <;> rfl

/-- Column `n` of the arranged weights, as a column of the given ones or zero. -/
def column (w : FVec Ideal S4096x12928 .f32) (k : Fin 4096) (n : ℕ) : EReal :=
  if n < 6144 then w (ix2 k (⟨n % 12928, Nat.mod_lt _ (by norm_num)⟩ : Fin 12928))
  else if n < 12288 then w (ix2 k (⟨(n + 640) % 12928, Nat.mod_lt _ (by norm_num)⟩ : Fin 12928))
  else if n < 12800 then
    if (n - 12288) % 128 < 96 then w (ix2 k (⟨(6144 + 96 * ((n - 12288) / 128) + (n - 12288) % 128) % 12928, Nat.mod_lt _ (by norm_num)⟩ : Fin 12928)) else 0
  else w (ix2 k (⟨(n - 12800 + 6528) % 12928, Nat.mod_lt _ (by norm_num)⟩ : Fin 12928))

set_option maxHeartbeats 2000000 in
theorem weights_apply (w : FVec Ideal S4096x12928 .f32) (k : Fin 4096) (n : Fin 13056) :
    weights w (ix2 k n) = column w k n.val := by
  unfold weights column
  pointwise
  have hn : n.val < 13056 := n.isLt
  by_cases h0 : n.val < 6144
  · refine (dif_pos (show n.val < 6144 by omega)).trans ?_
    refine Eq.trans ?_ (if_pos (show n.val < 6144 by omega)).symm
    exact congrArg (fun q => w (ix2 k q)) (Fin.ext (show n.val = n.val % 12928 by omega))
  refine (dif_neg (show ¬n.val < 6144 by omega)).trans ?_
  by_cases h1 : n.val < 12288
  · refine (dif_pos (show n.val - 6144 < 6144 by omega)).trans ?_
    refine Eq.trans ?_ (if_neg (show ¬n.val < 6144 by omega)).symm
    refine Eq.trans ?_ (if_pos (show n.val < 12288 by omega)).symm
    exact congrArg (fun q => w (ix2 k q)) (Fin.ext (show 6784 + (n.val - 6144) = (n.val + 640) % 12928 by omega))
  refine (dif_neg (show ¬n.val - 6144 < 6144 by omega)).trans ?_
  by_cases h2 : n.val < 12416
  · refine (dif_pos (show n.val - 6144 - 6144 < 128 by omega)).trans ?_
    refine Eq.trans ?_ (if_neg (show ¬n.val < 6144 by omega)).symm
    refine Eq.trans ?_ (if_neg (show ¬n.val < 12288 by omega)).symm
    refine Eq.trans ?_ (if_pos (show n.val < 12800 by omega)).symm
    by_cases hp : n.val - 6144 - 6144 < 96
    · refine (dif_pos hp).trans (Eq.trans ?_ (if_pos (show (n.val - 12288) % 128 < 96 by omega)).symm)
      exact congrArg (fun q => w (ix2 k q)) (Fin.ext (show 6144 + (n.val - 6144 - 6144) = (6144 + 96 * ((n.val - 12288) / 128) + (n.val - 12288) % 128) % 12928 by omega))
    · exact (dif_neg hp).trans (sitofp_zero.trans (if_neg (show ¬(n.val - 12288) % 128 < 96 by omega)).symm)
  refine (dif_neg (show ¬n.val - 6144 - 6144 < 128 by omega)).trans ?_
  by_cases h3 : n.val < 12544
  · refine (dif_pos (show n.val - 6144 - 6144 - 128 < 128 by omega)).trans ?_
    refine Eq.trans ?_ (if_neg (show ¬n.val < 6144 by omega)).symm
    refine Eq.trans ?_ (if_neg (show ¬n.val < 12288 by omega)).symm
    refine Eq.trans ?_ (if_pos (show n.val < 12800 by omega)).symm
    by_cases hp : n.val - 6144 - 6144 - 128 < 96
    · refine (dif_pos hp).trans (Eq.trans ?_ (if_pos (show (n.val - 12288) % 128 < 96 by omega)).symm)
      exact congrArg (fun q => w (ix2 k q)) (Fin.ext (show 6240 + (n.val - 6144 - 6144 - 128) = (6144 + 96 * ((n.val - 12288) / 128) + (n.val - 12288) % 128) % 12928 by omega))
    · exact (dif_neg hp).trans (sitofp_zero.trans (if_neg (show ¬(n.val - 12288) % 128 < 96 by omega)).symm)
  refine (dif_neg (show ¬n.val - 6144 - 6144 - 128 < 128 by omega)).trans ?_
  by_cases h4 : n.val < 12672
  · refine (dif_pos (show n.val - 6144 - 6144 - 128 - 128 < 128 by omega)).trans ?_
    refine Eq.trans ?_ (if_neg (show ¬n.val < 6144 by omega)).symm
    refine Eq.trans ?_ (if_neg (show ¬n.val < 12288 by omega)).symm
    refine Eq.trans ?_ (if_pos (show n.val < 12800 by omega)).symm
    by_cases hp : n.val - 6144 - 6144 - 128 - 128 < 96
    · refine (dif_pos hp).trans (Eq.trans ?_ (if_pos (show (n.val - 12288) % 128 < 96 by omega)).symm)
      exact congrArg (fun q => w (ix2 k q)) (Fin.ext (show 6336 + (n.val - 6144 - 6144 - 128 - 128) = (6144 + 96 * ((n.val - 12288) / 128) + (n.val - 12288) % 128) % 12928 by omega))
    · exact (dif_neg hp).trans (sitofp_zero.trans (if_neg (show ¬(n.val - 12288) % 128 < 96 by omega)).symm)
  refine (dif_neg (show ¬n.val - 6144 - 6144 - 128 - 128 < 128 by omega)).trans ?_
  by_cases h5 : n.val < 12800
  · refine (dif_pos (show n.val - 6144 - 6144 - 128 - 128 - 128 < 128 by omega)).trans ?_
    refine Eq.trans ?_ (if_neg (show ¬n.val < 6144 by omega)).symm
    refine Eq.trans ?_ (if_neg (show ¬n.val < 12288 by omega)).symm
    refine Eq.trans ?_ (if_pos (show n.val < 12800 by omega)).symm
    by_cases hp : n.val - 6144 - 6144 - 128 - 128 - 128 < 96
    · refine (dif_pos hp).trans (Eq.trans ?_ (if_pos (show (n.val - 12288) % 128 < 96 by omega)).symm)
      exact congrArg (fun q => w (ix2 k q)) (Fin.ext (show 6432 + (n.val - 6144 - 6144 - 128 - 128 - 128) = (6144 + 96 * ((n.val - 12288) / 128) + (n.val - 12288) % 128) % 12928 by omega))
    · exact (dif_neg hp).trans (sitofp_zero.trans (if_neg (show ¬(n.val - 12288) % 128 < 96 by omega)).symm)
  refine (dif_neg (show ¬n.val - 6144 - 6144 - 128 - 128 - 128 < 128 by omega)).trans ?_
  refine Eq.trans ?_ (if_neg (show ¬n.val < 6144 by omega)).symm
  refine Eq.trans ?_ (if_neg (show ¬n.val < 12288 by omega)).symm
  refine Eq.trans ?_ (if_neg (show ¬n.val < 12800 by omega)).symm
  exact congrArg (fun q => w (ix2 k q)) (Fin.ext (show 6528 + (n.val - 6144 - 6144 - 128 - 128 - 128 - 128) = (n.val - 12800 + 6528) % 12928 by omega))

end Weights

section Reference

open Cert.EvenInReferenceIdeal Cert.EvenInReferenceIdeal.Gen Cert.EvenInReferenceIdeal.Value Idealize.ShloMosaic Idealize.ShloMosaic.TcCoe

/-- The product of the reference's two arguments. -/
def full (h : FVec Ideal S8448x4096 .bf16) (w : FVec Ideal S4096x12928 .f32) : FVec Ideal S8448x12928 .f32 :=
  Host.dotGeneral dot_S8448x4096_S4096x12928_S8448x12928_1_0_0_1_n_n none (extf .f32 h bitsLt_bf16_f32) w

theorem full_apply (h : FVec Ideal S8448x4096 .bf16) (w : FVec Ideal S4096x12928 .f32) (i : Fin 8448) (n : Fin 12928) :
    full h w (ix2 i n) = ∑ k : Fin 4096, h (ix2 i k) * w (ix2 k n) := by
  unfold full
  pointwise

/-- The parts of the product in the order of the call's array. -/
def parts (z : FVec Ideal S8448x12928 .f32) : FVec Ideal S8448x13056 .f32 :=
  concatenate S8448x13056 1 [⟨S8448x2048, extractStridedSlice S8448x2048 ![0, 0] z slices_S8448x12928_S8448x2048_0_0⟩,
    ⟨S8448x2048, extractStridedSlice S8448x2048 ![0, 2048] z slices_S8448x12928_S8448x2048_0_2048⟩,
    ⟨S8448x2048, extractStridedSlice S8448x2048 ![0, 4096] z slices_S8448x12928_S8448x2048_0_4096⟩,
    ⟨S8448x2048, extractStridedSlice S8448x2048 ![0, 6784] z slices_S8448x12928_S8448x2048_0_6784⟩,
    ⟨S8448x2048, extractStridedSlice S8448x2048 ![0, 8832] z slices_S8448x12928_S8448x2048_0_8832⟩,
    ⟨S8448x2048, extractStridedSlice S8448x2048 ![0, 10880] z slices_S8448x12928_S8448x2048_0_10880⟩,
    ⟨S8448x128, pad S8448x128 ![0, 0] ![0, 32] ![0, 0] (extractStridedSlice S8448x96 ![0, 6144] z slices_S8448x12928_S8448x96_0_6144) (sitofp .f32 (constantI S_ 32 0#32)) pads_S8448x96_S8448x128_000_0320 h_S_⟩,
    ⟨S8448x128, pad S8448x128 ![0, 0] ![0, 32] ![0, 0] (extractStridedSlice S8448x96 ![0, 6240] z slices_S8448x12928_S8448x96_0_6240) (sitofp .f32 (constantI S_ 32 0#32)) pads_S8448x96_S8448x128_000_0320 h_S_⟩,
    ⟨S8448x128, pad S8448x128 ![0, 0] ![0, 32] ![0, 0] (extractStridedSlice S8448x96 ![0, 6336] z slices_S8448x12928_S8448x96_0_6336) (sitofp .f32 (constantI S_ 32 0#32)) pads_S8448x96_S8448x128_000_0320 h_S_⟩,
    ⟨S8448x128, pad S8448x128 ![0, 0] ![0, 32] ![0, 0] (extractStridedSlice S8448x96 ![0, 6432] z slices_S8448x12928_S8448x96_0_6432) (sitofp .f32 (constantI S_ 32 0#32)) pads_S8448x96_S8448x128_000_0320 h_S_⟩,
    ⟨S8448x256, extractStridedSlice S8448x256 ![0, 6528] z slices_S8448x12928_S8448x256_0_6528⟩]
    concatenates_S8448x2048_S8448x2048_S8448x2048_S8448x2048_S8448x2048_S8448x2048_S8448x128_S8448x128_S8448x128_S8448x128_S8448x256_S8448x13056_d1

theorem res_eq (m : (ℓ : Loc nD τ sig) → Buf (Elt Ideal) ℓ) (c : Dev nD) :
    res_out0 m c = parts (full (m ((c.tc : Thread nD τ).loc main_arg0)) (m ((c.tc : Thread nD τ).loc main_arg1))) := rfl

/-- Entry `(i, n)` of the rearranged product, as an entry of the product or zero. -/
def part (z : FVec Ideal S8448x12928 .f32) (i : Fin 8448) (n : ℕ) : EReal :=
  if n < 6144 then z (ix2 i (⟨n % 12928, Nat.mod_lt _ (by norm_num)⟩ : Fin 12928))
  else if n < 12288 then z (ix2 i (⟨(n + 640) % 12928, Nat.mod_lt _ (by norm_num)⟩ : Fin 12928))
  else if n < 12800 then
    if (n - 12288) % 128 < 96 then z (ix2 i (⟨(6144 + 96 * ((n - 12288) / 128) + (n - 12288) % 128) % 12928, Nat.mod_lt _ (by norm_num)⟩ : Fin 12928)) else 0
  else z (ix2 i (⟨(n - 12800 + 6528) % 12928, Nat.mod_lt _ (by norm_num)⟩ : Fin 12928))

set_option maxHeartbeats 2000000 in
theorem parts_apply (z : FVec Ideal S8448x12928 .f32) (i : Fin 8448) (n : Fin 13056) :
    parts z (ix2 i n) = part z i n.val := by
  unfold parts part
  pointwise
  have hn : n.val < 13056 := n.isLt
  by_cases h0 : n.val < 2048
  · refine (dif_pos (show n.val < 2048 by omega)).trans ?_
    refine Eq.trans ?_ (if_pos (show n.val < 6144 by omega)).symm
    exact congrArg (fun q => z (ix2 i q)) (Fin.ext (show n.val = n.val % 12928 by omega))
  refine (dif_neg (show ¬n.val < 2048 by omega)).trans ?_
  by_cases h1 : n.val < 4096
  · refine (dif_pos (show n.val - 2048 < 2048 by omega)).trans ?_
    refine Eq.trans ?_ (if_pos (show n.val < 6144 by omega)).symm
    exact congrArg (fun q => z (ix2 i q)) (Fin.ext (show 2048 + (n.val - 2048) = n.val % 12928 by omega))
  refine (dif_neg (show ¬n.val - 2048 < 2048 by omega)).trans ?_
  by_cases h2 : n.val < 6144
  · refine (dif_pos (show n.val - 2048 - 2048 < 2048 by omega)).trans ?_
    refine Eq.trans ?_ (if_pos (show n.val < 6144 by omega)).symm
    exact congrArg (fun q => z (ix2 i q)) (Fin.ext (show 4096 + (n.val - 2048 - 2048) = n.val % 12928 by omega))
  refine (dif_neg (show ¬n.val - 2048 - 2048 < 2048 by omega)).trans ?_
  by_cases h3 : n.val < 8192
  · refine (dif_pos (show n.val - 2048 - 2048 - 2048 < 2048 by omega)).trans ?_
    refine Eq.trans ?_ (if_neg (show ¬n.val < 6144 by omega)).symm
    refine Eq.trans ?_ (if_pos (show n.val < 12288 by omega)).symm
    exact congrArg (fun q => z (ix2 i q)) (Fin.ext (show 6784 + (n.val - 2048 - 2048 - 2048) = (n.val + 640) % 12928 by omega))
  refine (dif_neg (show ¬n.val - 2048 - 2048 - 2048 < 2048 by omega)).trans ?_
  by_cases h4 : n.val < 10240
  · refine (dif_pos (show n.val - 2048 - 2048 - 2048 - 2048 < 2048 by omega)).trans ?_
    refine Eq.trans ?_ (if_neg (show ¬n.val < 6144 by omega)).symm
    refine Eq.trans ?_ (if_pos (show n.val < 12288 by omega)).symm
    exact congrArg (fun q => z (ix2 i q)) (Fin.ext (show 8832 + (n.val - 2048 - 2048 - 2048 - 2048) = (n.val + 640) % 12928 by omega))
  refine (dif_neg (show ¬n.val - 2048 - 2048 - 2048 - 2048 < 2048 by omega)).trans ?_
  by_cases h5 : n.val < 12288
  · refine (dif_pos (show n.val - 2048 - 2048 - 2048 - 2048 - 2048 < 2048 by omega)).trans ?_
    refine Eq.trans ?_ (if_neg (show ¬n.val < 6144 by omega)).symm
    refine Eq.trans ?_ (if_pos (show n.val < 12288 by omega)).symm
    exact congrArg (fun q => z (ix2 i q)) (Fin.ext (show 10880 + (n.val - 2048 - 2048 - 2048 - 2048 - 2048) = (n.val + 640) % 12928 by omega))
  refine (dif_neg (show ¬n.val - 2048 - 2048 - 2048 - 2048 - 2048 < 2048 by omega)).trans ?_
  by_cases h6 : n.val < 12416
  · refine (dif_pos (show n.val - 2048 - 2048 - 2048 - 2048 - 2048 - 2048 < 128 by omega)).trans ?_
    refine Eq.trans ?_ (if_neg (show ¬n.val < 6144 by omega)).symm
    refine Eq.trans ?_ (if_neg (show ¬n.val < 12288 by omega)).symm
    refine Eq.trans ?_ (if_pos (show n.val < 12800 by omega)).symm
    by_cases hp : n.val - 2048 - 2048 - 2048 - 2048 - 2048 - 2048 < 96
    · refine (dif_pos hp).trans (Eq.trans ?_ (if_pos (show (n.val - 12288) % 128 < 96 by omega)).symm)
      exact congrArg (fun q => z (ix2 i q)) (Fin.ext (show 6144 + (n.val - 2048 - 2048 - 2048 - 2048 - 2048 - 2048) = (6144 + 96 * ((n.val - 12288) / 128) + (n.val - 12288) % 128) % 12928 by omega))
    · exact (dif_neg hp).trans (sitofp_zero.trans (if_neg (show ¬(n.val - 12288) % 128 < 96 by omega)).symm)
  refine (dif_neg (show ¬n.val - 2048 - 2048 - 2048 - 2048 - 2048 - 2048 < 128 by omega)).trans ?_
  by_cases h7 : n.val < 12544
  · refine (dif_pos (show n.val - 2048 - 2048 - 2048 - 2048 - 2048 - 2048 - 128 < 128 by omega)).trans ?_
    refine Eq.trans ?_ (if_neg (show ¬n.val < 6144 by omega)).symm
    refine Eq.trans ?_ (if_neg (show ¬n.val < 12288 by omega)).symm
    refine Eq.trans ?_ (if_pos (show n.val < 12800 by omega)).symm
    by_cases hp : n.val - 2048 - 2048 - 2048 - 2048 - 2048 - 2048 - 128 < 96
    · refine (dif_pos hp).trans (Eq.trans ?_ (if_pos (show (n.val - 12288) % 128 < 96 by omega)).symm)
      exact congrArg (fun q => z (ix2 i q)) (Fin.ext (show 6240 + (n.val - 2048 - 2048 - 2048 - 2048 - 2048 - 2048 - 128) = (6144 + 96 * ((n.val - 12288) / 128) + (n.val - 12288) % 128) % 12928 by omega))
    · exact (dif_neg hp).trans (sitofp_zero.trans (if_neg (show ¬(n.val - 12288) % 128 < 96 by omega)).symm)
  refine (dif_neg (show ¬n.val - 2048 - 2048 - 2048 - 2048 - 2048 - 2048 - 128 < 128 by omega)).trans ?_
  by_cases h8 : n.val < 12672
  · refine (dif_pos (show n.val - 2048 - 2048 - 2048 - 2048 - 2048 - 2048 - 128 - 128 < 128 by omega)).trans ?_
    refine Eq.trans ?_ (if_neg (show ¬n.val < 6144 by omega)).symm
    refine Eq.trans ?_ (if_neg (show ¬n.val < 12288 by omega)).symm
    refine Eq.trans ?_ (if_pos (show n.val < 12800 by omega)).symm
    by_cases hp : n.val - 2048 - 2048 - 2048 - 2048 - 2048 - 2048 - 128 - 128 < 96
    · refine (dif_pos hp).trans (Eq.trans ?_ (if_pos (show (n.val - 12288) % 128 < 96 by omega)).symm)
      exact congrArg (fun q => z (ix2 i q)) (Fin.ext (show 6336 + (n.val - 2048 - 2048 - 2048 - 2048 - 2048 - 2048 - 128 - 128) = (6144 + 96 * ((n.val - 12288) / 128) + (n.val - 12288) % 128) % 12928 by omega))
    · exact (dif_neg hp).trans (sitofp_zero.trans (if_neg (show ¬(n.val - 12288) % 128 < 96 by omega)).symm)
  refine (dif_neg (show ¬n.val - 2048 - 2048 - 2048 - 2048 - 2048 - 2048 - 128 - 128 < 128 by omega)).trans ?_
  by_cases h9 : n.val < 12800
  · refine (dif_pos (show n.val - 2048 - 2048 - 2048 - 2048 - 2048 - 2048 - 128 - 128 - 128 < 128 by omega)).trans ?_
    refine Eq.trans ?_ (if_neg (show ¬n.val < 6144 by omega)).symm
    refine Eq.trans ?_ (if_neg (show ¬n.val < 12288 by omega)).symm
    refine Eq.trans ?_ (if_pos (show n.val < 12800 by omega)).symm
    by_cases hp : n.val - 2048 - 2048 - 2048 - 2048 - 2048 - 2048 - 128 - 128 - 128 < 96
    · refine (dif_pos hp).trans (Eq.trans ?_ (if_pos (show (n.val - 12288) % 128 < 96 by omega)).symm)
      exact congrArg (fun q => z (ix2 i q)) (Fin.ext (show 6432 + (n.val - 2048 - 2048 - 2048 - 2048 - 2048 - 2048 - 128 - 128 - 128) = (6144 + 96 * ((n.val - 12288) / 128) + (n.val - 12288) % 128) % 12928 by omega))
    · exact (dif_neg hp).trans (sitofp_zero.trans (if_neg (show ¬(n.val - 12288) % 128 < 96 by omega)).symm)
  refine (dif_neg (show ¬n.val - 2048 - 2048 - 2048 - 2048 - 2048 - 2048 - 128 - 128 - 128 < 128 by omega)).trans ?_
  refine Eq.trans ?_ (if_neg (show ¬n.val < 6144 by omega)).symm
  refine Eq.trans ?_ (if_neg (show ¬n.val < 12288 by omega)).symm
  refine Eq.trans ?_ (if_neg (show ¬n.val < 12800 by omega)).symm
  exact congrArg (fun q => z (ix2 i q)) (Fin.ext (show 6528 + (n.val - 2048 - 2048 - 2048 - 2048 - 2048 - 2048 - 128 - 128 - 128 - 128) = (n.val - 12800 + 6528) % 12928 by omega))

end Reference

end Cert.EvenInCall
-- ==== Proof.EvenInEquation.lean ====
module

public import proofs.«01_k».proof.Proof.EvenInBlocks
public import proofs.«01_k».proof.Proof.EvenInWeights

@[expose] public section

set_option maxRecDepth 16384

noncomputable section

/-! # The even layers' input projection: the two results agree -/

namespace Cert.EvenInCall

open Idealize.ShloMosaic Idealize.ShloMosaic.TcCoe

/-- The product with the arranged weights is the arranged product. -/
theorem prod_weights (h : FVec Ideal Cert.EvenInIdeal.S8448x4096 .bf16) (w : FVec Ideal Cert.EvenInIdeal.S4096x12928 .f32) :
    prod h (weights w) = parts (full h w) := by
  funext x
  have e : x = ix2 (⟨(x 0).val, (x 0).isLt⟩ : Fin 8448) (⟨(x 1).val, (x 1).isLt⟩ : Fin 13056) := by
    funext a; fin_cases a <;> rfl
  generalize hi : (⟨(x 0).val, (x 0).isLt⟩ : Fin 8448) = i at e
  generalize hn : (⟨(x 1).val, (x 1).isLt⟩ : Fin 13056) = n at e
  have hL : prod h (weights w) x = ∑ k : Fin 4096, h (ix2 i k) * column w k n.val := by
    unfold prod
    rw [hi, hn]
    exact Finset.sum_congr rfl fun k _ => by rw [weights_apply]
  have hR : parts (full h w) x = part (full h w) i n.val := by rw [e]; exact parts_apply _ _ _
  rw [hL, hR]
  unfold column part
  by_cases h1 : n.val < 6144
  · simp only [if_pos h1]
    exact (full_apply _ _ _ _).symm
  by_cases h2 : n.val < 12288
  · simp only [if_neg h1, if_pos h2]
    exact (full_apply _ _ _ _).symm
  by_cases h3 : n.val < 12800
  · by_cases h4 : (n.val - 12288) % 128 < 96
    · simp only [if_neg h1, if_neg h2, if_pos h3, if_pos h4]
      exact (full_apply _ _ _ _).symm
    · simp only [if_neg h1, if_neg h2, if_pos h3, if_neg h4, mul_zero, Finset.sum_const_zero]
  · simp only [if_neg h1, if_neg h2, if_neg h3]
    exact (full_apply _ _ _ _).symm

/-- The call's result array is the reference's. -/
theorem value_eq (m : (ℓ : Loc Cert.EvenInIdeal.nD Cert.EvenInIdeal.τ Cert.EvenInIdeal.sig) → Buf (Elt Ideal) ℓ)
    (c : Dev Cert.EvenInIdeal.nD) :
    (Cert.EvenInIdeal.Gen.dats m 0 c).arrAt 2 Cert.EvenInIdeal.cfg0.N
      = parts (full (m ((c.tc : Thread _ _).loc Cert.EvenInIdeal.main_arg0)) (m ((c.tc : Thread _ _).loc Cert.EvenInIdeal.main_arg1))) := by
  rw [final, Cert.EvenInIdeal.Gen.V_main_arg0, V_weights]
  exact prod_weights _ _

end Cert.EvenInCall
-- ==== Proof.EvenOutBlocks.lean ====
module

public import proofs.«01_k».proof.Proof.Gen.EvenOutIdeal.Value
public import proofs.«01_k».proof.Proof.Consts
public import Idealize.ShloMosaic.Lib.Pointwise
public import Idealize.ShloMosaic.Lib.Pipeline.ValueKit

@[expose] public section

set_option maxRecDepth 16384

noncomputable section

/-! # The even layers' output projection: its result array from its operands -/

namespace Cert.EvenOutCall

open Cert.EvenOutIdeal Cert.EvenOutIdeal.Gen Cert.EvenOutIdeal.Value Idealize.ShloMosaic Idealize.ShloMosaic.TcCoe Idealize.SL.Sem

theorem hz : (![0, 0] : Fin 2 → Nat) = fun _ => 0 := funext fun a => by fin_cases a <;> rfl

/-- Rows `o … o + 2047` of a weight block. -/
def half (w : FVec Ideal S4096x512 .bf16) (o : ℕ) : FVec Ideal S2048x512 .bf16 := fun y =>
  w (ix2 (⟨(o + (y 0).val) % 4096, Nat.mod_lt _ (by norm_num)⟩ : Fin 4096) (y 1))

/-- A load of 2048 rows of the weight block reads that half. -/
theorem ld_half (w : FVec Ideal S4096x512 .bf16) (o : ℕ) (ho : o ≤ 2048)
    (inb : ∀ a, (![o, 0] : Fin 2 → ℕ) a + S2048x512.size a ≤ S4096x512.size a) :
    View.ld (Val := Elt Ideal) (e' := .bf16) w (Rect.unit (s := S4096x512) ![o, 0] S2048x512.size inb) = half w o := by
  funext y
  have hy : (y 0).val < 2048 := (y 0).isLt
  unfold half
  show w _ = w _
  congr 1
  funext a
  fin_cases a
  · exact Fin.ext (show o + 1 * (y 0).val = (o + (y 0).val) % 4096 by omega)
  · exact Fin.ext (show 0 + 1 * (y 1).val = (y 1).val by omega)

/-- The body leaves its payload of its blocks, the weight block taken in two halves. -/
theorem out_eq (c : Dev nD) (i : grid0.Coords) (a3 : Memref sig .tc .vmem S1408x2048 .bf16) (h3 : a3.IsWhole)
    (a4 : Memref sig .tc .vmem S4096x512 .bf16) (h4 : a4.IsWhole) (a5 : Memref sig .tc .vmem S2x512 .f32) (h5 : a5.IsWhole)
    (a6 : Memref sig .tc .vmem S1408x512 .f32) (h6 : a6.IsWhole) (a7 : Memref sig .tc .vmem S1408x2048 .bf16) (h7 : a7.IsWhole)
    (a8 : Memref sig .tc .vmem S1408x512 .f32) (h8 : a8.IsWhole) (a9 : Memref sig .tc .vmem S8x128 .f32) (h9 : a9.IsWhole)
    (x0 : Vec Ideal S1408x2048 .bf16) (x1 : Vec Ideal S4096x512 .bf16) (x2 : Vec Ideal S2x512 .f32) (x3 : Vec Ideal S1408x512 .f32)
    (x4 : Vec Ideal S1408x2048 .bf16) :
    out0_A_5 c i a3 h3 a4 h4 a5 h5 a6 h6 a7 h7 a8 h8 a9 h9 x0 x1 x2 x3 x4
      = k0_pay1 i x0 (half x1 0) x4 (half x1 2048) x2 x3 := by
  unfold out0_A_5
  rw [View.read_writes_eq_canon _ _ _ (cover0_A_5 c i a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h3.read_unread, h4.read_unread, h5.read_unread, h6.read_unread, h7.read_unread,
    View.ld_unit_zero (S := S1408x2048) hz, View.ld_unit_zero (S := S2x512) hz, View.ld_unit_zero (S := S1408x512) hz]
  rw [ld_half x1 0 (by norm_num), ld_half x1 2048 (by norm_num)]

/-- The selecting bit: row `r` of block `i` lies before row 256. -/
theorem before (i r : ℕ) (hi : i < 6) (hr : r < 1408) :
    IntOp.cmpi .slt (IntOp.addi (Scalar.muli (BitVec.ofNat 32 i) 1408#32) (BitVec.ofNat 32 r)) 256#32
      = BitVec.ofBool (decide (1408 * i + r < 256)) := by
  have hx : IntOp.addi (Scalar.muli (BitVec.ofNat 32 i) 1408#32) (BitVec.ofNat 32 r) = BitVec.ofNat 32 (1408 * i + r) := by
    show BitVec.ofNat 32 i * 1408#32 + BitVec.ofNat 32 r = _
    refine BitVec.eq_of_toNat_eq ?_
    simp only [BitVec.toNat_add, BitVec.toNat_mul, BitVec.toNat_ofNat]
    omega
  rw [hx]
  show BitVec.ofBool (decide ((BitVec.ofNat 32 (1408 * i + r)).toInt < (256#32 : BitVec 32).toInt)) = _
  have h1 : (BitVec.ofNat 32 (1408 * i + r)).toInt = ((1408 * i + r : ℕ) : ℤ) := by
    rw [BitVec.toInt_eq_toNat_cond, BitVec.toNat_ofNat, Nat.mod_eq_of_lt (by omega), if_pos (by omega)]
  have h2 : (256#32 : BitVec 32).toInt = ((256 : ℕ) : ℤ) := by decide
  rw [h1, h2]
  exact congrArg BitVec.ofBool (decide_eq_decide.2 Nat.cast_lt)

/-- A selection by that bit. -/
theorem select_before (i r : ℕ) (hi : i < 6) (hr : r < 1408) (a b : EReal) :
    Scalar.select (IntOp.cmpi .slt (IntOp.addi (Scalar.muli (BitVec.ofNat 32 i) 1408#32) (BitVec.ofNat 32 r)) 256#32) a b
      = if 1408 * i + r < 256 then a else b := by
  rw [before i r hi hr]
  by_cases h : 1408 * i + r < 256
  · rw [if_pos h, decide_eq_true h]; rfl
  · rw [if_neg h, decide_eq_false h]; rfl

/-- An entry of what the body leaves. -/
theorem pay_apply (i : grid0.Coords) (v0 : FVec Ideal S1408x2048 .bf16) (v1 : FVec Ideal S2048x512 .bf16) (v4 : FVec Ideal S1408x2048 .bf16)
    (v5 : FVec Ideal S2048x512 .bf16) (v10 : FVec Ideal S2x512 .f32) (v12 : FVec Ideal S1408x512 .f32) (r : Fin 1408) (s : Fin 512) :
    k0_pay1 i v0 v1 v4 v5 v10 v12 (ix2 r s) = v12 (ix2 r s) + (if 1408 * (i 0).val + r.val < 256 then v10 (ix2 0 s) else v10 (ix2 1 s))
      * (∑ k : Fin 2048, v0 (ix2 r k) * v1 (ix2 k s) + ∑ k : Fin 2048, v4 (ix2 r k) * v5 (ix2 k s)) := by
  unfold k0_pay1
  dsimp only
  pointwise
  rw [select_before _ _ (i 0).isLt r.isLt]

/-- The result from whole operands: the residual plus the gated product of the two halves. -/
def result (A B : FVec Ideal S8448x2048 .bf16) (W : FVec Ideal S4096x4096 .bf16) (g : FVec Ideal S2x4096 .f32)
    (x : FVec Ideal S8448x4096 .f32) : FVec Ideal S8448x4096 .f32 := fun i =>
  x i + (if (i 0).val < 256 then g (ix2 0 (⟨(i 1).val, (i 1).isLt⟩ : Fin 4096)) else g (ix2 1 (⟨(i 1).val, (i 1).isLt⟩ : Fin 4096)))
    * (∑ k : Fin 2048, A (ix2 (⟨(i 0).val, (i 0).isLt⟩ : Fin 8448) k) * W (ix2 (⟨(0 + k.val) % 4096, Nat.mod_lt _ (by norm_num)⟩ : Fin 4096) (⟨(i 1).val, (i 1).isLt⟩ : Fin 4096))
      + ∑ k : Fin 2048, B (ix2 (⟨(i 0).val, (i 0).isLt⟩ : Fin 8448) k) * W (ix2 (⟨(2048 + k.val) % 4096, Nat.mod_lt _ (by norm_num)⟩ : Fin 4096) (⟨(i 1).val, (i 1).isLt⟩ : Fin 4096)))

/-- The index maps: point `t` is row block `t / 8`, column block `t % 8`. -/
theorem idx : ∀ t : Fin cfg0.N, win0_0.index t = ![t.val / 8, 0] ∧ win0_1.index t = ![0, t.val % 8] ∧ win0_2.index t = ![0, t.val % 8]
    ∧ win0_3.index t = ![t.val / 8, t.val % 8] ∧ win0_4.index t = ![t.val / 8, 0] ∧ win0_5.index t = ![t.val / 8, t.val % 8]
    ∧ win0_5.flush t = true ∧ (grid0.coords t 0).val = t.val / 8 :=
  (by decide +kernel : ∀ t : Fin grid0.N, win0_0.index t = ![t.val / 8, 0] ∧ win0_1.index t = ![0, t.val % 8] ∧ win0_2.index t = ![0, t.val % 8]
    ∧ win0_3.index t = ![t.val / 8, t.val % 8] ∧ win0_4.index t = ![t.val / 8, 0] ∧ win0_5.index t = ![t.val / 8, t.val % 8]
    ∧ win0_5.flush t = true ∧ (grid0.coords t 0).val = t.val / 8)

theorem lt_N (t : Fin cfg0.N) : t.val < 48 := lt_of_lt_of_eq t.isLt N_0

/-- Row block `i` of a left operand. -/
def rowsOf (A : FVec Ideal S8448x2048 .bf16) (i : ℕ) : FVec Ideal S1408x2048 .bf16 := fun y =>
  A (ix2 (⟨(1408 * i + (y 0).val) % 8448, Nat.mod_lt _ (by norm_num)⟩ : Fin 8448) (y 1))

/-- Column block `j` of the weights. -/
def colsOf (B : FVec Ideal S4096x4096 .bf16) (j : ℕ) : FVec Ideal S4096x512 .bf16 := fun y =>
  B (ix2 (y 0) (⟨(512 * j + (y 1).val) % 4096, Nat.mod_lt _ (by norm_num)⟩ : Fin 4096))

/-- Column block `j` of the gates. -/
def gatesOf (g : FVec Ideal S2x4096 .f32) (j : ℕ) : FVec Ideal S2x512 .f32 := fun y =>
  g (ix2 (y 0) (⟨(512 * j + (y 1).val) % 4096, Nat.mod_lt _ (by norm_num)⟩ : Fin 4096))

/-- Block `(i, j)` of the residual. -/
def blockOf (x : FVec Ideal S8448x4096 .f32) (i j : ℕ) : FVec Ideal S1408x512 .f32 := fun y =>
  x (ix2 (⟨(1408 * i + (y 0).val) % 8448, Nat.mod_lt _ (by norm_num)⟩ : Fin 8448)
    (⟨(512 * j + (y 1).val) % 4096, Nat.mod_lt _ (by norm_num)⟩ : Fin 4096))

variable (m : (ℓ : Loc nD τ sig) → Buf (Elt Ideal) ℓ)

theorem iblk0_eq (c : Dev nD) (t : Fin cfg0.N) : iblk m c 0 t = rowsOf (V m c main_arg0) (t.val / 8) := by
  funext y
  have := lt_N t
  unfold rowsOf
  blk_ext [iblk, idx t]

theorem iblk1_eq (c : Dev nD) (t : Fin cfg0.N) : iblk m c 1 t = colsOf (V m c main_v0) (t.val % 8) := by
  funext y
  have := lt_N t
  unfold colsOf
  blk_ext [iblk, idx t]

theorem iblk2_eq (c : Dev nD) (t : Fin cfg0.N) : iblk m c 2 t = gatesOf (V m c main_v2) (t.val % 8) := by
  funext y
  have := lt_N t
  unfold gatesOf
  blk_ext [iblk, idx t]

theorem iblk3_eq (c : Dev nD) (t : Fin cfg0.N) : iblk m c 3 t = blockOf (V m c main_arg4) (t.val / 8) (t.val % 8) := by
  funext y
  have := lt_N t
  unfold blockOf
  blk_ext [iblk, idx t]

theorem iblk4_eq (c : Dev nD) (t : Fin cfg0.N) : iblk m c 4 t = rowsOf (V m c main_arg1) (t.val / 8) := by
  funext y
  have := lt_N t
  unfold rowsOf
  blk_ext [iblk, idx t]

/-- What point `t` writes back is its block of the whole result. -/
theorem flushed_eq (c : Dev nD) (t : Fin cfg0.N) :
    (dats m 0 c).flushed 5 t = ((cfg0.win 5).blk t).view.read (Elt Ideal)
      (result (V m c main_arg0) (V m c main_arg1) (V m c main_v0) (V m c main_v2) (V m c main_arg4)) := by
  rw [flushed5_A, out_eq, iblk0_eq, iblk1_eq, iblk2_eq, iblk3_eq, iblk4_eq]
  have ht := lt_N t
  have hidx := (idx t).2.2.2.2.2.1
  have hc := (idx t).2.2.2.2.2.2.2
  funext y
  have hy0 : (y 0).val < 1408 := (y 0).isLt
  have hy1 : (y 1).val < 512 := (y 1).isLt
  have hb0 : (((cfg0.win 5).blk t).view.emb y 0).val = win0_5.index t (0 : Fin 2) * 1408 + 1 * (y 0).val := rfl
  have hb1 : (((cfg0.win 5).blk t).view.emb y 1).val = win0_5.index t (1 : Fin 2) * 512 + 1 * (y 1).val := rfl
  rw [hidx] at hb0 hb1
  have hb0 : (((cfg0.win 5).blk t).view.emb y 0).val = t.val / 8 * 1408 + 1 * (y 0).val := hb0
  have hb1 : (((cfg0.win 5).blk t).view.emb y 1).val = t.val % 8 * 512 + 1 * (y 1).val := hb1
  have e : (cfg0.win 5).xinj (grid0.coords t) y = ix2 (⟨(y 0).val, hy0⟩ : Fin 1408) (⟨(y 1).val, hy1⟩ : Fin 512) := by
    funext a; fin_cases a <;> rfl
  show k0_pay1 _ _ _ _ _ _ _ ((cfg0.win 5).xinj (grid0.coords t) y) = result _ _ _ _ _ (((cfg0.win 5).blk t).view.emb y)
  have er : (⟨(1408 * (t.val / 8) + (y 0).val) % 8448, Nat.mod_lt _ (by norm_num)⟩ : Fin 8448)
      = ⟨(((cfg0.win 5).blk t).view.emb y 0).val, (((cfg0.win 5).blk t).view.emb y 0).isLt⟩ :=
    Fin.ext (show (1408 * (t.val / 8) + (y 0).val) % 8448 = (((cfg0.win 5).blk t).view.emb y 0).val by rw [hb0]; omega)
  have es : (⟨(512 * (t.val % 8) + (y 1).val) % 4096, Nat.mod_lt _ (by norm_num)⟩ : Fin 4096)
      = ⟨(((cfg0.win 5).blk t).view.emb y 1).val, (((cfg0.win 5).blk t).view.emb y 1).isLt⟩ :=
    Fin.ext (show (512 * (t.val % 8) + (y 1).val) % 4096 = (((cfg0.win 5).blk t).view.emb y 1).val by rw [hb1]; omega)
  have ei : ((cfg0.win 5).blk t).view.emb y = ix2 (⟨(((cfg0.win 5).blk t).view.emb y 0).val, (((cfg0.win 5).blk t).view.emb y 0).isLt⟩ : Fin 8448)
      (⟨(((cfg0.win 5).blk t).view.emb y 1).val, (((cfg0.win 5).blk t).view.emb y 1).isLt⟩ : Fin 4096) := by
    funext a; fin_cases a <;> rfl
  rw [e, pay_apply, hc]
  unfold result rowsOf colsOf gatesOf blockOf half
  have hr : (1408 * (t.val / 8) + (y 0).val < 256) = ((((cfg0.win 5).blk t).view.emb y 0).val < 256) := by
    rw [hb0]; exact propext (by omega)
  refine congrArg₂ (· + ·) ?_ (congrArg₂ (· * ·) ?_ (congrArg₂ (· + ·) (Finset.sum_congr rfl fun k _ => ?_) (Finset.sum_congr rfl fun k _ => ?_)))
  · refine Eq.trans ?_ (congrArg (V m c main_arg4) ei).symm
    exact congrArg₂ (fun r s => V m c main_arg4 (ix2 r s)) er es
  · by_cases h : 1408 * (t.val / 8) + (y 0).val < 256
    · exact (if_pos h).trans ((congrArg (fun s => V m c main_v2 (ix2 0 s)) es).trans (if_pos (cast hr h)).symm)
    · exact (if_neg h).trans ((congrArg (fun s => V m c main_v2 (ix2 1 s)) es).trans (if_neg (fun h' => h (cast hr.symm h'))).symm)
  · exact congrArg₂ (· * ·) (congrArg (fun r => V m c main_arg0 (ix2 r k)) er) (congrArg (fun s => V m c main_v0 (ix2 _ s)) es)
  · exact congrArg₂ (· * ·) (congrArg (fun r => V m c main_arg1 (ix2 r k)) er) (congrArg (fun s => V m c main_v0 (ix2 _ s)) es)

theorem mem_blk (t : Fin cfg0.N) (i : S8448x4096.Idx) :
    i ∈ ((cfg0.win 5).blk t).view.set ↔ ∀ a : Fin 2, win0_5.index t a * S1408x512.size a ≤ (i a).val ∧ (i a).val < win0_5.index t a * S1408x512.size a + S1408x512.size a := by
  show i ∈ ((View.whole main_v3).slice (win0_5.rect t)).set ↔ _
  rw [View.set_slice_whole, Rect.mem_set_unit]
  exact Iff.rfl

/-- The result array after the run, from the operands. -/
theorem final (c : Dev nD) : (dats m 0 c).arrAt 5 cfg0.N
    = result (V m c main_arg0) (V m c main_arg1) (V m c main_v0) (V m c main_v2) (V m c main_arg4) :=
  (dats m 0 c).arrAt_eq_of_cover 5 _ (fun t _ => flushed_eq m c t) fun i => by
    have h0 : (i 0).val < 8448 := (i 0).isLt
    have h1 : (i 1).val < 4096 := (i 1).isLt
    have hN : 8 * ((i 0).val / 1408) + (i 1).val / 512 < cfg0.N := by
      rw [show cfg0.N = 48 from N_0]; omega
    have hx := idx ⟨8 * ((i 0).val / 1408) + (i 1).val / 512, hN⟩
    refine ⟨⟨_, hN⟩, hx.2.2.2.2.2.2.1, (mem_blk _ _).2 fun a => ?_⟩
    rw [hx.2.2.2.2.2.1]
    fin_cases a
    · show (8 * ((i 0).val / 1408) + (i 1).val / 512) / 8 * 1408 ≤ (i 0).val ∧ (i 0).val < (8 * ((i 0).val / 1408) + (i 1).val / 512) / 8 * 1408 + 1408
      omega
    · show (8 * ((i 0).val / 1408) + (i 1).val / 512) % 8 * 512 ≤ (i 1).val ∧ (i 1).val < (8 * ((i 0).val / 1408) + (i 1).val / 512) % 8 * 512 + 512
      omega

end Cert.EvenOutCall
-- ==== Proof.EvenOutEquation.lean ====
module

public import proofs.«01_k».proof.Proof.EvenOutBlocks
public import proofs.«01_k».proof.Proof.Gen.EvenOutReferenceIdeal.Run

@[expose] public section

set_option maxRecDepth 16384

noncomputable section

/-! # The even layers' output projection: the reference's result, and that the two agree -/

namespace Cert.EvenOutCall

section Operands

open Cert.EvenOutIdeal Cert.EvenOutIdeal.Gen Idealize.ShloMosaic Idealize.ShloMosaic.TcCoe Idealize.SL.Sem

/-- The gates, cut from the modulation before the call. -/
def gates (md : FVec Ideal S2x6x4096 .f32) : FVec Ideal S2x4096 .f32 :=
  shapeCast _ (extractStridedSlice S2x1x4096 ![0, 2, 0] md slices_S2x6x4096_S2x1x4096_0_2_0) shapeCasts_S2x1x4096_S2x4096

theorem gates_apply (md : FVec Ideal S2x6x4096 .f32) (a : Fin 2) (n : Fin 4096) : gates md (ix2 a n) = md (ix3 a 2 n) := by
  unfold gates
  pointwise

theorem V_gates (m : (ℓ : Loc nD τ sig) → Buf (Elt Ideal) ℓ) (c : Dev nD) :
    V m c main_v2 = gates (m ((c : Thread nD τ).loc main_arg3)) := by
  unfold gates
  simp only [V, hostOps0, List.flatten_cons, List.flatten_nil, List.append_nil, List.cons_append, List.nil_append]
  after_results <;> rfl

theorem V_out (m : (ℓ : Loc nD τ sig) → Buf (Elt Ideal) ℓ) (c : Dev nD) :
    V m c main_v0 = m ((c : Thread nD τ).loc main_arg2) := by
  simp only [V, hostOps0, List.flatten_cons, List.flatten_nil, List.append_nil, List.cons_append, List.nil_append]
  after_results <;> rfl

end Operands

section Reference

open Cert.EvenOutReferenceIdeal Cert.EvenOutReferenceIdeal.Gen Cert.EvenOutReferenceIdeal.Value Idealize.ShloMosaic Idealize.ShloMosaic.TcCoe Idealize.SL.Sem

/-- The reference's product: the two halves side by side times the weights. -/
def both (A B : FVec Ideal S8448x2048 .bf16) (w : FVec Ideal S4096x4096 .f32) : FVec Ideal S8448x4096 .f32 :=
  Host.dotGeneral dot_S8448x4096_S4096x4096_S8448x4096_1_0_0_1_n_n none
    (extf .f32 (concatenate S8448x4096 1 [⟨S8448x2048, A⟩, ⟨S8448x2048, B⟩] concatenates_S8448x2048_S8448x2048_S8448x4096_d1) bitsLt_bf16_f32) w

theorem both_apply (A B : FVec Ideal S8448x2048 .bf16) (w : FVec Ideal S4096x4096 .f32) (i : Fin 8448) (n : Fin 4096) :
    both A B w (ix2 i n) = ∑ k : Fin 2048, A (ix2 i k) * w (ix2 (⟨(0 + k.val) % 4096, Nat.mod_lt _ (by norm_num)⟩ : Fin 4096) n)
      + ∑ k : Fin 2048, B (ix2 i k) * w (ix2 (⟨(2048 + k.val) % 4096, Nat.mod_lt _ (by norm_num)⟩ : Fin 4096) n) := by
  unfold both
  pointwise
  refine congrArg₂ (· + ·) (Finset.sum_congr rfl fun k _ => ?_) (Finset.sum_congr rfl fun k _ => ?_)
  · have hk := k.isLt
    exact congrArg (fun q => A (ix2 i k) * w (ix2 q n)) (Fin.ext (show k.val = k.val % 4096 by omega))
  · have hk := k.isLt
    exact congrArg (fun q => B (ix2 i k) * w (ix2 q n)) (Fin.ext (show 2048 + k.val = (2048 + k.val) % 4096 by omega))

/-- The reference's result from the product: each row the residual plus its gate times the product's row. -/
def gated (P : FVec Ideal S8448x4096 .f32) (md : FVec Ideal S2x6x4096 .f32) (x : FVec Ideal S8448x4096 .f32) : FVec Ideal S8448x4096 .f32 :=
  concatenate S8448x4096 0 [⟨S256x4096, (addf (extractStridedSlice S256x4096 ![0, 0] x slices_S8448x4096_S256x4096_0_0) (mulf (broadcastInDim S256x4096 ![0, 1] bcast_S1x4096_S256x4096_0_1 (broadcastInDim S1x4096 ![1] bcast_S4096_S1x4096_1 (shapeCast _ (extractStridedSlice S1x1x4096 ![0, 2, 0] md slices_S2x6x4096_S1x1x4096_0_2_0) shapeCasts_S1x1x4096_S4096))) (extractStridedSlice S256x4096 ![0, 0] P slices_S8448x4096_S256x4096_0_0)))⟩, ⟨S8192x4096, (addf (extractStridedSlice S8192x4096 ![256, 0] x slices_S8448x4096_S8192x4096_256_0) (mulf (broadcastInDim S8192x4096 ![0, 1] bcast_S1x4096_S8192x4096_0_1 (broadcastInDim S1x4096 ![1] bcast_S4096_S1x4096_1 (shapeCast _ (extractStridedSlice S1x1x4096 ![1, 2, 0] md slices_S2x6x4096_S1x1x4096_1_2_0) shapeCasts_S1x1x4096_S4096))) (extractStridedSlice S8192x4096 ![256, 0] P slices_S8448x4096_S8192x4096_256_0)))⟩] concatenates_S256x4096_S8192x4096_S8448x4096_d0

theorem gated_apply (P : FVec Ideal S8448x4096 .f32) (md : FVec Ideal S2x6x4096 .f32) (x : FVec Ideal S8448x4096 .f32)
    (i : Fin 8448) (n : Fin 4096) :
    gated P md x (ix2 i n) = x (ix2 i n) + (if i.val < 256 then md (ix3 0 2 n) else md (ix3 1 2 n)) * P (ix2 i n) := by
  unfold gated
  pointwise
  by_cases h : i.val < 256
  · refine (dif_pos h).trans ?_
    rw [if_pos h]
  · refine (dif_neg h).trans ?_
    rw [if_neg h]
    refine congrArg₂ (· + ·) ?_ (congrArg₂ (· * ·) rfl ?_)
    · exact congrArg (fun q => x (ix2 q n)) (Fin.ext (show 256 + (i.val - 256) = i.val by omega))
    · exact congrArg (fun q => P (ix2 q n)) (Fin.ext (show 256 + (i.val - 256) = i.val by omega))

end Reference

open Idealize.ShloMosaic Idealize.ShloMosaic.TcCoe

/-- The call's result array is the reference's. -/
theorem value_eq (m : (ℓ : Loc Cert.EvenOutIdeal.nD Cert.EvenOutIdeal.τ Cert.EvenOutIdeal.sig) → Buf (Elt Ideal) ℓ)
    (c : Dev Cert.EvenOutIdeal.nD) :
    (Cert.EvenOutIdeal.Gen.dats m 0 c).arrAt 5 Cert.EvenOutIdeal.cfg0.N
      = gated (both (m ((c.tc : Thread _ _).loc Cert.EvenOutIdeal.main_arg0)) (m ((c.tc : Thread _ _).loc Cert.EvenOutIdeal.main_arg1))
          (m ((c.tc : Thread _ _).loc Cert.EvenOutIdeal.main_arg2))) (m ((c.tc : Thread _ _).loc Cert.EvenOutIdeal.main_arg3))
          (m ((c.tc : Thread _ _).loc Cert.EvenOutIdeal.main_arg4)) := by
  rw [final, Cert.EvenOutIdeal.Gen.V_main_arg0, Cert.EvenOutIdeal.Gen.V_main_arg1, V_gates, V_out, Cert.EvenOutIdeal.Gen.V_main_arg4]
  funext x
  have e : x = ix2 (⟨(x 0).val, (x 0).isLt⟩ : Fin 8448) (⟨(x 1).val, (x 1).isLt⟩ : Fin 4096) := by
    funext a; fin_cases a <;> rfl
  refine Eq.trans ?_ (congrArg (gated _ _ _) e).symm
  rw [gated_apply, both_apply]
  unfold result
  rw [gates_apply, gates_apply]
  exact congrArg₂ (· + ·) (congrArg _ e) rfl

end Cert.EvenOutCall
-- ==== Proof.OddInBlocks.lean ====
module

public import proofs.«01_k».proof.Proof.Gen.OddInIdeal.Value
public import proofs.«01_k».proof.Proof.Consts
public import Idealize.ShloMosaic.Lib.Pointwise
public import Idealize.ShloMosaic.Lib.Pipeline.ValueKit

@[expose] public section

set_option maxRecDepth 16384

noncomputable section

/-! # The odd layers' input projection: its result array as one product of its two operands -/

namespace Cert.OddInCall

open Cert.OddInIdeal Cert.OddInIdeal.Gen Cert.OddInIdeal.Value Idealize.ShloMosaic Idealize.ShloMosaic.TcCoe Idealize.SL.Sem

/-- What the body stores: the product of its two blocks. -/
def blockProd (a : FVec Ideal S704x4096 .bf16) (b : FVec Ideal S4096x768 .bf16) : FVec Ideal S704x768 .f32 :=
  matmul dot_S704x4096_S4096x768_S704x768_1_0_0_1_n_n none a b (constant S704x768 .f32 0x00000000#32)

theorem hz : (![0, 0] : Fin 2 → Nat) = fun _ => 0 := funext fun a => by fin_cases a <;> rfl

/-- The body leaves the product of its blocks. -/
theorem out_eq (c : Dev nD) (i : grid0.Coords) (a3 : Memref sig .tc .vmem S704x4096 .bf16) (h3 : a3.IsWhole)
    (a4 : Memref sig .tc .vmem S4096x768 .bf16) (h4 : a4.IsWhole) (a5 : Memref sig .tc .vmem S704x768 .f32) (h5 : a5.IsWhole)
    (a6 : Memref sig .tc .vmem S8x128 .f32) (h6 : a6.IsWhole) (x0 : Vec Ideal S704x4096 .bf16) (x1 : Vec Ideal S4096x768 .bf16) :
    out0_A_2 c i a3 h3 a4 h4 a5 h5 a6 h6 x0 x1 = blockProd x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [k0_pay1, View.readAt_eq_ld, h3.read_unread, h4.read_unread,
    View.ld_unit_zero (S := S704x4096) hz, View.ld_unit_zero (S := S4096x768) hz, shapeCast_self]
  rfl

/-- An entry of the product of two blocks. -/
theorem blockProd_apply (a : FVec Ideal S704x4096 .bf16) (b : FVec Ideal S4096x768 .bf16) (r : Fin 704) (s : Fin 768) :
    blockProd a b (ix2 r s) = ∑ k : Fin 4096, a (ix2 r k) * b (ix2 k s) := by
  unfold blockProd
  pointwise

/-- The product of the two whole arrays. -/
def prod (A : FVec Ideal S8448x4096 .bf16) (B : FVec Ideal S4096x3840 .bf16) : FVec Ideal S8448x3840 .f32 := fun i =>
  ∑ k : Fin 4096, A (ix2 (⟨(i 0).val, (i 0).isLt⟩ : Fin 8448) k) * B (ix2 k (⟨(i 1).val, (i 1).isLt⟩ : Fin 3840))

/-- The index maps: point `t` is row block `t / 5`, column block `t % 5`. -/
theorem idx : ∀ t : Fin cfg0.N, win0_0.index t = ![t.val / 5, 0] ∧ win0_1.index t = ![0, t.val % 5]
    ∧ win0_2.index t = ![t.val / 5, t.val % 5] ∧ win0_2.flush t = true :=
  (by decide +kernel : ∀ t : Fin grid0.N, win0_0.index t = ![t.val / 5, 0] ∧ win0_1.index t = ![0, t.val % 5]
    ∧ win0_2.index t = ![t.val / 5, t.val % 5] ∧ win0_2.flush t = true)

theorem lt_N (t : Fin cfg0.N) : t.val < 60 := lt_of_lt_of_eq t.isLt N_0

/-- Row block `i` of the left operand. -/
def rowsOf (A : FVec Ideal S8448x4096 .bf16) (i : ℕ) : FVec Ideal S704x4096 .bf16 := fun y =>
  A (ix2 (⟨(704 * i + (y 0).val) % 8448, Nat.mod_lt _ (by norm_num)⟩ : Fin 8448) (y 1))

/-- Column block `j` of the right operand. -/
def colsOf (B : FVec Ideal S4096x3840 .bf16) (j : ℕ) : FVec Ideal S4096x768 .bf16 := fun y =>
  B (ix2 (y 0) (⟨(768 * j + (y 1).val) % 3840, Nat.mod_lt _ (by norm_num)⟩ : Fin 3840))

variable (m : (ℓ : Loc nD τ sig) → Buf (Elt Ideal) ℓ)

theorem iblk0_eq (c : Dev nD) (t : Fin cfg0.N) : iblk m c 0 t = rowsOf (V m c main_arg0) (t.val / 5) := by
  funext y
  have := lt_N t
  unfold rowsOf
  blk_ext [iblk, idx t]

theorem iblk1_eq (c : Dev nD) (t : Fin cfg0.N) : iblk m c 1 t = colsOf (V m c main_v13) (t.val % 5) := by
  funext y
  have := lt_N t
  unfold colsOf
  blk_ext [iblk, idx t]

/-- What point `t` writes back is its block of the product of the whole arrays. -/
theorem flushed_eq (c : Dev nD) (t : Fin cfg0.N) :
    (dats m 0 c).flushed 2 t = ((cfg0.win 2).blk t).view.read (Elt Ideal) (prod (V m c main_arg0) (V m c main_v13)) := by
  rw [flushed2_A, out_eq, iblk0_eq, iblk1_eq]
  have ht := lt_N t
  have hidx := (idx t).2.2.1
  funext y
  have hy0 : (y 0).val < 704 := (y 0).isLt
  have hy1 : (y 1).val < 768 := (y 1).isLt
  have hb0 : (((cfg0.win 2).blk t).view.emb y 0).val = win0_2.index t (0 : Fin 2) * 704 + 1 * (y 0).val := rfl
  have hb1 : (((cfg0.win 2).blk t).view.emb y 1).val = win0_2.index t (1 : Fin 2) * 768 + 1 * (y 1).val := rfl
  rw [hidx] at hb0 hb1
  have hb0 : (((cfg0.win 2).blk t).view.emb y 0).val = t.val / 5 * 704 + 1 * (y 0).val := hb0
  have hb1 : (((cfg0.win 2).blk t).view.emb y 1).val = t.val % 5 * 768 + 1 * (y 1).val := hb1
  have e : (cfg0.win 2).xinj (grid0.coords t) y = ix2 (⟨(y 0).val, hy0⟩ : Fin 704) (⟨(y 1).val, hy1⟩ : Fin 768) := by
    funext a; fin_cases a <;> rfl
  show blockProd _ _ ((cfg0.win 2).xinj (grid0.coords t) y) = prod _ _ (((cfg0.win 2).blk t).view.emb y)
  rw [e, blockProd_apply]
  unfold prod rowsOf colsOf
  refine Finset.sum_congr rfl fun k _ => congrArg₂ (· * ·) ?_ ?_
  · refine congrArg (fun r => V m c main_arg0 (ix2 r k)) (Fin.ext ?_)
    show (704 * (t.val / 5) + (y 0).val) % 8448 = (((cfg0.win 2).blk t).view.emb y 0).val
    rw [hb0]; omega
  · refine congrArg (fun r => V m c main_v13 (ix2 k r)) (Fin.ext ?_)
    show (768 * (t.val % 5) + (y 1).val) % 3840 = (((cfg0.win 2).blk t).view.emb y 1).val
    rw [hb1]; omega

theorem mem_blk (t : Fin cfg0.N) (i : S8448x3840.Idx) :
    i ∈ ((cfg0.win 2).blk t).view.set ↔ ∀ a : Fin 2, win0_2.index t a * S704x768.size a ≤ (i a).val ∧ (i a).val < win0_2.index t a * S704x768.size a + S704x768.size a := by
  show i ∈ ((View.whole main_v14).slice (win0_2.rect t)).set ↔ _
  rw [View.set_slice_whole, Rect.mem_set_unit]
  exact Iff.rfl

/-- The result array after the run: the product of the two operands. -/
theorem final (c : Dev nD) : (dats m 0 c).arrAt 2 cfg0.N = prod (V m c main_arg0) (V m c main_v13) :=
  (dats m 0 c).arrAt_eq_of_cover 2 _ (fun t _ => flushed_eq m c t) fun i => by
    have h0 : (i 0).val < 8448 := (i 0).isLt
    have h1 : (i 1).val < 3840 := (i 1).isLt
    have hN : 5 * ((i 0).val / 704) + (i 1).val / 768 < cfg0.N := by
      rw [show cfg0.N = 60 from N_0]; omega
    obtain ⟨-, -, hi, hf⟩ := idx ⟨5 * ((i 0).val / 704) + (i 1).val / 768, hN⟩
    refine ⟨⟨_, hN⟩, hf, (mem_blk _ _).2 fun a => ?_⟩
    rw [hi]
    fin_cases a
    · show (5 * ((i 0).val / 704) + (i 1).val / 768) / 5 * 704 ≤ (i 0).val ∧ (i 0).val < (5 * ((i 0).val / 704) + (i 1).val / 768) / 5 * 704 + 704
      omega
    · show (5 * ((i 0).val / 704) + (i 1).val / 768) % 5 * 768 ≤ (i 1).val ∧ (i 1).val < (5 * ((i 0).val / 704) + (i 1).val / 768) % 5 * 768 + 768
      omega

end Cert.OddInCall
-- ==== Proof.Sums.lean ====
module

public import proofs.«01_k».proof.Proof.Consts

@[expose] public section

noncomputable section

/-! # Sums over the extended reals -/

namespace Cert.Sums

/-- A sum of products of reals with negated reals is the negated sum. -/
theorem neg_mul_right {n : ℕ} (f g : Fin n → EReal) (hf : ∀ k, ∃ r : ℝ, f k = (r : EReal)) (hg : ∀ k, ∃ r : ℝ, g k = (r : EReal)) :
    ∑ k, f k * -g k = -∑ k, f k * g k := by
  choose a ha using hf
  choose b hb using hg
  have h : ∀ k, f k * g k = ((a k * b k : ℝ) : EReal) := fun k => by rw [ha, hb]; exact (EReal.coe_mul _ _).symm
  have h' : ∀ k, f k * -g k = ((-(a k * b k) : ℝ) : EReal) := fun k => by rw [mul_neg, h]; rfl
  simp only [h, h', Cert.Consts.coe_sum]
  rw [Finset.sum_neg_distrib]
  rfl

end Cert.Sums
-- ==== Proof.OddInWeights.lean ====
module

public import proofs.«01_k».proof.Proof.OddInBlocks
public import proofs.«01_k».proof.Proof.Sums
public import proofs.«01_k».proof.Proof.Gen.OddInReferenceIdeal.Run

@[expose] public section

set_option maxRecDepth 16384

noncomputable section

/-! # The odd layers' input projection: the columns of the call's weights and of the reference's result -/

namespace Cert.OddInCall

/-- The columns as arranged: the 3648 given ones, the last 64 of them with each half-group swapped and the first negated, then zeros. -/
def arrange (f : Fin 3648 → EReal) (n : ℕ) : EReal :=
  if n < 3648 then f ⟨n % 3648, Nat.mod_lt _ (by norm_num)⟩
  else if n < 3712 then
    if (n - 3648) % 32 < 16 then -f ⟨(n - 48) % 3648, Nat.mod_lt _ (by norm_num)⟩ else f ⟨(n - 80) % 3648, Nat.mod_lt _ (by norm_num)⟩
  else 0

/-- The padding value is zero. -/
theorem sitofp_zero : Idealize.ShloMosaic.FloatOps.sitofp (F := Idealize.ShloMosaic.Ideal) .bf16 0#32 = (0 : EReal) := by
  show ((((0#32 : BitVec 32).toInt : ℝ)) : EReal) = 0
  simp

section Weights

open Cert.OddInIdeal Cert.OddInIdeal.Gen Idealize.ShloMosaic Idealize.ShloMosaic.TcCoe Idealize.SL.Sem

/-- The last 64 columns of the given weights, in groups. -/
def groups (w : FVec Ideal S4096x3648 .f32) : FVec Ideal S4096x2x2x16 .f32 :=
  shapeCast _ (extractStridedSlice S4096x64 ![0, 3584] w slices_S4096x3648_S4096x64_0_3584) shapeCasts_S4096x64_S4096x2x2x16

/-- The swapped columns. -/
def swapped (w : FVec Ideal S4096x3648 .f32) : FVec Ideal S4096x64 .f32 :=
  shapeCast _ (concatenate S4096x2x2x16 2 [⟨S4096x2x1x16, broadcastInDim S4096x2x1x16 ![0, 1, 3] bcast_S4096x2x16_S4096x2x1x16_0_1_3
      (Host.negf (shapeCast _ (extractStridedSlice S4096x2x1x16 ![0, 0, 1, 0] (groups w) slices_S4096x2x2x16_S4096x2x1x16_0_0_1_0) shapeCasts_S4096x2x1x16_S4096x2x16))⟩,
    ⟨S4096x2x1x16, broadcastInDim S4096x2x1x16 ![0, 1, 3] bcast_S4096x2x16_S4096x2x1x16_0_1_3
      (shapeCast _ (extractStridedSlice S4096x2x1x16 ![0, 0, 0, 0] (groups w) slices_S4096x2x2x16_S4096x2x1x16_0_0_0_0) shapeCasts_S4096x2x1x16_S4096x2x16)⟩]
    concatenates_S4096x2x1x16_S4096x2x1x16_S4096x2x2x16_d2) shapeCasts_S4096x2x2x16_S4096x64

/-- The call's weights, arranged before the call. -/
def weights (w : FVec Ideal S4096x3648 .f32) : FVec Ideal S4096x3840 .bf16 :=
  pad S4096x3840 ![0, 0] ![0, 128] ![0, 0] (truncf .bf16 (concatenate S4096x3712 1 [⟨S4096x3648, w⟩, ⟨S4096x64, swapped w⟩]
    concatenates_S4096x3648_S4096x64_S4096x3712_d1) bitsLt_bf16_f32) (sitofp .bf16 (constantI S_ 32 0#32)) pads_S4096x3712_S4096x3840_000_01280 h_S_

/-- The call's second operand is the arranged weights. -/
theorem V_weights (m : (ℓ : Loc nD τ sig) → Buf (Elt Ideal) ℓ) (c : Dev nD) :
    V m c main_v13 = weights (m ((c : Thread nD τ).loc main_arg1)) := by
  unfold weights swapped groups
  simp only [V, hostOps0, hostOps0_1,
    List.flatten_cons, List.flatten_nil, List.append_nil, List.cons_append, List.nil_append, StableHlo.TRef.binary, StableHlo.TRef.unary,
    StableHlo.TRef.toBuf, StableHlo.TRef.ofBuf, cast_eq]
  after_results <;> rfl

theorem weights_apply (w : FVec Ideal S4096x3648 .f32) (k : Fin 4096) (n : Fin 3840) :
    weights w (ix2 k n) = arrange (fun q => w (ix2 k q)) n.val := by
  unfold weights swapped groups arrange
  pointwise
  have hn : n.val < 3840 := n.isLt
  by_cases h1 : n.val < 3648
  · refine (dif_pos (show n.val < 3712 by omega)).trans ((dif_pos h1).trans (Eq.trans ?_ (if_pos h1).symm))
    exact congrArg (fun q => w (ix2 k q)) (Fin.ext (show n.val = n.val % 3648 by omega))
  by_cases h2 : n.val < 3712
  · refine (dif_pos h2).trans ((dif_neg h1).trans (Eq.trans ?_ ((if_neg h1).trans (if_pos h2)).symm))
    by_cases h3 : (n.val - 3648) % 32 < 16
    · refine (dif_pos (show (n.val - 3648) / 16 % 2 < 1 by omega)).trans (Eq.trans ?_ (if_pos h3).symm)
      exact congrArg (fun q => -w (ix2 k q)) (Fin.ext (show 3584 + ((n.val - 3648) / 32 * 32 + 16 + (n.val - 3648) % 16) = (n.val - 48) % 3648 by omega))
    · refine (dif_neg (show ¬(n.val - 3648) / 16 % 2 < 1 by omega)).trans (Eq.trans ?_ (if_neg h3).symm)
      exact congrArg (fun q => w (ix2 k q)) (Fin.ext (show 3584 + ((n.val - 3648) / 32 * 32 + (n.val - 3648) % 16) = (n.val - 80) % 3648 by omega))
  · exact (dif_neg h2).trans (sitofp_zero.trans ((if_neg h1).trans (if_neg h2)).symm)

end Weights

section Reference

open Cert.OddInReferenceIdeal Cert.OddInReferenceIdeal.Gen Cert.OddInReferenceIdeal.Value Idealize.ShloMosaic Idealize.ShloMosaic.TcCoe

/-- The product of the reference's two arguments. -/
def full (h : FVec Ideal S8448x4096 .bf16) (w : FVec Ideal S4096x3648 .f32) : FVec Ideal S8448x3648 .f32 :=
  Host.dotGeneral dot_S8448x4096_S4096x3648_S8448x3648_1_0_0_1_n_n none (extf .f32 h bitsLt_bf16_f32) w

theorem full_apply (h : FVec Ideal S8448x4096 .bf16) (w : FVec Ideal S4096x3648 .f32) (i : Fin 8448) (n : Fin 3648) :
    full h w (ix2 i n) = ∑ k : Fin 4096, h (ix2 i k) * w (ix2 k n) := by
  unfold full
  pointwise

/-- The last 64 columns of the product, in groups. -/
def groupsOf (P : FVec Ideal S8448x3648 .f32) : FVec Ideal S8448x2x2x16 .f32 :=
  shapeCast _ (extractStridedSlice S8448x64 ![0, 3584] P slices_S8448x3648_S8448x64_0_3584) shapeCasts_S8448x64_S8448x2x2x16

/-- The swapped columns of the product. -/
def swappedOf (P : FVec Ideal S8448x3648 .f32) : FVec Ideal S8448x64 .f32 :=
  shapeCast _ (concatenate S8448x2x2x16 2 [⟨S8448x2x1x16, broadcastInDim S8448x2x1x16 ![0, 1, 3] bcast_S8448x2x16_S8448x2x1x16_0_1_3
      (Host.negf (shapeCast _ (extractStridedSlice S8448x2x1x16 ![0, 0, 1, 0] (groupsOf P) slices_S8448x2x2x16_S8448x2x1x16_0_0_1_0) shapeCasts_S8448x2x1x16_S8448x2x16))⟩,
    ⟨S8448x2x1x16, broadcastInDim S8448x2x1x16 ![0, 1, 3] bcast_S8448x2x16_S8448x2x1x16_0_1_3
      (shapeCast _ (extractStridedSlice S8448x2x1x16 ![0, 0, 0, 0] (groupsOf P) slices_S8448x2x2x16_S8448x2x1x16_0_0_0_0) shapeCasts_S8448x2x1x16_S8448x2x16)⟩]
    concatenates_S8448x2x1x16_S8448x2x1x16_S8448x2x2x16_d2) shapeCasts_S8448x2x2x16_S8448x64

/-- The reference's result from its product: the product's columns, the swapped ones, zeros. -/
def parts (P : FVec Ideal S8448x3648 .f32) : FVec Ideal S8448x3840 .f32 :=
  concatenate S8448x3840 1 [⟨S8448x3648, P⟩, ⟨S8448x64, swappedOf P⟩,
    ⟨S8448x128, broadcastInDim S8448x128 ![] bcast_S_S8448x128 (constant (F := Ideal) S_ .f32 0x00000000#32)⟩]
    concatenates_S8448x3648_S8448x64_S8448x128_S8448x3840_d1

theorem parts_apply (P : FVec Ideal S8448x3648 .f32) (i : Fin 8448) (n : Fin 3840) :
    parts P (ix2 i n) = arrange (fun q => P (ix2 i q)) n.val := by
  unfold parts swappedOf groupsOf arrange
  pointwise
  have hn : n.val < 3840 := n.isLt
  by_cases h1 : n.val < 3648
  · refine (dif_pos h1).trans (Eq.trans ?_ (if_pos h1).symm)
    exact congrArg (fun q => P (ix2 i q)) (Fin.ext (show n.val = n.val % 3648 by omega))
  by_cases h2 : n.val < 3712
  · refine (dif_neg h1).trans ((dif_pos (show n.val - 3648 < 64 by omega)).trans (Eq.trans ?_ ((if_neg h1).trans (if_pos h2)).symm))
    by_cases h3 : (n.val - 3648) % 32 < 16
    · refine (dif_pos (show (n.val - 3648) / 16 % 2 < 1 by omega)).trans (Eq.trans ?_ (if_pos h3).symm)
      exact congrArg (fun q => -P (ix2 i q)) (Fin.ext (show 3584 + ((n.val - 3648) / 32 * 32 + 16 + (n.val - 3648) % 16) = (n.val - 48) % 3648 by omega))
    · refine (dif_neg (show ¬(n.val - 3648) / 16 % 2 < 1 by omega)).trans (Eq.trans ?_ (if_neg h3).symm)
      exact congrArg (fun q => P (ix2 i q)) (Fin.ext (show 3584 + ((n.val - 3648) / 32 * 32 + (n.val - 3648) % 16) = (n.val - 80) % 3648 by omega))
  · exact (dif_neg h1).trans ((dif_neg (show ¬n.val - 3648 < 64 by omega)).trans ((if_neg h1).trans (if_neg h2)).symm)

end Reference

end Cert.OddInCall
-- ==== Proof.OddInEquation.lean ====
module

public import proofs.«01_k».proof.Proof.OddInWeights

@[expose] public section

set_option maxRecDepth 16384

noncomputable section

/-! # The odd layers' input projection: the two results agree -/

namespace Cert.OddInCall

open Idealize.ShloMosaic Idealize.ShloMosaic.TcCoe

/-- Over finite operands, the product with the arranged weights is the arranged product. -/
theorem prod_weights (h : FVec Ideal Cert.OddInIdeal.S8448x4096 .bf16) (w : FVec Ideal Cert.OddInIdeal.S4096x3648 .f32)
    (hh : ∀ i, ∃ r : ℝ, h i = (r : EReal)) (hw : ∀ i, ∃ r : ℝ, w i = (r : EReal)) : prod h (weights w) = parts (full h w) := by
  funext x
  have e : x = ix2 (⟨(x 0).val, (x 0).isLt⟩ : Fin 8448) (⟨(x 1).val, (x 1).isLt⟩ : Fin 3840) := by
    funext a; fin_cases a <;> rfl
  generalize hi : (⟨(x 0).val, (x 0).isLt⟩ : Fin 8448) = i at e
  generalize hn : (⟨(x 1).val, (x 1).isLt⟩ : Fin 3840) = n at e
  have hL : prod h (weights w) x = ∑ k : Fin 4096, h (ix2 i k) * arrange (fun q => w (ix2 k q)) n.val := by
    unfold prod
    rw [hi, hn]
    exact Finset.sum_congr rfl fun k _ => by rw [weights_apply]
  have hR : parts (full h w) x = arrange (fun q => full h w (ix2 i q)) n.val := by rw [e]; exact parts_apply _ _ _
  rw [hL, hR]
  unfold arrange
  by_cases h1 : n.val < 3648
  · simp only [if_pos h1]
    exact (full_apply _ _ _ _).symm
  by_cases h2 : n.val < 3712
  · by_cases h3 : (n.val - 3648) % 32 < 16
    · simp only [if_neg h1, if_pos h2, if_pos h3]
      rw [full_apply]
      exact Cert.Sums.neg_mul_right _ _ (fun k => hh _) (fun k => hw _)
    · simp only [if_neg h1, if_pos h2, if_neg h3]
      exact (full_apply _ _ _ _).symm
  · simp only [if_neg h1, if_neg h2, mul_zero, Finset.sum_const_zero]

/-- Over finite arguments the call's result array is the reference's. -/
theorem value_eq (m : (ℓ : Loc Cert.OddInIdeal.nD Cert.OddInIdeal.τ Cert.OddInIdeal.sig) → Buf (Elt Ideal) ℓ)
    (c : Dev Cert.OddInIdeal.nD)
    (hh : ∀ i, ∃ r : ℝ, m ((c.tc : Thread _ _).loc Cert.OddInIdeal.main_arg0) i = (r : EReal))
    (hw : ∀ i, ∃ r : ℝ, m ((c.tc : Thread _ _).loc Cert.OddInIdeal.main_arg1) i = (r : EReal)) :
    (Cert.OddInIdeal.Gen.dats m 0 c).arrAt 2 Cert.OddInIdeal.cfg0.N
      = parts (full (m ((c.tc : Thread _ _).loc Cert.OddInIdeal.main_arg0)) (m ((c.tc : Thread _ _).loc Cert.OddInIdeal.main_arg1))) := by
  rw [final, Cert.OddInIdeal.Gen.V_main_arg0, V_weights]
  exact prod_weights _ _ hh hw

end Cert.OddInCall
-- ==== Proof.OddOutBlocks.lean ====
module

public import proofs.«01_k».proof.Proof.Gen.OddOutIdeal.Value
public import proofs.«01_k».proof.Proof.Consts
public import Idealize.ShloMosaic.Lib.Pointwise
public import Idealize.ShloMosaic.Lib.Pipeline.ValueKit

@[expose] public section

set_option maxRecDepth 16384

noncomputable section

/-! # The odd layers' output projection: its result array from its operands -/

namespace Cert.OddOutCall

open Cert.OddOutIdeal Cert.OddOutIdeal.Gen Cert.OddOutIdeal.Value Idealize.ShloMosaic Idealize.ShloMosaic.TcCoe Idealize.SL.Sem

theorem hz : (![0, 0] : Fin 2 → Nat) = fun _ => 0 := funext fun a => by fin_cases a <;> rfl

/-- Rows `o … o + 2047` of a weight block. -/
def half (w : FVec Ideal S4096x512 .bf16) (o : ℕ) : FVec Ideal S2048x512 .bf16 := fun y =>
  w (ix2 (⟨(o + (y 0).val) % 4096, Nat.mod_lt _ (by norm_num)⟩ : Fin 4096) (y 1))

/-- A load of 2048 rows of the weight block reads that half. -/
theorem ld_half (w : FVec Ideal S4096x512 .bf16) (o : ℕ) (ho : o ≤ 2048)
    (inb : ∀ a, (![o, 0] : Fin 2 → ℕ) a + S2048x512.size a ≤ S4096x512.size a) :
    View.ld (Val := Elt Ideal) (e' := .bf16) w (Rect.unit (s := S4096x512) ![o, 0] S2048x512.size inb) = half w o := by
  funext y
  have hy : (y 0).val < 2048 := (y 0).isLt
  unfold half
  show w _ = w _
  congr 1
  funext a
  fin_cases a
  · exact Fin.ext (show o + 1 * (y 0).val = (o + (y 0).val) % 4096 by omega)
  · exact Fin.ext (show 0 + 1 * (y 1).val = (y 1).val by omega)

/-- The body leaves its payload of its blocks, the weight block taken in two halves. -/
theorem out_eq (c : Dev nD) (i : grid0.Coords) (a3 : Memref sig .tc .vmem S1024x2048 .bf16) (h3 : a3.IsWhole)
    (a4 : Memref sig .tc .vmem S4096x512 .bf16) (h4 : a4.IsWhole) (a5 : Memref sig .tc .vmem S2x512 .f32) (h5 : a5.IsWhole)
    (a6 : Memref sig .tc .vmem S1024x512 .f32) (h6 : a6.IsWhole) (a7 : Memref sig .tc .vmem S1024x2048 .bf16) (h7 : a7.IsWhole)
    (a8 : Memref sig .tc .vmem S1024x512 .f32) (h8 : a8.IsWhole) (a9 : Memref sig .tc .vmem S8x128 .f32) (h9 : a9.IsWhole)
    (x0 : Vec Ideal S1024x2048 .bf16) (x1 : Vec Ideal S4096x512 .bf16) (x2 : Vec Ideal S2x512 .f32) (x3 : Vec Ideal S1024x512 .f32)
    (x4 : Vec Ideal S1024x2048 .bf16) :
    out0_A_5 c i a3 h3 a4 h4 a5 h5 a6 h6 a7 h7 a8 h8 a9 h9 x0 x1 x2 x3 x4
      = k0_pay1 i x0 (half x1 0) x4 (half x1 2048) x2 x3 := by
  unfold out0_A_5
  rw [View.read_writes_eq_canon _ _ _ (cover0_A_5 c i a3 h3 a4 h4 a5 h5 a6 h6 a7 h7 a8 h8 a9 h9 x0 x1 x2 x3 x4)]
  unfold kernelRun0_A
  dsimp only
  sl_unfold_words
  rw [View.canon_unit_zero hz]
  simp only [View.readAt_eq_ld, h3.read_unread, h4.read_unread, h5.read_unread, h6.read_unread, h7.read_unread,
    View.ld_unit_zero (S := S1024x2048) hz, View.ld_unit_zero (S := S2x512) hz, View.ld_unit_zero (S := S1024x512) hz]
  rw [ld_half x1 0 (by norm_num), ld_half x1 2048 (by norm_num)]

/-- The selecting bit: row `r` of block `i` lies before row 0. -/
theorem before (i r : ℕ) (hi : i < 8) (hr : r < 1024) :
    IntOp.cmpi .slt (IntOp.addi (Scalar.muli (BitVec.ofNat 32 i) 1024#32) (BitVec.ofNat 32 r)) 0#32
      = BitVec.ofBool (decide (1024 * i + r < 0)) := by
  have hx : IntOp.addi (Scalar.muli (BitVec.ofNat 32 i) 1024#32) (BitVec.ofNat 32 r) = BitVec.ofNat 32 (1024 * i + r) := by
    show BitVec.ofNat 32 i * 1024#32 + BitVec.ofNat 32 r = _
    refine BitVec.eq_of_toNat_eq ?_
    simp only [BitVec.toNat_add, BitVec.toNat_mul, BitVec.toNat_ofNat]
    omega
  rw [hx]
  show BitVec.ofBool (decide ((BitVec.ofNat 32 (1024 * i + r)).toInt < (0#32 : BitVec 32).toInt)) = _
  have h1 : (BitVec.ofNat 32 (1024 * i + r)).toInt = ((1024 * i + r : ℕ) : ℤ) := by
    rw [BitVec.toInt_eq_toNat_cond, BitVec.toNat_ofNat, Nat.mod_eq_of_lt (by omega), if_pos (by omega)]
  have h2 : (0#32 : BitVec 32).toInt = ((0 : ℕ) : ℤ) := by decide
  rw [h1, h2]
  exact congrArg BitVec.ofBool (decide_eq_decide.2 Nat.cast_lt)

/-- A selection by that bit. -/
theorem select_before (i r : ℕ) (hi : i < 8) (hr : r < 1024) (a b : EReal) :
    Scalar.select (IntOp.cmpi .slt (IntOp.addi (Scalar.muli (BitVec.ofNat 32 i) 1024#32) (BitVec.ofNat 32 r)) 0#32) a b
      = if 1024 * i + r < 0 then a else b := by
  rw [before i r hi hr]
  by_cases h : 1024 * i + r < 0
  · rw [if_pos h, decide_eq_true h]; rfl
  · rw [if_neg h, decide_eq_false h]; rfl

/-- An entry of what the body leaves. -/
theorem pay_apply (i : grid0.Coords) (v0 : FVec Ideal S1024x2048 .bf16) (v1 : FVec Ideal S2048x512 .bf16) (v4 : FVec Ideal S1024x2048 .bf16)
    (v5 : FVec Ideal S2048x512 .bf16) (v10 : FVec Ideal S2x512 .f32) (v12 : FVec Ideal S1024x512 .f32) (r : Fin 1024) (s : Fin 512) :
    k0_pay1 i v0 v1 v4 v5 v10 v12 (ix2 r s) = v12 (ix2 r s) + (if 1024 * (i 0).val + r.val < 0 then v10 (ix2 0 s) else v10 (ix2 1 s))
      * (∑ k : Fin 2048, v0 (ix2 r k) * v1 (ix2 k s) + ∑ k : Fin 2048, v4 (ix2 r k) * v5 (ix2 k s)) := by
  unfold k0_pay1
  dsimp only
  pointwise
  rw [select_before _ _ (i 0).isLt r.isLt]

/-- The result from whole operands: the residual plus the gated product of the two halves. -/
def result (A B : FVec Ideal S8192x2048 .bf16) (W : FVec Ideal S4096x4096 .bf16) (g : FVec Ideal S2x4096 .f32)
    (x : FVec Ideal S8192x4096 .f32) : FVec Ideal S8192x4096 .f32 := fun i =>
  x i + (if (i 0).val < 0 then g (ix2 0 (⟨(i 1).val, (i 1).isLt⟩ : Fin 4096)) else g (ix2 1 (⟨(i 1).val, (i 1).isLt⟩ : Fin 4096)))
    * (∑ k : Fin 2048, A (ix2 (⟨(i 0).val, (i 0).isLt⟩ : Fin 8192) k) * W (ix2 (⟨(0 + k.val) % 4096, Nat.mod_lt _ (by norm_num)⟩ : Fin 4096) (⟨(i 1).val, (i 1).isLt⟩ : Fin 4096))
      + ∑ k : Fin 2048, B (ix2 (⟨(i 0).val, (i 0).isLt⟩ : Fin 8192) k) * W (ix2 (⟨(2048 + k.val) % 4096, Nat.mod_lt _ (by norm_num)⟩ : Fin 4096) (⟨(i 1).val, (i 1).isLt⟩ : Fin 4096)))

/-- The index maps: point `t` is row block `t / 8`, column block `t % 8`. -/
theorem idx : ∀ t : Fin cfg0.N, win0_0.index t = ![t.val / 8, 0] ∧ win0_1.index t = ![0, t.val % 8] ∧ win0_2.index t = ![0, t.val % 8]
    ∧ win0_3.index t = ![t.val / 8, t.val % 8] ∧ win0_4.index t = ![t.val / 8, 0] ∧ win0_5.index t = ![t.val / 8, t.val % 8]
    ∧ win0_5.flush t = true ∧ (grid0.coords t 0).val = t.val / 8 :=
  (by decide +kernel : ∀ t : Fin grid0.N, win0_0.index t = ![t.val / 8, 0] ∧ win0_1.index t = ![0, t.val % 8] ∧ win0_2.index t = ![0, t.val % 8]
    ∧ win0_3.index t = ![t.val / 8, t.val % 8] ∧ win0_4.index t = ![t.val / 8, 0] ∧ win0_5.index t = ![t.val / 8, t.val % 8]
    ∧ win0_5.flush t = true ∧ (grid0.coords t 0).val = t.val / 8)

theorem lt_N (t : Fin cfg0.N) : t.val < 64 := lt_of_lt_of_eq t.isLt N_0

/-- Row block `i` of a left operand. -/
def rowsOf (A : FVec Ideal S8192x2048 .bf16) (i : ℕ) : FVec Ideal S1024x2048 .bf16 := fun y =>
  A (ix2 (⟨(1024 * i + (y 0).val) % 8192, Nat.mod_lt _ (by norm_num)⟩ : Fin 8192) (y 1))

/-- Column block `j` of the weights. -/
def colsOf (B : FVec Ideal S4096x4096 .bf16) (j : ℕ) : FVec Ideal S4096x512 .bf16 := fun y =>
  B (ix2 (y 0) (⟨(512 * j + (y 1).val) % 4096, Nat.mod_lt _ (by norm_num)⟩ : Fin 4096))

/-- Column block `j` of the gates. -/
def gatesOf (g : FVec Ideal S2x4096 .f32) (j : ℕ) : FVec Ideal S2x512 .f32 := fun y =>
  g (ix2 (y 0) (⟨(512 * j + (y 1).val) % 4096, Nat.mod_lt _ (by norm_num)⟩ : Fin 4096))

/-- Block `(i, j)` of the residual. -/
def blockOf (x : FVec Ideal S8192x4096 .f32) (i j : ℕ) : FVec Ideal S1024x512 .f32 := fun y =>
  x (ix2 (⟨(1024 * i + (y 0).val) % 8192, Nat.mod_lt _ (by norm_num)⟩ : Fin 8192)
    (⟨(512 * j + (y 1).val) % 4096, Nat.mod_lt _ (by norm_num)⟩ : Fin 4096))

variable (m : (ℓ : Loc nD τ sig) → Buf (Elt Ideal) ℓ)

theorem iblk0_eq (c : Dev nD) (t : Fin cfg0.N) : iblk m c 0 t = rowsOf (V m c main_arg0) (t.val / 8) := by
  funext y
  have := lt_N t
  unfold rowsOf
  blk_ext [iblk, idx t]

theorem iblk1_eq (c : Dev nD) (t : Fin cfg0.N) : iblk m c 1 t = colsOf (V m c main_v0) (t.val % 8) := by
  funext y
  have := lt_N t
  unfold colsOf
  blk_ext [iblk, idx t]

theorem iblk2_eq (c : Dev nD) (t : Fin cfg0.N) : iblk m c 2 t = gatesOf (V m c main_v2) (t.val % 8) := by
  funext y
  have := lt_N t
  unfold gatesOf
  blk_ext [iblk, idx t]

theorem iblk3_eq (c : Dev nD) (t : Fin cfg0.N) : iblk m c 3 t = blockOf (V m c main_v3) (t.val / 8) (t.val % 8) := by
  funext y
  have := lt_N t
  unfold blockOf
  blk_ext [iblk, idx t]

theorem iblk4_eq (c : Dev nD) (t : Fin cfg0.N) : iblk m c 4 t = rowsOf (V m c main_arg1) (t.val / 8) := by
  funext y
  have := lt_N t
  unfold rowsOf
  blk_ext [iblk, idx t]

/-- What point `t` writes back is its block of the whole result. -/
theorem flushed_eq (c : Dev nD) (t : Fin cfg0.N) :
    (dats m 0 c).flushed 5 t = ((cfg0.win 5).blk t).view.read (Elt Ideal)
      (result (V m c main_arg0) (V m c main_arg1) (V m c main_v0) (V m c main_v2) (V m c main_v3)) := by
  rw [flushed5_A, out_eq, iblk0_eq, iblk1_eq, iblk2_eq, iblk3_eq, iblk4_eq]
  have ht := lt_N t
  have hidx := (idx t).2.2.2.2.2.1
  have hc := (idx t).2.2.2.2.2.2.2
  funext y
  have hy0 : (y 0).val < 1024 := (y 0).isLt
  have hy1 : (y 1).val < 512 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 512 + 1 * (y 1).val := rfl
  rw [hidx] at hb0 hb1
  have hb0 : (((cfg0.win 5).blk t).view.emb y 0).val = t.val / 8 * 1024 + 1 * (y 0).val := hb0
  have hb1 : (((cfg0.win 5).blk t).view.emb y 1).val = t.val % 8 * 512 + 1 * (y 1).val := hb1
  have e : (cfg0.win 5).xinj (grid0.coords t) y = ix2 (⟨(y 0).val, hy0⟩ : Fin 1024) (⟨(y 1).val, hy1⟩ : Fin 512) := by
    funext a; fin_cases a <;> rfl
  show k0_pay1 _ _ _ _ _ _ _ ((cfg0.win 5).xinj (grid0.coords t) y) = result _ _ _ _ _ (((cfg0.win 5).blk t).view.emb y)
  have er : (⟨(1024 * (t.val / 8) + (y 0).val) % 8192, Nat.mod_lt _ (by norm_num)⟩ : Fin 8192)
      = ⟨(((cfg0.win 5).blk t).view.emb y 0).val, (((cfg0.win 5).blk t).view.emb y 0).isLt⟩ :=
    Fin.ext (show (1024 * (t.val / 8) + (y 0).val) % 8192 = (((cfg0.win 5).blk t).view.emb y 0).val by rw [hb0]; omega)
  have es : (⟨(512 * (t.val % 8) + (y 1).val) % 4096, Nat.mod_lt _ (by norm_num)⟩ : Fin 4096)
      = ⟨(((cfg0.win 5).blk t).view.emb y 1).val, (((cfg0.win 5).blk t).view.emb y 1).isLt⟩ :=
    Fin.ext (show (512 * (t.val % 8) + (y 1).val) % 4096 = (((cfg0.win 5).blk t).view.emb y 1).val by rw [hb1]; omega)
  have ei : ((cfg0.win 5).blk t).view.emb y = ix2 (⟨(((cfg0.win 5).blk t).view.emb y 0).val, (((cfg0.win 5).blk t).view.emb y 0).isLt⟩ : Fin 8192)
      (⟨(((cfg0.win 5).blk t).view.emb y 1).val, (((cfg0.win 5).blk t).view.emb y 1).isLt⟩ : Fin 4096) := by
    funext a; fin_cases a <;> rfl
  rw [e, pay_apply, hc]
  unfold result rowsOf colsOf gatesOf blockOf half
  have hr : (1024 * (t.val / 8) + (y 0).val < 0) = ((((cfg0.win 5).blk t).view.emb y 0).val < 0) := by
    rw [hb0]; exact propext (by omega)
  refine congrArg₂ (· + ·) ?_ (congrArg₂ (· * ·) ?_ (congrArg₂ (· + ·) (Finset.sum_congr rfl fun k _ => ?_) (Finset.sum_congr rfl fun k _ => ?_)))
  · refine Eq.trans ?_ (congrArg (V m c main_v3) ei).symm
    exact congrArg₂ (fun r s => V m c main_v3 (ix2 r s)) er es
  · by_cases h : 1024 * (t.val / 8) + (y 0).val < 0
    · exact (if_pos h).trans ((congrArg (fun s => V m c main_v2 (ix2 0 s)) es).trans (if_pos (cast hr h)).symm)
    · exact (if_neg h).trans ((congrArg (fun s => V m c main_v2 (ix2 1 s)) es).trans (if_neg (fun h' => h (cast hr.symm h'))).symm)
  · exact congrArg₂ (· * ·) (congrArg (fun r => V m c main_arg0 (ix2 r k)) er) (congrArg (fun s => V m c main_v0 (ix2 _ s)) es)
  · exact congrArg₂ (· * ·) (congrArg (fun r => V m c main_arg1 (ix2 r k)) er) (congrArg (fun s => V m c main_v0 (ix2 _ s)) es)

theorem mem_blk (t : Fin cfg0.N) (i : S8192x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v4).slice (win0_5.rect t)).set ↔ _
  rw [View.set_slice_whole, Rect.mem_set_unit]
  exact Iff.rfl

/-- The result array after the run, from the operands. -/
theorem final (c : Dev nD) : (dats m 0 c).arrAt 5 cfg0.N
    = result (V m c main_arg0) (V m c main_arg1) (V m c main_v0) (V m c main_v2) (V m c main_v3) :=
  (dats m 0 c).arrAt_eq_of_cover 5 _ (fun t _ => flushed_eq m c t) fun i => by
    have h0 : (i 0).val < 8192 := (i 0).isLt
    have h1 : (i 1).val < 4096 := (i 1).isLt
    have hN : 8 * ((i 0).val / 1024) + (i 1).val / 512 < cfg0.N := by
      rw [show cfg0.N = 64 from N_0]; omega
    have hx := idx ⟨8 * ((i 0).val / 1024) + (i 1).val / 512, hN⟩
    refine ⟨⟨_, hN⟩, hx.2.2.2.2.2.2.1, (mem_blk _ _).2 fun a => ?_⟩
    rw [hx.2.2.2.2.2.1]
    fin_cases a
    · show (8 * ((i 0).val / 1024) + (i 1).val / 512) / 8 * 1024 ≤ (i 0).val ∧ (i 0).val < (8 * ((i 0).val / 1024) + (i 1).val / 512) / 8 * 1024 + 1024
      omega
    · show (8 * ((i 0).val / 1024) + (i 1).val / 512) % 8 * 512 ≤ (i 1).val ∧ (i 1).val < (8 * ((i 0).val / 1024) + (i 1).val / 512) % 8 * 512 + 512
      omega

end Cert.OddOutCall
-- ==== Proof.OddOutEquation.lean ====
module

public import proofs.«01_k».proof.Proof.OddOutBlocks
public import proofs.«01_k».proof.Proof.Gen.OddOutReferenceIdeal.Run

@[expose] public section

set_option maxRecDepth 16384

noncomputable section

/-! # The odd layers' output projection: the reference's result, and that the two agree -/

namespace Cert.OddOutCall

section Operands

open Cert.OddOutIdeal Cert.OddOutIdeal.Gen Idealize.ShloMosaic Idealize.ShloMosaic.TcCoe Idealize.SL.Sem

/-- The gates, cut from the modulation before the call. -/
def gates (md : FVec Ideal S2x6x4096 .f32) : FVec Ideal S2x4096 .f32 :=
  shapeCast _ (extractStridedSlice S2x1x4096 ![0, 2, 0] md slices_S2x6x4096_S2x1x4096_0_2_0) shapeCasts_S2x1x4096_S2x4096

theorem gates_apply (md : FVec Ideal S2x6x4096 .f32) (a : Fin 2) (n : Fin 4096) : gates md (ix2 a n) = md (ix3 a 2 n) := by
  unfold gates
  pointwise

theorem V_gates (m : (ℓ : Loc nD τ sig) → Buf (Elt Ideal) ℓ) (c : Dev nD) :
    V m c main_v2 = gates (m ((c : Thread nD τ).loc main_arg3)) := by
  unfold gates
  simp only [V, hostOps0, List.flatten_cons, List.flatten_nil, List.append_nil, List.cons_append, List.nil_append]
  after_results <;> rfl

theorem V_out (m : (ℓ : Loc nD τ sig) → Buf (Elt Ideal) ℓ) (c : Dev nD) :
    V m c main_v0 = m ((c : Thread nD τ).loc main_arg2) := by
  simp only [V, hostOps0, List.flatten_cons, List.flatten_nil, List.append_nil, List.cons_append, List.nil_append]
  after_results <;> rfl

theorem V_res (m : (ℓ : Loc nD τ sig) → Buf (Elt Ideal) ℓ) (c : Dev nD) :
    V m c main_v3 = extractStridedSlice S8192x4096 ![256, 0] (m ((c : Thread nD τ).loc main_arg4)) slices_S8448x4096_S8192x4096_256_0 := by
  simp only [V, hostOps0, List.flatten_cons, List.flatten_nil, List.append_nil, List.cons_append, List.nil_append]
  after_results <;> rfl

end Operands

section Reference

open Cert.OddOutReferenceIdeal Cert.OddOutReferenceIdeal.Gen Cert.OddOutReferenceIdeal.Value Idealize.ShloMosaic Idealize.ShloMosaic.TcCoe Idealize.SL.Sem

/-- The reference's product: the two halves side by side times the weights. -/
def both (A B : FVec Ideal S8192x2048 .bf16) (w : FVec Ideal S4096x4096 .f32) : FVec Ideal S8192x4096 .f32 :=
  Host.dotGeneral dot_S8192x4096_S4096x4096_S8192x4096_1_0_0_1_n_n none
    (extf .f32 (concatenate S8192x4096 1 [⟨S8192x2048, A⟩, ⟨S8192x2048, B⟩] concatenates_S8192x2048_S8192x2048_S8192x4096_d1) bitsLt_bf16_f32) w

theorem both_apply (A B : FVec Ideal S8192x2048 .bf16) (w : FVec Ideal S4096x4096 .f32) (i : Fin 8192) (n : Fin 4096) :
    both A B w (ix2 i n) = ∑ k : Fin 2048, A (ix2 i k) * w (ix2 (⟨(0 + k.val) % 4096, Nat.mod_lt _ (by norm_num)⟩ : Fin 4096) n)
      + ∑ k : Fin 2048, B (ix2 i k) * w (ix2 (⟨(2048 + k.val) % 4096, Nat.mod_lt _ (by norm_num)⟩ : Fin 4096) n) := by
  unfold both
  pointwise
  refine congrArg₂ (· + ·) (Finset.sum_congr rfl fun k _ => ?_) (Finset.sum_congr rfl fun k _ => ?_)
  · have hk := k.isLt
    exact congrArg (fun q => A (ix2 i k) * w (ix2 q n)) (Fin.ext (show k.val = k.val % 4096 by omega))
  · have hk := k.isLt
    exact congrArg (fun q => B (ix2 i k) * w (ix2 q n)) (Fin.ext (show 2048 + k.val = (2048 + k.val) % 4096 by omega))

/-- The reference's result from the product: the latent rows' residual plus the gate times the product. -/
def gated (P : FVec Ideal S8192x4096 .f32) (md : FVec Ideal S2x6x4096 .f32) (x : FVec Ideal S8448x4096 .f32) : FVec Ideal S8192x4096 .f32 :=
  addf (extractStridedSlice S8192x4096 ![256, 0] x slices_S8448x4096_S8192x4096_256_0) (mulf (broadcastInDim S8192x4096 ![0, 1] bcast_S1x4096_S8192x4096_0_1 (broadcastInDim S1x4096 ![1] bcast_S4096_S1x4096_1 (shapeCast _ (extractStridedSlice S1x1x4096 ![1, 2, 0] md slices_S2x6x4096_S1x1x4096_1_2_0) shapeCasts_S1x1x4096_S4096))) P)

theorem gated_apply (P : FVec Ideal S8192x4096 .f32) (md : FVec Ideal S2x6x4096 .f32) (x : FVec Ideal S8448x4096 .f32)
    (i : Fin 8192) (n : Fin 4096) :
    gated P md x (ix2 i n) = extractStridedSlice S8192x4096 ![256, 0] x slices_S8448x4096_S8192x4096_256_0 (ix2 i n) + md (ix3 1 2 n) * P (ix2 i n) := by
  unfold gated
  pointwise

end Reference

open Idealize.ShloMosaic Idealize.ShloMosaic.TcCoe

/-- The call's result array is the reference's. -/
theorem value_eq (m : (ℓ : Loc Cert.OddOutIdeal.nD Cert.OddOutIdeal.τ Cert.OddOutIdeal.sig) → Buf (Elt Ideal) ℓ)
    (c : Dev Cert.OddOutIdeal.nD) :
    (Cert.OddOutIdeal.Gen.dats m 0 c).arrAt 5 Cert.OddOutIdeal.cfg0.N
      = gated (both (m ((c.tc : Thread _ _).loc Cert.OddOutIdeal.main_arg0)) (m ((c.tc : Thread _ _).loc Cert.OddOutIdeal.main_arg1))
          (m ((c.tc : Thread _ _).loc Cert.OddOutIdeal.main_arg2))) (m ((c.tc : Thread _ _).loc Cert.OddOutIdeal.main_arg3))
          (m ((c.tc : Thread _ _).loc Cert.OddOutIdeal.main_arg4)) := by
  rw [final, Cert.OddOutIdeal.Gen.V_main_arg0, Cert.OddOutIdeal.Gen.V_main_arg1, V_gates, V_out, V_res]
  funext x
  have e : x = ix2 (⟨(x 0).val, (x 0).isLt⟩ : Fin 8192) (⟨(x 1).val, (x 1).isLt⟩ : Fin 4096) := by
    funext a; fin_cases a <;> rfl
  refine Eq.trans ?_ (congrArg (gated _ _ _) e).symm
  rw [gated_apply, both_apply]
  unfold result
  rw [gates_apply, gates_apply]
  rw [if_neg (Nat.not_lt_zero _)]
  exact congrArg₂ (· + ·) (congrArg _ e) rfl

end Cert.OddOutCall
-- ==== Proof.UqBlocks.lean ====
module

public import proofs.«01_k».proof.Proof.Gen.UqIdeal.Value
public import proofs.«01_k».proof.Proof.Consts
public import Idealize.ShloMosaic.Lib.Pointwise
public import Idealize.ShloMosaic.Lib.Pipeline.ValueKit

@[expose] public section

set_option maxRecDepth 16384

noncomputable section

/-! # The latent attention's query projection: its result array as one product of its two operands -/

namespace Cert.UqCall

open Cert.UqIdeal Cert.UqIdeal.Gen Cert.UqIdeal.Value Idealize.ShloMosaic Idealize.ShloMosaic.TcCoe Idealize.SL.Sem

/-- What the body stores: the product of its two blocks. -/
def blockProd (a : FVec Ideal S1024x1024 .bf16) (b : FVec Ideal S1024x1024 .bf16) : FVec Ideal S1024x1024 .f32 :=
  matmul dot_S1024x1024_S1024x1024_S1024x1024_1_0_0_1_n_n none a b (constant S1024x1024 .f32 0x00000000#32)

theorem hz : (![0, 0] : Fin 2 → Nat) = fun _ => 0 := funext fun a => by fin_cases a <;> rfl

/-- The body leaves the product of its blocks. -/
theorem out_eq (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S8x128 .f32) (h6 : a6.IsWhole) (x0 : Vec Ideal S1024x1024 .bf16) (x1 : Vec Ideal S1024x1024 .bf16) :
    out0_A_2 c i a3 h3 a4 h4 a5 h5 a6 h6 x0 x1 = blockProd x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [k0_pay1, View.readAt_eq_ld, h3.read_unread, h4.read_unread,
    View.ld_unit_zero (S := S1024x1024) hz, View.ld_unit_zero (S := S1024x1024) hz, shapeCast_self]
  rfl

/-- An entry of the product of two blocks. -/
theorem blockProd_apply (a : FVec Ideal S1024x1024 .bf16) (b : FVec Ideal S1024x1024 .bf16) (r : Fin 1024) (s : Fin 1024) :
    blockProd a b (ix2 r s) = ∑ k : Fin 1024, a (ix2 r k) * b (ix2 k s) := by
  unfold blockProd
  pointwise

/-- The product of the two whole arrays. -/
def prod (A : FVec Ideal S8192x1024 .bf16) (B : FVec Ideal S1024x4096 .bf16) : FVec Ideal S8192x4096 .f32 := fun i =>
  ∑ k : Fin 1024, A (ix2 (⟨(i 0).val, (i 0).isLt⟩ : Fin 8192) k) * B (ix2 k (⟨(i 1).val, (i 1).isLt⟩ : Fin 4096))

/-- The index maps: point `t` is row block `t / 4`, column block `t % 4`. -/
theorem idx : ∀ t : Fin cfg0.N, win0_0.index t = ![t.val / 4, 0] ∧ win0_1.index t = ![0, t.val % 4]
    ∧ win0_2.index t = ![t.val / 4, t.val % 4] ∧ win0_2.flush t = true :=
  (by decide +kernel : ∀ t : Fin grid0.N, win0_0.index t = ![t.val / 4, 0] ∧ win0_1.index t = ![0, t.val % 4]
    ∧ win0_2.index t = ![t.val / 4, t.val % 4] ∧ win0_2.flush t = true)

theorem lt_N (t : Fin cfg0.N) : t.val < 32 := lt_of_lt_of_eq t.isLt N_0

/-- Row block `i` of the left operand. -/
def rowsOf (A : FVec Ideal S8192x1024 .bf16) (i : ℕ) : FVec Ideal S1024x1024 .bf16 := fun y =>
  A (ix2 (⟨(1024 * i + (y 0).val) % 8192, Nat.mod_lt _ (by norm_num)⟩ : Fin 8192) (y 1))

/-- Column block `j` of the right operand. -/
def colsOf (B : FVec Ideal S1024x4096 .bf16) (j : ℕ) : FVec Ideal S1024x1024 .bf16 := fun y =>
  B (ix2 (y 0) (⟨(1024 * j + (y 1).val) % 4096, Nat.mod_lt _ (by norm_num)⟩ : Fin 4096))

variable (m : (ℓ : Loc nD τ sig) → Buf (Elt Ideal) ℓ)

theorem iblk0_eq (c : Dev nD) (t : Fin cfg0.N) : iblk m c 0 t = rowsOf (V m c main_v18) (t.val / 4) := by
  funext y
  have := lt_N t
  unfold rowsOf
  blk_ext [iblk, idx t]

theorem iblk1_eq (c : Dev nD) (t : Fin cfg0.N) : iblk m c 1 t = colsOf (V m c main_v17) (t.val % 4) := by
  funext y
  have := lt_N t
  unfold colsOf
  blk_ext [iblk, idx t]

/-- What point `t` writes back is its block of the product of the whole arrays. -/
theorem flushed_eq (c : Dev nD) (t : Fin cfg0.N) :
    (dats m 0 c).flushed 2 t = ((cfg0.win 2).blk t).view.read (Elt Ideal) (prod (V m c main_v18) (V m c main_v17)) := by
  rw [flushed2_A, out_eq, iblk0_eq, iblk1_eq]
  have ht := lt_N t
  have hidx := (idx t).2.2.1
  funext y
  have hy0 : (y 0).val < 1024 := (y 0).isLt
  have hy1 : (y 1).val < 1024 := (y 1).isLt
  have hb0 : (((cfg0.win 2).blk t).view.emb y 0).val = win0_2.index t (0 : Fin 2) * 1024 + 1 * (y 0).val := rfl
  have hb1 : (((cfg0.win 2).blk t).view.emb y 1).val = win0_2.index t (1 : Fin 2) * 1024 + 1 * (y 1).val := rfl
  rw [hidx] at hb0 hb1
  have hb0 : (((cfg0.win 2).blk t).view.emb y 0).val = t.val / 4 * 1024 + 1 * (y 0).val := hb0
  have hb1 : (((cfg0.win 2).blk t).view.emb y 1).val = t.val % 4 * 1024 + 1 * (y 1).val := hb1
  have e : (cfg0.win 2).xinj (grid0.coords t) y = ix2 (⟨(y 0).val, hy0⟩ : Fin 1024) (⟨(y 1).val, hy1⟩ : Fin 1024) := by
    funext a; fin_cases a <;> rfl
  show blockProd _ _ ((cfg0.win 2).xinj (grid0.coords t) y) = prod _ _ (((cfg0.win 2).blk t).view.emb y)
  rw [e, blockProd_apply]
  unfold prod rowsOf colsOf
  refine Finset.sum_congr rfl fun k _ => congrArg₂ (· * ·) ?_ ?_
  · refine congrArg (fun r => V m c main_v18 (ix2 r k)) (Fin.ext ?_)
    show (1024 * (t.val / 4) + (y 0).val) % 8192 = (((cfg0.win 2).blk t).view.emb y 0).val
    rw [hb0]; omega
  · refine congrArg (fun r => V m c main_v17 (ix2 k r)) (Fin.ext ?_)
    show (1024 * (t.val % 4) + (y 1).val) % 4096 = (((cfg0.win 2).blk t).view.emb y 1).val
    rw [hb1]; omega

theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v19).slice (win0_2.rect t)).set ↔ _
  rw [View.set_slice_whole, Rect.mem_set_unit]
  exact Iff.rfl

/-- The result array after the run: the product of the two operands. -/
theorem final (c : Dev nD) : (dats m 0 c).arrAt 2 cfg0.N = prod (V m c main_v18) (V m c main_v17) :=
  (dats m 0 c).arrAt_eq_of_cover 2 _ (fun t _ => flushed_eq m c t) fun i => by
    have h0 : (i 0).val < 8192 := (i 0).isLt
    have h1 : (i 1).val < 4096 := (i 1).isLt
    have hN : 4 * ((i 0).val / 1024) + (i 1).val / 1024 < cfg0.N := by
      rw [show cfg0.N = 32 from N_0]; omega
    obtain ⟨-, -, hi, hf⟩ := idx ⟨4 * ((i 0).val / 1024) + (i 1).val / 1024, hN⟩
    refine ⟨⟨_, hN⟩, hf, (mem_blk _ _).2 fun a => ?_⟩
    rw [hi]
    fin_cases a
    · show (4 * ((i 0).val / 1024) + (i 1).val / 1024) / 4 * 1024 ≤ (i 0).val ∧ (i 0).val < (4 * ((i 0).val / 1024) + (i 1).val / 1024) / 4 * 1024 + 1024
      omega
    · show (4 * ((i 0).val / 1024) + (i 1).val / 1024) % 4 * 1024 ≤ (i 1).val ∧ (i 1).val < (4 * ((i 0).val / 1024) + (i 1).val / 1024) % 4 * 1024 + 1024
      omega

end Cert.UqCall
-- ==== Proof.UqWeights.lean ====
module

public import proofs.«01_k».proof.Proof.UqBlocks
public import proofs.«01_k».proof.Proof.Sums
public import proofs.«01_k».proof.Proof.Gen.UqReferenceIdeal.Run

@[expose] public section

set_option maxRecDepth 16384

noncomputable section

/-! # The query up-projection: the columns of the call's weights and of the reference's result -/

namespace Cert.UqCall

/-- The columns as arranged: each head's first 128, then for each head its last 64 followed by the same 64 with each
half's groups of 16 swapped and the first negated. -/
def arrange (f : Fin 3072 → EReal) (n : ℕ) : EReal :=
  if n < 2048 then f ⟨(n / 128 * 192 + n % 128) % 3072, Nat.mod_lt _ (by norm_num)⟩
  else if n % 128 < 64 then f ⟨((n - 2048) / 128 * 192 + 128 + n % 128) % 3072, Nat.mod_lt _ (by norm_num)⟩
  else if n % 32 < 16 then -f ⟨((n - 2048) / 128 * 192 + 80 + n % 128) % 3072, Nat.mod_lt _ (by norm_num)⟩
  else f ⟨((n - 2048) / 128 * 192 + 48 + n % 128) % 3072, Nat.mod_lt _ (by norm_num)⟩

/-- The same columns with the indices as reading the arrangement through its reshapes gives them. -/
theorem arrange_eq (f : Fin 3072 → EReal) (n : Fin 4096) :
    (if h : n.val < 2048 then f ⟨n.val / 128 * 192 + n.val % 128, by omega⟩
      else if h1 : (n.val - 2048) % 128 < 64 then f ⟨(n.val - 2048) / 128 * 192 + (128 + (n.val - 2048) % 128), by omega⟩
      else if h2 : ((n.val - 2048) % 128 - 64) / 16 % 2 < 1 then
        -f ⟨(n.val - 2048) / 128 * 192 + (128 + (((n.val - 2048) % 128 - 64) / 32 * 32 + 16 + ((n.val - 2048) % 128 - 64) % 16)), by omega⟩
      else f ⟨(n.val - 2048) / 128 * 192 + (128 + (((n.val - 2048) % 128 - 64) / 32 * 32 + ((n.val - 2048) % 128 - 64) % 16)), by omega⟩)
      = arrange f n.val := by
  have hn : n.val < 4096 := n.isLt
  unfold arrange
  by_cases h1 : n.val < 2048
  · refine (dif_pos h1).trans (Eq.trans ?_ (if_pos h1).symm)
    exact congrArg f (Fin.ext (show n.val / 128 * 192 + n.val % 128 = (n.val / 128 * 192 + n.val % 128) % 3072 by omega))
  refine (dif_neg h1).trans (Eq.trans ?_ (if_neg h1).symm)
  by_cases h2 : n.val % 128 < 64
  · refine (dif_pos (show (n.val - 2048) % 128 < 64 by omega)).trans (Eq.trans ?_ (if_pos h2).symm)
    exact congrArg f (Fin.ext (show (n.val - 2048) / 128 * 192 + (128 + (n.val - 2048) % 128)
      = ((n.val - 2048) / 128 * 192 + 128 + n.val % 128) % 3072 by omega))
  refine (dif_neg (show ¬(n.val - 2048) % 128 < 64 by omega)).trans (Eq.trans ?_ (if_neg h2).symm)
  by_cases h3 : n.val % 32 < 16
  · refine (dif_pos (show ((n.val - 2048) % 128 - 64) / 16 % 2 < 1 by omega)).trans (Eq.trans ?_ (if_pos h3).symm)
    exact congrArg (fun q => -f q) (Fin.ext (show (n.val - 2048) / 128 * 192
      + (128 + (((n.val - 2048) % 128 - 64) / 32 * 32 + 16 + ((n.val - 2048) % 128 - 64) % 16))
      = ((n.val - 2048) / 128 * 192 + 80 + n.val % 128) % 3072 by omega))
  · refine (dif_neg (show ¬((n.val - 2048) % 128 - 64) / 16 % 2 < 1 by omega)).trans (Eq.trans ?_ (if_neg h3).symm)
    exact congrArg f (Fin.ext (show (n.val - 2048) / 128 * 192
      + (128 + (((n.val - 2048) % 128 - 64) / 32 * 32 + ((n.val - 2048) % 128 - 64) % 16))
      = ((n.val - 2048) / 128 * 192 + 48 + n.val % 128) % 3072 by omega))

section Weights

open Cert.UqIdeal Cert.UqIdeal.Gen Idealize.ShloMosaic Idealize.ShloMosaic.TcCoe Idealize.SL.Sem

/-- The last 64 columns of each head of the weights. -/
def rotary (w : FVec Ideal S1024x3072 .f32) : FVec Ideal S1024x16x64 .f32 :=
  extractStridedSlice S1024x16x64 ![0, 0, 128] (shapeCast S1024x16x192 w shapeCasts_S1024x3072_S1024x16x192) slices_S1024x16x192_S1024x16x64_0_0_128

/-- The last columns of each head in two halves of two groups of 16. -/
def rotaryGroups (w : FVec Ideal S1024x3072 .f32) : FVec Ideal S1024x16x2x2x16 .f32 :=
  shapeCast _ (rotary w) shapeCasts_S1024x16x64_S1024x16x2x2x16

/-- The last columns of each head with the two groups of each half swapped, the one that comes first negated. -/
def swapped (w : FVec Ideal S1024x3072 .f32) : FVec Ideal S1024x16x64 .f32 :=
  shapeCast _ (concatenate S1024x16x2x2x16 3 [⟨S1024x16x2x1x16, broadcastInDim S1024x16x2x1x16 ![0, 1, 2, 4] bcast_S1024x16x2x16_S1024x16x2x1x16_0_1_2_4
      (Host.negf (shapeCast _ (extractStridedSlice S1024x16x2x1x16 ![0, 0, 0, 1, 0] (rotaryGroups w) slices_S1024x16x2x2x16_S1024x16x2x1x16_0_0_0_1_0) shapeCasts_S1024x16x2x1x16_S1024x16x2x16))⟩,
    ⟨S1024x16x2x1x16, broadcastInDim S1024x16x2x1x16 ![0, 1, 2, 4] bcast_S1024x16x2x16_S1024x16x2x1x16_0_1_2_4
      (shapeCast _ (extractStridedSlice S1024x16x2x1x16 ![0, 0, 0, 0, 0] (rotaryGroups w) slices_S1024x16x2x2x16_S1024x16x2x1x16_0_0_0_0_0) shapeCasts_S1024x16x2x1x16_S1024x16x2x16)⟩]
    concatenates_S1024x16x2x1x16_S1024x16x2x1x16_S1024x16x2x2x16_d3) shapeCasts_S1024x16x2x2x16_S1024x16x64

/-- The given weights with their columns arranged. -/
def columns (w : FVec Ideal S1024x3072 .f32) : FVec Ideal S1024x4096 .f32 :=
  concatenate S1024x4096 1
    [⟨S1024x2048, shapeCast _ (extractStridedSlice S1024x16x128 ![0, 0, 0] (shapeCast S1024x16x192 w shapeCasts_S1024x3072_S1024x16x192)
        slices_S1024x16x192_S1024x16x128_0_0_0) shapeCasts_S1024x16x128_S1024x2048⟩,
    ⟨S1024x2048, shapeCast _ (concatenate S1024x16x128 2 [⟨S1024x16x64, rotary w⟩, ⟨S1024x16x64, swapped w⟩]
        concatenates_S1024x16x64_S1024x16x64_S1024x16x128_d2) shapeCasts_S1024x16x128_S1024x2048⟩]
    concatenates_S1024x2048_S1024x2048_S1024x4096_d1

/-- The call's weights, arranged before the call. -/
def weights (w : FVec Ideal S1024x3072 .f32) : FVec Ideal S1024x4096 .bf16 :=
  truncf .bf16 (columns w) bitsLt_bf16_f32

/-- The call's second operand is the arranged weights. -/
theorem V_weights (m : (ℓ : Loc nD τ sig) → Buf (Elt Ideal) ℓ) (c : Dev nD) :
    V m c main_v17 = weights (m ((c : Thread nD τ).loc main_arg1)) := by
  unfold weights columns swapped rotaryGroups rotary
  simp only [V, hostOps0, List.flatten_cons, List.flatten_nil, List.append_nil, List.cons_append, List.nil_append]
  after_results <;> rfl

/-- The rows the call reads: all but the first 256. -/
def latent (q : FVec Ideal S8448x1024 .bf16) : FVec Ideal S8192x1024 .bf16 :=
  extractStridedSlice S8192x1024 ![256, 0] q slices_S8448x1024_S8192x1024_256_0

/-- The call's first operand is those rows of the first argument. -/
theorem V_latent (m : (ℓ : Loc nD τ sig) → Buf (Elt Ideal) ℓ) (c : Dev nD) :
    V m c main_v18 = latent (m ((c : Thread nD τ).loc main_arg0)) := by
  unfold latent
  simp only [V, hostOps0, List.flatten_cons, List.flatten_nil, List.append_nil, List.cons_append, List.nil_append]
  after_results <;> rfl

theorem latent_apply (q : FVec Ideal S8448x1024 .bf16) (i : Fin 8192) (k : Fin 1024) :
    latent q (ix2 i k) = q (ix2 (⟨256 + i.val, by omega⟩ : Fin 8448) k) := by
  unfold latent
  pointwise

theorem weights_apply (w : FVec Ideal S1024x3072 .f32) (k : Fin 1024) (n : Fin 4096) :
    weights w (ix2 k n) = arrange (fun q => w (ix2 k q)) n.val := by
  unfold weights columns swapped rotaryGroups rotary
  pointwise
  exact arrange_eq (fun q => w (ix2 k q)) n

end Weights

section Reference

open Cert.UqReferenceIdeal Cert.UqReferenceIdeal.Gen Cert.UqReferenceIdeal.Value Idealize.ShloMosaic Idealize.ShloMosaic.TcCoe

/-- The product of the reference's two arguments, without its first 256 rows. -/
def full (q : FVec Ideal S8448x1024 .bf16) (w : FVec Ideal S1024x3072 .f32) : FVec Ideal S8192x3072 .f32 :=
  Host.dotGeneral dot_S8192x1024_S1024x3072_S8192x3072_1_0_0_1_n_n none
    (extf .f32 (extractStridedSlice S8192x1024 ![256, 0] q slices_S8448x1024_S8192x1024_256_0) bitsLt_bf16_f32) w

theorem full_apply (q : FVec Ideal S8448x1024 .bf16) (w : FVec Ideal S1024x3072 .f32) (i : Fin 8192) (n : Fin 3072) :
    full q w (ix2 i n) = ∑ k : Fin 1024, q (ix2 (⟨256 + i.val, by omega⟩ : Fin 8448) k) * w (ix2 k n) := by
  unfold full
  pointwise

/-- The last 64 columns of each head of the product. -/
def rotaryOf (P : FVec Ideal S8192x3072 .f32) : FVec Ideal S8192x16x64 .f32 :=
  extractStridedSlice S8192x16x64 ![0, 0, 128] (shapeCast S8192x16x192 P shapeCasts_S8192x3072_S8192x16x192) slices_S8192x16x192_S8192x16x64_0_0_128

/-- The last columns of each head in two halves of two groups of 16. -/
def rotaryOfGroups (P : FVec Ideal S8192x3072 .f32) : FVec Ideal S8192x16x2x2x16 .f32 :=
  shapeCast _ (rotaryOf P) shapeCasts_S8192x16x64_S8192x16x2x2x16

/-- The last columns of each head with the two groups of each half swapped, the one that comes first negated. -/
def swappedOf (P : FVec Ideal S8192x3072 .f32) : FVec Ideal S8192x16x64 .f32 :=
  shapeCast _ (concatenate S8192x16x2x2x16 3 [⟨S8192x16x2x1x16, broadcastInDim S8192x16x2x1x16 ![0, 1, 2, 4] bcast_S8192x16x2x16_S8192x16x2x1x16_0_1_2_4
      (Host.negf (shapeCast _ (extractStridedSlice S8192x16x2x1x16 ![0, 0, 0, 1, 0] (rotaryOfGroups P) slices_S8192x16x2x2x16_S8192x16x2x1x16_0_0_0_1_0) shapeCasts_S8192x16x2x1x16_S8192x16x2x16))⟩,
    ⟨S8192x16x2x1x16, broadcastInDim S8192x16x2x1x16 ![0, 1, 2, 4] bcast_S8192x16x2x16_S8192x16x2x1x16_0_1_2_4
      (shapeCast _ (extractStridedSlice S8192x16x2x1x16 ![0, 0, 0, 0, 0] (rotaryOfGroups P) slices_S8192x16x2x2x16_S8192x16x2x1x16_0_0_0_0_0) shapeCasts_S8192x16x2x1x16_S8192x16x2x16)⟩]
    concatenates_S8192x16x2x1x16_S8192x16x2x1x16_S8192x16x2x2x16_d3) shapeCasts_S8192x16x2x2x16_S8192x16x64

/-- The reference's result from its product: the product with its columns arranged. -/
def parts (P : FVec Ideal S8192x3072 .f32) : FVec Ideal S8192x4096 .f32 :=
  concatenate S8192x4096 1
    [⟨S8192x2048, shapeCast _ (extractStridedSlice S8192x16x128 ![0, 0, 0] (shapeCast S8192x16x192 P shapeCasts_S8192x3072_S8192x16x192)
        slices_S8192x16x192_S8192x16x128_0_0_0) shapeCasts_S8192x16x128_S8192x2048⟩,
    ⟨S8192x2048, shapeCast _ (concatenate S8192x16x128 2 [⟨S8192x16x64, rotaryOf P⟩, ⟨S8192x16x64, swappedOf P⟩]
        concatenates_S8192x16x64_S8192x16x64_S8192x16x128_d2) shapeCasts_S8192x16x128_S8192x2048⟩]
    concatenates_S8192x2048_S8192x2048_S8192x4096_d1

theorem parts_apply (P : FVec Ideal S8192x3072 .f32) (i : Fin 8192) (n : Fin 4096) :
    parts P (ix2 i n) = arrange (fun q => P (ix2 i q)) n.val := by
  unfold parts swappedOf rotaryOfGroups rotaryOf
  pointwise
  exact arrange_eq (fun q => P (ix2 i q)) n

end Reference

end Cert.UqCall
-- ==== Proof.UqEquation.lean ====
module

public import proofs.«01_k».proof.Proof.UqWeights

@[expose] public section

set_option maxRecDepth 16384

noncomputable section

/-! # The query up-projection: the two results agree -/

namespace Cert.UqCall

open Idealize.ShloMosaic Idealize.ShloMosaic.TcCoe

/-- Over finite operands, the product with the arranged weights is the arranged product. -/
theorem prod_weights (q : FVec Ideal Cert.UqIdeal.S8448x1024 .bf16) (w : FVec Ideal Cert.UqIdeal.S1024x3072 .f32)
    (hq : ∀ i, ∃ r : ℝ, q i = (r : EReal)) (hw : ∀ i, ∃ r : ℝ, w i = (r : EReal)) : prod (latent q) (weights w) = parts (full q w) := by
  funext x
  have e : x = ix2 (⟨(x 0).val, (x 0).isLt⟩ : Fin 8192) (⟨(x 1).val, (x 1).isLt⟩ : Fin 4096) := by
    funext a; fin_cases a <;> rfl
  generalize hi : (⟨(x 0).val, (x 0).isLt⟩ : Fin 8192) = i at e
  generalize hn : (⟨(x 1).val, (x 1).isLt⟩ : Fin 4096) = n at e
  have hL : prod (latent q) (weights w) x
      = ∑ k : Fin 1024, q (ix2 (⟨256 + i.val, by omega⟩ : Fin 8448) k) * arrange (fun j => w (ix2 k j)) n.val := by
    unfold prod
    rw [hi, hn]
    exact Finset.sum_congr rfl fun k _ => by rw [weights_apply, latent_apply]
  have hR : parts (full q w) x = arrange (fun j => full q w (ix2 i j)) n.val := by rw [e]; exact parts_apply _ _ _
  rw [hL, hR]
  unfold arrange
  by_cases h1 : n.val < 2048
  · simp only [if_pos h1]
    exact (full_apply _ _ _ _).symm
  by_cases h2 : n.val % 128 < 64
  · simp only [if_neg h1, if_pos h2]
    exact (full_apply _ _ _ _).symm
  by_cases h3 : n.val % 32 < 16
  · simp only [if_neg h1, if_neg h2, if_pos h3]
    rw [full_apply]
    exact Cert.Sums.neg_mul_right _ _ (fun k => hq _) (fun k => hw _)
  · simp only [if_neg h1, if_neg h2, if_neg h3]
    exact (full_apply _ _ _ _).symm

/-- Over finite arguments the call's result array is the reference's. -/
theorem value_eq (m : (ℓ : Loc Cert.UqIdeal.nD Cert.UqIdeal.τ Cert.UqIdeal.sig) → Buf (Elt Ideal) ℓ)
    (c : Dev Cert.UqIdeal.nD)
    (hq : ∀ i, ∃ r : ℝ, m ((c.tc : Thread _ _).loc Cert.UqIdeal.main_arg0) i = (r : EReal))
    (hw : ∀ i, ∃ r : ℝ, m ((c.tc : Thread _ _).loc Cert.UqIdeal.main_arg1) i = (r : EReal)) :
    (Cert.UqIdeal.Gen.dats m 0 c).arrAt 2 Cert.UqIdeal.cfg0.N
      = parts (full (m ((c.tc : Thread _ _).loc Cert.UqIdeal.main_arg0)) (m ((c.tc : Thread _ _).loc Cert.UqIdeal.main_arg1))) := by
  rw [final, V_latent, V_weights]
  exact prod_weights _ _ hq hw

end Cert.UqCall
-- ==== Proof.UkvBlocks.lean ====
module

public import proofs.«01_k».proof.Proof.Gen.UkvIdeal.Value
public import proofs.«01_k».proof.Proof.Consts
public import Idealize.ShloMosaic.Lib.Pointwise
public import Idealize.ShloMosaic.Lib.Pipeline.ValueKit

@[expose] public section

set_option maxRecDepth 16384

noncomputable section

/-! # The latent attention's keys-and-values projection: its result array as one product of its two operands -/

namespace Cert.UkvCall

open Cert.UkvIdeal Cert.UkvIdeal.Gen Cert.UkvIdeal.Value Idealize.ShloMosaic Idealize.ShloMosaic.TcCoe Idealize.SL.Sem

/-- What the body stores: the product of its two blocks. -/
def blockProd (a : FVec Ideal S1408x512 .bf16) (b : FVec Ideal S512x1024 .bf16) : FVec Ideal S1408x1024 .bf16 :=
  truncf .bf16 (matmul dot_S1408x512_S512x1024_S1408x1024_1_0_0_1_n_n none a b (constant S1408x1024 .f32 0x00000000#32)) bitsLt_bf16_f32

theorem hz : (![0, 0] : Fin 2 → Nat) = fun _ => 0 := funext fun a => by fin_cases a <;> rfl

/-- The body leaves the product of its blocks. -/
theorem out_eq (c : Dev nD) (i : grid0.Coords) (a3 : Memref sig .tc .vmem S1408x512 .bf16) (h3 : a3.IsWhole)
    (a4 : Memref sig .tc .vmem S512x1024 .bf16) (h4 : a4.IsWhole) (a5 : Memref sig .tc .vmem S1408x1024 .bf16) (h5 : a5.IsWhole)
    (a6 : Memref sig .tc .vmem S8x128 .f32) (h6 : a6.IsWhole) (x0 : Vec Ideal S1408x512 .bf16) (x1 : Vec Ideal S512x1024 .bf16) :
    out0_A_2 c i a3 h3 a4 h4 a5 h5 a6 h6 x0 x1 = blockProd x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [k0_pay1, View.readAt_eq_ld, h3.read_unread, h4.read_unread,
    View.ld_unit_zero (S := S1408x512) hz, View.ld_unit_zero (S := S512x1024) hz, shapeCast_self]
  rfl

/-- An entry of the product of two blocks. -/
theorem blockProd_apply (a : FVec Ideal S1408x512 .bf16) (b : FVec Ideal S512x1024 .bf16) (r : Fin 1408) (s : Fin 1024) :
    blockProd a b (ix2 r s) = ∑ k : Fin 512, a (ix2 r k) * b (ix2 k s) := by
  unfold blockProd
  pointwise

/-- The product of the two whole arrays. -/
def prod (A : FVec Ideal S8448x512 .bf16) (B : FVec Ideal S512x4096 .bf16) : FVec Ideal S8448x4096 .bf16 := fun i =>
  ∑ k : Fin 512, A (ix2 (⟨(i 0).val, (i 0).isLt⟩ : Fin 8448) k) * B (ix2 k (⟨(i 1).val, (i 1).isLt⟩ : Fin 4096))

/-- The index maps: point `t` is row block `t / 4`, column block `t % 4`. -/
theorem idx : ∀ t : Fin cfg0.N, win0_0.index t = ![t.val / 4, 0] ∧ win0_1.index t = ![0, t.val % 4]
    ∧ win0_2.index t = ![t.val / 4, t.val % 4] ∧ win0_2.flush t = true :=
  (by decide +kernel : ∀ t : Fin grid0.N, win0_0.index t = ![t.val / 4, 0] ∧ win0_1.index t = ![0, t.val % 4]
    ∧ win0_2.index t = ![t.val / 4, t.val % 4] ∧ win0_2.flush t = true)

theorem lt_N (t : Fin cfg0.N) : t.val < 24 := lt_of_lt_of_eq t.isLt N_0

/-- Row block `i` of the left operand. -/
def rowsOf (A : FVec Ideal S8448x512 .bf16) (i : ℕ) : FVec Ideal S1408x512 .bf16 := fun y =>
  A (ix2 (⟨(1408 * i + (y 0).val) % 8448, Nat.mod_lt _ (by norm_num)⟩ : Fin 8448) (y 1))

/-- Column block `j` of the right operand. -/
def colsOf (B : FVec Ideal S512x4096 .bf16) (j : ℕ) : FVec Ideal S512x1024 .bf16 := fun y =>
  B (ix2 (y 0) (⟨(1024 * j + (y 1).val) % 4096, Nat.mod_lt _ (by norm_num)⟩ : Fin 4096))

variable (m : (ℓ : Loc nD τ sig) → Buf (Elt Ideal) ℓ)

theorem iblk0_eq (c : Dev nD) (t : Fin cfg0.N) : iblk m c 0 t = rowsOf (V m c main_arg0) (t.val / 4) := by
  funext y
  have := lt_N t
  unfold rowsOf
  blk_ext [iblk, idx t]

theorem iblk1_eq (c : Dev nD) (t : Fin cfg0.N) : iblk m c 1 t = colsOf (V m c main_v0) (t.val % 4) := by
  funext y
  have := lt_N t
  unfold colsOf
  blk_ext [iblk, idx t]

/-- What point `t` writes back is its block of the product of the whole arrays. -/
theorem flushed_eq (c : Dev nD) (t : Fin cfg0.N) :
    (dats m 0 c).flushed 2 t = ((cfg0.win 2).blk t).view.read (Elt Ideal) (prod (V m c main_arg0) (V m c main_v0)) := by
  rw [flushed2_A, out_eq, iblk0_eq, iblk1_eq]
  have ht := lt_N t
  have hidx := (idx t).2.2.1
  funext y
  have hy0 : (y 0).val < 1408 := (y 0).isLt
  have hy1 : (y 1).val < 1024 := (y 1).isLt
  have hb0 : (((cfg0.win 2).blk t).view.emb y 0).val = win0_2.index t (0 : Fin 2) * 1408 + 1 * (y 0).val := rfl
  have hb1 : (((cfg0.win 2).blk t).view.emb y 1).val = win0_2.index t (1 : Fin 2) * 1024 + 1 * (y 1).val := rfl
  rw [hidx] at hb0 hb1
  have hb0 : (((cfg0.win 2).blk t).view.emb y 0).val = t.val / 4 * 1408 + 1 * (y 0).val := hb0
  have hb1 : (((cfg0.win 2).blk t).view.emb y 1).val = t.val % 4 * 1024 + 1 * (y 1).val := hb1
  have e : (cfg0.win 2).xinj (grid0.coords t) y = ix2 (⟨(y 0).val, hy0⟩ : Fin 1408) (⟨(y 1).val, hy1⟩ : Fin 1024) := by
    funext a; fin_cases a <;> rfl
  show blockProd _ _ ((cfg0.win 2).xinj (grid0.coords t) y) = prod _ _ (((cfg0.win 2).blk t).view.emb y)
  rw [e, blockProd_apply]
  unfold prod rowsOf colsOf
  refine Finset.sum_congr rfl fun k _ => congrArg₂ (· * ·) ?_ ?_
  · refine congrArg (fun r => V m c main_arg0 (ix2 r k)) (Fin.ext ?_)
    show (1408 * (t.val / 4) + (y 0).val) % 8448 = (((cfg0.win 2).blk t).view.emb y 0).val
    rw [hb0]; omega
  · refine congrArg (fun r => V m c main_v0 (ix2 k r)) (Fin.ext ?_)
    show (1024 * (t.val % 4) + (y 1).val) % 4096 = (((cfg0.win 2).blk t).view.emb y 1).val
    rw [hb1]; omega

theorem mem_blk (t : Fin cfg0.N) (i : S8448x4096.Idx) :
    i ∈ ((cfg0.win 2).blk t).view.set ↔ ∀ a : Fin 2, win0_2.index t a * S1408x1024.size a ≤ (i a).val ∧ (i a).val < win0_2.index t a * S1408x1024.size a + S1408x1024.size a := by
  show i ∈ ((View.whole main_v1).slice (win0_2.rect t)).set ↔ _
  rw [View.set_slice_whole, Rect.mem_set_unit]
  exact Iff.rfl

/-- The result array after the run: the product of the two operands. -/
theorem final (c : Dev nD) : (dats m 0 c).arrAt 2 cfg0.N = prod (V m c main_arg0) (V m c main_v0) :=
  (dats m 0 c).arrAt_eq_of_cover 2 _ (fun t _ => flushed_eq m c t) fun i => by
    have h0 : (i 0).val < 8448 := (i 0).isLt
    have h1 : (i 1).val < 4096 := (i 1).isLt
    have hN : 4 * ((i 0).val / 1408) + (i 1).val / 1024 < cfg0.N := by
      rw [show cfg0.N = 24 from N_0]; omega
    obtain ⟨-, -, hi, hf⟩ := idx ⟨4 * ((i 0).val / 1408) + (i 1).val / 1024, hN⟩
    refine ⟨⟨_, hN⟩, hf, (mem_blk _ _).2 fun a => ?_⟩
    rw [hi]
    fin_cases a
    · show (4 * ((i 0).val / 1408) + (i 1).val / 1024) / 4 * 1408 ≤ (i 0).val ∧ (i 0).val < (4 * ((i 0).val / 1408) + (i 1).val / 1024) / 4 * 1408 + 1408
      omega
    · show (4 * ((i 0).val / 1408) + (i 1).val / 1024) % 4 * 1024 ≤ (i 1).val ∧ (i 1).val < (4 * ((i 0).val / 1408) + (i 1).val / 1024) % 4 * 1024 + 1024
      omega

end Cert.UkvCall
-- ==== Proof.UkvEquation.lean ====
module

public import proofs.«01_k».proof.Proof.UkvBlocks
public import proofs.«01_k».proof.Proof.Gen.UkvReferenceIdeal.Run

@[expose] public section

set_option maxRecDepth 16384

noncomputable section

/-! # The latent attention's keys-and-values projection: the reference's result, and that the two agree -/

namespace Cert.UkvCall

section Operands

open Cert.UkvIdeal Cert.UkvIdeal.Gen Idealize.ShloMosaic Idealize.ShloMosaic.TcCoe Idealize.SL.Sem

theorem V_weights (m : (ℓ : Loc nD τ sig) → Buf (Elt Ideal) ℓ) (c : Dev nD) :
    V m c main_v0 = m ((c : Thread nD τ).loc main_arg1) := by
  simp only [V, hostOps0, List.flatten_cons, List.flatten_nil, List.append_nil, List.cons_append, List.nil_append]
  after_results <;> rfl

end Operands

section Reference

open Cert.UkvReferenceIdeal Cert.UkvReferenceIdeal.Gen Cert.UkvReferenceIdeal.Value Idealize.ShloMosaic Idealize.ShloMosaic.TcCoe Idealize.SL.Sem

/-- The reference's product, rounded to bf16. -/
def full (h : FVec Ideal S8448x512 .bf16) (w : FVec Ideal S512x4096 .f32) : FVec Ideal S8448x4096 .bf16 :=
  truncf .bf16 (Host.dotGeneral dot_S8448x512_S512x4096_S8448x4096_1_0_0_1_n_n none (extf .f32 h bitsLt_bf16_f32) w) bitsLt_bf16_f32

theorem full_apply (h : FVec Ideal S8448x512 .bf16) (w : FVec Ideal S512x4096 .f32) (i : Fin 8448) (n : Fin 4096) :
    full h w (ix2 i n) = ∑ k : Fin 512, h (ix2 i k) * w (ix2 k n) := by
  unfold full
  pointwise

end Reference

open Idealize.ShloMosaic Idealize.ShloMosaic.TcCoe

/-- The call's result array is the reference's. -/
theorem value_eq (m : (ℓ : Loc Cert.UkvIdeal.nD Cert.UkvIdeal.τ Cert.UkvIdeal.sig) → Buf (Elt Ideal) ℓ)
    (c : Dev Cert.UkvIdeal.nD) :
    (Cert.UkvIdeal.Gen.dats m 0 c).arrAt 2 Cert.UkvIdeal.cfg0.N
      = full (m ((c.tc : Thread _ _).loc Cert.UkvIdeal.main_arg0)) (m ((c.tc : Thread _ _).loc Cert.UkvIdeal.main_arg1)) := by
  rw [final, Cert.UkvIdeal.Gen.V_main_arg0, V_weights]
  funext x
  have e : x = ix2 (⟨(x 0).val, (x 0).isLt⟩ : Fin 8448) (⟨(x 1).val, (x 1).isLt⟩ : Fin 4096) := by
    funext a; fin_cases a <;> rfl
  refine Eq.trans ?_ (congrArg (full _ _) e).symm
  rw [full_apply]
  rfl

end Cert.UkvCall
-- ==== Proof.SharedUpBlocks.lean ====
module

public import proofs.«01_k».proof.Proof.Gen.SharedUpIdeal.Value
public import proofs.«01_k».proof.Proof.Consts
public import Idealize.ShloMosaic.Lib.Pointwise
public import Idealize.ShloMosaic.Lib.Pipeline.ValueKit

@[expose] public section

set_option maxRecDepth 16384

noncomputable section

/-! # The shared expert's inner part: its result array from its operands -/

namespace Cert.SharedUpCall

open Cert.SharedUpIdeal Cert.SharedUpIdeal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- A load of a scratch array after its fill reads the fill's contents. -/
theorem readCov_ld (v : View sig .tc .vmem S4096x256 .bf16) (L : List (View.Piece (Elt Ideal) S4096x256 .bf16)) (r : Rect S4096x256) :
    v.readCov L r.toLoadRect = View.ld (View.canon L) r := View.readCov_eq_canon' v L r.toLoadRect

section Cases

variable (c : Dev nD) (i : grid0.Coords) (a2 : Memref sig .tc .vmem S1408x4096 .bf16) (h2 : a2.IsWhole)
  (a3 : Memref sig .tc .vmem S1x4096x256 .f32) (h3 : a3.IsWhole) (a4 : Memref sig .tc .vmem S1x4096x256 .f32) (h4 : a4.IsWhole)
  (a5 : Memref sig .tc .vmem S1408x256 .bf16) (h5 : a5.IsWhole) (a6 : Memref sig .tc .vmem S4096x256 .bf16) (h6 : a6.IsWhole)
  (a7 : Memref sig .tc .vmem S4096x256 .bf16) (h7 : a7.IsWhole)

/-- A point that fills the scratch leaves the gate weights' block in the first scratch array. -/
theorem sout0_A_0_eq (hc : cond0_0 i) (x0 : Vec Ideal S1408x4096 .bf16) (x1 x2 : Vec Ideal S1x4096x256 .f32) :
    sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero hz]
  simp only [View.readAt_eq_ld, h3.read_unread, View.ld_unit_zero (S := S1x4096x256) hz3]

/-- A point that fills the scratch leaves the up weights' block in the second scratch array. -/
theorem sout0_A_1_eq (hc : cond0_0 i) (x0 : Vec Ideal S1408x4096 .bf16) (x1 x2 : Vec Ideal S1x4096x256 .f32) :
    sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero hz]
  simp only [View.readAt_eq_ld, h4.read_unread, View.ld_unit_zero (S := S1x4096x256) hz3]

/-- What a point that fills the scratch leaves in the result's block. -/
theorem out0_A_eq (hc : cond0_0 i) (x0 : Vec Ideal S1408x4096 .bf16) (x1 x2 : Vec Ideal S1x4096x256 .f32) :
    out0_A_3 c i a2 h2 a3 h3 a4 h4 a5 h5 a6 h6 a7 h7 hc x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz]
  simp only [readCov_ld, View.readAt_eq_ld, h2.read_unread, h3.read_unread, h4.read_unread, View.ld_unit_zero (S := S1x4096x256) hz3,
    View.ld_unit_zero (S := S1408x4096) hz, View.ld_unit_zero (S := S4096x256) hz]
  rw [View.canon_unit_zero hz, View.canon_unit_zero hz]

/-- What a point that keeps the scratch leaves in the result's block. -/
theorem out0_B_eq (hc : ¬cond0_0 i) (x0 : Vec Ideal S1408x4096 .bf16) (x1 x2 : Vec Ideal S1x4096x256 .f32) (s0 s1 : Vec Ideal S4096x256 .bf16) :
    out0_B_3 c i a2 h2 a3 h3 a4 h4 a5 h5 a6 h6 a7 h7 hc x0 x1 x2 s0 s1 = k0_pay3 x0 s0 s1 := by
  unfold out0_B_3
  rw [View.read_writes_eq_canon _ _ _ (cover0_B_3 c i a2 h2 a3 h3 a4 h4 a5 h5 a6 h6 a7 h7 hc x0 x1 x2 s0 s1)]
  unfold kernelRun0_B
  dsimp only
  sl_unfold_words
  rw [View.canon_unit_zero hz]
  simp only [View.readAt_eq_ld, h2.read_unread, h6.read_unread, h7.read_unread,
    View.ld_unit_zero (S := S1408x4096) hz, View.ld_unit_zero (S := S4096x256) hz]

end Cases

/-- The weights' block as the scratch holds it: its one layer. -/
theorem pay1_apply (w : FVec Ideal S1x4096x256 .f32) (k : Fin 4096) (s : Fin 256) : k0_pay1 (F := Ideal) w (ix2 k s) = w (ix3 0 k s) := by
  unfold k0_pay1
  pointwise

theorem pay2_apply (w : FVec Ideal S1x4096x256 .f32) (k : Fin 4096) (s : Fin 256) : k0_pay2 (F := Ideal) w (ix2 k s) = w (ix3 0 k s) := by
  unfold k0_pay2
  pointwise

/-- The gated product of two sums: `g · σ(g) · u`. -/
def swish (g u : EReal) : EReal := g * Ideal.logistic g * u

/-- An entry of what the body leaves. -/
theorem pay3_apply (h : FVec Ideal S1408x4096 .bf16) (a b : FVec Ideal S4096x256 .bf16) (r : Fin 1408) (s : Fin 256) :
    k0_pay3 (F := Ideal) h a b (ix2 r s) = swish (∑ k : Fin 4096, h (ix2 r k) * a (ix2 k s)) (∑ k : Fin 4096, h (ix2 r k) * b (ix2 k s)) := by
  unfold k0_pay3 swish
  pointwise

/-- The index maps: point `t` is column block `t / 6`, row block `t % 6`. -/
theorem idx : ∀ t : Fin cfg0.N, win0_0.index t = ![t.val % 6, 0] ∧ win0_1.index t = ![0, 0, t.val / 6] ∧ win0_2.index t = ![0, 0, t.val / 6] :=
  (by decide +kernel : ∀ t : Fin grid0.N, win0_0.index t = ![t.val % 6, 0] ∧ win0_1.index t = ![0, 0, t.val / 6] ∧ win0_2.index t = ![0, 0, t.val / 6])

theorem lt_N (t : Fin cfg0.N) : t.val < 24 := lt_of_lt_of_eq t.isLt N_0

/-- Row block `i` of the left operand. -/
def rowsOf (A : FVec Ideal S8448x4096 .bf16) (i : ℕ) : FVec Ideal S1408x4096 .bf16 := fun y =>
  A (ix2 (⟨(1408 * i + (y 0).val) % 8448, Nat.mod_lt _ (by norm_num)⟩ : Fin 8448) (y 1))

/-- Column block `j` of the first layer's weights. -/
def colsOf (B : FVec Ideal S2x4096x1024 .f32) (j : ℕ) : FVec Ideal S1x4096x256 .f32 := fun y =>
  B (ix3 (0 : Fin 2) (y 1) (⟨(256 * j + (y 2).val) % 1024, Nat.mod_lt _ (by norm_num)⟩ : Fin 1024))

variable (m : (ℓ : Loc nD τ sig) → Buf (Elt Ideal) ℓ)

theorem iblk0_eq (c : Dev nD) (t : Fin cfg0.N) : iblk m c 0 t = rowsOf (m ((c : Thread nD τ).loc main_arg0)) (t.val % 6) := by
  funext y
  have := lt_N t
  unfold rowsOf
  blk_ext [iblk, V, idx t]

theorem iblk1_eq (c : Dev nD) (t : Fin cfg0.N) : iblk m c 1 t = colsOf (m ((c : Thread nD τ).loc main_arg1)) (t.val / 6) := by
  funext y
  have := lt_N t
  unfold colsOf
  blk_ext [iblk, V, idx t]

theorem iblk2_eq (c : Dev nD) (t : Fin cfg0.N) : iblk m c 2 t = colsOf (m ((c : Thread nD τ).loc main_arg2)) (t.val / 6) := by
  funext y
  have := lt_N t
  unfold colsOf
  blk_ext [iblk, V, idx t]

/-- The scratch of column block `j`. -/
def gateW (c : Dev nD) (j : ℕ) : FVec Ideal S4096x256 .bf16 := k0_pay1 (colsOf (m ((c : Thread nD τ).loc main_arg1)) j)
def upW (c : Dev nD) (j : ℕ) : FVec Ideal S4096x256 .bf16 := k0_pay2 (colsOf (m ((c : Thread nD τ).loc main_arg2)) j)

/-- At a column block's first point the scratch takes its weights. -/
theorem scratch_first (c : Dev nD) (t : Fin cfg0.N) (h0 : t.val % 6 = 0) :
    (outsAt0 m c t.val t.isLt).2.1 = gateW m c (t.val / 6) ∧ (outsAt0 m c t.val t.isLt).2.2 = upW m c (t.val / 6) := by
  rw [outsAt0_A m c t h0]
  dsimp only
  rw [sout0_A_0_eq, sout0_A_1_eq, iblk1_eq, iblk2_eq]
  exact ⟨rfl, rfl⟩

/-- At its later points the scratch stays. -/
theorem scratch_later (c : Dev nD) (t : Fin cfg0.N) (h0 : ¬t.val % 6 = 0) :
    (outsAt0 m c t.val t.isLt).2 = (outsAt0 m c (t.val - 1) (Nat.lt_of_le_of_lt (Nat.sub_le _ _) t.isLt)).2 := by
  rw [outsAt0_B m c t h0]
  rfl

/-- After any point the scratch holds the weights of the point's column block. -/
theorem scratch_eq (c : Dev nD) : ∀ (n : ℕ) (hn : n < cfg0.N),
    (outsAt0 m c n hn).2.1 = gateW m c (n / 6) ∧ (outsAt0 m c n hn).2.2 = upW m c (n / 6) := by
  intro n
  induction n with
  | zero => exact fun hn => scratch_first m c ⟨0, hn⟩ rfl
  | succ n ih =>
    intro hn
    by_cases h0 : (n + 1) % 6 = 0
    · exact scratch_first m c ⟨n + 1, hn⟩ h0
    · have e := scratch_later m c ⟨n + 1, hn⟩ h0
      have hd : (n + 1) / 6 = n / 6 := by omega
      rw [hd]
      exact ⟨(congrArg Prod.fst e).trans (ih _).1, (congrArg Prod.snd e).trans (ih _).2⟩

/-- What point `t` leaves in the result's block, from its row block and its column block's weights. -/
theorem out_eq (c : Dev nD) (t : Fin cfg0.N) :
    (outsAt0 m c t.val t.isLt).1 = k0_pay3 (F := Ideal) (rowsOf (m ((c : Thread nD τ).loc main_arg0)) (t.val % 6)) (gateW m c (t.val / 6)) (upW m c (t.val / 6)) := by
  by_cases h0 : t.val % 6 = 0
  · rw [outsAt0_A m c t h0]
    dsimp only
    rw [out0_A_eq, iblk0_eq, iblk1_eq, iblk2_eq]
    rfl
  · rw [outsAt0_B m c t h0]
    have hd : (t.val - 1) / 6 = t.val / 6 := by omega
    have hs := scratch_eq m c (t.val - 1) (Nat.lt_of_le_of_lt (Nat.sub_le _ _) t.isLt)
    rw [hd] at hs
    dsimp only
    rw [out0_B_eq, iblk0_eq, hs.1, hs.2]

/-- Entry `(i, n)` of the product of the left operand with the weights' first layer. -/
def sumOf (h : FVec Ideal S8448x4096 .bf16) (w : FVec Ideal S2x4096x1024 .f32) (i : Fin 8448) (n : Fin 1024) : EReal :=
  ∑ k : Fin 4096, h (ix2 i k) * w (ix3 (0 : Fin 2) k n)

/-- An entry of the result array. -/
theorem G_eq (c : Dev nD) (i : Fin 8448) (n : Fin 1024) :
    Value.G3 m c (ix2 i n) = swish
      (sumOf (m ((c : Thread nD τ).loc main_arg0)) (m ((c : Thread nD τ).loc main_arg1)) i n)
      (sumOf (m ((c : Thread nD τ).loc main_arg0)) (m ((c : Thread nD τ).loc main_arg2)) i n) := by
  have h0 : i.val < 8448 := i.isLt
  have h1 : n.val < 1024 := n.isLt
  have hp : Value.pt3Of (ix2 i n) < cfg0.N := by
    rw [show cfg0.N = 24 from N_0]
    show 1 * (i.val / 1408 - 0) + 6 * (n.val / 256 - 0) < 24
    omega
  have e1 : Value.pt3Of (ix2 i n) / 6 = n.val / 256 := by
    show (1 * (i.val / 1408 - 0) + 6 * (n.val / 256 - 0)) / 6 = _
    omega
  have e2 : Value.pt3Of (ix2 i n) % 6 = i.val / 1408 := by
    show (1 * (i.val / 1408 - 0) + 6 * (n.val / 256 - 0)) % 6 = _
    omega
  have o := out_eq m c ⟨_, hp⟩
  rw [Value.outsAt0_sweep m c _ hp] at o
  dsimp only at o
  rw [e1, e2] at o
  unfold Value.G3
  rw [dif_pos hp]
  refine (congrFun o (Value.loc3Of (ix2 i n))).trans ?_
  have el : Value.loc3Of (ix2 i n) = ix2 (⟨i.val % 1408, Nat.mod_lt _ (by norm_num)⟩ : Fin 1408) (⟨n.val % 256, Nat.mod_lt _ (by norm_num)⟩ : Fin 256) := by
    funext a
    fin_cases a <;> rfl
  rw [el, pay3_apply]
  have er : (⟨(1408 * (i.val / 1408) + i.val % 1408) % 8448, Nat.mod_lt _ (by norm_num)⟩ : Fin 8448) = i := Fin.ext (by show (1408 * (i.val / 1408) + i.val % 1408) % 8448 = i.val; omega)
  have es : (⟨(256 * (n.val / 256) + n.val % 256) % 1024, Nat.mod_lt _ (by norm_num)⟩ : Fin 1024) = n := Fin.ext (by show (256 * (n.val / 256) + n.val % 256) % 1024 = n.val; omega)
  refine congrArg₂ swish (Finset.sum_congr rfl fun k _ => congrArg₂ (· * ·) ?_ ?_) (Finset.sum_congr rfl fun k _ => congrArg₂ (· * ·) ?_ ?_)
  · exact congrArg (fun q => m ((c : Thread nD τ).loc main_arg0) (ix2 q k)) er
  · unfold gateW
    rw [pay1_apply]
    exact congrArg (fun q => m ((c : Thread nD τ).loc main_arg1) (ix3 (0 : Fin 2) k q)) es
  · exact congrArg (fun q => m ((c : Thread nD τ).loc main_arg0) (ix2 q k)) er
  · unfold upW
    rw [pay2_apply]
    exact congrArg (fun q => m ((c : Thread nD τ).loc main_arg2) (ix3 (0 : Fin 2) k q)) es

end Cert.SharedUpCall
-- ==== Proof.SharedUpEquation.lean ====
module

public import proofs.«01_k».proof.Proof.SharedUpBlocks
public import proofs.«01_k».proof.Proof.Gen.SharedUpReferenceIdeal.Run

@[expose] public section

set_option maxRecDepth 16384

noncomputable section

/-! # The shared expert's inner part: the reference's result, and that the two agree -/

namespace Cert.SharedUpCall

section Reference

open Cert.SharedUpReferenceIdeal Cert.SharedUpReferenceIdeal.Gen Cert.SharedUpReferenceIdeal.Value Idealize.ShloMosaic Idealize.ShloMosaic.TcCoe

/-- The reference's product with the first layer of the weights. -/
def times (h : FVec Ideal S8448x4096 .bf16) (w : FVec Ideal S2x4096x1024 .f32) : FVec Ideal S8448x1024 .f32 :=
  Host.dotGeneral dot_S8448x4096_S4096x1024_S8448x1024_1_0_0_1_n_n none (extf .f32 h bitsLt_bf16_f32) (shapeCast _ (extractStridedSlice S1x4096x1024 ![0, 0, 0] w slices_S2x4096x1024_S1x4096x1024_0_0_0) shapeCasts_S1x4096x1024_S4096x1024)

theorem times_apply (h : FVec Ideal S8448x4096 .bf16) (w : FVec Ideal S2x4096x1024 .f32) (i : Fin 8448) (n : Fin 1024) :
    times h w (ix2 i n) = ∑ k : Fin 4096, h (ix2 i k) * w (ix3 (0 : Fin 2) k n) := by
  unfold times
  pointwise

/-- The reference's gated product. -/
def silu (G U : FVec Ideal S8448x1024 .f32) : FVec Ideal S8448x1024 .bf16 :=
  truncf .bf16 (mulf (mulf G (Host.divf (broadcastInDim S8448x1024 ![] bcast_S_S8448x1024 (constant S_ .f32 0x3F800000#32)) (addf (broadcastInDim S8448x1024 ![] bcast_S_S8448x1024 (constant S_ .f32 0x3F800000#32)) (Host.exp (Host.negf G))))) U) bitsLt_bf16_f32

theorem silu_apply (G U : FVec Ideal S8448x1024 .f32) (i : Fin 8448) (n : Fin 1024) :
    silu G U (ix2 i n) = swish (G (ix2 i n)) (U (ix2 i n)) := by
  unfold silu swish Ideal.logistic
  pointwise

end Reference

open Idealize.ShloMosaic Idealize.ShloMosaic.TcCoe

/-- The call's result array is the reference's. -/
theorem value_eq (m : (ℓ : Loc Cert.SharedUpIdeal.nD Cert.SharedUpIdeal.τ Cert.SharedUpIdeal.sig) → Buf (Elt Ideal) ℓ)
    (c : Dev Cert.SharedUpIdeal.nD) :
    Cert.SharedUpIdeal.Value.G3 m c
      = silu (times (m ((c.tc : Thread _ _).loc Cert.SharedUpIdeal.main_arg0)) (m ((c.tc : Thread _ _).loc Cert.SharedUpIdeal.main_arg1)))
          (times (m ((c.tc : Thread _ _).loc Cert.SharedUpIdeal.main_arg0)) (m ((c.tc : Thread _ _).loc Cert.SharedUpIdeal.main_arg2))) := by
  funext x
  have e : x = ix2 (⟨(x 0).val, (x 0).isLt⟩ : Fin 8448) (⟨(x 1).val, (x 1).isLt⟩ : Fin 1024) := by
    funext a; fin_cases a <;> rfl
  refine (congrArg (Cert.SharedUpIdeal.Value.G3 m c) e).trans (Eq.trans ?_ (congrArg (silu _ _) e).symm)
  rw [G_eq, silu_apply, times_apply, times_apply]
  rfl

end Cert.SharedUpCall
-- ==== Proof.SharedUpLastBlocks.lean ====
module

public import proofs.«01_k».proof.Proof.Gen.SharedUpLastIdeal.Value
public import proofs.«01_k».proof.Proof.Consts
public import Idealize.ShloMosaic.Lib.Pointwise
public import Idealize.ShloMosaic.Lib.Pipeline.ValueKit

@[expose] public section

set_option maxRecDepth 16384

noncomputable section

/-! # The last layer's shared expert's inner part: its result array from its operands -/

namespace Cert.SharedUpLastCall

open Cert.SharedUpLastIdeal Cert.SharedUpLastIdeal.Gen Idealize.ShloMosaic Idealize.ShloMosaic.TcCoe Idealize.SL.Sem

theorem hz : (![0, 0] : Fin 2 → Nat) = fun _ => 0 := funext fun a => by fin_cases a <;> rfl

theorem hz3 : (![0, 0, 0] : Fin 3 → Nat) = fun _ => 0 := funext fun a => by fin_cases a <;> rfl

/-- A load of a scratch array after its fill reads the fill's contents. -/
theorem readCov_ld (v : View sig .tc .vmem S4096x256 .bf16) (L : List (View.Piece (Elt Ideal) S4096x256 .bf16)) (r : Rect S4096x256) :
    v.readCov L r.toLoadRect = View.ld (View.canon L) r := View.readCov_eq_canon' v L r.toLoadRect

section Cases

variable (c : Dev nD) (i : grid0.Coords) (a2 : Memref sig .tc .vmem S1024x4096 .bf16) (h2 : a2.IsWhole)
  (a3 : Memref sig .tc .vmem S1x4096x256 .f32) (h3 : a3.IsWhole) (a4 : Memref sig .tc .vmem S1x4096x256 .f32) (h4 : a4.IsWhole)
  (a5 : Memref sig .tc .vmem S1024x256 .bf16) (h5 : a5.IsWhole) (a6 : Memref sig .tc .vmem S4096x256 .bf16) (h6 : a6.IsWhole)
  (a7 : Memref sig .tc .vmem S4096x256 .bf16) (h7 : a7.IsWhole)

/-- A point that fills the scratch leaves the gate weights' block in the first scratch array. -/
theorem sout0_A_0_eq (hc : cond0_0 i) (x0 : Vec Ideal S1024x4096 .bf16) (x1 x2 : Vec Ideal S1x4096x256 .f32) :
    sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero hz]
  simp only [View.readAt_eq_ld, h3.read_unread, View.ld_unit_zero (S := S1x4096x256) hz3]

/-- A point that fills the scratch leaves the up weights' block in the second scratch array. -/
theorem sout0_A_1_eq (hc : cond0_0 i) (x0 : Vec Ideal S1024x4096 .bf16) (x1 x2 : Vec Ideal S1x4096x256 .f32) :
    sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero hz]
  simp only [View.readAt_eq_ld, h4.read_unread, View.ld_unit_zero (S := S1x4096x256) hz3]

/-- What a point that fills the scratch leaves in the result's block. -/
theorem out0_A_eq (hc : cond0_0 i) (x0 : Vec Ideal S1024x4096 .bf16) (x1 x2 : Vec Ideal S1x4096x256 .f32) :
    out0_A_3 c i a2 h2 a3 h3 a4 h4 a5 h5 a6 h6 a7 h7 hc x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz]
  simp only [readCov_ld, View.readAt_eq_ld, h2.read_unread, h3.read_unread, h4.read_unread, View.ld_unit_zero (S := S1x4096x256) hz3,
    View.ld_unit_zero (S := S1024x4096) hz, View.ld_unit_zero (S := S4096x256) hz]
  rw [View.canon_unit_zero hz, View.canon_unit_zero hz]

/-- What a point that keeps the scratch leaves in the result's block. -/
theorem out0_B_eq (hc : ¬cond0_0 i) (x0 : Vec Ideal S1024x4096 .bf16) (x1 x2 : Vec Ideal S1x4096x256 .f32) (s0 s1 : Vec Ideal S4096x256 .bf16) :
    out0_B_3 c i a2 h2 a3 h3 a4 h4 a5 h5 a6 h6 a7 h7 hc x0 x1 x2 s0 s1 = k0_pay3 x0 s0 s1 := by
  unfold out0_B_3
  rw [View.read_writes_eq_canon _ _ _ (cover0_B_3 c i a2 h2 a3 h3 a4 h4 a5 h5 a6 h6 a7 h7 hc x0 x1 x2 s0 s1)]
  unfold kernelRun0_B
  dsimp only
  sl_unfold_words
  rw [View.canon_unit_zero hz]
  simp only [View.readAt_eq_ld, h2.read_unread, h6.read_unread, h7.read_unread,
    View.ld_unit_zero (S := S1024x4096) hz, View.ld_unit_zero (S := S4096x256) hz]

end Cases

/-- The weights' block as the scratch holds it: its one layer. -/
theorem pay1_apply (w : FVec Ideal S1x4096x256 .f32) (k : Fin 4096) (s : Fin 256) : k0_pay1 (F := Ideal) w (ix2 k s) = w (ix3 0 k s) := by
  unfold k0_pay1
  pointwise

theorem pay2_apply (w : FVec Ideal S1x4096x256 .f32) (k : Fin 4096) (s : Fin 256) : k0_pay2 (F := Ideal) w (ix2 k s) = w (ix3 0 k s) := by
  unfold k0_pay2
  pointwise

/-- The gated product of two sums: `g · σ(g) · u`. -/
def swish (g u : EReal) : EReal := g * Ideal.logistic g * u

/-- An entry of what the body leaves. -/
theorem pay3_apply (h : FVec Ideal S1024x4096 .bf16) (a b : FVec Ideal S4096x256 .bf16) (r : Fin 1024) (s : Fin 256) :
    k0_pay3 (F := Ideal) h a b (ix2 r s) = swish (∑ k : Fin 4096, h (ix2 r k) * a (ix2 k s)) (∑ k : Fin 4096, h (ix2 r k) * b (ix2 k s)) := by
  unfold k0_pay3 swish
  pointwise

/-- The index maps: point `t` is column block `t / 8`, row block `t % 8`. -/
theorem idx : ∀ t : Fin cfg0.N, win0_0.index t = ![t.val % 8, 0] ∧ win0_1.index t = ![1, 0, t.val / 8] ∧ win0_2.index t = ![1, 0, t.val / 8] :=
  (by decide +kernel : ∀ t : Fin grid0.N, win0_0.index t = ![t.val % 8, 0] ∧ win0_1.index t = ![1, 0, t.val / 8] ∧ win0_2.index t = ![1, 0, t.val / 8])

theorem lt_N (t : Fin cfg0.N) : t.val < 32 := lt_of_lt_of_eq t.isLt N_0

/-- Row block `i` of the left operand. -/
def rowsOf (A : FVec Ideal S8192x4096 .bf16) (i : ℕ) : FVec Ideal S1024x4096 .bf16 := fun y =>
  A (ix2 (⟨(1024 * i + (y 0).val) % 8192, Nat.mod_lt _ (by norm_num)⟩ : Fin 8192) (y 1))

/-- Column block `j` of the last layer's weights. -/
def colsOf (B : FVec Ideal S2x4096x1024 .f32) (j : ℕ) : FVec Ideal S1x4096x256 .f32 := fun y =>
  B (ix3 (1 : Fin 2) (y 1) (⟨(256 * j + (y 2).val) % 1024, Nat.mod_lt _ (by norm_num)⟩ : Fin 1024))

variable (m : (ℓ : Loc nD τ sig) → Buf (Elt Ideal) ℓ)

theorem iblk0_eq (c : Dev nD) (t : Fin cfg0.N) : iblk m c 0 t = rowsOf (m ((c : Thread nD τ).loc main_arg0)) (t.val % 8) := by
  funext y
  have := lt_N t
  unfold rowsOf
  blk_ext [iblk, V, idx t]

theorem iblk1_eq (c : Dev nD) (t : Fin cfg0.N) : iblk m c 1 t = colsOf (m ((c : Thread nD τ).loc main_arg1)) (t.val / 8) := by
  funext y
  have := lt_N t
  unfold colsOf
  blk_ext [iblk, V, idx t]

theorem iblk2_eq (c : Dev nD) (t : Fin cfg0.N) : iblk m c 2 t = colsOf (m ((c : Thread nD τ).loc main_arg2)) (t.val / 8) := by
  funext y
  have := lt_N t
  unfold colsOf
  blk_ext [iblk, V, idx t]

/-- The scratch of column block `j`. -/
def gateW (c : Dev nD) (j : ℕ) : FVec Ideal S4096x256 .bf16 := k0_pay1 (colsOf (m ((c : Thread nD τ).loc main_arg1)) j)
def upW (c : Dev nD) (j : ℕ) : FVec Ideal S4096x256 .bf16 := k0_pay2 (colsOf (m ((c : Thread nD τ).loc main_arg2)) j)

/-- At a column block's first point the scratch takes its weights. -/
theorem scratch_first (c : Dev nD) (t : Fin cfg0.N) (h0 : t.val % 8 = 0) :
    (outsAt0 m c t.val t.isLt).2.1 = gateW m c (t.val / 8) ∧ (outsAt0 m c t.val t.isLt).2.2 = upW m c (t.val / 8) := by
  rw [outsAt0_A m c t h0]
  dsimp only
  rw [sout0_A_0_eq, sout0_A_1_eq, iblk1_eq, iblk2_eq]
  exact ⟨rfl, rfl⟩

/-- At its later points the scratch stays. -/
theorem scratch_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- After any point the scratch holds the weights of the point's column block. -/
theorem scratch_eq (c : Dev nD) : ∀ (n : ℕ) (hn : n < cfg0.N),
    (outsAt0 m c n hn).2.1 = gateW m c (n / 8) ∧ (outsAt0 m c n hn).2.2 = upW m c (n / 8) := by
  intro n
  induction n with
  | zero => exact fun hn => scratch_first m c ⟨0, hn⟩ rfl
  | succ n ih =>
    intro hn
    by_cases h0 : (n + 1) % 8 = 0
    · exact scratch_first m c ⟨n + 1, hn⟩ h0
    · have e := scratch_later m c ⟨n + 1, hn⟩ h0
      have hd : (n + 1) / 8 = n / 8 := by omega
      rw [hd]
      exact ⟨(congrArg Prod.fst e).trans (ih _).1, (congrArg Prod.snd e).trans (ih _).2⟩

/-- What point `t` leaves in the result's block, from its row block and its column block's weights. -/
theorem out_eq (c : Dev nD) (t : Fin cfg0.N) :
    (outsAt0 m c t.val t.isLt).1 = k0_pay3 (F := Ideal) (rowsOf (m ((c : Thread nD τ).loc main_arg0)) (t.val % 8)) (gateW m c (t.val / 8)) (upW m c (t.val / 8)) := by
  by_cases h0 : t.val % 8 = 0
  · rw [outsAt0_A m c t h0]
    dsimp only
    rw [out0_A_eq, iblk0_eq, iblk1_eq, iblk2_eq]
    rfl
  · rw [outsAt0_B m c t h0]
    have hd : (t.val - 1) / 8 = t.val / 8 := by omega
    have hs := scratch_eq m c (t.val - 1) (Nat.lt_of_le_of_lt (Nat.sub_le _ _) t.isLt)
    rw [hd] at hs
    dsimp only
    rw [out0_B_eq, iblk0_eq, hs.1, hs.2]

/-- Entry `(i, n)` of the product of the left operand with the weights' last layer. -/
def sumOf (h : FVec Ideal S8192x4096 .bf16) (w : FVec Ideal S2x4096x1024 .f32) (i : Fin 8192) (n : Fin 1024) : EReal :=
  ∑ k : Fin 4096, h (ix2 i k) * w (ix3 (1 : Fin 2) k n)

/-- An entry of the result array. -/
theorem G_eq (c : Dev nD) (i : Fin 8192) (n : Fin 1024) :
    Value.G3 m c (ix2 i n) = swish
      (sumOf (m ((c : Thread nD τ).loc main_arg0)) (m ((c : Thread nD τ).loc main_arg1)) i n)
      (sumOf (m ((c : Thread nD τ).loc main_arg0)) (m ((c : Thread nD τ).loc main_arg2)) i n) := by
  have h0 : i.val < 8192 := i.isLt
  have h1 : n.val < 1024 := n.isLt
  have hp : Value.pt3Of (ix2 i n) < cfg0.N := by
    rw [show cfg0.N = 32 from N_0]
    show 1 * (i.val / 1024 - 0) + 8 * (n.val / 256 - 0) < 32
    omega
  have e1 : Value.pt3Of (ix2 i n) / 8 = n.val / 256 := by
    show (1 * (i.val / 1024 - 0) + 8 * (n.val / 256 - 0)) / 8 = _
    omega
  have e2 : Value.pt3Of (ix2 i n) % 8 = i.val / 1024 := by
    show (1 * (i.val / 1024 - 0) + 8 * (n.val / 256 - 0)) % 8 = _
    omega
  have o := out_eq m c ⟨_, hp⟩
  rw [Value.outsAt0_sweep m c _ hp] at o
  dsimp only at o
  rw [e1, e2] at o
  unfold Value.G3
  rw [dif_pos hp]
  refine (congrFun o (Value.loc3Of (ix2 i n))).trans ?_
  have el : Value.loc3Of (ix2 i n) = ix2 (⟨i.val % 1024, Nat.mod_lt _ (by norm_num)⟩ : Fin 1024) (⟨n.val % 256, Nat.mod_lt _ (by norm_num)⟩ : Fin 256) := by
    funext a
    fin_cases a <;> rfl
  rw [el, pay3_apply]
  have er : (⟨(1024 * (i.val / 1024) + i.val % 1024) % 8192, Nat.mod_lt _ (by norm_num)⟩ : Fin 8192) = i := Fin.ext (by show (1024 * (i.val / 1024) + i.val % 1024) % 8192 = i.val; omega)
  have es : (⟨(256 * (n.val / 256) + n.val % 256) % 1024, Nat.mod_lt _ (by norm_num)⟩ : Fin 1024) = n := Fin.ext (by show (256 * (n.val / 256) + n.val % 256) % 1024 = n.val; omega)
  refine congrArg₂ swish (Finset.sum_congr rfl fun k _ => congrArg₂ (· * ·) ?_ ?_) (Finset.sum_congr rfl fun k _ => congrArg₂ (· * ·) ?_ ?_)
  · exact congrArg (fun q => m ((c : Thread nD τ).loc main_arg0) (ix2 q k)) er
  · unfold gateW
    rw [pay1_apply]
    exact congrArg (fun q => m ((c : Thread nD τ).loc main_arg1) (ix3 (1 : Fin 2) k q)) es
  · exact congrArg (fun q => m ((c : Thread nD τ).loc main_arg0) (ix2 q k)) er
  · unfold upW
    rw [pay2_apply]
    exact congrArg (fun q => m ((c : Thread nD τ).loc main_arg2) (ix3 (1 : Fin 2) k q)) es

end Cert.SharedUpLastCall
-- ==== Proof.SharedUpLastEquation.lean ====
module

public import proofs.«01_k».proof.Proof.SharedUpLastBlocks
public import proofs.«01_k».proof.Proof.Gen.SharedUpLastReferenceIdeal.Run

@[expose] public section

set_option maxRecDepth 16384

noncomputable section

/-! # The last layer's shared expert's inner part: the reference's result, and that the two agree -/

namespace Cert.SharedUpLastCall

section Reference

open Cert.SharedUpLastReferenceIdeal Cert.SharedUpLastReferenceIdeal.Gen Cert.SharedUpLastReferenceIdeal.Value Idealize.ShloMosaic Idealize.ShloMosaic.TcCoe

/-- The reference's product with the last layer of the weights. -/
def times (h : FVec Ideal S8192x4096 .bf16) (w : FVec Ideal S2x4096x1024 .f32) : FVec Ideal S8192x1024 .f32 :=
  Host.dotGeneral dot_S8192x4096_S4096x1024_S8192x1024_1_0_0_1_n_n none (extf .f32 h bitsLt_bf16_f32) (shapeCast _ (extractStridedSlice S1x4096x1024 ![1, 0, 0] w slices_S2x4096x1024_S1x4096x1024_1_0_0) shapeCasts_S1x4096x1024_S4096x1024)

theorem times_apply (h : FVec Ideal S8192x4096 .bf16) (w : FVec Ideal S2x4096x1024 .f32) (i : Fin 8192) (n : Fin 1024) :
    times h w (ix2 i n) = ∑ k : Fin 4096, h (ix2 i k) * w (ix3 (1 : Fin 2) k n) := by
  unfold times
  pointwise

/-- The reference's gated product. -/
def silu (G U : FVec Ideal S8192x1024 .f32) : FVec Ideal S8192x1024 .bf16 :=
  truncf .bf16 (mulf (mulf G (Host.divf (broadcastInDim S8192x1024 ![] bcast_S_S8192x1024 (constant S_ .f32 0x3F800000#32)) (addf (broadcastInDim S8192x1024 ![] bcast_S_S8192x1024 (constant S_ .f32 0x3F800000#32)) (Host.exp (Host.negf G))))) U) bitsLt_bf16_f32

theorem silu_apply (G U : FVec Ideal S8192x1024 .f32) (i : Fin 8192) (n : Fin 1024) :
    silu G U (ix2 i n) = swish (G (ix2 i n)) (U (ix2 i n)) := by
  unfold silu swish Ideal.logistic
  pointwise

end Reference

open Idealize.ShloMosaic Idealize.ShloMosaic.TcCoe

/-- The call's result array is the reference's. -/
theorem value_eq (m : (ℓ : Loc Cert.SharedUpLastIdeal.nD Cert.SharedUpLastIdeal.τ Cert.SharedUpLastIdeal.sig) → Buf (Elt Ideal) ℓ)
    (c : Dev Cert.SharedUpLastIdeal.nD) :
    Cert.SharedUpLastIdeal.Value.G3 m c
      = silu (times (m ((c.tc : Thread _ _).loc Cert.SharedUpLastIdeal.main_arg0)) (m ((c.tc : Thread _ _).loc Cert.SharedUpLastIdeal.main_arg1)))
          (times (m ((c.tc : Thread _ _).loc Cert.SharedUpLastIdeal.main_arg0)) (m ((c.tc : Thread _ _).loc Cert.SharedUpLastIdeal.main_arg2))) := by
  funext x
  have e : x = ix2 (⟨(x 0).val, (x 0).isLt⟩ : Fin 8192) (⟨(x 1).val, (x 1).isLt⟩ : Fin 1024) := by
    funext a; fin_cases a <;> rfl
  refine (congrArg (Cert.SharedUpLastIdeal.Value.G3 m c) e).trans (Eq.trans ?_ (congrArg (silu _ _) e).symm)
  rw [G_eq, silu_apply, times_apply, times_apply]
  rfl

end Cert.SharedUpLastCall
-- ==== Proof.HalfWords.lean ====
module

public import Idealize.ShloMosaic.Lib.IdealHost
public import Idealize.ShloMosaic.Lib.Pointwise
public import Idealize.ShloMosaic.Lib.BitcastConvert

@[expose] public section

noncomputable section

/-! # The two halves of a word: a half read as a bf16 number is that half over sixteen zero bits read as an f32 number -/

namespace Cert.HalfWords

open Idealize.ShloMosaic

/-- Two patterns with the same sign, the same exponent and the same fraction, the longer fraction ending in zero bits, denote the
same number. -/
theorem ieee_eq (b : BitVec 16) (w : BitVec 32) (hs : w.extractLsb' 31 1 = b.extractLsb' 15 1)
    (he : w.extractLsb' 23 8 = b.extractLsb' 7 8) (hf : (w.extractLsb' 0 23).toNat = 65536 * (b.extractLsb' 0 7).toNat) :
    Ideal.ofBits .f32 w = Ideal.ofBits .bf16 b := by
  show Ideal.ieee 8 23 w = Ideal.ieee 8 7 b
  unfold Ideal.ieee
  dsimp only
  rw [show (8 + 23 : ℕ) = 31 from rfl, show (8 + 7 : ℕ) = 15 from rfl, hs, he, hf]
  generalize (b.extractLsb' 0 7).toNat = fr
  generalize (b.extractLsb' 7 8).toNat = ex
  generalize (b.extractLsb' 15 1 == 1#1) = neg
  have h0 : (65536 * fr = 0) = (fr = 0) := propext (by omega)
  simp only [h0]
  have p1 : (2 : ℝ) ^ (1 - (2 ^ (8 - 1) - 1) - (7 : ℕ) : ℤ) = 65536 * (2 : ℝ) ^ (1 - (2 ^ (8 - 1) - 1) - (23 : ℕ) : ℤ) := by
    norm_num
  have p2 : (2 : ℝ) ^ ((ex : ℤ) - (2 ^ (8 - 1) - 1) - (7 : ℕ) : ℤ) = 65536 * (2 : ℝ) ^ ((ex : ℤ) - (2 ^ (8 - 1) - 1) - (23 : ℕ) : ℤ) := by
    rw [show ((ex : ℤ) - (2 ^ (8 - 1) - 1) - (7 : ℕ) : ℤ) = 16 + ((ex : ℤ) - (2 ^ (8 - 1) - 1) - (23 : ℕ)) by push_cast; ring, zpow_add₀ (by norm_num)]
    norm_num
  by_cases ha : ex = 2 ^ 8 - 1
  · rw [if_pos ha, if_pos ha]
  · rw [if_neg ha, if_neg ha]
    by_cases hb : ex = 0
    · rw [if_pos hb, if_pos hb, p1]
      refine congrArg Real.toEReal ?_
      push_cast
      ring
    · rw [if_neg hb, if_neg hb, p2]
      refine congrArg Real.toEReal ?_
      push_cast
      ring

/-- The low half. -/
theorem low (w : BitVec 32) : Ideal.ofBits .f32 (w <<< 16) = Ideal.ofBits .bf16 (w.extractLsb' 0 16) := by
  refine ieee_eq _ _ ?_ ?_ ?_
  · exact BitVec.eq_of_toNat_eq (by
      simp only [BitVec.extractLsb'_toNat, BitVec.toNat_shiftLeft, Nat.shiftLeft_eq, Nat.shiftRight_eq_div_pow]; omega)
  · exact BitVec.eq_of_toNat_eq (by
      simp only [BitVec.extractLsb'_toNat, BitVec.toNat_shiftLeft, Nat.shiftLeft_eq, Nat.shiftRight_eq_div_pow]; omega)
  · simp only [BitVec.extractLsb'_toNat, BitVec.toNat_shiftLeft, Nat.shiftLeft_eq, Nat.shiftRight_eq_div_pow]; omega

/-- Clearing the low half is shifting it out and zeros in. -/
theorem cleared (w : BitVec 32) : w &&& 4294901760#32 = (w >>> 16) <<< 16 := by
  refine BitVec.eq_of_getLsbD_eq fun i hi => ?_
  rw [BitVec.getLsbD_and, BitVec.getLsbD_shiftLeft, BitVec.getLsbD_ushiftRight]
  by_cases h : i < 16
  · have : (4294901760#32).getLsbD i = false := by
      have : ∀ i : Fin 16, (4294901760#32).getLsbD i.val = false := by decide
      exact this ⟨i, h⟩
    simp [this, h]
  · have : (4294901760#32).getLsbD i = true := by
      have : ∀ i : Fin 16, (4294901760#32).getLsbD (16 + i.val) = true := by decide
      have := this ⟨i - 16, by omega⟩
      rwa [show 16 + (i - 16) = i by omega] at this
    rw [this, show 16 + (i - 16) = i by omega]
    simp [h, hi]

/-- The high half. -/
theorem high (w : BitVec 32) : Ideal.ofBits .f32 (w &&& 4294901760#32) = Ideal.ofBits .bf16 (w.extractLsb' 16 16) := by
  rw [cleared, low]
  exact congrArg _ (BitVec.eq_of_toNat_eq (by
    simp only [BitVec.extractLsb'_toNat, BitVec.toNat_ushiftRight, Nat.shiftRight_eq_div_pow]; omega))

/-- Column `n` of a row of words read as numbers: of each 1024 words the low halves and then the high halves. -/
def half {T : ℕ} (w : IVec (⟨2, ![T, 2048]⟩ : Shape) 32) (r : Fin T) (n : Fin 4096) : EReal :=
  Ideal.ofBits .bf16 ((w (ix2 r (⟨(n.val / 2048 * 1024 + n.val % 1024) % 2048, Nat.mod_lt _ (by norm_num)⟩ : Fin 2048))).extractLsb'
    (n.val / 1024 % 2 * 16) 16)

/-- A column among the low halves. -/
theorem half_low {T : ℕ} (w : IVec (⟨2, ![T, 2048]⟩ : Shape) 32) (r : Fin T) (n : Fin 4096) (p : Fin 2048) (hp : n.val / 2048 * 1024 + n.val % 1024 = p.val)
    (hn : n.val / 1024 % 2 = 0) : Ideal.ofBits .f32 (w (ix2 r p) <<< 16) = half w r n := by
  have hp' := p.isLt
  unfold half
  rw [low, hn, show (⟨(n.val / 2048 * 1024 + n.val % 1024) % 2048, Nat.mod_lt _ (by norm_num)⟩ : Fin 2048) = p from
    Fin.ext (show (n.val / 2048 * 1024 + n.val % 1024) % 2048 = p.val by omega)]

/-- A column among the high halves. -/
theorem half_high {T : ℕ} (w : IVec (⟨2, ![T, 2048]⟩ : Shape) 32) (r : Fin T) (n : Fin 4096) (p : Fin 2048) (hp : n.val / 2048 * 1024 + n.val % 1024 = p.val)
    (hn : n.val / 1024 % 2 = 1) : Ideal.ofBits .f32 (w (ix2 r p) &&& 4294901760#32) = half w r n := by
  have hp' := p.isLt
  unfold half
  rw [high, hn, show (⟨(n.val / 2048 * 1024 + n.val % 1024) % 2048, Nat.mod_lt _ (by norm_num)⟩ : Fin 2048) = p from
    Fin.ext (show (n.val / 2048 * 1024 + n.val % 1024) % 2048 = p.val by omega)]

end Cert.HalfWords
-- ==== Proof.EvenCombineBlocks.lean ====
module

public import proofs.«01_k».proof.Proof.Gen.EvenCombineIdeal.Value
public import proofs.«01_k».proof.Proof.Consts
public import proofs.«01_k».proof.Proof.HalfWords
public import Idealize.ShloMosaic.Lib.Pointwise
public import Idealize.ShloMosaic.Lib.Pipeline.ValueKit

@[expose] public section

set_option maxRecDepth 16384

noncomputable section

/-! # The end of the even layers' experts: its result array from its operands -/

namespace Cert.EvenCombineCall

open Cert.EvenCombineIdeal Cert.EvenCombineIdeal.Gen Cert.EvenCombineIdeal.Value Idealize.ShloMosaic Idealize.ShloMosaic.TcCoe Idealize.SL.Sem
open Cert.HalfWords

theorem hz : (![0, 0] : Fin 2 → Nat) = fun _ => 0 := funext fun a => by fin_cases a <;> rfl

/-- The body leaves its payload of its blocks. -/
theorem out_eq (c : Dev nD) (i : grid0.Coords) (a3 : Memref sig .tc .vmem S256x1024 .bf16) (h3 : a3.IsWhole)
    (a4 : Memref sig .tc .vmem S1024x4096 .bf16) (h4 : a4.IsWhole) (a5 : Memref sig .tc .vmem S2x4096 .f32) (h5 : a5.IsWhole)
    (a6 : Memref sig .tc .vmem S256x4096 .f32) (h6 : a6.IsWhole) (a7 : Memref sig .tc .vmem S256x2048 .i32) (h7 : a7.IsWhole)
    (a8 : Memref sig .tc .vmem S256x2048 .i32) (h8 : a8.IsWhole) (a9 : Memref sig .tc .vmem S256x128 .f32) (h9 : a9.IsWhole)
    (a10 : Memref sig .tc .vmem S256x128 .f32) (h10 : a10.IsWhole) (a11 : Memref sig .tc .vmem S256x4096 .f32) (h11 : a11.IsWhole)
    (a12 : Memref sig .tc .vmem S8x128 .f32) (h12 : a12.IsWhole)
    (x0 : Vec Ideal S256x1024 .bf16) (x1 : Vec Ideal S1024x4096 .bf16) (x2 : Vec Ideal S2x4096 .f32) (x3 : Vec Ideal S256x4096 .f32)
    (x4 x5 : Vec Ideal S256x2048 .i32) (x6 x7 : Vec Ideal S256x128 .f32) :
    out0_A_8 c i a3 h3 a4 h4 a5 h5 a6 h6 a7 h7 a8 h8 a9 h9 a10 h10 a11 h11 a12 h12 x0 x1 x2 x3 x4 x5 x6 x7
      = k0_pay1 (k0_pay2 x0 x1) x3 x5 (k0_pay3 x6) (k0_pay4 x7) (k0_pay5 i x2) (k0_pay8 x4) (k0_pay9 x4) (k0_pay10 x4) (k0_pay11 x4) := by
  unfold out0_A_8
  rw [View.read_writes_eq_canon _ _ _ (cover0_A_8 c i a3 h3 a4 h4 a5 h5 a6 h6 a7 h7 a8 h8 a9 h9 a10 h10 a11 h11 a12 h12 x0 x1 x2 x3 x4 x5 x6 x7)]
  unfold kernelRun0_A
  dsimp only
  sl_unfold_words
  rw [View.canon_unit_zero hz]
  simp only [View.readAt_eq_ld, h3.read_unread, h4.read_unread, h5.read_unread, h6.read_unread, h7.read_unread,
    h8.read_unread, h9.read_unread, h10.read_unread,
    View.ld_unit_zero (S := S256x1024) hz, View.ld_unit_zero (S := S1024x4096) hz, View.ld_unit_zero (S := S2x4096) hz,
    View.ld_unit_zero (S := S256x4096) hz, View.ld_unit_zero (S := S256x2048) hz, View.ld_unit_zero (S := S256x128) hz]

/-- The selecting bit: row `r` of block `i` lies before row 256. -/
theorem before (i r : ℕ) (hi : i < 33) (hr : r < 256) :
    IntOp.cmpi .slt (IntOp.addi (Scalar.muli (BitVec.ofNat 32 i) 256#32) (BitVec.ofNat 32 r)) 256#32
      = BitVec.ofBool (decide (256 * i + r < 256)) := by
  have hx : IntOp.addi (Scalar.muli (BitVec.ofNat 32 i) 256#32) (BitVec.ofNat 32 r) = BitVec.ofNat 32 (256 * i + r) := by
    show BitVec.ofNat 32 i * 256#32 + BitVec.ofNat 32 r = _
    refine BitVec.eq_of_toNat_eq ?_
    simp only [BitVec.toNat_add, BitVec.toNat_mul, BitVec.toNat_ofNat]
    omega
  rw [hx]
  show BitVec.ofBool (decide ((BitVec.ofNat 32 (256 * i + r)).toInt < (256#32 : BitVec 32).toInt)) = _
  have h1 : (BitVec.ofNat 32 (256 * i + r)).toInt = ((256 * i + r : ℕ) : ℤ) := by
    rw [BitVec.toInt_eq_toNat_cond, BitVec.toNat_ofNat, Nat.mod_eq_of_lt (by omega), if_pos (by omega)]
  have h2 : (256#32 : BitVec 32).toInt = ((256 : ℕ) : ℤ) := by decide
  rw [h1, h2]
  exact congrArg BitVec.ofBool (decide_eq_decide.2 Nat.cast_lt)

/-- A selection by that bit. -/
theorem select_before (i r : ℕ) (hi : i < 33) (hr : r < 256) (a b : EReal) :
    Scalar.select (IntOp.cmpi .slt (IntOp.addi (Scalar.muli (BitVec.ofNat 32 i) 256#32) (BitVec.ofNat 32 r)) 256#32) a b
      = if 256 * i + r < 256 then a else b := by
  rw [before i r hi hr]
  by_cases h : 256 * i + r < 256
  · rw [if_pos h, decide_eq_true h]; rfl
  · rw [if_neg h, decide_eq_false h]; rfl

/-- A shift by sixteen. -/
theorem shli_16 (w : BitVec 32) : IntOp.shli ArithUnit.vector w 16#32 = w <<< 16 := by
  unfold IntOp.shli
  rfl

/-- A block of words read as numbers: four tiles of 1024 columns side by side. -/
def tiles (w : Vec Ideal S256x2048 .i32) : FVec Ideal S256x4096 .f32 :=
  concatenate S256x4096 1 [⟨S256x1024, k0_pay8 w⟩, ⟨S256x1024, k0_pay9 w⟩, ⟨S256x1024, k0_pay10 w⟩, ⟨S256x1024, k0_pay11 w⟩]
    concatenates_S256x1024_S256x1024_S256x1024_S256x1024_S256x4096_d1

theorem tiles_apply (w : Vec Ideal S256x2048 .i32) (r : Fin 256) (n : Fin 4096) : tiles w (ix2 r n) = half (T := 256) w r n := by
  have hn := n.isLt
  unfold tiles k0_pay8 k0_pay9 k0_pay10 k0_pay11 k0_pay6 k0_pay7
  dsimp only
  pointwise
  by_cases h0 : n.val < 1024
  · refine (dif_pos h0).trans ((congrArg _ (shli_16 _)).trans (half_low w r n _ ?_ ?_)) <;> (try simp only) <;> omega
  · refine (dif_neg h0).trans ?_
    by_cases h1 : n.val - 1024 < 1024
    · refine (dif_pos h1).trans (half_high w r n _ ?_ ?_) <;> (try simp only) <;> omega
    · refine (dif_neg h1).trans ?_
      by_cases h2 : n.val - 1024 - 1024 < 1024
      · refine (dif_pos h2).trans ((congrArg _ (shli_16 _)).trans (half_low w r n _ ?_ ?_)) <;> (try simp only) <;> omega
      · refine (dif_neg h2).trans (half_high w r n _ ?_ ?_) <;> (try simp only) <;> omega

/-- An entry of what the body leaves. -/
theorem pay_apply (i : grid0.Coords) (x0 : Vec Ideal S256x1024 .bf16) (x1 : Vec Ideal S1024x4096 .bf16) (x2 : Vec Ideal S2x4096 .f32)
    (x3 : Vec Ideal S256x4096 .f32) (x4 x5 : Vec Ideal S256x2048 .i32) (x6 x7 : Vec Ideal S256x128 .f32) (r : Fin 256) (n : Fin 4096) :
    k0_pay1 (k0_pay2 x0 x1) x3 x5 (k0_pay3 x6) (k0_pay4 x7) (k0_pay5 i x2) (k0_pay8 x4) (k0_pay9 x4) (k0_pay10 x4) (k0_pay11 x4) (ix2 r n)
      = x3 (ix2 r n) + (if 256 * (i 0).val + r.val < 256 then x2 (ix2 0 n) else x2 (ix2 1 n))
        * ((half (T := 256) x4 r n * x6 (ix2 r 0) + half (T := 256) x5 r n * x7 (ix2 r 0)) + ∑ k : Fin 1024, x0 (ix2 r k) * x1 (ix2 k n)) := by
  have e : k0_pay1 (k0_pay2 x0 x1) x3 x5 (k0_pay3 x6) (k0_pay4 x7) (k0_pay5 i x2) (k0_pay8 x4) (k0_pay9 x4) (k0_pay10 x4) (k0_pay11 x4)
      = addf x3 (mulf (k0_pay5 i x2) (addf (addf
          (mulf (tiles x4) (broadcastTo S256x4096 (extractStridedSlice S256x1 ![0, 0] (k0_pay3 x6) slices_S256x128_o0_0_S256x1) broadcasts_S256x1_S256x4096))
          (mulf (tiles x5) (broadcastTo S256x4096 (extractStridedSlice S256x1 ![0, 0] (k0_pay4 x7) slices_S256x128_o0_0_S256x1) broadcasts_S256x1_S256x4096)))
          (k0_pay2 x0 x1))) := rfl
  rw [e]
  unfold k0_pay5 k0_pay2 k0_pay3 k0_pay4
  dsimp only
  pointwise
  rw [select_before _ _ (i 0).isLt r.isLt, tiles_apply, tiles_apply]

/-- The result from whole operands: the residual plus the gated sum of the two weighted rows and the product. -/
def result (A : FVec Ideal S8448x1024 .bf16) (W : FVec Ideal S1024x4096 .bf16) (g : FVec Ideal S2x4096 .f32)
    (x : FVec Ideal S8448x4096 .f32) (r0 r1 : IVec S8448x2048 32) (w0 w1 : FVec Ideal S8448x128 .f32) : FVec Ideal S8448x4096 .f32 := fun i =>
  x i + (if (i 0).val < 256 then g (ix2 0 (⟨(i 1).val, (i 1).isLt⟩ : Fin 4096)) else g (ix2 1 (⟨(i 1).val, (i 1).isLt⟩ : Fin 4096)))
    * ((half (T := 8448) r0 (⟨(i 0).val, (i 0).isLt⟩ : Fin 8448) (⟨(i 1).val, (i 1).isLt⟩ : Fin 4096) * w0 (ix2 (⟨(i 0).val, (i 0).isLt⟩ : Fin 8448) 0)
        + half (T := 8448) r1 (⟨(i 0).val, (i 0).isLt⟩ : Fin 8448) (⟨(i 1).val, (i 1).isLt⟩ : Fin 4096) * w1 (ix2 (⟨(i 0).val, (i 0).isLt⟩ : Fin 8448) 0))
      + ∑ k : Fin 1024, A (ix2 (⟨(i 0).val, (i 0).isLt⟩ : Fin 8448) k) * W (ix2 k (⟨(i 1).val, (i 1).isLt⟩ : Fin 4096)))

/-- The index maps: point `t` is row block `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_8.flush t = true ∧ (grid0.coords t 0).val = t.val :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_8.flush t = true ∧ (grid0.coords t 0).val = t.val)

theorem lt_N (t : Fin cfg0.N) : t.val < 33 := lt_of_lt_of_eq t.isLt N_0

/-- Row `y` of row block `i`. -/
def row (i : ℕ) (y : ℕ) : Fin 8448 := ⟨(256 * i + y) % 8448, Nat.mod_lt _ (by norm_num)⟩

/-- Row block `i` of the left operand. -/
def rowsOf (A : FVec Ideal S8448x1024 .bf16) (i : ℕ) : FVec Ideal S256x1024 .bf16 := fun y => A (ix2 (row i (y 0).val) (y 1))

/-- Row block `i` of the residual. -/
def blockOf (x : FVec Ideal S8448x4096 .f32) (i : ℕ) : FVec Ideal S256x4096 .f32 := fun y => x (ix2 (row i (y 0).val) (y 1))

/-- Row block `i` of an array of words. -/
def wordsOf (w : IVec S8448x2048 32) (i : ℕ) : IVec S256x2048 32 := fun y => w (ix2 (row i (y 0).val) (y 1))

/-- Row block `i` of an array of row weights. -/
def weightsOf (w : FVec Ideal S8448x128 .f32) (i : ℕ) : FVec Ideal S256x128 .f32 := fun y => w (ix2 (row i (y 0).val) (y 1))

variable (m : (ℓ : Loc nD τ sig) → Buf (Elt Ideal) ℓ)

theorem iblk0_eq (c : Dev nD) (t : Fin cfg0.N) : iblk m c 0 t = rowsOf (V m c main_arg0) t.val := by
  funext y
  have := lt_N t
  unfold rowsOf row
  blk_ext [iblk, idx t]

theorem iblk1_eq (c : Dev nD) (t : Fin cfg0.N) : iblk m c 1 t = V m c main_v8 := by
  funext y
  blk_ext [iblk, idx t]

theorem iblk2_eq (c : Dev nD) (t : Fin cfg0.N) : iblk m c 2 t = V m c main_v5 := by
  funext y
  blk_ext [iblk, idx t]

theorem iblk3_eq (c : Dev nD) (t : Fin cfg0.N) : iblk m c 3 t = blockOf (V m c main_arg3) t.val := by
  funext y
  have := lt_N t
  unfold blockOf row
  blk_ext [iblk, idx t]

theorem iblk4_eq (c : Dev nD) (t : Fin cfg0.N) : iblk m c 4 t = wordsOf (V m c main_arg4) t.val := by
  funext y
  have := lt_N t
  unfold wordsOf row
  blk_ext [iblk, idx t]

theorem iblk5_eq (c : Dev nD) (t : Fin cfg0.N) : iblk m c 5 t = wordsOf (V m c main_arg5) t.val := by
  funext y
  have := lt_N t
  unfold wordsOf row
  blk_ext [iblk, idx t]

theorem iblk6_eq (c : Dev nD) (t : Fin cfg0.N) : iblk m c 6 t = weightsOf (V m c main_v1) t.val := by
  funext y
  have := lt_N t
  unfold weightsOf row
  blk_ext [iblk, idx t]

theorem iblk7_eq (c : Dev nD) (t : Fin cfg0.N) : iblk m c 7 t = weightsOf (V m c main_v3) t.val := by
  funext y
  have := lt_N t
  unfold weightsOf row
  blk_ext [iblk, idx t]

/-- What point `t` writes back is its block of the whole result. -/
theorem flushed_eq (c : Dev nD) (t : Fin cfg0.N) :
    (dats m 0 c).flushed 8 t = ((cfg0.win 8).blk t).view.read (Elt Ideal)
      (result (V m c main_arg0) (V m c main_v8) (V m c main_v5) (V m c main_arg3) (V m c main_arg4) (V m c main_arg5) (V m c main_v1) (V m c main_v3)) := by
  rw [flushed8_A, out_eq, iblk0_eq, iblk1_eq, iblk2_eq, iblk3_eq, iblk4_eq, iblk5_eq, iblk6_eq, iblk7_eq]
  have ht := lt_N t
  have hidx := (idx t).2.2.2.2.2.2.2.2.1
  have hc := (idx t).2.2.2.2.2.2.2.2.2.2
  funext y
  have hy0 : (y 0).val < 256 := (y 0).isLt
  have hy1 : (y 1).val < 4096 := (y 1).isLt
  have hb0 : (((cfg0.win 8).blk t).view.emb y 0).val = win0_8.index t (0 : Fin 2) * 256 + 1 * (y 0).val := rfl
  have hb1 : (((cfg0.win 8).blk t).view.emb y 1).val = win0_8.index t (1 : Fin 2) * 4096 + 1 * (y 1).val := rfl
  rw [hidx] at hb0 hb1
  have hb0 : (((cfg0.win 8).blk t).view.emb y 0).val = t.val * 256 + 1 * (y 0).val := hb0
  have hb1 : (((cfg0.win 8).blk t).view.emb y 1).val = 0 * 4096 + 1 * (y 1).val := hb1
  have e : (cfg0.win 8).xinj (grid0.coords t) y = ix2 (⟨(y 0).val, hy0⟩ : Fin 256) (⟨(y 1).val, hy1⟩ : Fin 4096) := by
    funext a; fin_cases a <;> rfl
  show k0_pay1 _ _ _ _ _ _ _ _ _ _ ((cfg0.win 8).xinj (grid0.coords t) y) = result _ _ _ _ _ _ _ _ (((cfg0.win 8).blk t).view.emb y)
  have er : row t.val (y 0).val = ⟨(((cfg0.win 8).blk t).view.emb y 0).val, (((cfg0.win 8).blk t).view.emb y 0).isLt⟩ :=
    Fin.ext (show (256 * t.val + (y 0).val) % 8448 = (((cfg0.win 8).blk t).view.emb y 0).val by rw [hb0]; omega)
  have es : (⟨(y 1).val, hy1⟩ : Fin 4096) = ⟨(((cfg0.win 8).blk t).view.emb y 1).val, (((cfg0.win 8).blk t).view.emb y 1).isLt⟩ :=
    Fin.ext (show (y 1).val = (((cfg0.win 8).blk t).view.emb y 1).val by rw [hb1]; omega)
  have ei : ((cfg0.win 8).blk t).view.emb y = ix2 (⟨(((cfg0.win 8).blk t).view.emb y 0).val, (((cfg0.win 8).blk t).view.emb y 0).isLt⟩ : Fin 8448)
      (⟨(((cfg0.win 8).blk t).view.emb y 1).val, (((cfg0.win 8).blk t).view.emb y 1).isLt⟩ : Fin 4096) := by
    funext a; fin_cases a <;> rfl
  rw [e, pay_apply, hc]
  unfold result rowsOf blockOf weightsOf
  have hr : (256 * t.val + (y 0).val < 256) = ((((cfg0.win 8).blk t).view.emb y 0).val < 256) := by
    rw [hb0]; exact propext (by omega)
  refine congrArg₂ (· + ·) ?_ (congrArg₂ (· * ·) ?_ (congrArg₂ (· + ·) (congrArg₂ (· + ·) ?_ ?_) (Finset.sum_congr rfl fun k _ => ?_)))
  · refine Eq.trans ?_ (congrArg (V m c main_arg3) ei).symm
    exact congrArg₂ (fun r s => V m c main_arg3 (ix2 r s)) er es
  · by_cases h : 256 * t.val + (y 0).val < 256
    · exact (if_pos h).trans ((congrArg (fun s => V m c main_v5 (ix2 0 s)) es).trans (if_pos (cast hr h)).symm)
    · exact (if_neg h).trans ((congrArg (fun s => V m c main_v5 (ix2 1 s)) es).trans (if_neg (fun h' => h (cast hr.symm h'))).symm)
  · exact congrArg₂ (· * ·) (congrArg₂ (fun r s => half (T := 8448) (V m c main_arg4) r s) er es) (congrArg (fun r => V m c main_v1 (ix2 r 0)) er)
  · exact congrArg₂ (· * ·) (congrArg₂ (fun r s => half (T := 8448) (V m c main_arg5) r s) er es) (congrArg (fun r => V m c main_v3 (ix2 r 0)) er)
  · exact congrArg₂ (· * ·) (congrArg (fun r => V m c main_arg0 (ix2 r k)) er) (congrArg (fun s => V m c main_v8 (ix2 k s)) es)

theorem mem_blk (t : Fin cfg0.N) (i : S8448x4096.Idx) :
    i ∈ ((cfg0.win 8).blk t).view.set ↔ ∀ a : Fin 2, win0_8.index t a * S256x4096.size a ≤ (i a).val ∧ (i a).val < win0_8.index t a * S256x4096.size a + S256x4096.size a := by
  show i ∈ ((View.whole main_v9).slice (win0_8.rect t)).set ↔ _
  rw [View.set_slice_whole, Rect.mem_set_unit]
  exact Iff.rfl

/-- The result array after the run, from the operands. -/
theorem final (c : Dev nD) : (dats m 0 c).arrAt 8 cfg0.N
    = result (V m c main_arg0) (V m c main_v8) (V m c main_v5) (V m c main_arg3) (V m c main_arg4) (V m c main_arg5) (V m c main_v1) (V m c main_v3) :=
  (dats m 0 c).arrAt_eq_of_cover 8 _ (fun t _ => flushed_eq m c t) fun i => by
    have h0 : (i 0).val < 8448 := (i 0).isLt
    have h1 : (i 1).val < 4096 := (i 1).isLt
    have hN : (i 0).val / 256 < cfg0.N := by
      rw [show cfg0.N = 33 from N_0]; omega
    have hx := idx ⟨(i 0).val / 256, hN⟩
    refine ⟨⟨_, hN⟩, hx.2.2.2.2.2.2.2.2.2.1, (mem_blk _ _).2 fun a => ?_⟩
    rw [hx.2.2.2.2.2.2.2.2.1]
    fin_cases a
    · show (i 0).val / 256 * 256 ≤ (i 0).val ∧ (i 0).val < (i 0).val / 256 * 256 + 256
      omega
    · show 0 * 4096 ≤ (i 1).val ∧ (i 1).val < 0 * 4096 + 4096
      omega

end Cert.EvenCombineCall
-- ==== Proof.EvenCombineEquation.lean ====
module

public import proofs.«01_k».proof.Proof.EvenCombineBlocks
public import proofs.«01_k».proof.Proof.Gen.EvenCombineReferenceIdeal.Run

@[expose] public section

set_option maxRecDepth 16384

noncomputable section

/-! # The end of the even layers' experts: the reference's result, and that the two agree -/

namespace Cert.EvenCombineCall

section Operands

open Cert.EvenCombineIdeal Cert.EvenCombineIdeal.Gen Idealize.ShloMosaic Idealize.ShloMosaic.TcCoe Idealize.SL.Sem

/-- The gates, cut from the modulation before the call. -/
def gates (md : FVec Ideal S2x6x4096 .f32) : FVec Ideal S2x4096 .f32 :=
  shapeCast _ (extractStridedSlice S2x1x4096 ![0, 5, 0] md slices_S2x6x4096_S2x1x4096_0_5_0) shapeCasts_S2x1x4096_S2x4096

theorem gates_apply (md : FVec Ideal S2x6x4096 .f32) (a : Fin 2) (n : Fin 4096) : gates md (ix2 a n) = md (ix3 a 5 n) := by
  unfold gates
  pointwise

/-- The layer's weights. -/
def weights (sd : FVec Ideal S2x1024x4096 .f32) : FVec Ideal S1024x4096 .f32 :=
  shapeCast _ (extractStridedSlice S1x1024x4096 ![0, 0, 0] sd slices_S2x1024x4096_S1x1024x4096_0_0_0) shapeCasts_S1x1024x4096_S1024x4096

theorem weights_apply (sd : FVec Ideal S2x1024x4096 .f32) (k : Fin 1024) (n : Fin 4096) : weights sd (ix2 k n) = sd (ix3 0 k n) := by
  unfold weights
  pointwise

/-- The first expert's row weights, one column repeated. -/
def first (w : FVec Ideal S8448x2 .f32) : FVec Ideal S8448x128 .f32 :=
  broadcastInDim S8448x128 ![0, 1] bcast_S8448x1_S8448x128_0_1 (extractStridedSlice S8448x1 ![0, 0] w slices_S8448x2_S8448x1_0_0)

theorem first_apply (w : FVec Ideal S8448x2 .f32) (r : Fin 8448) (n : Fin 128) : first w (ix2 r n) = w (ix2 r 0) := by
  unfold first
  pointwise

/-- The second expert's. -/
def second (w : FVec Ideal S8448x2 .f32) : FVec Ideal S8448x128 .f32 :=
  broadcastInDim S8448x128 ![0, 1] bcast_S8448x1_S8448x128_0_1 (extractStridedSlice S8448x1 ![0, 1] w slices_S8448x2_S8448x1_0_1)

theorem second_apply (w : FVec Ideal S8448x2 .f32) (r : Fin 8448) (n : Fin 128) : second w (ix2 r n) = w (ix2 r 1) := by
  unfold second
  pointwise

variable (m : (ℓ : Loc nD τ sig) → Buf (Elt Ideal) ℓ) (c : Dev nD)

theorem V_gates : V m c main_v5 = gates (m ((c : Thread nD τ).loc main_arg2)) := by
  unfold gates
  simp only [V, hostOps0, List.flatten_cons, List.flatten_nil, List.append_nil, List.cons_append, List.nil_append]
  after_results <;> rfl

theorem V_weights : V m c main_v8 = weights (m ((c : Thread nD τ).loc main_arg1)) := by
  unfold weights
  simp only [V, hostOps0, List.flatten_cons, List.flatten_nil, List.append_nil, List.cons_append, List.nil_append]
  after_results <;> rfl

theorem V_first : V m c main_v1 = first (m ((c : Thread nD τ).loc main_arg6)) := by
  unfold first
  simp only [V, hostOps0, List.flatten_cons, List.flatten_nil, List.append_nil, List.cons_append, List.nil_append]
  after_results <;> rfl

theorem V_second : V m c main_v3 = second (m ((c : Thread nD τ).loc main_arg6)) := by
  unfold second
  simp only [V, hostOps0, List.flatten_cons, List.flatten_nil, List.append_nil, List.cons_append, List.nil_append]
  after_results <;> rfl

end Operands

section Reference

open Cert.EvenCombineReferenceIdeal Cert.EvenCombineReferenceIdeal.Gen Cert.EvenCombineReferenceIdeal.Value Idealize.ShloMosaic Idealize.ShloMosaic.TcCoe Idealize.SL.Sem
open Cert.HalfWords

/-- The reference's numbers in rows of words. -/
def numbers (w : IVec S8448x2048 32) : FVec Ideal S8448x4096 .f32 :=
  extf .f32 (shapeCast _ (transpose S8448x2x2x1024 [0, 1, 3, 2] (shapeCast _ (bitcastToFloat (F := Ideal) .bf16 (Host.bitcastConvertNarrow S8448x2048x2 16 w splits_S8448x2048_w32_S8448x2048x2_w16)) shapeCasts_S8448x2048x2_S8448x2x1024x2) transposes_S8448x2x1024x2_S8448x2x2x1024_0_1_3_2) shapeCasts_S8448x2x2x1024_S8448x4096) bitsLt_bf16_f32

theorem numbers_apply (w : IVec S8448x2048 32) (r : Fin 8448) (n : Fin 4096) : numbers w (ix2 r n) = half (T := 8448) w r n := by
  have hn := n.isLt
  unfold numbers
  pointwise
  unfold half
  refine congrArg (fun q => Ideal.ofBits .bf16 (BitVec.extractLsb' (n.val / 1024 % 2 * 16) 16 (w q))) ?_
  funext a
  fin_cases a
  · rfl
  · exact Fin.ext (show n.val / 2048 * 1024 + n.val % 1024 = (n.val / 2048 * 1024 + n.val % 1024) % 2048 by omega)

/-- The reference's sum of the experts: the two routed rows times their weights, plus the shared expert's product. -/
def sums (A : FVec Ideal S8448x1024 .bf16) (sd : FVec Ideal S2x1024x4096 .f32) (r0 r1 : IVec S8448x2048 32) (w : FVec Ideal S8448x2 .f32) : FVec Ideal S8448x4096 .f32 :=
  addf (addf (mulf (numbers r0) (broadcastInDim S8448x4096 ![0, 1] bcast_S8448x1_S8448x4096_0_1 (extractStridedSlice S8448x1 ![0, 0] w slices_S8448x2_S8448x1_0_0)))
    (mulf (numbers r1) (broadcastInDim S8448x4096 ![0, 1] bcast_S8448x1_S8448x4096_0_1 (extractStridedSlice S8448x1 ![0, 1] w slices_S8448x2_S8448x1_0_1))))
    (Host.dotGeneral dot_S8448x1024_S1024x4096_S8448x4096_1_0_0_1_n_n none (extf .f32 A bitsLt_bf16_f32)
      (shapeCast _ (extractStridedSlice S1x1024x4096 ![0, 0, 0] sd slices_S2x1024x4096_S1x1024x4096_0_0_0) shapeCasts_S1x1024x4096_S1024x4096))

theorem sums_apply (A : FVec Ideal S8448x1024 .bf16) (sd : FVec Ideal S2x1024x4096 .f32) (r0 r1 : IVec S8448x2048 32) (w : FVec Ideal S8448x2 .f32)
    (i : Fin 8448) (n : Fin 4096) : sums A sd r0 r1 w (ix2 i n)
      = (half (T := 8448) r0 i n * w (ix2 i 0) + half (T := 8448) r1 i n * w (ix2 i 1)) + ∑ k : Fin 1024, A (ix2 i k) * sd (ix3 0 k n) := by
  unfold sums
  pointwise
  rw [numbers_apply, numbers_apply]

/-- The reference's result from the experts' sum: each row the residual plus its gate times the sum's row. -/
def gated (P : FVec Ideal S8448x4096 .f32) (md : FVec Ideal S2x6x4096 .f32) (x : FVec Ideal S8448x4096 .f32) : FVec Ideal S8448x4096 .f32 :=
  concatenate S8448x4096 0 [⟨S256x4096, (addf (extractStridedSlice S256x4096 ![0, 0] x slices_S8448x4096_S256x4096_0_0) (mulf (broadcastInDim S256x4096 ![0, 1] bcast_S1x4096_S256x4096_0_1 (broadcastInDim S1x4096 ![1] bcast_S4096_S1x4096_1 (shapeCast _ (extractStridedSlice S1x1x4096 ![0, 5, 0] md slices_S2x6x4096_S1x1x4096_0_5_0) shapeCasts_S1x1x4096_S4096))) (extractStridedSlice S256x4096 ![0, 0] P slices_S8448x4096_S256x4096_0_0)))⟩, ⟨S8192x4096, (addf (extractStridedSlice S8192x4096 ![256, 0] x slices_S8448x4096_S8192x4096_256_0) (mulf (broadcastInDim S8192x4096 ![0, 1] bcast_S1x4096_S8192x4096_0_1 (broadcastInDim S1x4096 ![1] bcast_S4096_S1x4096_1 (shapeCast _ (extractStridedSlice S1x1x4096 ![1, 5, 0] md slices_S2x6x4096_S1x1x4096_1_5_0) shapeCasts_S1x1x4096_S4096))) (extractStridedSlice S8192x4096 ![256, 0] P slices_S8448x4096_S8192x4096_256_0)))⟩] concatenates_S256x4096_S8192x4096_S8448x4096_d0

theorem gated_apply (P : FVec Ideal S8448x4096 .f32) (md : FVec Ideal S2x6x4096 .f32) (x : FVec Ideal S8448x4096 .f32)
    (i : Fin 8448) (n : Fin 4096) :
    gated P md x (ix2 i n) = x (ix2 i n) + (if i.val < 256 then md (ix3 0 5 n) else md (ix3 1 5 n)) * P (ix2 i n) := by
  unfold gated
  pointwise
  by_cases h : i.val < 256
  · refine (dif_pos h).trans ?_
    rw [if_pos h]
  · refine (dif_neg h).trans ?_
    rw [if_neg h]
    refine congrArg₂ (· + ·) ?_ (congrArg₂ (· * ·) rfl ?_)
    · exact congrArg (fun q => x (ix2 q n)) (Fin.ext (show 256 + (i.val - 256) = i.val by omega))
    · exact congrArg (fun q => P (ix2 q n)) (Fin.ext (show 256 + (i.val - 256) = i.val by omega))

end Reference

open Idealize.ShloMosaic Idealize.ShloMosaic.TcCoe

/-- The call's result array is the reference's. -/
theorem value_eq (m : (ℓ : Loc Cert.EvenCombineIdeal.nD Cert.EvenCombineIdeal.τ Cert.EvenCombineIdeal.sig) → Buf (Elt Ideal) ℓ)
    (c : Dev Cert.EvenCombineIdeal.nD) :
    (Cert.EvenCombineIdeal.Gen.dats m 0 c).arrAt 8 Cert.EvenCombineIdeal.cfg0.N
      = gated (sums (m ((c.tc : Thread _ _).loc Cert.EvenCombineIdeal.main_arg0)) (m ((c.tc : Thread _ _).loc Cert.EvenCombineIdeal.main_arg1))
          (m ((c.tc : Thread _ _).loc Cert.EvenCombineIdeal.main_arg4)) (m ((c.tc : Thread _ _).loc Cert.EvenCombineIdeal.main_arg5))
          (m ((c.tc : Thread _ _).loc Cert.EvenCombineIdeal.main_arg6))) (m ((c.tc : Thread _ _).loc Cert.EvenCombineIdeal.main_arg2))
          (m ((c.tc : Thread _ _).loc Cert.EvenCombineIdeal.main_arg3)) := by
  rw [final, Cert.EvenCombineIdeal.Gen.V_main_arg0, Cert.EvenCombineIdeal.Gen.V_main_arg3, Cert.EvenCombineIdeal.Gen.V_main_arg4,
    Cert.EvenCombineIdeal.Gen.V_main_arg5, V_gates, V_weights, V_first, V_second]
  funext x
  have e : x = ix2 (⟨(x 0).val, (x 0).isLt⟩ : Fin 8448) (⟨(x 1).val, (x 1).isLt⟩ : Fin 4096) := by
    funext a; fin_cases a <;> rfl
  refine Eq.trans ?_ (congrArg (gated _ _ _) e).symm
  rw [gated_apply, sums_apply]
  unfold result
  rw [gates_apply, gates_apply, first_apply, second_apply]
  refine congrArg₂ (· + ·) (congrArg _ e) (congrArg₂ (· * ·) rfl (congrArg₂ (· + ·) rfl (Finset.sum_congr rfl fun k _ => ?_)))
  rw [weights_apply]

end Cert.EvenCombineCall
-- ==== Proof.MoeUpIdealRun.lean ====
module

public import proofs.«01_k».proof.Proof.Gen.MoeUpIdeal.Launch
public import proofs.«01_k».proof.Proof.Gen.MoeUpIdeal.Skeleton
public import Idealize.ShloMosaic.Lib.Pipeline.Kit
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

/-! # One grid point of the routed experts' inner part

The body at one point, by cases: whether it casts the point's weights into the scratch arrays (it does where the row
block's expert is another than the one before, and at the first row block), and whether the row block is used. Each case
says exactly what the result's block and the two scratch arrays hold afterwards. -/

namespace Cert.MoeUpIdeal.Run

open Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem hz4 : (![0, 0, 0, 0] : Fin 4 → Nat) = fun _ => 0 := funext fun a => by fin_cases a <;> rfl

/-- The table of experts and used blocks, as the body is handed it. -/
abbrev tbM : Memref sig .tc .smem S196 .i32 := Memref.whole main_arg0

/-- What the table's buffer on core `c` holds. -/
abbrev TbBuf (c : Dev nD) : Type := Buf (Elt F) (tbM.view.loc (c : Thread nD τ))

/-- The table held at half the full share: the body reads it and changes nothing. -/
def tbPt (c : Dev nD) (f : TbBuf (F := F) c) : sProp 𝕄 := tbM.view.loc (c : Thread nD τ) ↦{fullShare.right} f

/-- The table's word at the offset `off`. -/
abbrev word (c : Dev nD) (f : TbBuf (F := F) c) (off : Fin 1 → Nat) (inb : ∀ a, off a + S1.size a ≤ S196.size a) : BitVec 32 :=
  tbM.view.readAt (Elt F) (Rect.unit (s := S196) off S1.size inb).toLoadRect f (Shape.Idx.first (numel1_S1.symm ▸ Nat.one_pos))

/-- The condition under which the body casts the point's weights: the first row block, or another expert than the one before. -/
abbrev fills (i : grid0.Coords) (e e' : BitVec 32) : Prop :=
  Scalar.cmpi .ne (Scalar.extui (Scalar.ori (Scalar.cmpi .eq (BitVec.ofNat 32 (i 1).val) 0#32) (Scalar.cmpi .ne e e'))) 0#32 = 1#1

/-- The first 2048 rows of a scratch array. -/
abbrev upper (s : Vec F S4096x512 .bf16) : Vec F S2048x512 .bf16 :=
  View.ld s (Rect.unit (s := S4096x512) ![0, 0] S2048x512.size inb_S4096x512_S2048x512_0_0)

/-- The last 2048 rows of a scratch array. -/
abbrev lower (s : Vec F S4096x512 .bf16) : Vec F S2048x512 .bf16 :=
  View.ld s (Rect.unit (s := S4096x512) ![2048, 0] S2048x512.size inb_S4096x512_S2048x512_2048_0)

/-- The result's block of a used row block: from the block's words and the two scratch arrays. -/
def used (x : Vec F S256x2048 .i32) (s0 s1 : Vec F S4096x512 .bf16) : Vec F S256x512 .bf16 :=
  k0_pay3 x (upper s0) (lower s0) (upper s1) (lower s1)

/-- A buffer stored whole reads back what was stored. -/
theorem read_stored {S : Shape} {e : EltTy} (v : View sig .tc .vmem S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  refine (View.read_writes_eq_canon v f _ fun y => ?_).trans (View.canon_unit_zero h inb w)
  exact ⟨_, List.mem_singleton.mpr rfl, View.mem_set_unit_zero h inb y⟩

/-- A load after a buffer was stored whole reads what was stored. -/
theorem readCov_stored {S : Shape} {e : EltTy} (v : View sig .tc .vmem S e) {off : Fin S.rank → Nat} (h : off = fun _ => 0)
    (inb : ∀ a, off a + S.size a ≤ S.size a) (w : S.Idx → Elt F e) (r : Rect S) :
    v.readCov [(⟨Rect.unit off S.size inb, w⟩ : View.Piece (Elt F) S e)] r.toLoadRect = View.ld w r :=
  (View.readCov_eq_canon' v _ r.toLoadRect).trans (by rw [View.canon_unit_zero h inb w])

section Cases

variable (c : Dev nD) (i : grid0.Coords) (arg3 : Memref sig .tc .vmem S256x2048 .i32) (harg3 : arg3.IsWhole)
  (arg4 : Memref sig .tc .vmem S1x1x4096x512 .f32) (harg4 : arg4.IsWhole) (arg5 : Memref sig .tc .vmem S1x1x4096x512 .f32) (harg5 : arg5.IsWhole)
  (arg6 : Memref sig .tc .vmem S256x512 .bf16) (harg6 : arg6.IsWhole) (arg7 : Memref sig .tc .vmem S4096x512 .bf16) (harg7 : arg7.IsWhole)
  (arg8 : Memref sig .tc .vmem S4096x512 .bf16) (harg8 : arg8.IsWhole)
  (x0 : Vec F S256x2048 .i32) (x1 x2 : Vec F S1x1x4096x512 .f32) (xt : TbBuf (F := F) c)

set_option maxHeartbeats 1000000 in
/-- A point that casts its weights, of a used row block. -/
theorem run_fill_used (hc0 : fills i (word c xt (k0_off1 i) (k0_off1_inb i)) (word c xt (k0_off2 i) (k0_off2_inb i))) (hc1 : k0_cond2 (word c xt (k0_off3 i) (k0_off3_inb i)) = 1#1) (hc2 : ¬k0_cond3 (word c xt (k0_off3 i) (k0_off3_inb i)) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ tbPt c xt
        ∗ (iprop(owns (c : Thread nD τ) arg3 fullShare x0 ∗ owns (c : Thread nD τ) arg4 fullShare x1 ∗ owns (c : Thread nD τ) arg5 fullShare x2 ∗ owns (c : Thread nD τ) arg6 fullShare (used x0 (k0_pay1 x1) (k0_pay2 x2)) ∗ owns (c : Thread nD τ) arg7 fullShare (k0_pay1 x1) ∗ owns (c : Thread nD τ) arg8 fullShare (k0_pay2 x2) ∗ tbPt c xt) -∗ K ⟨⟩))
      ⊢ wp frame (wpE (defs₀ (F := F)) Variants.none c none) E (cc0_moe_up i tbM (Memref.isWhole_whole _) arg3 harg3 arg4 harg4 arg5 harg5 arg6 harg6 arg7 harg7 arg8 harg8) K := by
  simp only [cc0_moe_up_eq_skeleton]; unfold cc0_moe_up_skel
  unfold owns tbPt
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, Hk⟩
  obtain rfl := harg3.eq_unread hf0; obtain rfl := harg4.eq_unread hf1; obtain rfl := harg5.eq_unread hf2
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_stored arg6.view _ hz _ _).trans ?_
    unfold used
    simp only [readCov_stored (S := S4096x512) _ hz, View.readAt_eq_ld, harg3.read_unread, harg4.read_unread, harg5.read_unread, View.ld_unit_zero (S := S1x1x4096x512) hz4, View.ld_unit_zero (S := S256x2048) hz]
  isplitl [HS0]
  · iexists _; isplitr
    swap; · iexact HS0
    ipureintro
    sl_unfold_words
    refine (read_stored arg7.view _ hz _ _).trans ?_
    simp only [View.readAt_eq_ld, harg4.read_unread, View.ld_unit_zero (S := S1x1x4096x512) hz4]
  isplitl [HS1]
  · iexists _; isplitr
    swap; · iexact HS1
    ipureintro
    sl_unfold_words
    refine (read_stored arg8.view _ hz _ _).trans ?_
    simp only [View.readAt_eq_ld, harg5.read_unread, View.ld_unit_zero (S := S1x1x4096x512) hz4]
  iexact HT0

set_option maxHeartbeats 1000000 in
/-- A point that casts its weights, of an unused row block. -/
theorem run_fill_unused (hc0 : fills i (word c xt (k0_off1 i) (k0_off1_inb i)) (word c xt (k0_off2 i) (k0_off2_inb i))) (hc1 : ¬k0_cond2 (word c xt (k0_off3 i) (k0_off3_inb i)) = 1#1) (hc2 : k0_cond3 (word c xt (k0_off3 i) (k0_off3_inb i)) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ tbPt c xt
        ∗ (iprop(owns (c : Thread nD τ) arg3 fullShare x0 ∗ owns (c : Thread nD τ) arg4 fullShare x1 ∗ owns (c : Thread nD τ) arg5 fullShare x2 ∗ owns (c : Thread nD τ) arg6 fullShare (k0_pay4 (F := F)) ∗ owns (c : Thread nD τ) arg7 fullShare (k0_pay1 x1) ∗ owns (c : Thread nD τ) arg8 fullShare (k0_pay2 x2) ∗ tbPt c xt) -∗ K ⟨⟩))
      ⊢ wp frame (wpE (defs₀ (F := F)) Variants.none c none) E (cc0_moe_up i tbM (Memref.isWhole_whole _) arg3 harg3 arg4 harg4 arg5 harg5 arg6 harg6 arg7 harg7 arg8 harg8) K := by
  simp only [cc0_moe_up_eq_skeleton]; unfold cc0_moe_up_skel
  unfold owns tbPt
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, Hk⟩
  obtain rfl := harg3.eq_unread hf0; obtain rfl := harg4.eq_unread hf1; obtain rfl := harg5.eq_unread hf2
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_stored arg6.view _ hz _ _).trans ?_
    rfl
  isplitl [HS0]
  · iexists _; isplitr
    swap; · iexact HS0
    ipureintro
    sl_unfold_words
    refine (read_stored arg7.view _ hz _ _).trans ?_
    simp only [View.readAt_eq_ld, harg4.read_unread, View.ld_unit_zero (S := S1x1x4096x512) hz4]
  isplitl [HS1]
  · iexists _; isplitr
    swap; · iexact HS1
    ipureintro
    sl_unfold_words
    refine (read_stored arg8.view _ hz _ _).trans ?_
    simp only [View.readAt_eq_ld, harg5.read_unread, View.ld_unit_zero (S := S1x1x4096x512) hz4]
  iexact HT0

set_option maxHeartbeats 1000000 in
/-- A point that keeps the scratch arrays, of a used row block. -/
theorem run_keep_used (hc0 : ¬fills i (word c xt (k0_off1 i) (k0_off1_inb i)) (word c xt (k0_off2 i) (k0_off2_inb i))) (hc1 : k0_cond2 (word c xt (k0_off3 i) (k0_off3_inb i)) = 1#1) (hc2 : ¬k0_cond3 (word c xt (k0_off3 i) (k0_off3_inb i)) = 1#1) (s0 s1 : Vec F S4096x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tbPt c xt
        ∗ (iprop(owns (c : Thread nD τ) arg3 fullShare x0 ∗ owns (c : Thread nD τ) arg4 fullShare x1 ∗ owns (c : Thread nD τ) arg5 fullShare x2 ∗ owns (c : Thread nD τ) arg6 fullShare (used x0 s0 s1) ∗ owns (c : Thread nD τ) arg7 fullShare s0 ∗ owns (c : Thread nD τ) arg8 fullShare s1 ∗ tbPt c xt) -∗ K ⟨⟩))
      ⊢ wp frame (wpE (defs₀ (F := F)) Variants.none c none) E (cc0_moe_up i tbM (Memref.isWhole_whole _) arg3 harg3 arg4 harg4 arg5 harg5 arg6 harg6 arg7 harg7 arg8 harg8) K := by
  simp only [cc0_moe_up_eq_skeleton]; unfold cc0_moe_up_skel
  unfold owns tbPt
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, Hk⟩
  obtain rfl := harg3.eq_unread hf0; obtain rfl := harg4.eq_unread hf1; obtain rfl := harg5.eq_unread hf2
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_stored arg6.view _ hz _ _).trans ?_
    unfold used
    simp only [readCov_stored (S := S4096x512) _ hz, View.readAt_eq_ld, harg3.read_unread, harg4.read_unread, harg5.read_unread, harg7.read_unread, harg8.read_unread, View.ld_unit_zero (S := S1x1x4096x512) hz4, View.ld_unit_zero (S := S256x2048) hz]
  isplitl [HS0]
  · iexists _; isplitr; · ipureintro; exact harg7.read_unread _
    iexact HS0
  isplitl [HS1]
  · iexists _; isplitr; · ipureintro; exact harg8.read_unread _
    iexact HS1
  iexact HT0

set_option maxHeartbeats 1000000 in
/-- A point that keeps the scratch arrays, of an unused row block. -/
theorem run_keep_unused (hc0 : ¬fills i (word c xt (k0_off1 i) (k0_off1_inb i)) (word c xt (k0_off2 i) (k0_off2_inb i))) (hc1 : ¬k0_cond2 (word c xt (k0_off3 i) (k0_off3_inb i)) = 1#1) (hc2 : k0_cond3 (word c xt (k0_off3 i) (k0_off3_inb i)) = 1#1) (s0 s1 : Vec F S4096x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tbPt c xt
        ∗ (iprop(owns (c : Thread nD τ) arg3 fullShare x0 ∗ owns (c : Thread nD τ) arg4 fullShare x1 ∗ owns (c : Thread nD τ) arg5 fullShare x2 ∗ owns (c : Thread nD τ) arg6 fullShare (k0_pay4 (F := F)) ∗ owns (c : Thread nD τ) arg7 fullShare s0 ∗ owns (c : Thread nD τ) arg8 fullShare s1 ∗ tbPt c xt) -∗ K ⟨⟩))
      ⊢ wp frame (wpE (defs₀ (F := F)) Variants.none c none) E (cc0_moe_up i tbM (Memref.isWhole_whole _) arg3 harg3 arg4 harg4 arg5 harg5 arg6 harg6 arg7 harg7 arg8 harg8) K := by
  simp only [cc0_moe_up_eq_skeleton]; unfold cc0_moe_up_skel
  unfold owns tbPt
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, Hk⟩
  obtain rfl := harg3.eq_unread hf0; obtain rfl := harg4.eq_unread hf1; obtain rfl := harg5.eq_unread hf2
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_stored arg6.view _ hz _ _).trans ?_
    rfl
  isplitl [HS0]
  · iexists _; isplitr; · ipureintro; exact harg7.read_unread _
    iexact HS0
  isplitl [HS1]
  · iexists _; isplitr; · ipureintro; exact harg8.read_unread _
    iexact HS1
  iexact HT0

end Cases

end Cert.MoeUpIdeal.Run

end
-- ==== Proof.MoeUpIdealPoints.lean ====
module

public import proofs.«01_k».proof.Proof.MoeUpIdealRun
public import Idealize.ShloMosaic.Lib.Pipeline.ValueKit
public import Idealize.ShloMosaic.Lib.Pointwise

@[expose] public section

set_option maxRecDepth 16384

noncomputable section

/-! # The routed experts' inner part: what every grid point leaves

For any table whose experts exist, every point leaves its block of the result as stated by `leaves`, and the scratch
arrays then hold the point's own weights, cast. A point that casts nothing finds them there from the point before, whose
weights are the same block. -/

namespace Cert.MoeUpIdeal.Run

open Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table's words and the body's conditions -/

/-- Word `n` of the table. -/
def entry (c : Dev nD) (f : TbBuf (F := F) c) (n : ℕ) : BitVec 32 := f (ix1 (⟨n % 196, Nat.mod_lt _ (by norm_num)⟩ : Fin 196))

/-- The word the body loads at an offset is the table's word there. -/
theorem word_eq (c : Dev nD) (f : TbBuf (F := F) c) (off : Fin 1 → Nat) (inb : ∀ a, off a + S1.size a ≤ S196.size a) (n : ℕ) (h : off 0 = n) :
    word c f off inb = entry c f n := by
  have h0 : off 0 + 1 ≤ 196 := inb 0
  subst h
  refine congrArg f (funext fun a => ?_)
  fin_cases a
  refine Fin.ext ?_
  show off 0 + 1 * 0 = off 0 % 196
  omega

/-- Row block and the three places of the table a point reads. -/
theorem offs : ∀ t : Fin grid0.N, k0_off1 (grid0.coords t) 0 = t.val % 98 ∧ k0_off2 (grid0.coords t) 0 = t.val % 98 - 1 ∧ k0_off3 (grid0.coords t) 0 = 98 + t.val % 98 := by
  decide +kernel

theorem coord : ∀ t : Fin grid0.N, (grid0.coords t 0).val = t.val / 98 ∧ (grid0.coords t 1).val = t.val % 98 := by
  decide +kernel

/-- A flag widened and compared with zero is the flag; -/
theorem flag (b : Bool) : IntOp.cmpi .ne (BitVec.setWidth 32 (BitVec.ofBool b)) 0#32 = 1#1 ↔ b = true := by cases b <;> decide

/-- negated, its negation; -/
theorem flag_not (b : Bool) : IntOp.cmpi .ne (BitVec.setWidth 32 (BitVec.ofBool b ^^^ 1#1)) 0#32 = 1#1 ↔ b = false := by cases b <;> decide

/-- and two flags joined, either. -/
theorem flag_or (a b : Bool) : IntOp.cmpi .ne (BitVec.setWidth 32 (BitVec.ofBool a ||| BitVec.ofBool b)) 0#32 = 1#1 ↔ (a = true ∨ b = true) := by
  cases a <;> cases b <;> decide

/-- The body casts the weights at the first row block and where the expert changes. -/
theorem fills_iff (t : Fin grid0.N) (e e' : BitVec 32) : fills (grid0.coords t) e e' ↔ (t.val % 98 = 0 ∨ e ≠ e') := by
  have hc := (coord t).2
  have hb : (BitVec.ofNat 32 (t.val % 98) = 0#32) ↔ t.val % 98 = 0 := by
    constructor
    · intro h
      have := congrArg BitVec.toNat h
      simp only [BitVec.toNat_ofNat] at this
      omega
    · intro h; rw [h]
  have h := flag_or (BitVec.ofNat 32 (t.val % 98) == 0#32) (e != e')
  rw [beq_iff_eq, bne_iff_ne, hb, ← hc] at h
  rw [← hc]
  exact h

/-- A row block is used where its word is not zero; -/
theorem cond2_iff (w : BitVec 32) : k0_cond2 w = 1#1 ↔ w ≠ 0#32 :=
  (flag (w != 0#32)).trans bne_iff_ne

/-- and the body writes zeros where it is. -/
theorem cond3_iff (w : BitVec 32) : k0_cond3 w = 1#1 ↔ w = 0#32 :=
  (flag_not (w != 0#32)).trans bne_eq_false_iff_eq

variable (m : (ℓ : Loc nD τ sig) → Buf (Elt F) ℓ) (ρ : Dev nD → PrngReg)

/-! ## The buffers as the grid finds them -/

/-- Core `c`'s buffers when the grid starts: as launched. -/
abbrev V (c : Dev nD) (b : Ref sig .tc) : Buf (Elt F) ((c : Thread nD τ).loc b) := m ((c : Thread nD τ).loc b)

set_option maxHeartbeats 800000 in
/-- The program is the grid alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The table's experts exist: every weights' block lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The half of the table the body is handed. -/
theorem PhiT0_eq (c : Dev nD) : (Pipeline.ΦT pre0 (tbl m) c : sProp 𝕄) = iprop(tbPt c (tbl m 0)) := by
  unfold Pipeline.ΦT Pipeline.prefHeld tbPt
  rw [show (Finset.univ : Finset (Fin 1)) = {(0 : Fin 1)} from by decide, bigSep_singleton]
  rfl

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The rows' buffer holds its block at every point. -/
theorem before_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- So does the gate weights', -/
theorem before_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- and the up weights'. -/
theorem before_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The weights' blocks -/

/-- Column block `j` of expert `e`'s weights, of the first layer. -/
def colsOf (B : FVec F S2x16x4096x1024 .f32) (e j : ℕ) : FVec F S1x1x4096x512 .f32 := fun y =>
  B (ix4 (0 : Fin 2) (⟨e % 16, Nat.mod_lt _ (by norm_num)⟩ : Fin 16) (y 2) (⟨(512 * j + (y 3).val) % 1024, Nat.mod_lt _ (by norm_num)⟩ : Fin 1024))

/-- The expert of a point's row block. -/
def expert (c : Dev nD) (t : ℕ) : ℕ := (entry c (tbl m 0) (t % 98)).toNat

/-- The index maps of the weights: point `t` reads its row block's expert, column block `t / 98`. -/
theorem idx1 (c : Dev nD) (t : Fin grid0.N) : cc0_transform_1 k0_off1_inb numel1_S1 (tbl m) (grid0.coords t) = ![0, expert m c t.val, 0, t.val / 98] := by
  have h0 : t.val < 196 := lt_of_lt_of_eq t.isLt N_0
  have e1 : (word c (tbl m 0) (k0_off1 (grid0.coords t)) (k0_off1_inb (grid0.coords t))).toNat = expert m c t.val :=
    congrArg BitVec.toNat (word_eq c (tbl m 0) _ _ _ (offs t).1)
  have e2 : (BitVec.ofNat 32 (grid0.coords t 0).val).toNat = t.val / 98 := by
    rw [(coord t).1, BitVec.toNat_ofNat]; omega
  funext a
  fin_cases a
  · rfl
  · exact e1
  · rfl
  · exact e2

theorem idx2 (c : Dev nD) (t : Fin grid0.N) : cc0_transform_2 k0_off1_inb numel1_S1 (tbl m) (grid0.coords t) = ![0, expert m c t.val, 0, t.val / 98] :=
  idx1 m c t

theorem expert_lt (hO : Ok m) (c : Dev nD) (t : Fin grid0.N) : expert m c t.val < 16 := by
  obtain ⟨h, -⟩ := hO.1 (grid0.coords t)
  have h1 := h 1
  rw [idx1 m c t] at h1
  have : (expert m c t.val + 1) * 1 ≤ 16 := h1
  omega

/-- The gate weights' block of a point. -/
theorem iblk1_eq (hO : Ok m) (c : Dev nD) (t : Fin (cfgM m hO).N) : iblk m hO c 1 t = colsOf (m ((c : Thread nD τ).loc main_arg2)) (expert m c t.val) (t.val / 98) := by
  have h0 : t.val < 196 := lt_of_lt_of_eq t.isLt (show (cfgM m hO).N = 196 from N_0)
  have he := expert_lt m hO c t
  refine funext fun (y : S1x1x4096x512.Idx) => ?_
  refine congrArg (m ((c : Thread nD τ).loc main_arg2)) (funext fun a => Fin.ext ?_)
  have hy3 : (y 3).val < 512 := (y 3).isLt
  have e : cc0_transform_1 k0_off1_inb numel1_S1 (tbl m) (grid0.coords t) a * S1x1x4096x512.size a + 1 * (y a).val
      = ((ix4 (0 : Fin 2) (⟨expert m c t.val % 16, Nat.mod_lt _ (by norm_num)⟩ : Fin 16) (y 2) (⟨(512 * (t.val / 98) + (y 3).val) % 1024, Nat.mod_lt _ (by norm_num)⟩ : Fin 1024) : S2x16x4096x1024.Idx) a).val := by
    rw [idx1 m c t]
    fin_cases a
    · have : (y 0).val < 1 := (y 0).isLt
      show 0 * 1 + 1 * (y 0).val = 0
      omega
    · have : (y 1).val < 1 := (y 1).isLt
      show expert m c t.val * 1 + 1 * (y 1).val = expert m c t.val % 16
      omega
    · show 0 * 4096 + 1 * (y 2).val = (y 2).val
      omega
    · show t.val / 98 * 512 + 1 * (y 3).val = (512 * (t.val / 98) + (y 3).val) % 1024
      omega
  exact e

/-- The up weights' block of a point. -/
theorem iblk2_eq (hO : Ok m) (c : Dev nD) (t : Fin (cfgM m hO).N) : iblk m hO c 2 t = colsOf (m ((c : Thread nD τ).loc main_arg3)) (expert m c t.val) (t.val / 98) := by
  have h0 : t.val < 196 := lt_of_lt_of_eq t.isLt (show (cfgM m hO).N = 196 from N_0)
  have he := expert_lt m hO c t
  refine funext fun (y : S1x1x4096x512.Idx) => ?_
  refine congrArg (m ((c : Thread nD τ).loc main_arg3)) (funext fun a => Fin.ext ?_)
  have hy3 : (y 3).val < 512 := (y 3).isLt
  have e : cc0_transform_2 k0_off1_inb numel1_S1 (tbl m) (grid0.coords t) a * S1x1x4096x512.size a + 1 * (y a).val
      = ((ix4 (0 : Fin 2) (⟨expert m c t.val % 16, Nat.mod_lt _ (by norm_num)⟩ : Fin 16) (y 2) (⟨(512 * (t.val / 98) + (y 3).val) % 1024, Nat.mod_lt _ (by norm_num)⟩ : Fin 1024) : S2x16x4096x1024.Idx) a).val := by
    rw [idx2 m c t]
    fin_cases a
    · have : (y 0).val < 1 := (y 0).isLt
      show 0 * 1 + 1 * (y 0).val = 0
      omega
    · have : (y 1).val < 1 := (y 1).isLt
      show expert m c t.val * 1 + 1 * (y 1).val = expert m c t.val % 16
      omega
    · show 0 * 4096 + 1 * (y 2).val = (y 2).val
      omega
    · show t.val / 98 * 512 + 1 * (y 3).val = (512 * (t.val / 98) + (y 3).val) % 1024
      omega
  exact e

/-! ## What every point leaves -/

/-- The gate weights' scratch after point `n`. -/
def gate (c : Dev nD) (n : ℕ) : Vec F S4096x512 .bf16 := k0_pay1 (colsOf (m ((c : Thread nD τ).loc main_arg2)) (expert m c n) (n / 98))

/-- The up weights' scratch after point `n`. -/
def up (c : Dev nD) (n : ℕ) : Vec F S4096x512 .bf16 := k0_pay2 (colsOf (m ((c : Thread nD τ).loc main_arg3)) (expert m c n) (n / 98))

open Classical in
/-- The result's block at point `t`: the gated product where the row block is used, zeros elsewhere. -/
def leaves (hO : Ok m) (c : Dev nD) (t : Fin (cfgM m hO).N) : Vec F S256x512 .bf16 :=
  if entry c (tbl m 0) (98 + t.val % 98) ≠ 0#32 then used (iblk m hO c 0 t) (gate m c t.val) (up m c t.val) else k0_pay4 (F := F)

/-- A point that casts nothing finds in the scratch arrays what it would have cast. -/
theorem kept (c : Dev nD) (t : Fin grid0.N)
    (h : ¬fills (grid0.coords t) (word c (tbl m 0) (k0_off1 (grid0.coords t)) (k0_off1_inb (grid0.coords t))) (word c (tbl m 0) (k0_off2 (grid0.coords t)) (k0_off2_inb (grid0.coords t)))) :
    t.val ≠ 0 ∧ gate m c (t.val - 1) = gate m c t.val ∧ up m c (t.val - 1) = up m c t.val := by
  rw [fills_iff, word_eq c (tbl m 0) _ _ _ (offs t).1, word_eq c (tbl m 0) _ _ _ (offs t).2.1] at h
  rw [not_or, not_not] at h
  obtain ⟨h0, h1⟩ := h
  have hm : (t.val - 1) % 98 = t.val % 98 - 1 := by omega
  have hd : (t.val - 1) / 98 = t.val / 98 := by omega
  have he : expert m c (t.val - 1) = expert m c t.val := by
    unfold expert
    rw [hm, h1]
  refine ⟨fun hz => h0 (by rw [hz]), ?_, ?_⟩
  · unfold gate
    rw [he, hd]
  · unfold up
    rw [he, hd]

/-- The scratch arrays as the body is handed them. -/
abbrev sc0 : Memref sig .tc .vmem S4096x512 .bf16 := Memref.whole cc0_scratch0
abbrev sc1 : Memref sig .tc .vmem S4096x512 .bf16 := Memref.whole cc0_scratch1

/-- Before the first point the scratch arrays hold anything. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What holds between points: the scratch arrays at the weights of the point before, and the table. -/
def PhiS (c : Dev nD) : ℕ → sProp 𝕄
  | 0 => iprop(Pipeline.ΦA spec0 c ∗ Pipeline.ΦT pre0 (tbl m) c)
  | n + 1 => iprop(iprop(iprop(owns (c : Thread nD τ) sc0 fullShare (gate m c n) ∗ owns (c : Thread nD τ) sc1 fullShare (up m c n)) ∗ (∃ r, prngReg c r)) ∗ Pipeline.ΦT pre0 (tbl m) c)

theorem PhiS_pos (c : Dev nD) (n : ℕ) (hz : n ≠ 0) :
    PhiS m c n = iprop(iprop(iprop(owns (c : Thread nD τ) sc0 fullShare (gate m c (n - 1)) ∗ owns (c : Thread nD τ) sc1 fullShare (up m c (n - 1))) ∗ (∃ r, prngReg c r)) ∗ Pipeline.ΦT pre0 (tbl m) c) := by
  cases n with
  | zero => exact absurd rfl hz
  | succ n => rfl

/-- The data of the run: the arrays as found, what the body leaves in each buffer, what holds between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => leaves m hO c t
  Φ t := PhiS m c t.val
  q _ := fullShare
  owed _ := 0

theorem A_eq (hO : Ok m) (c : Dev nD) (w : Fin (cfgM m hO).W) : (dats m hO 0 c).A w = V m c (Pipeline.arrRef spec0 w) := by
  dsimp only [dats]

/-- What holds before a point. -/
theorem Phi_castSucc (hO : Ok m) (c : Dev nD) (t : Fin (cfgM m hO).N) : (dats m hO 0 c).Φ t.castSucc = PhiS m c t.val := by
  dsimp only [dats]
  exact congrArg (PhiS m c) (Fin.val_castSucc t)

/-- What holds after a point. -/
theorem Phi_succ (hO : Ok m) (c : Dev nD) (t : Fin (cfgM m hO).N) : (dats m hO 0 c).Φ t.succ = PhiS m c (t.val + 1) := by
  dsimp only [dats]
  exact congrArg (PhiS m c) (Fin.val_succ t)

/-- After the last. -/
theorem Phi_last (hO : Ok m) (c : Dev nD) : (dats m hO 0 c).Φ (Fin.last (cfgM m hO).N) = PhiS m c (cfgM m hO).N := by
  dsimp only [dats]
  exact congrArg (PhiS m c) (Fin.val_last _)

theorem PhiS_succ (c : Dev nD) (n : ℕ) :
    PhiS m c (n + 1) = iprop(iprop(iprop(owns (c : Thread nD τ) sc0 fullShare (gate m c n) ∗ owns (c : Thread nD τ) sc1 fullShare (up m c n)) ∗ (∃ r, prngReg c r)) ∗ Pipeline.ΦT pre0 (tbl m) c) := rfl

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = leaves m hO c t := by dsimp only [dats]; try rfl

theorem before0_0 (hO : Ok m) (c : Dev nD) (t : Fin (cfgM m hO).N) (d) : (dats m hO 0 c).before 0 t d = iblk m hO c 0 t :=
  before_0 m hO (dats m hO 0 c) (A_eq m hO c 0) (after0_0 m hO c) t d
theorem before0_1 (hO : Ok m) (c : Dev nD) (t : Fin (cfgM m hO).N) (d) : (dats m hO 0 c).before 1 t d = iblk m hO c 1 t :=
  before_1 m hO (dats m hO 0 c) (A_eq m hO c 1) (after0_1 m hO c) t d
theorem before0_2 (hO : Ok m) (c : Dev nD) (t : Fin (cfgM m hO).N) (d) : (dats m hO 0 c).before 2 t d = iblk m hO c 2 t :=
  before_2 m hO (dats m hO 0 c) (A_eq m hO c 2) (after0_2 m hO c) t d

end Cert.MoeUpIdeal.Run

end
-- ==== Proof.MoeUpIdealFrame.lean ====
module

public import proofs.«01_k».proof.Proof.MoeUpIdealPoints

@[expose] public section

set_option maxRecDepth 16384

noncomputable section

/-! # The routed experts' inner part: the body at every point, and the whole run -/

namespace Cert.MoeUpIdeal.Run

open Cert.MoeUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at any point -/

/-- Each window's buffer at a point. -/
abbrev ms0 (hO : Ok m) (t : Fin (cfgM m hO).N) : Memref sig .tc .vmem S256x2048 .i32 := spec0_0.stage ((cfgM m hO).slots t 0)
abbrev ms1 (hO : Ok m) (t : Fin (cfgM m hO).N) : Memref sig .tc .vmem S1x1x4096x512 .f32 := spec0_1.stage ((cfgM m hO).slots t 1)
abbrev ms2 (hO : Ok m) (t : Fin (cfgM m hO).N) : Memref sig .tc .vmem S1x1x4096x512 .f32 := spec0_2.stage ((cfgM m hO).slots t 2)
abbrev ms3 (hO : Ok m) (t : Fin (cfgM m hO).N) : Memref sig .tc .vmem S256x512 .bf16 := spec0_3.stage ((cfgM m hO).slots t 3)

/-- The body at a point, on the buffers it is handed. -/
abbrev bodyAt (hO : Ok m) (t : Fin (cfgM m hO).N) : Prog (TpuEff nD τ sig (Elt F) Λ₀ .tc) PUnit :=
  cc0_moe_up (grid0.coords t) tbM (Memref.isWhole_whole _) (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2)) (ms3 m hO t) (hstage0_3 (((cfgM m hO).slots t 3).cast nbuf0_3)) sc0 (Memref.isWhole_whole _) sc1 (Memref.isWhole_whole _)

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

set_option maxHeartbeats 400000 in
/-- The body at any point leaves what `leaves` says, and the point's weights in the scratch arrays. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2]
  rw [show (dats m hO 0 c).owesAt () t.succ = (dats m hO 0 c).owesAt () t.castSucc from rfl,
    after0_0, after0_1, after0_2, after0_3]
  rw [Phi_castSucc]
  rw [Phi_succ, PhiS_succ, PhiT0_eq]
  have g1 : gate m c t.val = k0_pay1 (iblk m hO c 1 t) := congrArg (k0_pay1 (F := F)) (iblk1_eq m hO c t).symm
  have g2 : up m c t.val = k0_pay2 (iblk m hO c 2 t) := congrArg (k0_pay2 (F := F)) (iblk2_eq m hO c t).symm
  have hw : word c (tbl m 0) (k0_off3 (grid0.coords t)) (k0_off3_inb (grid0.coords t)) = entry c (tbl m 0) (98 + t.val % 98) :=
    word_eq c (tbl m 0) _ _ _ (offs t).2.2
  by_cases hc : fills (grid0.coords t) (word c (tbl m 0) (k0_off1 (grid0.coords t)) (k0_off1_inb (grid0.coords t))) (word c (tbl m 0) (k0_off2 (grid0.coords t)) (k0_off2_inb (grid0.coords t)))
  · have hP : PhiS m c t.val ⊢ iprop(iprop(iprop((∃ d, owns (c : Thread nD τ) sc0 fullShare d) ∗ (∃ d, owns (c : Thread nD τ) sc1 fullShare d)) ∗ (∃ r, prngReg c r)) ∗ tbPt c (tbl m 0)) := by
      by_cases hz : t.val = 0
      · rw [hz]
        show iprop(Pipeline.ΦA spec0 c ∗ Pipeline.ΦT pre0 (tbl m) c) ⊢ _
        rw [PhiT0_eq, PhiA0_eq]
      · rw [PhiS_pos m c _ hz, PhiT0_eq]
        iintro ⟨⟨⟨HS0, HS1⟩, Hg⟩, HT⟩
        isplitl [HS0 HS1 Hg]
        · isplitl [HS0 HS1]
          · isplitl [HS0]
            · iexists _; iexact HS0
            iexists _; iexact HS1
          iexact Hg
        iexact HT
    refine Idealize.SL.BI.BIBase.Entails.trans (Idealize.SL.BI.Laws.sep_mono_left hP) ?_
    by_cases hu : entry c (tbl m 0) (98 + t.val % 98) ≠ 0#32
    · rw [show leaves m hO c t = used (iblk m hO c 0 t) (gate m c t.val) (up m c t.val) from if_pos hu, g1, g2]
      iintro ⟨⟨⟨⟨HS0, HS1⟩, Hg⟩, HT⟩, Ho, ⟨%d0, H0⟩, ⟨%d1, H1⟩, ⟨%d2, H2⟩, ⟨%d3, H3⟩⟩
      iapply (run_fill_used c (grid0.coords t) _ _ _ _ _ _ _ _ _ _ _ _ (iblk m hO c 0 t) (iblk m hO c 1 t) (iblk m hO c 2 t) (tbl m 0) hc ((cond2_iff _).mpr (hw ▸ hu)) (fun h => hu (hw ▸ (cond3_iff _).mp h)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT]; · iexact HT
      iintro ⟨H0, H1, H2, H3, HS0, HS1, HT⟩
      isplitl [HS0 HS1 Hg HT]
      · isplitl [HS0 HS1 Hg]
        · isplitl [HS0 HS1]
          · isplitl [HS0]; · iexact HS0
            iexact HS1
          iexact Hg
        iexact HT
      isplitl [Ho]; · iexact Ho
      isplitl [H0]; · iexact H0
      isplitl [H1]; · iexact H1
      isplitl [H2]; · iexact H2
      iexact H3
    · rw [show leaves m hO c t = k0_pay4 (F := F) from if_neg hu, g1, g2]
      rw [not_not] at hu
      iintro ⟨⟨⟨⟨HS0, HS1⟩, Hg⟩, HT⟩, Ho, ⟨%d0, H0⟩, ⟨%d1, H1⟩, ⟨%d2, H2⟩, ⟨%d3, H3⟩⟩
      iapply (run_fill_unused c (grid0.coords t) _ _ _ _ _ _ _ _ _ _ _ _ (iblk m hO c 0 t) (iblk m hO c 1 t) (iblk m hO c 2 t) (tbl m 0) hc (fun h => (cond2_iff _).mp h (hw.trans hu)) ((cond3_iff _).mpr (hw.trans hu)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT]; · iexact HT
      iintro ⟨H0, H1, H2, H3, HS0, HS1, HT⟩
      isplitl [HS0 HS1 Hg HT]
      · isplitl [HS0 HS1 Hg]
        · isplitl [HS0 HS1]
          · isplitl [HS0]; · iexact HS0
            iexact HS1
          iexact Hg
        iexact HT
      isplitl [Ho]; · iexact Ho
      isplitl [H0]; · iexact H0
      isplitl [H1]; · iexact H1
      isplitl [H2]; · iexact H2
      iexact H3
  · obtain ⟨hz, k1, k2⟩ := kept m c t hc
    rw [PhiS_pos m c _ hz, PhiT0_eq, k1, k2]
    by_cases hu : entry c (tbl m 0) (98 + t.val % 98) ≠ 0#32
    · rw [show leaves m hO c t = used (iblk m hO c 0 t) (gate m c t.val) (up m c t.val) from if_pos hu]
      iintro ⟨⟨⟨⟨HS0, HS1⟩, Hg⟩, HT⟩, Ho, ⟨%d0, H0⟩, ⟨%d1, H1⟩, ⟨%d2, H2⟩, ⟨%d3, H3⟩⟩
      iapply (run_keep_used c (grid0.coords t) _ _ _ _ _ _ _ _ _ _ _ _ (iblk m hO c 0 t) (iblk m hO c 1 t) (iblk m hO c 2 t) (tbl m 0) hc ((cond2_iff _).mpr (hw ▸ hu)) (fun h => hu (hw ▸ (cond3_iff _).mp h)) (gate m c t.val) (up m c t.val) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT]; · iexact HT
      iintro ⟨H0, H1, H2, H3, HS0, HS1, HT⟩
      isplitl [HS0 HS1 Hg HT]
      · isplitl [HS0 HS1 Hg]
        · isplitl [HS0 HS1]
          · isplitl [HS0]; · iexact HS0
            iexact HS1
          iexact Hg
        iexact HT
      isplitl [Ho]; · iexact Ho
      isplitl [H0]; · iexact H0
      isplitl [H1]; · iexact H1
      isplitl [H2]; · iexact H2
      iexact H3
    · rw [show leaves m hO c t = k0_pay4 (F := F) from if_neg hu]
      rw [not_not] at hu
      iintro ⟨⟨⟨⟨HS0, HS1⟩, Hg⟩, HT⟩, Ho, ⟨%d0, H0⟩, ⟨%d1, H1⟩, ⟨%d2, H2⟩, ⟨%d3, H3⟩⟩
      iapply (run_keep_unused c (grid0.coords t) _ _ _ _ _ _ _ _ _ _ _ _ (iblk m hO c 0 t) (iblk m hO c 1 t) (iblk m hO c 2 t) (tbl m 0) hc (fun h => (cond2_iff _).mp h (hw.trans hu)) ((cond3_iff _).mpr (hw.trans hu)) (gate m c t.val) (up m c t.val) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT]; · iexact HT
      iintro ⟨H0, H1, H2, H3, HS0, HS1, HT⟩
      isplitl [HS0 HS1 Hg HT]
      · isplitl [HS0 HS1 Hg]
        · isplitl [HS0 HS1]
          · isplitl [HS0]; · iexact HS0
            iexact HS1
          iexact Hg
        iexact HT
      isplitl [Ho]; · iexact Ho
      isplitl [H0]; · iexact H0
      isplitl [H1]; · iexact H1
      isplitl [H2]; · iexact H2
      iexact H3

/-- The body's table row at a point is the body on that point's buffers. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's block is written back at every point. -/
theorem flush3 (hO : Ok m) : ∀ t : Fin (cfgM m hO).N, ((cfgM m hO).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- So, stored into or not, its buffer is handed back at what the point leaves. -/
theorem handed {P Q : sProp 𝕄} (b f : Bool) :
    f = true → (P ⊢ (match b with | true => (match f with | false => Q | true => P) | false => P)) := by
  rintro rfl
  cases b <;> exact Idealize.SL.BI.Entails.refl _

/-- The body obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ =>
    Idealize.SL.BI.sep_mono_r (Idealize.SL.BI.sep_mono_r (Idealize.SL.BI.sep_mono_r (Idealize.SL.BI.sep_mono_r (Idealize.SL.BI.sep_mono_r (handed _ _ (flush3 m hO t))))))

/-- The launch hands over what holds before the first point. -/
theorem hin (hO : Ok m) (c : Dev nD) : iprop(Pipeline.ΦA spec0 c ∗ Pipeline.ΦT pre0 (tbl m) c) ⊢ (dats m hO 0 c).Φ 0 := by
  exact Idealize.SL.BI.Entails.refl _

/-- After the last point the scratch arrays' contents are forgotten. -/
theorem hout (hO : Ok m) (c : Dev nD) : (dats m hO 0 c).Φ (Fin.last (cfgM m hO).N) ⊢ Pipeline.ΦA spec0 c := by
  have hN : (cfgM m hO).N = 196 := N_0
  rw [Phi_last, PhiS_pos m c _ (by omega), PhiA0_eq]
  iintro ⟨⟨⟨HS0, HS1⟩, Hg⟩, -⟩
  isplitl [HS0 HS1]
  · isplitl [HS0]
    · iexists _; iexact HS0
    iexists _; iexact HS1
  iexact Hg

set_option backward.isDefEq.respectTransparency.types false in
/-- Every run ends, with every array at what the data of the run say and every counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The argument arrays and the result's after a run. -/
theorem ends (hO : Ok m) {r} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c).2 main_arg0 (by decide : main_arg0 ∈ Pipeline.restRefs sig spec0),
    ((h c).1 0).trans (((dats m hO 0 c).arrAt_in 0 rfl _).trans (A_eq m hO c 0)),
    ((h c).1 1).trans (((dats m hO 0 c).arrAt_in 1 rfl _).trans (A_eq m hO c 1)),
    ((h c).1 2).trans (((dats m hO 0 c).arrAt_in 2 rfl _).trans (A_eq m hO c 2))⟩

/-- Every run ends, the argument arrays unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ends m hO h.1 c, h.2⟩) (run_quiescent m ρ hO)

end Cert.MoeUpIdeal.Run

end
-- ==== Proof.MoeUpBlocks.lean ====
module

public import proofs.«01_k».proof.Proof.MoeUpIdealFrame
public import proofs.«01_k».proof.Proof.Consts
public import proofs.«01_k».proof.Proof.HalfWords
public import Idealize.ShloMosaic.Lib.Pointwise
public import Idealize.ShloMosaic.Lib.Pipeline.ValueKit

@[expose] public section

set_option maxRecDepth 16384

noncomputable section

/-! # The routed experts' inner part: its result array from its operands -/

namespace Cert.MoeUpCall

open Cert.MoeUpIdeal Cert.MoeUpIdeal.Gen Cert.MoeUpIdeal.Run Idealize.ShloMosaic Idealize.ShloMosaic.TcCoe Idealize.SL.Sem
open Idealize.ShloMosaic.Pipeline (Dat)
open Cert.HalfWords

/-- The gated product of two sums: `g · σ(g) · u`. -/
def swish (g u : EReal) : EReal := g * Ideal.logistic g * u

/-- Column `k` of a row of words read as numbers: first all low halves, then all high halves. -/
def num {T : ℕ} (w : IVec (⟨2, ![T, 2048]⟩ : Shape) 32) (r : Fin T) (k : Fin 4096) : EReal :=
  Ideal.ofBits .bf16 ((w (ix2 r (⟨k.val % 2048, Nat.mod_lt _ (by norm_num)⟩ : Fin 2048))).extractLsb' (k.val / 2048 * 16) 16)

/-- A sum over the columns is the sum over the low halves plus the sum over the high halves. -/
theorem sum_halves (f : Fin 4096 → EReal) :
    ∑ k : Fin 4096, f k = ∑ p : Fin 2048, f ⟨p.val, by omega⟩ + ∑ p : Fin 2048, f ⟨2048 + p.val, by omega⟩ :=
  Fin.sum_univ_add (a := 2048) (b := 2048) f

theorem num_low {T : ℕ} (w : IVec (⟨2, ![T, 2048]⟩ : Shape) 32) (r : Fin T) (p : Fin 2048) :
    Ideal.ofBits .f32 (w (ix2 r p) <<< 16) = num w r ⟨p.val, by omega⟩ := by
  have hp := p.isLt
  unfold num
  rw [low, show (⟨p.val % 2048, Nat.mod_lt _ (by norm_num)⟩ : Fin 2048) = p from Fin.ext (Nat.mod_eq_of_lt hp),
    show p.val / 2048 * 16 = 0 by omega]

theorem num_high {T : ℕ} (w : IVec (⟨2, ![T, 2048]⟩ : Shape) 32) (r : Fin T) (p : Fin 2048) :
    Ideal.ofBits .f32 (w (ix2 r p) &&& 4294901760#32) = num w r ⟨2048 + p.val, by omega⟩ := by
  have hp := p.isLt
  unfold num
  rw [high, show (⟨(2048 + p.val) % 2048, Nat.mod_lt _ (by norm_num)⟩ : Fin 2048) = p from
    Fin.ext (show (2048 + p.val) % 2048 = p.val by omega), show (2048 + p.val) / 2048 * 16 = 16 by omega]

/-- Rows of the two halves of a scratch array. -/
theorem upper_apply (s : Vec Ideal S4096x512 .bf16) (p : Fin 2048) (n : Fin 512) : upper s (ix2 p n) = s (ix2 (⟨p.val, by omega⟩ : Fin 4096) n) := by
  refine congrArg s (funext fun a => Fin.ext ?_)
  fin_cases a
  · show 0 + 1 * p.val = p.val
    omega
  · show 0 + 1 * n.val = n.val
    omega

theorem lower_apply (s : Vec Ideal S4096x512 .bf16) (p : Fin 2048) (n : Fin 512) : lower s (ix2 p n) = s (ix2 (⟨2048 + p.val, by omega⟩ : Fin 4096) n) := by
  refine congrArg s (funext fun a => Fin.ext ?_)
  fin_cases a
  · show 2048 + 1 * p.val = 2048 + p.val
    omega
  · show 0 + 1 * n.val = n.val
    omega

/-- Shifting left by sixteen, as the body's operation does it. -/
theorem shli_16 (x : BitVec 32) : IntOp.shli ArithUnit.vector x 16#32 = x <<< 16 := rfl

theorem pay3_apply (x : Vec Ideal S256x2048 .i32) (a0 a1 b0 b1 : Vec Ideal S2048x512 .bf16) (r : Fin 256) (n : Fin 512) :
    k0_pay3 (F := Ideal) x a0 a1 b0 b1 (ix2 r n) = swish
      (∑ p : Fin 2048, Ideal.ofBits .f32 (x (ix2 r p) <<< 16) * a0 (ix2 p n) + ∑ p : Fin 2048, Ideal.ofBits .f32 (x (ix2 r p) &&& 4294901760#32) * a1 (ix2 p n))
      (∑ p : Fin 2048, Ideal.ofBits .f32 (x (ix2 r p) <<< 16) * b0 (ix2 p n) + ∑ p : Fin 2048, Ideal.ofBits .f32 (x (ix2 r p) &&& 4294901760#32) * b1 (ix2 p n)) := by
  unfold k0_pay3 swish
  pointwise
  simp only [shli_16]
  rfl

/-- An entry of what the body leaves of a used row block. -/
theorem used_apply (x : Vec Ideal S256x2048 .i32) (s0 s1 : Vec Ideal S4096x512 .bf16) (r : Fin 256) (n : Fin 512) :
    used x s0 s1 (ix2 r n) = swish (∑ k : Fin 4096, num (T := 256) x r k * s0 (ix2 k n)) (∑ k : Fin 4096, num (T := 256) x r k * s1 (ix2 k n)) := by
  unfold used
  rw [pay3_apply, sum_halves, sum_halves]
  refine congrArg₂ swish (congrArg₂ (· + ·) ?_ ?_) (congrArg₂ (· + ·) ?_ ?_) <;> refine Finset.sum_congr rfl fun p _ => ?_
  · rw [upper_apply]; exact congrArg (· * _) (num_low (T := 256) x r p)
  · rw [lower_apply]; exact congrArg (· * _) (num_high (T := 256) x r p)
  · rw [upper_apply]; exact congrArg (· * _) (num_low (T := 256) x r p)
  · rw [lower_apply]; exact congrArg (· * _) (num_high (T := 256) x r p)

/-- Of an unused one: zeros. -/
theorem pay4_apply (r : Fin 256) (n : Fin 512) : k0_pay4 (F := Ideal) (ix2 r n) = 0 := by
  unfold k0_pay4
  pointwise

/-- The cast weights' entries are the weights'. -/
theorem pay1_apply (w : Vec Ideal S1x1x4096x512 .f32) (k : Fin 4096) (n : Fin 512) : k0_pay1 (F := Ideal) w (ix2 k n) = w (ix4 0 0 k n) := by
  unfold k0_pay1
  pointwise

theorem pay2_apply (w : Vec Ideal S1x1x4096x512 .f32) (k : Fin 4096) (n : Fin 512) : k0_pay2 (F := Ideal) w (ix2 k n) = w (ix4 0 0 k n) := by
  unfold k0_pay2
  pointwise

/-- The expert of row block `b`. -/
def named (be : IVec S196 32) (b : ℕ) : Fin 16 := ⟨(be (ix1 (⟨b % 98, by omega⟩ : Fin 196))).toNat % 16, Nat.mod_lt _ (by norm_num)⟩

/-- Entry `(i, n)` of the product of the rows with the weights of the row block's expert. -/
def sumOf (be : IVec S196 32) (x : IVec S25088x2048 32) (w : FVec Ideal S2x16x4096x1024 .f32) (i : Fin 25088) (n : Fin 1024) : EReal :=
  ∑ k : Fin 4096, num (T := 25088) x i k * w (ix4 (0 : Fin 2) (named be (i.val / 256)) k n)

/-- The result from whole operands: the gated product where the row block is used, zeros elsewhere. -/
def result (be : IVec S196 32) (x : IVec S25088x2048 32) (wg wu : FVec Ideal S2x16x4096x1024 .f32) : FVec Ideal S25088x1024 .bf16 := fun i =>
  if be (ix1 (⟨98 + (i 0).val / 256 % 98, by omega⟩ : Fin 196)) ≠ 0#32 then
    swish (sumOf be x wg (⟨(i 0).val, (i 0).isLt⟩ : Fin 25088) (⟨(i 1).val, (i 1).isLt⟩ : Fin 1024))
      (sumOf be x wu (⟨(i 0).val, (i 0).isLt⟩ : Fin 25088) (⟨(i 1).val, (i 1).isLt⟩ : Fin 1024))
  else 0

variable (m : (ℓ : Loc nD τ sig) → Buf (Elt Ideal) ℓ)

/-- The index maps of the rows and of the result. -/
theorem idx0 (t : Fin grid0.N) : cc0_transform_0 (grid0.coords t) = ![t.val % 98, 0] := by
  have e : (BitVec.ofNat 32 (grid0.coords t 1).val).toNat = t.val % 98 := by
    rw [(coord t).2, BitVec.toNat_ofNat]; omega
  funext a
  fin_cases a
  · exact e
  · rfl

theorem idx3 (t : Fin grid0.N) : cc0_transform_3 (grid0.coords t) = ![t.val % 98, t.val / 98] := by
  have h0 : t.val < 196 := lt_of_lt_of_eq t.isLt N_0
  have e : (BitVec.ofNat 32 (grid0.coords t 1).val).toNat = t.val % 98 := by
    rw [(coord t).2, BitVec.toNat_ofNat]; omega
  have e' : (BitVec.ofNat 32 (grid0.coords t 0).val).toNat = t.val / 98 := by
    rw [(coord t).1, BitVec.toNat_ofNat]; omega
  funext a
  fin_cases a
  · exact e
  · exact e'

/-- Row block `i` of the words. -/
def rowsOf (x : IVec S25088x2048 32) (i : ℕ) : IVec S256x2048 32 := fun y =>
  x (ix2 (⟨(256 * i + (y 0).val) % 25088, Nat.mod_lt _ (by norm_num)⟩ : Fin 25088) (y 1))

theorem iblk0_eq (hO : Ok m) (c : Dev nD) (t : Fin (cfgM m hO).N) : iblk m hO c 0 t = rowsOf (m ((c : Thread nD τ).loc main_arg1)) (t.val % 98) := by
  refine funext fun (y : S256x2048.Idx) => ?_
  refine congrArg (m ((c : Thread nD τ).loc main_arg1)) (funext fun a => Fin.ext ?_)
  have hy0 : (y 0).val < 256 := (y 0).isLt
  have e : cc0_transform_0 (grid0.coords t) a * S256x2048.size a + 1 * (y a).val
      = ((ix2 (⟨(256 * (t.val % 98) + (y 0).val) % 25088, Nat.mod_lt _ (by norm_num)⟩ : Fin 25088) (y 1) : S25088x2048.Idx) a).val := by
    rw [idx0 t]
    fin_cases a
    · show t.val % 98 * 256 + 1 * (y 0).val = (256 * (t.val % 98) + (y 0).val) % 25088
      omega
    · show 0 * 2048 + 1 * (y 1).val = (y 1).val
      omega
  exact e

/-- A number of a row block is the array's. -/
theorem num_rowsOf (x : IVec S25088x2048 32) (b : ℕ) (r : Fin 256) (k : Fin 4096) :
    num (T := 256) (rowsOf x b) r k = num (T := 25088) x (⟨(256 * b + r.val) % 25088, Nat.mod_lt _ (by norm_num)⟩ : Fin 25088) k := rfl

/-- What point `t` leaves is its block of `result`. -/
theorem leaves_apply (hO : Ok m) (c : Dev nD) (t : Fin (cfgM m hO).N) (r : Fin 256) (n : Fin 512) (i : Fin 25088) (j : Fin 1024)
    (hi : i.val = 256 * (t.val % 98) + r.val) (hj : j.val = 512 * (t.val / 98) + n.val) :
    leaves m hO c t (ix2 r n) = result (m ((c : Thread nD τ).loc main_arg0)) (m ((c : Thread nD τ).loc main_arg1))
      (m ((c : Thread nD τ).loc main_arg2)) (m ((c : Thread nD τ).loc main_arg3)) (ix2 i j) := by
  obtain rfl : c = 0 := Subsingleton.elim _ _
  have h0 : t.val < 196 := lt_of_lt_of_eq t.isLt (show (cfgM m hO).N = 196 from N_0)
  have hr := r.isLt
  have hn := n.isLt
  have hb : i.val / 256 = t.val % 98 := by omega
  have he := expert_lt m hO 0 t
  have ei : (⟨(256 * (t.val % 98) + r.val) % 25088, Nat.mod_lt _ (by norm_num)⟩ : Fin 25088) = i := Fin.ext (by show (256 * (t.val % 98) + r.val) % 25088 = i.val; omega)
  have ej : (⟨(512 * (t.val / 98) + n.val) % 1024, Nat.mod_lt _ (by norm_num)⟩ : Fin 1024) = j := Fin.ext (by show (512 * (t.val / 98) + n.val) % 1024 = j.val; omega)
  have en : (⟨expert m 0 t.val % 16, Nat.mod_lt _ (by norm_num)⟩ : Fin 16) = named (m (((0 : Dev nD) : Thread nD τ).loc main_arg0)) (i.val / 256) := by
    refine Fin.ext (congrArg (fun q : Fin 196 => (m (((0 : Dev nD) : Thread nD τ).loc main_arg0) (ix1 q)).toNat % 16) (Fin.ext ?_))
    show t.val % 98 % 196 = i.val / 256 % 98
    omega
  have eu : entry 0 (tbl m 0) (98 + t.val % 98) = m (((0 : Dev nD) : Thread nD τ).loc main_arg0) (ix1 (⟨98 + i.val / 256 % 98, by omega⟩ : Fin 196)) := by
    refine congrArg (fun q : Fin 196 => m (((0 : Dev nD) : Thread nD τ).loc main_arg0) (ix1 q)) (Fin.ext ?_)
    show (98 + t.val % 98) % 196 = 98 + i.val / 256 % 98
    omega
  unfold leaves
  rw [eu, iblk0_eq]
  by_cases hu : m (((0 : Dev nD) : Thread nD τ).loc main_arg0) (ix1 (⟨98 + i.val / 256 % 98, by omega⟩ : Fin 196)) ≠ 0#32
  · rw [if_pos hu, used_apply]
    refine Eq.trans ?_ (if_pos hu).symm
    refine congrArg₂ swish (Finset.sum_congr rfl fun k _ => congrArg₂ (· * ·) ?_ ?_) (Finset.sum_congr rfl fun k _ => congrArg₂ (· * ·) ?_ ?_)
    · exact congrArg (fun q => num (T := 25088) (m (((0 : Dev nD) : Thread nD τ).loc main_arg1)) q k) ei
    · unfold gate
      rw [pay1_apply]
      exact congrArg₂ (fun p q => m (((0 : Dev nD) : Thread nD τ).loc main_arg2) (ix4 (0 : Fin 2) p k q)) en ej
    · exact congrArg (fun q => num (T := 25088) (m (((0 : Dev nD) : Thread nD τ).loc main_arg1)) q k) ei
    · unfold up
      rw [pay2_apply]
      exact congrArg₂ (fun p q => m (((0 : Dev nD) : Thread nD τ).loc main_arg3) (ix4 (0 : Fin 2) p k q)) en ej
  · rw [if_neg hu, pay4_apply]
    exact (if_neg hu).symm

/-- Where entry `y` of point `t`'s block of the result lies in the array. -/
theorem emb3 (hO : Ok m) (t : Fin (cfgM m hO).N) (y : S256x512.Idx) (a : Fin 2) :
    ((((cfgM m hO).win 3).blk t).view.emb y a).val = (![t.val % 98, t.val / 98] : Fin 2 → ℕ) a * S256x512.size a + 1 * (y a).val := by
  have e : ((((cfgM m hO).win 3).blk t).view.emb y a).val = cc0_transform_3 (grid0.coords t) a * S256x512.size a + 1 * (y a).val := rfl
  rw [e, idx3 t]

/-- The result array after the grid is `result` of the argument arrays. -/
theorem final (hO : Ok m) (c : Dev nD) : (dats m hO 0 c).arrAt 3 (cfgM m hO).N
    = result (m ((c : Thread nD τ).loc main_arg0)) (m ((c : Thread nD τ).loc main_arg1)) (m ((c : Thread nD τ).loc main_arg2)) (m ((c : Thread nD τ).loc main_arg3)) := by
  have hN : (cfgM m hO).N = 196 := N_0
  refine (dats m hO 0 c).arrAt_eq_of_emb 3 _ (fun t hf (y : S256x512.Idx) => ?_) (fun (i : S25088x1024.Idx) => ?_)
  · have h0 : t.val < 196 := lt_of_lt_of_eq t.isLt hN
    have hy0 : (y 0).val < 256 := (y 0).isLt
    have hy1 : (y 1).val < 512 := (y 1).isLt
    have e0 := emb3 m hO t y 0
    have e1 := emb3 m hO t y 1
    refine (congrFun (after0_3 m hO c t) y).trans ?_
    have ey : y = ix2 (⟨(y 0).val, hy0⟩ : Fin 256) (⟨(y 1).val, hy1⟩ : Fin 512) := by
      funext a; fin_cases a <;> rfl
    refine (congrArg (leaves m hO c t) ey).trans ?_
    refine (leaves_apply m hO c t _ _ ⟨256 * (t.val % 98) + (y 0).val, by omega⟩ ⟨512 * (t.val / 98) + (y 1).val, by omega⟩ rfl rfl).trans ?_
    refine congrArg (result (m ((c : Thread nD τ).loc main_arg0)) (m ((c : Thread nD τ).loc main_arg1)) (m ((c : Thread nD τ).loc main_arg2)) (m ((c : Thread nD τ).loc main_arg3))) (funext fun a => Fin.ext ?_)
    refine Eq.trans ?_ (emb3 m hO t y a).symm
    fin_cases a
    · show 256 * (t.val % 98) + (y 0).val = t.val % 98 * 256 + 1 * (y 0).val
      omega
    · show 512 * (t.val / 98) + (y 1).val = t.val / 98 * 512 + 1 * (y 1).val
      omega
  · have hi0 : (i 0).val < 25088 := (i 0).isLt
    have hi1 : (i 1).val < 1024 := (i 1).isLt
    have ht : 98 * ((i 1).val / 512) + (i 0).val / 256 < (cfgM m hO).N := by
      rw [hN]; omega
    refine ⟨⟨98 * ((i 1).val / 512) + (i 0).val / 256, ht⟩, flush3 m hO _, ?_⟩
    refine Finset.mem_map.mpr ⟨(ix2 (⟨(i 0).val % 256, Nat.mod_lt _ (by norm_num)⟩ : Fin 256) (⟨(i 1).val % 512, Nat.mod_lt _ (by norm_num)⟩ : Fin 512) : S256x512.Idx), Finset.mem_univ _, ?_⟩
    refine funext fun (a : Fin 2) => Fin.ext ?_
    refine (emb3 m hO _ _ a).trans ?_
    fin_cases a
    · show (98 * ((i 1).val / 512) + (i 0).val / 256) % 98 * 256 + 1 * ((i 0).val % 256) = (i 0).val
      omega
    · show (98 * ((i 1).val / 512) + (i 0).val / 256) / 98 * 512 + 1 * ((i 1).val % 512) = (i 1).val
      omega

/-- Every run ends with the result array at `result` of the argument arrays, which are unchanged. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (final m hO c), ends m hO h.1 c⟩) (run_quiescent m ρ hO)

end Cert.MoeUpCall
-- ==== Proof.MoeUpEquation.lean ====
module

public import proofs.«01_k».proof.Proof.MoeUpBlocks
public import proofs.«01_k».proof.Proof.Gen.MoeUpReferenceIdeal.Run

@[expose] public section

set_option maxRecDepth 16384

noncomputable section

/-! # The routed experts' inner part: the reference's result, and that the two agree -/

namespace Cert.MoeUpCall

section Reference

open Cert.MoeUpReferenceIdeal Cert.MoeUpReferenceIdeal.Gen Cert.MoeUpReferenceIdeal.Value Idealize.ShloMosaic Idealize.ShloMosaic.TcCoe

/-- The reference's numbers in the rows of words, by row blocks. -/
def numbers (x : IVec S25088x2048 32) : FVec Ideal S98x256x4096 .f32 :=
  extf .f32 (shapeCast _ (transpose S25088x2x2048 [0, 2, 1] (bitcastToFloat (F := Ideal) .bf16 (Host.bitcastConvertNarrow S25088x2048x2 16 x splits_S25088x2048_w32_S25088x2048x2_w16)) transposes_S25088x2048x2_S25088x2x2048_0_2_1) shapeCasts_S25088x2x2048_S98x256x4096) bitsLt_bf16_f32

theorem numbers_apply (x : IVec S25088x2048 32) (b : Fin 98) (r : Fin 256) (k : Fin 4096) (i : Fin 25088) (hi : i.val = 256 * b.val + r.val) :
    numbers x (ix3 b r k) = num (T := 25088) x i k := by
  have hb := b.isLt
  have hr := r.isLt
  have hk := k.isLt
  unfold numbers
  pointwise
  unfold num
  refine congrArg (fun q => Ideal.ofBits .bf16 (BitVec.extractLsb' (k.val / 2048 * 16) 16 (x q))) ?_
  funext a
  fin_cases a
  · exact Fin.ext (show b.val * 256 + r.val = i.val by omega)
  · rfl

/-- The reference's choice of each row block's expert. -/
def chosen (be : IVec S196 32) (w : FVec Ideal S2x16x4096x1024 .f32) : FVec Ideal S98x4096x1024 .f32 :=
  Host.gather gather_S16x4096x1024_S98x1_S98x4096x1024_12_0_n_n_0_1_140961024 (shapeCast _ (extractStridedSlice S1x16x4096x1024 ![0, 0, 0, 0] w slices_S2x16x4096x1024_S1x16x4096x1024_0_0_0_0) shapeCasts_S1x16x4096x1024_S16x4096x1024) (broadcastInDim S98x1 ![0] bcast_S98_S98x1_0 (extractStridedSlice S98 ![0] be slices_S196_S98_0))

/-- The gather read at an index: the layer's weights of the expert the start index names, clamped. -/
theorem gather_apply (x : FVec Ideal S16x4096x1024 .f32) (idx : IVec S98x1 32) (b : Fin 98) (k : Fin 4096) (n : Fin 1024) :
    Host.gather gather_S16x4096x1024_S98x1_S98x4096x1024_12_0_n_n_0_1_140961024 x idx (ix3 b k n)
      = x (ix3 (⟨min (idx (ix2 b 0)).toInt.toNat 15, by omega⟩ : Fin 16) k n) := by
  unfold Host.gather
  refine congrArg x (funext fun a => Fin.ext ?_)
  show GatherDims.start _ (ix3 b k n) idx a + GatherDims.batchCoord _ (ix3 b k n) a + GatherDims.offCoord _ (ix3 b k n) a = _
  rw [GatherDims.batchCoord_eq_zero _ _ _ List.not_mem_nil, Nat.add_zero]
  fin_cases a
  · refine (congrArg₂ (· + ·) (?_ : _ = min (idx (ix2 b 0)).toInt.toNat 15) (GatherDims.offCoord_eq_zero _ _ _ (fun h => ((GatherDims.mem_sKept _ _).mp h).1 (List.mem_singleton.mpr rfl)))).trans (Nat.add_zero _)
    unfold GatherDims.start
    refine (dif_pos (List.mem_singleton.mpr rfl)).trans ?_
    refine congrArg (fun q => min (idx q).toInt.toNat 15) (funext fun c => Fin.ext ?_)
    fin_cases c <;> rfl
  · refine (congrArg₂ (· + ·) (dif_neg (by decide) : _ = 0) (?_ : _ = k.val)).trans (Nat.zero_add _)
    rfl
  · refine (congrArg₂ (· + ·) (dif_neg (by decide) : _ = 0) (?_ : _ = n.val)).trans (Nat.zero_add _)
    rfl

theorem chosen_apply (be : IVec S196 32) (w : FVec Ideal S2x16x4096x1024 .f32) (b : Fin 98) (k : Fin 4096) (n : Fin 1024)
    (h : (be (ix1 (⟨b.val, by omega⟩ : Fin 196))).toNat < 16) : chosen be w (ix3 b k n) = w (ix4 (0 : Fin 2) (named be b.val) k n) := by
  have hb := b.isLt
  unfold chosen
  rw [gather_apply]
  pointwise
  refine congrArg (fun q => w (ix4 (0 : Fin 2) q k n)) (Fin.ext ?_)
  have e : (⟨b.val % 98, by omega⟩ : Fin 196) = (⟨b.val, by omega⟩ : Fin 196) := Fin.ext (Nat.mod_eq_of_lt hb)
  show min (be (ix1 (⟨b.val, by omega⟩ : Fin 196))).toInt.toNat 15 = (be (ix1 (⟨b.val % 98, by omega⟩ : Fin 196))).toNat % 16
  rw [e]
  generalize be (ix1 (⟨b.val, by omega⟩ : Fin 196)) = v at h ⊢
  have hv : v.toInt = v.toNat := by
    rw [BitVec.toInt_eq_toNat_cond, if_pos (by omega)]
  rw [hv]
  omega

/-- The reference's product of the rows with the chosen weights. -/
def times (be : IVec S196 32) (x : IVec S25088x2048 32) (w : FVec Ideal S2x16x4096x1024 .f32) : FVec Ideal S98x256x1024 .f32 :=
  Host.dotGeneral dot_S98x256x4096_S98x4096x1024_S98x256x1024_2_1_1_2_0_0 none (numbers x) (chosen be w)

theorem times_sum (be : IVec S196 32) (x : IVec S25088x2048 32) (w : FVec Ideal S2x16x4096x1024 .f32) (b : Fin 98) (r : Fin 256) (n : Fin 1024) :
    times be x w (ix3 b r n) = ∑ k : Fin 4096, numbers x (ix3 b r k) * chosen be w (ix3 b k n) := by
  unfold times
  pointwise

/-- The reference's gated product where a row block is used, zeros elsewhere, laid out as rows. -/
def silu (be : IVec S196 32) (G U : FVec Ideal S98x256x1024 .f32) : FVec Ideal S25088x1024 .bf16 :=
  truncf .bf16 (shapeCast _ (select (broadcastInDim S98x256x1024 ![0, 1, 2] bcast_S98x1x1_S98x256x1024_0_1_2 (broadcastInDim S98x1x1 ![0] bcast_S98_S98x1x1_0 (cmpi .ne (extractStridedSlice S98 ![98] be slices_S196_S98_98) (broadcastInDim S98 ![] bcast_S_S98 (constantI S_ 32 0#32))))) (mulf (mulf G (Host.divf (broadcastInDim S98x256x1024 ![] bcast_S_S98x256x1024 (constant S_ .f32 0x3F800000#32)) (addf (broadcastInDim S98x256x1024 ![] bcast_S_S98x256x1024 (constant S_ .f32 0x3F800000#32)) (Host.exp (Host.negf G))))) U) (broadcastInDim S98x256x1024 ![] bcast_S_S98x256x1024 (id (constant S_ .f32 0x00000000#32)))) shapeCasts_S98x256x1024_S25088x1024) bitsLt_bf16_f32

/-- A word that is not zero selects the first, a zero word the second. -/
theorem select_ne (v : BitVec 32) (x y : EReal) : Scalar.select (IntOp.cmpi CmpIPredicate.ne v 0#32) x y = if v ≠ 0#32 then x else y := by
  by_cases h : v = 0#32
  · subst h
    rw [if_neg (not_not.mpr rfl)]
    rfl
  · rw [if_pos h]
    have e : IntOp.cmpi CmpIPredicate.ne v 0#32 = 1#1 := by
      show BitVec.ofBool (v != 0#32) = 1#1
      rw [bne_iff_ne.mpr h]
      rfl
    rw [e]
    rfl

theorem silu_apply (be : IVec S196 32) (G U : FVec Ideal S98x256x1024 .f32) (i : Fin 25088) (n : Fin 1024) :
    silu be G U (ix2 i n) = if be (ix1 (⟨98 + i.val / 256 % 98, by omega⟩ : Fin 196)) ≠ 0#32 then
      swish (G (ix3 (⟨i.val / 256, by omega⟩ : Fin 98) (⟨i.val % 256, by omega⟩ : Fin 256) n)) (U (ix3 (⟨i.val / 256, by omega⟩ : Fin 98) (⟨i.val % 256, by omega⟩ : Fin 256) n)) else 0 := by
  have hi := i.isLt
  have hn := n.isLt
  have e : (⟨98 + i.val / 256 % 98, by omega⟩ : Fin 196) = (⟨98 + i.val / 256, by omega⟩ : Fin 196) := Fin.ext (by show 98 + i.val / 256 % 98 = 98 + i.val / 256; omega)
  rw [e]
  unfold silu swish Ideal.logistic
  dsimp only [id]
  pointwise
  exact select_ne _ _ _

end Reference

open Idealize.ShloMosaic Idealize.ShloMosaic.TcCoe

/-- An entry of the reference's product is the sum over the row block's expert's weights. -/
theorem times_apply (be : IVec Cert.MoeUpReferenceIdeal.S196 32) (x : IVec Cert.MoeUpReferenceIdeal.S25088x2048 32) (w : FVec Ideal Cert.MoeUpReferenceIdeal.S2x16x4096x1024 .f32)
    (hbe : ∀ b : Fin 98, (be (ix1 (⟨b.val, by omega⟩ : Fin 196))).toNat < 16) (i : Fin 25088) (n : Fin 1024) :
    times be x w (ix3 (⟨i.val / 256, by omega⟩ : Fin 98) (⟨i.val % 256, by omega⟩ : Fin 256) n) = sumOf be x w i n := by
  rw [times_sum]
  refine Finset.sum_congr rfl fun k _ => congrArg₂ (· * ·) ?_ ?_
  · exact numbers_apply x _ _ k i (by show i.val = 256 * (i.val / 256) + i.val % 256; omega)
  · exact chosen_apply be w _ k n (hbe _)

/-- Where every row block names an expert, the call's result is the reference's. -/
theorem result_eq (be : IVec Cert.MoeUpReferenceIdeal.S196 32) (x : IVec Cert.MoeUpReferenceIdeal.S25088x2048 32) (wg wu : FVec Ideal Cert.MoeUpReferenceIdeal.S2x16x4096x1024 .f32)
    (hbe : ∀ b : Fin 98, (be (ix1 (⟨b.val, by omega⟩ : Fin 196))).toNat < 16) :
    result be x wg wu = silu be (times be x wg) (times be x wu) := by
  funext j
  have e : j = ix2 (⟨(j 0).val, (j 0).isLt⟩ : Fin 25088) (⟨(j 1).val, (j 1).isLt⟩ : Fin 1024) := by
    funext a; fin_cases a <;> rfl
  refine Eq.trans ?_ (congrArg (silu _ _ _) e).symm
  rw [silu_apply, times_apply be x wg hbe, times_apply be x wu hbe]
  rfl

end Cert.MoeUpCall
-- ==== Proof.MoeUpPre.lean ====
module

public import proofs.«01_k».proof.Pre_experts_named
public import Idealize.ShloMosaic.Lib.Pointwise

@[expose] public section

noncomputable section

/-! # The routed experts' precondition: every row block names an expert -/

namespace Cert.MoeUpPre

open Idealize.ShloMosaic Cert.Pre_experts_named

/-- The shape facts of the precondition. -/
instance facts : Cert.Pre_experts_named.Facts where
  slices_S196_S98_0 := by decide
  bcast_S_S98 := by decide

/-- A word between 0 and 15 as a signed number is below 16. -/
theorem lt_of_between (v : BitVec 32) (h : IntOp.andi (IntOp.cmpi .sge v 0#32) (IntOp.cmpi .sle v 15#32) = 1#1) : v.toNat < 16 := by
  have key : ∀ a b : Bool, BitVec.ofBool a &&& BitVec.ofBool b = 1#1 → a = true ∧ b = true := by decide
  have h' : BitVec.ofBool ((0#32).sle v) &&& BitVec.ofBool (v.sle 15#32) = 1#1 := h
  obtain ⟨h0, h1⟩ := key _ _ h'
  rw [BitVec.sle_iff_toInt_le] at h0 h1
  have e0 : (0#32).toInt = 0 := by decide
  have e1 : (15#32).toInt = 15 := by decide
  rw [e0] at h0
  rw [e1] at h1
  have := v.isLt
  rw [BitVec.toInt_eq_toNat_cond] at h0 h1
  split at h0 <;> omega

/-- Under the precondition every row block's word is below 16. -/
theorem named_lt {F : FTy → Type} [FloatOps F] (be : IVec S196 32) (x : IVec S25088x2048 32) (wg wu : FVec F S2x16x4096x1024 .f32)
    (h : fn (F := F) be x wg wu = fun _ => 1#1) (b : Fin 98) : (be (ix1 (⟨b.val, by omega⟩ : Fin 196))).toNat < 16 := by
  have hb := congrFun h (ix1 b)
  refine lt_of_between _ (Eq.trans ?_ hb)
  unfold fn
  symm
  pointwise

end Cert.MoeUpPre
-- ==== Proof.MoeUpIdealOk.lean ====
module

public import proofs.«01_k».proof.Proof.MoeUpPre
public import proofs.«01_k».proof.Proof.MoeUpIdealPoints

@[expose] public section

set_option maxRecDepth 16384

noncomputable section

/-! # Where every row block names an expert, the weights' blocks exist -/

namespace Cert.MoeUpIdeal.Run

open Cert.MoeUpIdeal.Gen
open Idealize.ShloMosaic Idealize.ShloMosaic.TcCoe Idealize.SL.Sem

variable {F : FTy → Type} [FloatOps F] (m : (ℓ : Loc nD τ sig) → Buf (Elt F) ℓ)

/-- The place a point reads its expert at is its row block. -/
theorem off1_eq (i : grid0.Coords) : k0_off1 i 0 = (i 1).val := by
  have key : ∀ n : Fin 98, (Scalar.indexCast (BitVec.ofNat 32 n.val)).toNat = n.val := by decide +kernel
  exact key ⟨(i 1).val, (i 1).isLt⟩

/-- The weights' block at any coordinates: the expert its row block names, the column block of the first coordinate. -/
theorem block_le (h : ∀ b : Fin 98, (entry 0 (tbl m 0) b.val).toNat < 16) (i : grid0.Coords) (a : Fin 4) :
    (cc0_transform_1 k0_off1_inb numel1_S1 (tbl m) i a + 1) * S1x1x4096x512.size a ≤ S2x16x4096x1024.size a := by
  have h1 : (i 1).val < 98 := (i 1).isLt
  have h0 : (i 0).val < 2 := (i 0).isLt
  have e1 : (word 0 (tbl m 0) (k0_off1 i) (k0_off1_inb i)).toNat = (entry 0 (tbl m 0) (i 1).val).toNat :=
    congrArg BitVec.toNat (word_eq 0 (tbl m 0) _ _ _ (off1_eq i))
  have hb := h ⟨(i 1).val, h1⟩
  have e2 : (BitVec.ofNat 32 (i 0).val).toNat = (i 0).val := by
    rw [BitVec.toNat_ofNat]; omega
  have e : cc0_transform_1 k0_off1_inb numel1_S1 (tbl m) i = ![0, (entry 0 (tbl m 0) (i 1).val).toNat, 0, (i 0).val] := by
    funext a
    fin_cases a
    · rfl
    · exact e1
    · rfl
    · exact e2
  rw [e]
  fin_cases a
  · show (0 + 1) * 1 ≤ 2
    omega
  · show ((entry 0 (tbl m 0) (i 1).val).toNat + 1) * 1 ≤ 16
    dsimp only at hb
    omega
  · show (0 + 1) * 4096 ≤ 4096
    omega
  · show ((i 0).val + 1) * 512 ≤ 1024
    omega

/-- Where every row block names an expert, every weights' block lies in its array. -/
theorem ok_of_named (h : ∀ b : Fin 98, (entry 0 (tbl m 0) b.val).toNat < 16) : Ok m :=
  ⟨fun i => ⟨block_le m h i, Or.inl rfl⟩, fun i => ⟨block_le m h i, Or.inl rfl⟩⟩

/-- Under the precondition every weights' block lies in its array. -/
theorem ok_of_pre (c : Dev nD)
    (h : Cert.Pre_experts_named.fn (F := F) (m ((c.tc : Thread nD τ).loc main_arg0)) (m ((c.tc : Thread nD τ).loc main_arg1)) (m ((c.tc : Thread nD τ).loc main_arg2)) (m ((c.tc : Thread nD τ).loc main_arg3)) = fun _ => 1#1) : Ok m := by
  obtain rfl : c = 0 := Subsingleton.elim _ _
  refine ok_of_named m fun b => ?_
  have hb := b.isLt
  have e : (⟨b.val % 196, Nat.mod_lt _ (by norm_num)⟩ : Fin 196) = (⟨b.val, by omega⟩ : Fin 196) := Fin.ext (Nat.mod_eq_of_lt (by omega))
  have hn := Cert.MoeUpPre.named_lt _ _ _ _ h b
  rw [← e] at hn
  exact hn

end Cert.MoeUpIdeal.Run

end
-- ==== Proof.MoeUpLastIdealRun.lean ====
module

public import proofs.«01_k».proof.Proof.Gen.MoeUpLastIdeal.Launch
public import proofs.«01_k».proof.Proof.Gen.MoeUpLastIdeal.Skeleton
public import Idealize.ShloMosaic.Lib.Pipeline.Kit
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

/-! # One grid point of the last layer's routed experts' inner part

The body at one point, by cases: whether it casts the point's weights into the scratch arrays (it does where the row
block's expert is another than the one before, and at the first row block), and whether the row block is used. Each case
says exactly what the result's block and the two scratch arrays hold afterwards. -/

namespace Cert.MoeUpLastIdeal.Run

open Cert.MoeUpLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem hz4 : (![0, 0, 0, 0] : Fin 4 → Nat) = fun _ => 0 := funext fun a => by fin_cases a <;> rfl

/-- The table of experts and used blocks, as the body is handed it. -/
abbrev tbM : Memref sig .tc .smem S192 .i32 := Memref.whole main_arg0

/-- What the table's buffer on core `c` holds. -/
abbrev TbBuf (c : Dev nD) : Type := Buf (Elt F) (tbM.view.loc (c : Thread nD τ))

/-- The table held at half the full share: the body reads it and changes nothing. -/
def tbPt (c : Dev nD) (f : TbBuf (F := F) c) : sProp 𝕄 := tbM.view.loc (c : Thread nD τ) ↦{fullShare.right} f

/-- The table's word at the offset `off`. -/
abbrev word (c : Dev nD) (f : TbBuf (F := F) c) (off : Fin 1 → Nat) (inb : ∀ a, off a + S1.size a ≤ S192.size a) : BitVec 32 :=
  tbM.view.readAt (Elt F) (Rect.unit (s := S192) off S1.size inb).toLoadRect f (Shape.Idx.first (numel1_S1.symm ▸ Nat.one_pos))

/-- The condition under which the body casts the point's weights: the first row block, or another expert than the one before. -/
abbrev fills (i : grid0.Coords) (e e' : BitVec 32) : Prop :=
  Scalar.cmpi .ne (Scalar.extui (Scalar.ori (Scalar.cmpi .eq (BitVec.ofNat 32 (i 1).val) 0#32) (Scalar.cmpi .ne e e'))) 0#32 = 1#1

/-- The first 2048 rows of a scratch array. -/
abbrev upper (s : Vec F S4096x512 .bf16) : Vec F S2048x512 .bf16 :=
  View.ld s (Rect.unit (s := S4096x512) ![0, 0] S2048x512.size inb_S4096x512_S2048x512_0_0)

/-- The last 2048 rows of a scratch array. -/
abbrev lower (s : Vec F S4096x512 .bf16) : Vec F S2048x512 .bf16 :=
  View.ld s (Rect.unit (s := S4096x512) ![2048, 0] S2048x512.size inb_S4096x512_S2048x512_2048_0)

/-- The result's block of a used row block: from the block's words and the two scratch arrays. -/
def used (x : Vec F S256x2048 .i32) (s0 s1 : Vec F S4096x512 .bf16) : Vec F S256x512 .bf16 :=
  k0_pay3 x (upper s0) (lower s0) (upper s1) (lower s1)

/-- A buffer stored whole reads back what was stored. -/
theorem read_stored {S : Shape} {e : EltTy} (v : View sig .tc .vmem S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  refine (View.read_writes_eq_canon v f _ fun y => ?_).trans (View.canon_unit_zero h inb w)
  exact ⟨_, List.mem_singleton.mpr rfl, View.mem_set_unit_zero h inb y⟩

/-- A load after a buffer was stored whole reads what was stored. -/
theorem readCov_stored {S : Shape} {e : EltTy} (v : View sig .tc .vmem S e) {off : Fin S.rank → Nat} (h : off = fun _ => 0)
    (inb : ∀ a, off a + S.size a ≤ S.size a) (w : S.Idx → Elt F e) (r : Rect S) :
    v.readCov [(⟨Rect.unit off S.size inb, w⟩ : View.Piece (Elt F) S e)] r.toLoadRect = View.ld w r :=
  (View.readCov_eq_canon' v _ r.toLoadRect).trans (by rw [View.canon_unit_zero h inb w])

section Cases

variable (c : Dev nD) (i : grid0.Coords) (arg3 : Memref sig .tc .vmem S256x2048 .i32) (harg3 : arg3.IsWhole)
  (arg4 : Memref sig .tc .vmem S1x1x4096x512 .f32) (harg4 : arg4.IsWhole) (arg5 : Memref sig .tc .vmem S1x1x4096x512 .f32) (harg5 : arg5.IsWhole)
  (arg6 : Memref sig .tc .vmem S256x512 .bf16) (harg6 : arg6.IsWhole) (arg7 : Memref sig .tc .vmem S4096x512 .bf16) (harg7 : arg7.IsWhole)
  (arg8 : Memref sig .tc .vmem S4096x512 .bf16) (harg8 : arg8.IsWhole)
  (x0 : Vec F S256x2048 .i32) (x1 x2 : Vec F S1x1x4096x512 .f32) (xt : TbBuf (F := F) c)

set_option maxHeartbeats 1000000 in
/-- A point that casts its weights, of a used row block. -/
theorem run_fill_used (hc0 : fills i (word c xt (k0_off1 i) (k0_off1_inb i)) (word c xt (k0_off2 i) (k0_off2_inb i))) (hc1 : k0_cond2 (word c xt (k0_off3 i) (k0_off3_inb i)) = 1#1) (hc2 : ¬k0_cond3 (word c xt (k0_off3 i) (k0_off3_inb i)) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ tbPt c xt
        ∗ (iprop(owns (c : Thread nD τ) arg3 fullShare x0 ∗ owns (c : Thread nD τ) arg4 fullShare x1 ∗ owns (c : Thread nD τ) arg5 fullShare x2 ∗ owns (c : Thread nD τ) arg6 fullShare (used x0 (k0_pay1 x1) (k0_pay2 x2)) ∗ owns (c : Thread nD τ) arg7 fullShare (k0_pay1 x1) ∗ owns (c : Thread nD τ) arg8 fullShare (k0_pay2 x2) ∗ tbPt c xt) -∗ K ⟨⟩))
      ⊢ wp frame (wpE (defs₀ (F := F)) Variants.none c none) E (cc0_moe_up i tbM (Memref.isWhole_whole _) arg3 harg3 arg4 harg4 arg5 harg5 arg6 harg6 arg7 harg7 arg8 harg8) K := by
  simp only [cc0_moe_up_eq_skeleton]; unfold cc0_moe_up_skel
  unfold owns tbPt
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, Hk⟩
  obtain rfl := harg3.eq_unread hf0; obtain rfl := harg4.eq_unread hf1; obtain rfl := harg5.eq_unread hf2
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_stored arg6.view _ hz _ _).trans ?_
    unfold used
    simp only [readCov_stored (S := S4096x512) _ hz, View.readAt_eq_ld, harg3.read_unread, harg4.read_unread, harg5.read_unread, View.ld_unit_zero (S := S1x1x4096x512) hz4, View.ld_unit_zero (S := S256x2048) hz]
  isplitl [HS0]
  · iexists _; isplitr
    swap; · iexact HS0
    ipureintro
    sl_unfold_words
    refine (read_stored arg7.view _ hz _ _).trans ?_
    simp only [View.readAt_eq_ld, harg4.read_unread, View.ld_unit_zero (S := S1x1x4096x512) hz4]
  isplitl [HS1]
  · iexists _; isplitr
    swap; · iexact HS1
    ipureintro
    sl_unfold_words
    refine (read_stored arg8.view _ hz _ _).trans ?_
    simp only [View.readAt_eq_ld, harg5.read_unread, View.ld_unit_zero (S := S1x1x4096x512) hz4]
  iexact HT0

set_option maxHeartbeats 1000000 in
/-- A point that casts its weights, of an unused row block. -/
theorem run_fill_unused (hc0 : fills i (word c xt (k0_off1 i) (k0_off1_inb i)) (word c xt (k0_off2 i) (k0_off2_inb i))) (hc1 : ¬k0_cond2 (word c xt (k0_off3 i) (k0_off3_inb i)) = 1#1) (hc2 : k0_cond3 (word c xt (k0_off3 i) (k0_off3_inb i)) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ tbPt c xt
        ∗ (iprop(owns (c : Thread nD τ) arg3 fullShare x0 ∗ owns (c : Thread nD τ) arg4 fullShare x1 ∗ owns (c : Thread nD τ) arg5 fullShare x2 ∗ owns (c : Thread nD τ) arg6 fullShare (k0_pay4 (F := F)) ∗ owns (c : Thread nD τ) arg7 fullShare (k0_pay1 x1) ∗ owns (c : Thread nD τ) arg8 fullShare (k0_pay2 x2) ∗ tbPt c xt) -∗ K ⟨⟩))
      ⊢ wp frame (wpE (defs₀ (F := F)) Variants.none c none) E (cc0_moe_up i tbM (Memref.isWhole_whole _) arg3 harg3 arg4 harg4 arg5 harg5 arg6 harg6 arg7 harg7 arg8 harg8) K := by
  simp only [cc0_moe_up_eq_skeleton]; unfold cc0_moe_up_skel
  unfold owns tbPt
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, HT0, Hk⟩
  obtain rfl := harg3.eq_unread hf0; obtain rfl := harg4.eq_unread hf1; obtain rfl := harg5.eq_unread hf2
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_stored arg6.view _ hz _ _).trans ?_
    rfl
  isplitl [HS0]
  · iexists _; isplitr
    swap; · iexact HS0
    ipureintro
    sl_unfold_words
    refine (read_stored arg7.view _ hz _ _).trans ?_
    simp only [View.readAt_eq_ld, harg4.read_unread, View.ld_unit_zero (S := S1x1x4096x512) hz4]
  isplitl [HS1]
  · iexists _; isplitr
    swap; · iexact HS1
    ipureintro
    sl_unfold_words
    refine (read_stored arg8.view _ hz _ _).trans ?_
    simp only [View.readAt_eq_ld, harg5.read_unread, View.ld_unit_zero (S := S1x1x4096x512) hz4]
  iexact HT0

set_option maxHeartbeats 1000000 in
/-- A point that keeps the scratch arrays, of a used row block. -/
theorem run_keep_used (hc0 : ¬fills i (word c xt (k0_off1 i) (k0_off1_inb i)) (word c xt (k0_off2 i) (k0_off2_inb i))) (hc1 : k0_cond2 (word c xt (k0_off3 i) (k0_off3_inb i)) = 1#1) (hc2 : ¬k0_cond3 (word c xt (k0_off3 i) (k0_off3_inb i)) = 1#1) (s0 s1 : Vec F S4096x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tbPt c xt
        ∗ (iprop(owns (c : Thread nD τ) arg3 fullShare x0 ∗ owns (c : Thread nD τ) arg4 fullShare x1 ∗ owns (c : Thread nD τ) arg5 fullShare x2 ∗ owns (c : Thread nD τ) arg6 fullShare (used x0 s0 s1) ∗ owns (c : Thread nD τ) arg7 fullShare s0 ∗ owns (c : Thread nD τ) arg8 fullShare s1 ∗ tbPt c xt) -∗ K ⟨⟩))
      ⊢ wp frame (wpE (defs₀ (F := F)) Variants.none c none) E (cc0_moe_up i tbM (Memref.isWhole_whole _) arg3 harg3 arg4 harg4 arg5 harg5 arg6 harg6 arg7 harg7 arg8 harg8) K := by
  simp only [cc0_moe_up_eq_skeleton]; unfold cc0_moe_up_skel
  unfold owns tbPt
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, Hk⟩
  obtain rfl := harg3.eq_unread hf0; obtain rfl := harg4.eq_unread hf1; obtain rfl := harg5.eq_unread hf2
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_stored arg6.view _ hz _ _).trans ?_
    unfold used
    simp only [readCov_stored (S := S4096x512) _ hz, View.readAt_eq_ld, harg3.read_unread, harg4.read_unread, harg5.read_unread, harg7.read_unread, harg8.read_unread, View.ld_unit_zero (S := S1x1x4096x512) hz4, View.ld_unit_zero (S := S256x2048) hz]
  isplitl [HS0]
  · iexists _; isplitr; · ipureintro; exact harg7.read_unread _
    iexact HS0
  isplitl [HS1]
  · iexists _; isplitr; · ipureintro; exact harg8.read_unread _
    iexact HS1
  iexact HT0

set_option maxHeartbeats 1000000 in
/-- A point that keeps the scratch arrays, of an unused row block. -/
theorem run_keep_unused (hc0 : ¬fills i (word c xt (k0_off1 i) (k0_off1_inb i)) (word c xt (k0_off2 i) (k0_off2_inb i))) (hc1 : ¬k0_cond2 (word c xt (k0_off3 i) (k0_off3_inb i)) = 1#1) (hc2 : k0_cond3 (word c xt (k0_off3 i) (k0_off3_inb i)) = 1#1) (s0 s1 : Vec F S4096x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ tbPt c xt
        ∗ (iprop(owns (c : Thread nD τ) arg3 fullShare x0 ∗ owns (c : Thread nD τ) arg4 fullShare x1 ∗ owns (c : Thread nD τ) arg5 fullShare x2 ∗ owns (c : Thread nD τ) arg6 fullShare (k0_pay4 (F := F)) ∗ owns (c : Thread nD τ) arg7 fullShare s0 ∗ owns (c : Thread nD τ) arg8 fullShare s1 ∗ tbPt c xt) -∗ K ⟨⟩))
      ⊢ wp frame (wpE (defs₀ (F := F)) Variants.none c none) E (cc0_moe_up i tbM (Memref.isWhole_whole _) arg3 harg3 arg4 harg4 arg5 harg5 arg6 harg6 arg7 harg7 arg8 harg8) K := by
  simp only [cc0_moe_up_eq_skeleton]; unfold cc0_moe_up_skel
  unfold owns tbPt
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, Hk⟩
  obtain rfl := harg3.eq_unread hf0; obtain rfl := harg4.eq_unread hf1; obtain rfl := harg5.eq_unread hf2
  obtain rfl := harg7.eq_unread hs0; obtain rfl := harg8.eq_unread hs1
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    refine (read_stored arg6.view _ hz _ _).trans ?_
    rfl
  isplitl [HS0]
  · iexists _; isplitr; · ipureintro; exact harg7.read_unread _
    iexact HS0
  isplitl [HS1]
  · iexists _; isplitr; · ipureintro; exact harg8.read_unread _
    iexact HS1
  iexact HT0

end Cases

end Cert.MoeUpLastIdeal.Run

end
-- ==== Proof.MoeUpLastIdealPoints.lean ====
module

public import proofs.«01_k».proof.Proof.MoeUpLastIdealRun
public import Idealize.ShloMosaic.Lib.Pipeline.ValueKit
public import Idealize.ShloMosaic.Lib.Pointwise

@[expose] public section

set_option maxRecDepth 16384

noncomputable section

/-! # The last layer's routed experts' inner part: what every grid point leaves

For any table whose experts exist, every point leaves its block of the result as stated by `leaves`, and the scratch
arrays then hold the point's own weights, cast. A point that casts nothing finds them there from the point before, whose
weights are the same block. -/

namespace Cert.MoeUpLastIdeal.Run

open Cert.MoeUpLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The table's words and the body's conditions -/

/-- Word `n` of the table. -/
def entry (c : Dev nD) (f : TbBuf (F := F) c) (n : ℕ) : BitVec 32 := f (ix1 (⟨n % 192, Nat.mod_lt _ (by norm_num)⟩ : Fin 192))

/-- The word the body loads at an offset is the table's word there. -/
theorem word_eq (c : Dev nD) (f : TbBuf (F := F) c) (off : Fin 1 → Nat) (inb : ∀ a, off a + S1.size a ≤ S192.size a) (n : ℕ) (h : off 0 = n) :
    word c f off inb = entry c f n := by
  have h0 : off 0 + 1 ≤ 192 := inb 0
  subst h
  refine congrArg f (funext fun a => ?_)
  fin_cases a
  refine Fin.ext ?_
  show off 0 + 1 * 0 = off 0 % 192
  omega

/-- Row block and the three places of the table a point reads. -/
theorem offs : ∀ t : Fin grid0.N, k0_off1 (grid0.coords t) 0 = t.val % 96 ∧ k0_off2 (grid0.coords t) 0 = t.val % 96 - 1 ∧ k0_off3 (grid0.coords t) 0 = 96 + t.val % 96 := by
  decide +kernel

theorem coord : ∀ t : Fin grid0.N, (grid0.coords t 0).val = t.val / 96 ∧ (grid0.coords t 1).val = t.val % 96 := by
  decide +kernel

/-- A flag widened and compared with zero is the flag; -/
theorem flag (b : Bool) : IntOp.cmpi .ne (BitVec.setWidth 32 (BitVec.ofBool b)) 0#32 = 1#1 ↔ b = true := by cases b <;> decide

/-- negated, its negation; -/
theorem flag_not (b : Bool) : IntOp.cmpi .ne (BitVec.setWidth 32 (BitVec.ofBool b ^^^ 1#1)) 0#32 = 1#1 ↔ b = false := by cases b <;> decide

/-- and two flags joined, either. -/
theorem flag_or (a b : Bool) : IntOp.cmpi .ne (BitVec.setWidth 32 (BitVec.ofBool a ||| BitVec.ofBool b)) 0#32 = 1#1 ↔ (a = true ∨ b = true) := by
  cases a <;> cases b <;> decide

/-- The body casts the weights at the first row block and where the expert changes. -/
theorem fills_iff (t : Fin grid0.N) (e e' : BitVec 32) : fills (grid0.coords t) e e' ↔ (t.val % 96 = 0 ∨ e ≠ e') := by
  have hc := (coord t).2
  have hb : (BitVec.ofNat 32 (t.val % 96) = 0#32) ↔ t.val % 96 = 0 := by
    constructor
    · intro h
      have := congrArg BitVec.toNat h
      simp only [BitVec.toNat_ofNat] at this
      omega
    · intro h; rw [h]
  have h := flag_or (BitVec.ofNat 32 (t.val % 96) == 0#32) (e != e')
  rw [beq_iff_eq, bne_iff_ne, hb, ← hc] at h
  rw [← hc]
  exact h

/-- A row block is used where its word is not zero; -/
theorem cond2_iff (w : BitVec 32) : k0_cond2 w = 1#1 ↔ w ≠ 0#32 :=
  (flag (w != 0#32)).trans bne_iff_ne

/-- and the body writes zeros where it is. -/
theorem cond3_iff (w : BitVec 32) : k0_cond3 w = 1#1 ↔ w = 0#32 :=
  (flag_not (w != 0#32)).trans bne_eq_false_iff_eq

variable (m : (ℓ : Loc nD τ sig) → Buf (Elt F) ℓ) (ρ : Dev nD → PrngReg)

/-! ## The buffers as the grid finds them -/

/-- Core `c`'s buffers when the grid starts: as launched. -/
abbrev V (c : Dev nD) (b : Ref sig .tc) : Buf (Elt F) ((c : Thread nD τ).loc b) := m ((c : Thread nD τ).loc b)

set_option maxHeartbeats 800000 in
/-- The program is the grid alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The table's experts exist: every weights' block lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The half of the table the body is handed. -/
theorem PhiT0_eq (c : Dev nD) : (Pipeline.ΦT pre0 (tbl m) c : sProp 𝕄) = iprop(tbPt c (tbl m 0)) := by
  unfold Pipeline.ΦT Pipeline.prefHeld tbPt
  rw [show (Finset.univ : Finset (Fin 1)) = {(0 : Fin 1)} from by decide, bigSep_singleton]
  rfl

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The rows' buffer holds its block at every point. -/
theorem before_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- So does the gate weights', -/
theorem before_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- and the up weights'. -/
theorem before_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The weights' blocks -/

/-- Column block `j` of expert `e`'s weights, of the last layer. -/
def colsOf (B : FVec F S2x16x4096x1024 .f32) (e j : ℕ) : FVec F S1x1x4096x512 .f32 := fun y =>
  B (ix4 (1 : Fin 2) (⟨e % 16, Nat.mod_lt _ (by norm_num)⟩ : Fin 16) (y 2) (⟨(512 * j + (y 3).val) % 1024, Nat.mod_lt _ (by norm_num)⟩ : Fin 1024))

/-- The expert of a point's row block. -/
def expert (c : Dev nD) (t : ℕ) : ℕ := (entry c (tbl m 0) (t % 96)).toNat

/-- The index maps of the weights: point `t` reads its row block's expert, column block `t / 96`. -/
theorem idx1 (c : Dev nD) (t : Fin grid0.N) : cc0_transform_1 k0_off1_inb numel1_S1 (tbl m) (grid0.coords t) = ![1, expert m c t.val, 0, t.val / 96] := by
  have h0 : t.val < 192 := lt_of_lt_of_eq t.isLt N_0
  have e1 : (word c (tbl m 0) (k0_off1 (grid0.coords t)) (k0_off1_inb (grid0.coords t))).toNat = expert m c t.val :=
    congrArg BitVec.toNat (word_eq c (tbl m 0) _ _ _ (offs t).1)
  have e2 : (BitVec.ofNat 32 (grid0.coords t 0).val).toNat = t.val / 96 := by
    rw [(coord t).1, BitVec.toNat_ofNat]; omega
  funext a
  fin_cases a
  · rfl
  · exact e1
  · rfl
  · exact e2

theorem idx2 (c : Dev nD) (t : Fin grid0.N) : cc0_transform_2 k0_off1_inb numel1_S1 (tbl m) (grid0.coords t) = ![1, expert m c t.val, 0, t.val / 96] :=
  idx1 m c t

theorem expert_lt (hO : Ok m) (c : Dev nD) (t : Fin grid0.N) : expert m c t.val < 16 := by
  obtain ⟨h, -⟩ := hO.1 (grid0.coords t)
  have h1 := h 1
  rw [idx1 m c t] at h1
  have : (expert m c t.val + 1) * 1 ≤ 16 := h1
  omega

/-- The gate weights' block of a point. -/
theorem iblk1_eq (hO : Ok m) (c : Dev nD) (t : Fin (cfgM m hO).N) : iblk m hO c 1 t = colsOf (m ((c : Thread nD τ).loc main_arg2)) (expert m c t.val) (t.val / 96) := by
  have h0 : t.val < 192 := lt_of_lt_of_eq t.isLt (show (cfgM m hO).N = 192 from N_0)
  have he := expert_lt m hO c t
  refine funext fun (y : S1x1x4096x512.Idx) => ?_
  refine congrArg (m ((c : Thread nD τ).loc main_arg2)) (funext fun a => Fin.ext ?_)
  have hy3 : (y 3).val < 512 := (y 3).isLt
  have e : cc0_transform_1 k0_off1_inb numel1_S1 (tbl m) (grid0.coords t) a * S1x1x4096x512.size a + 1 * (y a).val
      = ((ix4 (1 : Fin 2) (⟨expert m c t.val % 16, Nat.mod_lt _ (by norm_num)⟩ : Fin 16) (y 2) (⟨(512 * (t.val / 96) + (y 3).val) % 1024, Nat.mod_lt _ (by norm_num)⟩ : Fin 1024) : S2x16x4096x1024.Idx) a).val := by
    rw [idx1 m c t]
    fin_cases a
    · have : (y 0).val < 1 := (y 0).isLt
      show 1 * 1 + 1 * (y 0).val = 1
      omega
    · have : (y 1).val < 1 := (y 1).isLt
      show expert m c t.val * 1 + 1 * (y 1).val = expert m c t.val % 16
      omega
    · show 0 * 4096 + 1 * (y 2).val = (y 2).val
      omega
    · show t.val / 96 * 512 + 1 * (y 3).val = (512 * (t.val / 96) + (y 3).val) % 1024
      omega
  exact e

/-- The up weights' block of a point. -/
theorem iblk2_eq (hO : Ok m) (c : Dev nD) (t : Fin (cfgM m hO).N) : iblk m hO c 2 t = colsOf (m ((c : Thread nD τ).loc main_arg3)) (expert m c t.val) (t.val / 96) := by
  have h0 : t.val < 192 := lt_of_lt_of_eq t.isLt (show (cfgM m hO).N = 192 from N_0)
  have he := expert_lt m hO c t
  refine funext fun (y : S1x1x4096x512.Idx) => ?_
  refine congrArg (m ((c : Thread nD τ).loc main_arg3)) (funext fun a => Fin.ext ?_)
  have hy3 : (y 3).val < 512 := (y 3).isLt
  have e : cc0_transform_2 k0_off1_inb numel1_S1 (tbl m) (grid0.coords t) a * S1x1x4096x512.size a + 1 * (y a).val
      = ((ix4 (1 : Fin 2) (⟨expert m c t.val % 16, Nat.mod_lt _ (by norm_num)⟩ : Fin 16) (y 2) (⟨(512 * (t.val / 96) + (y 3).val) % 1024, Nat.mod_lt _ (by norm_num)⟩ : Fin 1024) : S2x16x4096x1024.Idx) a).val := by
    rw [idx2 m c t]
    fin_cases a
    · have : (y 0).val < 1 := (y 0).isLt
      show 1 * 1 + 1 * (y 0).val = 1
      omega
    · have : (y 1).val < 1 := (y 1).isLt
      show expert m c t.val * 1 + 1 * (y 1).val = expert m c t.val % 16
      omega
    · show 0 * 4096 + 1 * (y 2).val = (y 2).val
      omega
    · show t.val / 96 * 512 + 1 * (y 3).val = (512 * (t.val / 96) + (y 3).val) % 1024
      omega
  exact e

/-! ## What every point leaves -/

/-- The gate weights' scratch after point `n`. -/
def gate (c : Dev nD) (n : ℕ) : Vec F S4096x512 .bf16 := k0_pay1 (colsOf (m ((c : Thread nD τ).loc main_arg2)) (expert m c n) (n / 96))

/-- The up weights' scratch after point `n`. -/
def up (c : Dev nD) (n : ℕ) : Vec F S4096x512 .bf16 := k0_pay2 (colsOf (m ((c : Thread nD τ).loc main_arg3)) (expert m c n) (n / 96))

open Classical in
/-- The result's block at point `t`: the gated product where the row block is used, zeros elsewhere. -/
def leaves (hO : Ok m) (c : Dev nD) (t : Fin (cfgM m hO).N) : Vec F S256x512 .bf16 :=
  if entry c (tbl m 0) (96 + t.val % 96) ≠ 0#32 then used (iblk m hO c 0 t) (gate m c t.val) (up m c t.val) else k0_pay4 (F := F)

/-- A point that casts nothing finds in the scratch arrays what it would have cast. -/
theorem kept (c : Dev nD) (t : Fin grid0.N)
    (h : ¬fills (grid0.coords t) (word c (tbl m 0) (k0_off1 (grid0.coords t)) (k0_off1_inb (grid0.coords t))) (word c (tbl m 0) (k0_off2 (grid0.coords t)) (k0_off2_inb (grid0.coords t)))) :
    t.val ≠ 0 ∧ gate m c (t.val - 1) = gate m c t.val ∧ up m c (t.val - 1) = up m c t.val := by
  rw [fills_iff, word_eq c (tbl m 0) _ _ _ (offs t).1, word_eq c (tbl m 0) _ _ _ (offs t).2.1] at h
  rw [not_or, not_not] at h
  obtain ⟨h0, h1⟩ := h
  have hm : (t.val - 1) % 96 = t.val % 96 - 1 := by omega
  have hd : (t.val - 1) / 96 = t.val / 96 := by omega
  have he : expert m c (t.val - 1) = expert m c t.val := by
    unfold expert
    rw [hm, h1]
  refine ⟨fun hz => h0 (by rw [hz]), ?_, ?_⟩
  · unfold gate
    rw [he, hd]
  · unfold up
    rw [he, hd]

/-- The scratch arrays as the body is handed them. -/
abbrev sc0 : Memref sig .tc .vmem S4096x512 .bf16 := Memref.whole cc0_scratch0
abbrev sc1 : Memref sig .tc .vmem S4096x512 .bf16 := Memref.whole cc0_scratch1

/-- Before the first point the scratch arrays hold anything. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What holds between points: the scratch arrays at the weights of the point before, and the table. -/
def PhiS (c : Dev nD) : ℕ → sProp 𝕄
  | 0 => iprop(Pipeline.ΦA spec0 c ∗ Pipeline.ΦT pre0 (tbl m) c)
  | n + 1 => iprop(iprop(iprop(owns (c : Thread nD τ) sc0 fullShare (gate m c n) ∗ owns (c : Thread nD τ) sc1 fullShare (up m c n)) ∗ (∃ r, prngReg c r)) ∗ Pipeline.ΦT pre0 (tbl m) c)

theorem PhiS_pos (c : Dev nD) (n : ℕ) (hz : n ≠ 0) :
    PhiS m c n = iprop(iprop(iprop(owns (c : Thread nD τ) sc0 fullShare (gate m c (n - 1)) ∗ owns (c : Thread nD τ) sc1 fullShare (up m c (n - 1))) ∗ (∃ r, prngReg c r)) ∗ Pipeline.ΦT pre0 (tbl m) c) := by
  cases n with
  | zero => exact absurd rfl hz
  | succ n => rfl

/-- The data of the run: the arrays as found, what the body leaves in each buffer, what holds between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => leaves m hO c t
  Φ t := PhiS m c t.val
  q _ := fullShare
  owed _ := 0

theorem A_eq (hO : Ok m) (c : Dev nD) (w : Fin (cfgM m hO).W) : (dats m hO 0 c).A w = V m c (Pipeline.arrRef spec0 w) := by
  dsimp only [dats]

/-- What holds before a point. -/
theorem Phi_castSucc (hO : Ok m) (c : Dev nD) (t : Fin (cfgM m hO).N) : (dats m hO 0 c).Φ t.castSucc = PhiS m c t.val := by
  dsimp only [dats]
  exact congrArg (PhiS m c) (Fin.val_castSucc t)

/-- What holds after a point. -/
theorem Phi_succ (hO : Ok m) (c : Dev nD) (t : Fin (cfgM m hO).N) : (dats m hO 0 c).Φ t.succ = PhiS m c (t.val + 1) := by
  dsimp only [dats]
  exact congrArg (PhiS m c) (Fin.val_succ t)

/-- After the last. -/
theorem Phi_last (hO : Ok m) (c : Dev nD) : (dats m hO 0 c).Φ (Fin.last (cfgM m hO).N) = PhiS m c (cfgM m hO).N := by
  dsimp only [dats]
  exact congrArg (PhiS m c) (Fin.val_last _)

theorem PhiS_succ (c : Dev nD) (n : ℕ) :
    PhiS m c (n + 1) = iprop(iprop(iprop(owns (c : Thread nD τ) sc0 fullShare (gate m c n) ∗ owns (c : Thread nD τ) sc1 fullShare (up m c n)) ∗ (∃ r, prngReg c r)) ∗ Pipeline.ΦT pre0 (tbl m) c) := rfl

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = leaves m hO c t := by dsimp only [dats]; try rfl

theorem before0_0 (hO : Ok m) (c : Dev nD) (t : Fin (cfgM m hO).N) (d) : (dats m hO 0 c).before 0 t d = iblk m hO c 0 t :=
  before_0 m hO (dats m hO 0 c) (A_eq m hO c 0) (after0_0 m hO c) t d
theorem before0_1 (hO : Ok m) (c : Dev nD) (t : Fin (cfgM m hO).N) (d) : (dats m hO 0 c).before 1 t d = iblk m hO c 1 t :=
  before_1 m hO (dats m hO 0 c) (A_eq m hO c 1) (after0_1 m hO c) t d
theorem before0_2 (hO : Ok m) (c : Dev nD) (t : Fin (cfgM m hO).N) (d) : (dats m hO 0 c).before 2 t d = iblk m hO c 2 t :=
  before_2 m hO (dats m hO 0 c) (A_eq m hO c 2) (after0_2 m hO c) t d

end Cert.MoeUpLastIdeal.Run

end
-- ==== Proof.MoeUpLastIdealFrame.lean ====
module

public import proofs.«01_k».proof.Proof.MoeUpLastIdealPoints

@[expose] public section

set_option maxRecDepth 16384

noncomputable section

/-! # The last layer's routed experts' inner part: the body at every point, and the whole run -/

namespace Cert.MoeUpLastIdeal.Run

open Cert.MoeUpLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at any point -/

/-- Each window's buffer at a point. -/
abbrev ms0 (hO : Ok m) (t : Fin (cfgM m hO).N) : Memref sig .tc .vmem S256x2048 .i32 := spec0_0.stage ((cfgM m hO).slots t 0)
abbrev ms1 (hO : Ok m) (t : Fin (cfgM m hO).N) : Memref sig .tc .vmem S1x1x4096x512 .f32 := spec0_1.stage ((cfgM m hO).slots t 1)
abbrev ms2 (hO : Ok m) (t : Fin (cfgM m hO).N) : Memref sig .tc .vmem S1x1x4096x512 .f32 := spec0_2.stage ((cfgM m hO).slots t 2)
abbrev ms3 (hO : Ok m) (t : Fin (cfgM m hO).N) : Memref sig .tc .vmem S256x512 .bf16 := spec0_3.stage ((cfgM m hO).slots t 3)

/-- The body at a point, on the buffers it is handed. -/
abbrev bodyAt (hO : Ok m) (t : Fin (cfgM m hO).N) : Prog (TpuEff nD τ sig (Elt F) Λ₀ .tc) PUnit :=
  cc0_moe_up (grid0.coords t) tbM (Memref.isWhole_whole _) (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2)) (ms3 m hO t) (hstage0_3 (((cfgM m hO).slots t 3).cast nbuf0_3)) sc0 (Memref.isWhole_whole _) sc1 (Memref.isWhole_whole _)

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

set_option maxHeartbeats 400000 in
/-- The body at any point leaves what `leaves` says, and the point's weights in the scratch arrays. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2]
  rw [show (dats m hO 0 c).owesAt () t.succ = (dats m hO 0 c).owesAt () t.castSucc from rfl,
    after0_0, after0_1, after0_2, after0_3]
  rw [Phi_castSucc]
  rw [Phi_succ, PhiS_succ, PhiT0_eq]
  have g1 : gate m c t.val = k0_pay1 (iblk m hO c 1 t) := congrArg (k0_pay1 (F := F)) (iblk1_eq m hO c t).symm
  have g2 : up m c t.val = k0_pay2 (iblk m hO c 2 t) := congrArg (k0_pay2 (F := F)) (iblk2_eq m hO c t).symm
  have hw : word c (tbl m 0) (k0_off3 (grid0.coords t)) (k0_off3_inb (grid0.coords t)) = entry c (tbl m 0) (96 + t.val % 96) :=
    word_eq c (tbl m 0) _ _ _ (offs t).2.2
  by_cases hc : fills (grid0.coords t) (word c (tbl m 0) (k0_off1 (grid0.coords t)) (k0_off1_inb (grid0.coords t))) (word c (tbl m 0) (k0_off2 (grid0.coords t)) (k0_off2_inb (grid0.coords t)))
  · have hP : PhiS m c t.val ⊢ iprop(iprop(iprop((∃ d, owns (c : Thread nD τ) sc0 fullShare d) ∗ (∃ d, owns (c : Thread nD τ) sc1 fullShare d)) ∗ (∃ r, prngReg c r)) ∗ tbPt c (tbl m 0)) := by
      by_cases hz : t.val = 0
      · rw [hz]
        show iprop(Pipeline.ΦA spec0 c ∗ Pipeline.ΦT pre0 (tbl m) c) ⊢ _
        rw [PhiT0_eq, PhiA0_eq]
      · rw [PhiS_pos m c _ hz, PhiT0_eq]
        iintro ⟨⟨⟨HS0, HS1⟩, Hg⟩, HT⟩
        isplitl [HS0 HS1 Hg]
        · isplitl [HS0 HS1]
          · isplitl [HS0]
            · iexists _; iexact HS0
            iexists _; iexact HS1
          iexact Hg
        iexact HT
    refine Idealize.SL.BI.BIBase.Entails.trans (Idealize.SL.BI.Laws.sep_mono_left hP) ?_
    by_cases hu : entry c (tbl m 0) (96 + t.val % 96) ≠ 0#32
    · rw [show leaves m hO c t = used (iblk m hO c 0 t) (gate m c t.val) (up m c t.val) from if_pos hu, g1, g2]
      iintro ⟨⟨⟨⟨HS0, HS1⟩, Hg⟩, HT⟩, Ho, ⟨%d0, H0⟩, ⟨%d1, H1⟩, ⟨%d2, H2⟩, ⟨%d3, H3⟩⟩
      iapply (run_fill_used c (grid0.coords t) _ _ _ _ _ _ _ _ _ _ _ _ (iblk m hO c 0 t) (iblk m hO c 1 t) (iblk m hO c 2 t) (tbl m 0) hc ((cond2_iff _).mpr (hw ▸ hu)) (fun h => hu (hw ▸ (cond3_iff _).mp h)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT]; · iexact HT
      iintro ⟨H0, H1, H2, H3, HS0, HS1, HT⟩
      isplitl [HS0 HS1 Hg HT]
      · isplitl [HS0 HS1 Hg]
        · isplitl [HS0 HS1]
          · isplitl [HS0]; · iexact HS0
            iexact HS1
          iexact Hg
        iexact HT
      isplitl [Ho]; · iexact Ho
      isplitl [H0]; · iexact H0
      isplitl [H1]; · iexact H1
      isplitl [H2]; · iexact H2
      iexact H3
    · rw [show leaves m hO c t = k0_pay4 (F := F) from if_neg hu, g1, g2]
      rw [not_not] at hu
      iintro ⟨⟨⟨⟨HS0, HS1⟩, Hg⟩, HT⟩, Ho, ⟨%d0, H0⟩, ⟨%d1, H1⟩, ⟨%d2, H2⟩, ⟨%d3, H3⟩⟩
      iapply (run_fill_unused c (grid0.coords t) _ _ _ _ _ _ _ _ _ _ _ _ (iblk m hO c 0 t) (iblk m hO c 1 t) (iblk m hO c 2 t) (tbl m 0) hc (fun h => (cond2_iff _).mp h (hw.trans hu)) ((cond3_iff _).mpr (hw.trans hu)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT]; · iexact HT
      iintro ⟨H0, H1, H2, H3, HS0, HS1, HT⟩
      isplitl [HS0 HS1 Hg HT]
      · isplitl [HS0 HS1 Hg]
        · isplitl [HS0 HS1]
          · isplitl [HS0]; · iexact HS0
            iexact HS1
          iexact Hg
        iexact HT
      isplitl [Ho]; · iexact Ho
      isplitl [H0]; · iexact H0
      isplitl [H1]; · iexact H1
      isplitl [H2]; · iexact H2
      iexact H3
  · obtain ⟨hz, k1, k2⟩ := kept m c t hc
    rw [PhiS_pos m c _ hz, PhiT0_eq, k1, k2]
    by_cases hu : entry c (tbl m 0) (96 + t.val % 96) ≠ 0#32
    · rw [show leaves m hO c t = used (iblk m hO c 0 t) (gate m c t.val) (up m c t.val) from if_pos hu]
      iintro ⟨⟨⟨⟨HS0, HS1⟩, Hg⟩, HT⟩, Ho, ⟨%d0, H0⟩, ⟨%d1, H1⟩, ⟨%d2, H2⟩, ⟨%d3, H3⟩⟩
      iapply (run_keep_used c (grid0.coords t) _ _ _ _ _ _ _ _ _ _ _ _ (iblk m hO c 0 t) (iblk m hO c 1 t) (iblk m hO c 2 t) (tbl m 0) hc ((cond2_iff _).mpr (hw ▸ hu)) (fun h => hu (hw ▸ (cond3_iff _).mp h)) (gate m c t.val) (up m c t.val) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT]; · iexact HT
      iintro ⟨H0, H1, H2, H3, HS0, HS1, HT⟩
      isplitl [HS0 HS1 Hg HT]
      · isplitl [HS0 HS1 Hg]
        · isplitl [HS0 HS1]
          · isplitl [HS0]; · iexact HS0
            iexact HS1
          iexact Hg
        iexact HT
      isplitl [Ho]; · iexact Ho
      isplitl [H0]; · iexact H0
      isplitl [H1]; · iexact H1
      isplitl [H2]; · iexact H2
      iexact H3
    · rw [show leaves m hO c t = k0_pay4 (F := F) from if_neg hu]
      rw [not_not] at hu
      iintro ⟨⟨⟨⟨HS0, HS1⟩, Hg⟩, HT⟩, Ho, ⟨%d0, H0⟩, ⟨%d1, H1⟩, ⟨%d2, H2⟩, ⟨%d3, H3⟩⟩
      iapply (run_keep_unused c (grid0.coords t) _ _ _ _ _ _ _ _ _ _ _ _ (iblk m hO c 0 t) (iblk m hO c 1 t) (iblk m hO c 2 t) (tbl m 0) hc (fun h => (cond2_iff _).mp h (hw.trans hu)) ((cond3_iff _).mpr (hw.trans hu)) (gate m c t.val) (up m c t.val) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT]; · iexact HT
      iintro ⟨H0, H1, H2, H3, HS0, HS1, HT⟩
      isplitl [HS0 HS1 Hg HT]
      · isplitl [HS0 HS1 Hg]
        · isplitl [HS0 HS1]
          · isplitl [HS0]; · iexact HS0
            iexact HS1
          iexact Hg
        iexact HT
      isplitl [Ho]; · iexact Ho
      isplitl [H0]; · iexact H0
      isplitl [H1]; · iexact H1
      isplitl [H2]; · iexact H2
      iexact H3

/-- The body's table row at a point is the body on that point's buffers. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's block is written back at every point. -/
theorem flush3 (hO : Ok m) : ∀ t : Fin (cfgM m hO).N, ((cfgM m hO).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

/-- So, stored into or not, its buffer is handed back at what the point leaves. -/
theorem handed {P Q : sProp 𝕄} (b f : Bool) :
    f = true → (P ⊢ (match b with | true => (match f with | false => Q | true => P) | false => P)) := by
  rintro rfl
  cases b <;> exact Idealize.SL.BI.Entails.refl _

/-- The body obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ =>
    Idealize.SL.BI.sep_mono_r (Idealize.SL.BI.sep_mono_r (Idealize.SL.BI.sep_mono_r (Idealize.SL.BI.sep_mono_r (Idealize.SL.BI.sep_mono_r (handed _ _ (flush3 m hO t))))))

/-- The launch hands over what holds before the first point. -/
theorem hin (hO : Ok m) (c : Dev nD) : iprop(Pipeline.ΦA spec0 c ∗ Pipeline.ΦT pre0 (tbl m) c) ⊢ (dats m hO 0 c).Φ 0 := by
  exact Idealize.SL.BI.Entails.refl _

/-- After the last point the scratch arrays' contents are forgotten. -/
theorem hout (hO : Ok m) (c : Dev nD) : (dats m hO 0 c).Φ (Fin.last (cfgM m hO).N) ⊢ Pipeline.ΦA spec0 c := by
  have hN : (cfgM m hO).N = 192 := N_0
  rw [Phi_last, PhiS_pos m c _ (by omega), PhiA0_eq]
  iintro ⟨⟨⟨HS0, HS1⟩, Hg⟩, -⟩
  isplitl [HS0 HS1]
  · isplitl [HS0]
    · iexists _; iexact HS0
    iexists _; iexact HS1
  iexact Hg

set_option backward.isDefEq.respectTransparency.types false in
/-- Every run ends, with every array at what the data of the run say and every counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The argument arrays and the result's after a run. -/
theorem ends (hO : Ok m) {r} (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c).2 main_arg0 (by decide : main_arg0 ∈ Pipeline.restRefs sig spec0),
    ((h c).1 0).trans (((dats m hO 0 c).arrAt_in 0 rfl _).trans (A_eq m hO c 0)),
    ((h c).1 1).trans (((dats m hO 0 c).arrAt_in 1 rfl _).trans (A_eq m hO c 1)),
    ((h c).1 2).trans (((dats m hO 0 c).arrAt_in 2 rfl _).trans (A_eq m hO c 2))⟩

/-- Every run ends, the argument arrays unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ends m hO h.1 c, h.2⟩) (run_quiescent m ρ hO)

end Cert.MoeUpLastIdeal.Run

end
-- ==== Proof.MoeUpLastBlocks.lean ====
module

public import proofs.«01_k».proof.Proof.MoeUpLastIdealFrame
public import proofs.«01_k».proof.Proof.Consts
public import proofs.«01_k».proof.Proof.MoeUpBlocks
public import Idealize.ShloMosaic.Lib.Pointwise
public import Idealize.ShloMosaic.Lib.Pipeline.ValueKit

@[expose] public section

set_option maxRecDepth 16384

noncomputable section

/-! # The last layer's routed experts' inner part: its result array from its operands -/

namespace Cert.MoeUpLastCall

open Cert.MoeUpLastIdeal Cert.MoeUpLastIdeal.Gen Cert.MoeUpLastIdeal.Run Idealize.ShloMosaic Idealize.ShloMosaic.TcCoe Idealize.SL.Sem
open Idealize.ShloMosaic.Pipeline (Dat)
open Cert.MoeUpCall (swish num sum_halves num_low num_high shli_16)

/-- Rows of the two halves of a scratch array. -/
theorem upper_apply (s : Vec Ideal S4096x512 .bf16) (p : Fin 2048) (n : Fin 512) : upper s (ix2 p n) = s (ix2 (⟨p.val, by omega⟩ : Fin 4096) n) := by
  refine congrArg s (funext fun a => Fin.ext ?_)
  fin_cases a
  · show 0 + 1 * p.val = p.val
    omega
  · show 0 + 1 * n.val = n.val
    omega

theorem lower_apply (s : Vec Ideal S4096x512 .bf16) (p : Fin 2048) (n : Fin 512) : lower s (ix2 p n) = s (ix2 (⟨2048 + p.val, by omega⟩ : Fin 4096) n) := by
  refine congrArg s (funext fun a => Fin.ext ?_)
  fin_cases a
  · show 2048 + 1 * p.val = 2048 + p.val
    omega
  · show 0 + 1 * n.val = n.val
    omega

theorem pay3_apply (x : Vec Ideal S256x2048 .i32) (a0 a1 b0 b1 : Vec Ideal S2048x512 .bf16) (r : Fin 256) (n : Fin 512) :
    k0_pay3 (F := Ideal) x a0 a1 b0 b1 (ix2 r n) = swish
      (∑ p : Fin 2048, Ideal.ofBits .f32 (x (ix2 r p) <<< 16) * a0 (ix2 p n) + ∑ p : Fin 2048, Ideal.ofBits .f32 (x (ix2 r p) &&& 4294901760#32) * a1 (ix2 p n))
      (∑ p : Fin 2048, Ideal.ofBits .f32 (x (ix2 r p) <<< 16) * b0 (ix2 p n) + ∑ p : Fin 2048, Ideal.ofBits .f32 (x (ix2 r p) &&& 4294901760#32) * b1 (ix2 p n)) := by
  unfold k0_pay3 swish
  pointwise
  simp only [shli_16]
  rfl

/-- An entry of what the body leaves of a used row block. -/
theorem used_apply (x : Vec Ideal S256x2048 .i32) (s0 s1 : Vec Ideal S4096x512 .bf16) (r : Fin 256) (n : Fin 512) :
    used x s0 s1 (ix2 r n) = swish (∑ k : Fin 4096, num (T := 256) x r k * s0 (ix2 k n)) (∑ k : Fin 4096, num (T := 256) x r k * s1 (ix2 k n)) := by
  unfold used
  rw [pay3_apply, sum_halves, sum_halves]
  refine congrArg₂ swish (congrArg₂ (· + ·) ?_ ?_) (congrArg₂ (· + ·) ?_ ?_) <;> refine Finset.sum_congr rfl fun p _ => ?_
  · rw [upper_apply]; exact congrArg (· * _) (num_low (T := 256) x r p)
  · rw [lower_apply]; exact congrArg (· * _) (num_high (T := 256) x r p)
  · rw [upper_apply]; exact congrArg (· * _) (num_low (T := 256) x r p)
  · rw [lower_apply]; exact congrArg (· * _) (num_high (T := 256) x r p)

/-- Of an unused one: zeros. -/
theorem pay4_apply (r : Fin 256) (n : Fin 512) : k0_pay4 (F := Ideal) (ix2 r n) = 0 := by
  unfold k0_pay4
  pointwise

/-- The cast weights' entries are the weights'. -/
theorem pay1_apply (w : Vec Ideal S1x1x4096x512 .f32) (k : Fin 4096) (n : Fin 512) : k0_pay1 (F := Ideal) w (ix2 k n) = w (ix4 0 0 k n) := by
  unfold k0_pay1
  pointwise

theorem pay2_apply (w : Vec Ideal S1x1x4096x512 .f32) (k : Fin 4096) (n : Fin 512) : k0_pay2 (F := Ideal) w (ix2 k n) = w (ix4 0 0 k n) := by
  unfold k0_pay2
  pointwise

/-- The expert of row block `b`. -/
def named (be : IVec S192 32) (b : ℕ) : Fin 16 := ⟨(be (ix1 (⟨b % 96, by omega⟩ : Fin 192))).toNat % 16, Nat.mod_lt _ (by norm_num)⟩

/-- Entry `(i, n)` of the product of the rows with the weights of the row block's expert. -/
def sumOf (be : IVec S192 32) (x : IVec S24576x2048 32) (w : FVec Ideal S2x16x4096x1024 .f32) (i : Fin 24576) (n : Fin 1024) : EReal :=
  ∑ k : Fin 4096, num (T := 24576) x i k * w (ix4 (1 : Fin 2) (named be (i.val / 256)) k n)

/-- The result from whole operands: the gated product where the row block is used, zeros elsewhere. -/
def result (be : IVec S192 32) (x : IVec S24576x2048 32) (wg wu : FVec Ideal S2x16x4096x1024 .f32) : FVec Ideal S24576x1024 .bf16 := fun i =>
  if be (ix1 (⟨96 + (i 0).val / 256 % 96, by omega⟩ : Fin 192)) ≠ 0#32 then
    swish (sumOf be x wg (⟨(i 0).val, (i 0).isLt⟩ : Fin 24576) (⟨(i 1).val, (i 1).isLt⟩ : Fin 1024))
      (sumOf be x wu (⟨(i 0).val, (i 0).isLt⟩ : Fin 24576) (⟨(i 1).val, (i 1).isLt⟩ : Fin 1024))
  else 0

variable (m : (ℓ : Loc nD τ sig) → Buf (Elt Ideal) ℓ)

/-- The index maps of the rows and of the result. -/
theorem idx0 (t : Fin grid0.N) : cc0_transform_0 (grid0.coords t) = ![t.val % 96, 0] := by
  have e : (BitVec.ofNat 32 (grid0.coords t 1).val).toNat = t.val % 96 := by
    rw [(coord t).2, BitVec.toNat_ofNat]; omega
  funext a
  fin_cases a
  · exact e
  · rfl

theorem idx3 (t : Fin grid0.N) : cc0_transform_3 (grid0.coords t) = ![t.val % 96, t.val / 96] := by
  have h0 : t.val < 192 := lt_of_lt_of_eq t.isLt N_0
  have e : (BitVec.ofNat 32 (grid0.coords t 1).val).toNat = t.val % 96 := by
    rw [(coord t).2, BitVec.toNat_ofNat]; omega
  have e' : (BitVec.ofNat 32 (grid0.coords t 0).val).toNat = t.val / 96 := by
    rw [(coord t).1, BitVec.toNat_ofNat]; omega
  funext a
  fin_cases a
  · exact e
  · exact e'

/-- Row block `i` of the words. -/
def rowsOf (x : IVec S24576x2048 32) (i : ℕ) : IVec S256x2048 32 := fun y =>
  x (ix2 (⟨(256 * i + (y 0).val) % 24576, Nat.mod_lt _ (by norm_num)⟩ : Fin 24576) (y 1))

theorem iblk0_eq (hO : Ok m) (c : Dev nD) (t : Fin (cfgM m hO).N) : iblk m hO c 0 t = rowsOf (m ((c : Thread nD τ).loc main_arg1)) (t.val % 96) := by
  refine funext fun (y : S256x2048.Idx) => ?_
  refine congrArg (m ((c : Thread nD τ).loc main_arg1)) (funext fun a => Fin.ext ?_)
  have hy0 : (y 0).val < 256 := (y 0).isLt
  have e : cc0_transform_0 (grid0.coords t) a * S256x2048.size a + 1 * (y a).val
      = ((ix2 (⟨(256 * (t.val % 96) + (y 0).val) % 24576, Nat.mod_lt _ (by norm_num)⟩ : Fin 24576) (y 1) : S24576x2048.Idx) a).val := by
    rw [idx0 t]
    fin_cases a
    · show t.val % 96 * 256 + 1 * (y 0).val = (256 * (t.val % 96) + (y 0).val) % 24576
      omega
    · show 0 * 2048 + 1 * (y 1).val = (y 1).val
      omega
  exact e

/-- A number of a row block is the array's. -/
theorem num_rowsOf (x : IVec S24576x2048 32) (b : ℕ) (r : Fin 256) (k : Fin 4096) :
    num (T := 256) (rowsOf x b) r k = num (T := 24576) x (⟨(256 * b + r.val) % 24576, Nat.mod_lt _ (by norm_num)⟩ : Fin 24576) k := rfl

/-- What point `t` leaves is its block of `result`. -/
theorem leaves_apply (hO : Ok m) (c : Dev nD) (t : Fin (cfgM m hO).N) (r : Fin 256) (n : Fin 512) (i : Fin 24576) (j : Fin 1024)
    (hi : i.val = 256 * (t.val % 96) + r.val) (hj : j.val = 512 * (t.val / 96) + n.val) :
    leaves m hO c t (ix2 r n) = result (m ((c : Thread nD τ).loc main_arg0)) (m ((c : Thread nD τ).loc main_arg1))
      (m ((c : Thread nD τ).loc main_arg2)) (m ((c : Thread nD τ).loc main_arg3)) (ix2 i j) := by
  obtain rfl : c = 0 := Subsingleton.elim _ _
  have h0 : t.val < 192 := lt_of_lt_of_eq t.isLt (show (cfgM m hO).N = 192 from N_0)
  have hr := r.isLt
  have hn := n.isLt
  have hb : i.val / 256 = t.val % 96 := by omega
  have he := expert_lt m hO 0 t
  have ei : (⟨(256 * (t.val % 96) + r.val) % 24576, Nat.mod_lt _ (by norm_num)⟩ : Fin 24576) = i := Fin.ext (by show (256 * (t.val % 96) + r.val) % 24576 = i.val; omega)
  have ej : (⟨(512 * (t.val / 96) + n.val) % 1024, Nat.mod_lt _ (by norm_num)⟩ : Fin 1024) = j := Fin.ext (by show (512 * (t.val / 96) + n.val) % 1024 = j.val; omega)
  have en : (⟨expert m 0 t.val % 16, Nat.mod_lt _ (by norm_num)⟩ : Fin 16) = named (m (((0 : Dev nD) : Thread nD τ).loc main_arg0)) (i.val / 256) := by
    refine Fin.ext (congrArg (fun q : Fin 192 => (m (((0 : Dev nD) : Thread nD τ).loc main_arg0) (ix1 q)).toNat % 16) (Fin.ext ?_))
    show t.val % 96 % 192 = i.val / 256 % 96
    omega
  have eu : entry 0 (tbl m 0) (96 + t.val % 96) = m (((0 : Dev nD) : Thread nD τ).loc main_arg0) (ix1 (⟨96 + i.val / 256 % 96, by omega⟩ : Fin 192)) := by
    refine congrArg (fun q : Fin 192 => m (((0 : Dev nD) : Thread nD τ).loc main_arg0) (ix1 q)) (Fin.ext ?_)
    show (96 + t.val % 96) % 192 = 96 + i.val / 256 % 96
    omega
  unfold leaves
  rw [eu, iblk0_eq]
  by_cases hu : m (((0 : Dev nD) : Thread nD τ).loc main_arg0) (ix1 (⟨96 + i.val / 256 % 96, by omega⟩ : Fin 192)) ≠ 0#32
  · rw [if_pos hu, used_apply]
    refine Eq.trans ?_ (if_pos hu).symm
    refine congrArg₂ swish (Finset.sum_congr rfl fun k _ => congrArg₂ (· * ·) ?_ ?_) (Finset.sum_congr rfl fun k _ => congrArg₂ (· * ·) ?_ ?_)
    · exact congrArg (fun q => num (T := 24576) (m (((0 : Dev nD) : Thread nD τ).loc main_arg1)) q k) ei
    · unfold gate
      rw [pay1_apply]
      exact congrArg₂ (fun p q => m (((0 : Dev nD) : Thread nD τ).loc main_arg2) (ix4 (1 : Fin 2) p k q)) en ej
    · exact congrArg (fun q => num (T := 24576) (m (((0 : Dev nD) : Thread nD τ).loc main_arg1)) q k) ei
    · unfold up
      rw [pay2_apply]
      exact congrArg₂ (fun p q => m (((0 : Dev nD) : Thread nD τ).loc main_arg3) (ix4 (1 : Fin 2) p k q)) en ej
  · rw [if_neg hu, pay4_apply]
    exact (if_neg hu).symm

/-- Where entry `y` of point `t`'s block of the result lies in the array. -/
theorem emb3 (hO : Ok m) (t : Fin (cfgM m hO).N) (y : S256x512.Idx) (a : Fin 2) :
    ((((cfgM m hO).win 3).blk t).view.emb y a).val = (![t.val % 96, t.val / 96] : Fin 2 → ℕ) a * S256x512.size a + 1 * (y a).val := by
  have e : ((((cfgM m hO).win 3).blk t).view.emb y a).val = cc0_transform_3 (grid0.coords t) a * S256x512.size a + 1 * (y a).val := rfl
  rw [e, idx3 t]

/-- The result array after the grid is `result` of the argument arrays. -/
theorem final (hO : Ok m) (c : Dev nD) : (dats m hO 0 c).arrAt 3 (cfgM m hO).N
    = result (m ((c : Thread nD τ).loc main_arg0)) (m ((c : Thread nD τ).loc main_arg1)) (m ((c : Thread nD τ).loc main_arg2)) (m ((c : Thread nD τ).loc main_arg3)) := by
  have hN : (cfgM m hO).N = 192 := N_0
  refine (dats m hO 0 c).arrAt_eq_of_emb 3 _ (fun t hf (y : S256x512.Idx) => ?_) (fun (i : S24576x1024.Idx) => ?_)
  · have h0 : t.val < 192 := lt_of_lt_of_eq t.isLt hN
    have hy0 : (y 0).val < 256 := (y 0).isLt
    have hy1 : (y 1).val < 512 := (y 1).isLt
    have e0 := emb3 m hO t y 0
    have e1 := emb3 m hO t y 1
    refine (congrFun (after0_3 m hO c t) y).trans ?_
    have ey : y = ix2 (⟨(y 0).val, hy0⟩ : Fin 256) (⟨(y 1).val, hy1⟩ : Fin 512) := by
      funext a; fin_cases a <;> rfl
    refine (congrArg (leaves m hO c t) ey).trans ?_
    refine (leaves_apply m hO c t _ _ ⟨256 * (t.val % 96) + (y 0).val, by omega⟩ ⟨512 * (t.val / 96) + (y 1).val, by omega⟩ rfl rfl).trans ?_
    refine congrArg (result (m ((c : Thread nD τ).loc main_arg0)) (m ((c : Thread nD τ).loc main_arg1)) (m ((c : Thread nD τ).loc main_arg2)) (m ((c : Thread nD τ).loc main_arg3))) (funext fun a => Fin.ext ?_)
    refine Eq.trans ?_ (emb3 m hO t y a).symm
    fin_cases a
    · show 256 * (t.val % 96) + (y 0).val = t.val % 96 * 256 + 1 * (y 0).val
      omega
    · show 512 * (t.val / 96) + (y 1).val = t.val / 96 * 512 + 1 * (y 1).val
      omega
  · have hi0 : (i 0).val < 24576 := (i 0).isLt
    have hi1 : (i 1).val < 1024 := (i 1).isLt
    have ht : 96 * ((i 1).val / 512) + (i 0).val / 256 < (cfgM m hO).N := by
      rw [hN]; omega
    refine ⟨⟨96 * ((i 1).val / 512) + (i 0).val / 256, ht⟩, flush3 m hO _, ?_⟩
    refine Finset.mem_map.mpr ⟨(ix2 (⟨(i 0).val % 256, Nat.mod_lt _ (by norm_num)⟩ : Fin 256) (⟨(i 1).val % 512, Nat.mod_lt _ (by norm_num)⟩ : Fin 512) : S256x512.Idx), Finset.mem_univ _, ?_⟩
    refine funext fun (a : Fin 2) => Fin.ext ?_
    refine (emb3 m hO _ _ a).trans ?_
    fin_cases a
    · show (96 * ((i 1).val / 512) + (i 0).val / 256) % 96 * 256 + 1 * ((i 0).val % 256) = (i 0).val
      omega
    · show (96 * ((i 1).val / 512) + (i 0).val / 256) / 96 * 512 + 1 * ((i 1).val % 512) = (i 1).val
      omega

/-- Every run ends with the result array at `result` of the argument arrays, which are unchanged. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (final m hO c), ends m hO h.1 c⟩) (run_quiescent m ρ hO)

end Cert.MoeUpLastCall
-- ==== Proof.MoeUpLastEquation.lean ====
module

public import proofs.«01_k».proof.Proof.MoeUpLastBlocks
public import proofs.«01_k».proof.Proof.MoeUpEquation
public import proofs.«01_k».proof.Proof.Gen.MoeUpLastReferenceIdeal.Run

@[expose] public section

set_option maxRecDepth 16384

noncomputable section

/-! # The last layer's routed experts' inner part: the reference's result, and that the two agree -/

namespace Cert.MoeUpLastCall

open Cert.MoeUpCall (swish num select_ne)

section Reference

open Cert.MoeUpLastReferenceIdeal Cert.MoeUpLastReferenceIdeal.Gen Cert.MoeUpLastReferenceIdeal.Value Idealize.ShloMosaic Idealize.ShloMosaic.TcCoe

/-- The reference's numbers in the rows of words, by row blocks. -/
def numbers (x : IVec S24576x2048 32) : FVec Ideal S96x256x4096 .f32 :=
  extf .f32 (shapeCast _ (transpose S24576x2x2048 [0, 2, 1] (bitcastToFloat (F := Ideal) .bf16 (Host.bitcastConvertNarrow S24576x2048x2 16 x splits_S24576x2048_w32_S24576x2048x2_w16)) transposes_S24576x2048x2_S24576x2x2048_0_2_1) shapeCasts_S24576x2x2048_S96x256x4096) bitsLt_bf16_f32

theorem numbers_apply (x : IVec S24576x2048 32) (b : Fin 96) (r : Fin 256) (k : Fin 4096) (i : Fin 24576) (hi : i.val = 256 * b.val + r.val) :
    numbers x (ix3 b r k) = num (T := 24576) x i k := by
  have hb := b.isLt
  have hr := r.isLt
  have hk := k.isLt
  unfold numbers
  pointwise
  unfold num
  refine congrArg (fun q => Ideal.ofBits .bf16 (BitVec.extractLsb' (k.val / 2048 * 16) 16 (x q))) ?_
  funext a
  fin_cases a
  · exact Fin.ext (show b.val * 256 + r.val = i.val by omega)
  · rfl

/-- The reference's choice of each row block's expert. -/
def chosen (be : IVec S192 32) (w : FVec Ideal S2x16x4096x1024 .f32) : FVec Ideal S96x4096x1024 .f32 :=
  Host.gather gather_S16x4096x1024_S96x1_S96x4096x1024_12_0_n_n_0_1_140961024 (shapeCast _ (extractStridedSlice S1x16x4096x1024 ![1, 0, 0, 0] w slices_S2x16x4096x1024_S1x16x4096x1024_1_0_0_0) shapeCasts_S1x16x4096x1024_S16x4096x1024) (broadcastInDim S96x1 ![0] bcast_S96_S96x1_0 (extractStridedSlice S96 ![0] be slices_S192_S96_0))

/-- The gather read at an index: the layer's weights of the expert the start index names, clamped. -/
theorem gather_apply (x : FVec Ideal S16x4096x1024 .f32) (idx : IVec S96x1 32) (b : Fin 96) (k : Fin 4096) (n : Fin 1024) :
    Host.gather gather_S16x4096x1024_S96x1_S96x4096x1024_12_0_n_n_0_1_140961024 x idx (ix3 b k n)
      = x (ix3 (⟨min (idx (ix2 b 0)).toInt.toNat 15, by omega⟩ : Fin 16) k n) := by
  unfold Host.gather
  refine congrArg x (funext fun a => Fin.ext ?_)
  show GatherDims.start _ (ix3 b k n) idx a + GatherDims.batchCoord _ (ix3 b k n) a + GatherDims.offCoord _ (ix3 b k n) a = _
  rw [GatherDims.batchCoord_eq_zero _ _ _ List.not_mem_nil, Nat.add_zero]
  fin_cases a
  · refine (congrArg₂ (· + ·) (?_ : _ = min (idx (ix2 b 0)).toInt.toNat 15) (GatherDims.offCoord_eq_zero _ _ _ (fun h => ((GatherDims.mem_sKept _ _).mp h).1 (List.mem_singleton.mpr rfl)))).trans (Nat.add_zero _)
    unfold GatherDims.start
    refine (dif_pos (List.mem_singleton.mpr rfl)).trans ?_
    refine congrArg (fun q => min (idx q).toInt.toNat 15) (funext fun c => Fin.ext ?_)
    fin_cases c <;> rfl
  · refine (congrArg₂ (· + ·) (dif_neg (by decide) : _ = 0) (?_ : _ = k.val)).trans (Nat.zero_add _)
    rfl
  · refine (congrArg₂ (· + ·) (dif_neg (by decide) : _ = 0) (?_ : _ = n.val)).trans (Nat.zero_add _)
    rfl

theorem chosen_apply (be : IVec S192 32) (w : FVec Ideal S2x16x4096x1024 .f32) (b : Fin 96) (k : Fin 4096) (n : Fin 1024)
    (h : (be (ix1 (⟨b.val, by omega⟩ : Fin 192))).toNat < 16) : chosen be w (ix3 b k n) = w (ix4 (1 : Fin 2) (named be b.val) k n) := by
  have hb := b.isLt
  unfold chosen
  rw [gather_apply]
  pointwise
  refine congrArg (fun q => w (ix4 (1 : Fin 2) q k n)) (Fin.ext ?_)
  have e : (⟨b.val % 96, by omega⟩ : Fin 192) = (⟨b.val, by omega⟩ : Fin 192) := Fin.ext (Nat.mod_eq_of_lt hb)
  show min (be (ix1 (⟨b.val, by omega⟩ : Fin 192))).toInt.toNat 15 = (be (ix1 (⟨b.val % 96, by omega⟩ : Fin 192))).toNat % 16
  rw [e]
  generalize be (ix1 (⟨b.val, by omega⟩ : Fin 192)) = v at h ⊢
  have hv : v.toInt = v.toNat := by
    rw [BitVec.toInt_eq_toNat_cond, if_pos (by omega)]
  rw [hv]
  omega

/-- The reference's product of the rows with the chosen weights. -/
def times (be : IVec S192 32) (x : IVec S24576x2048 32) (w : FVec Ideal S2x16x4096x1024 .f32) : FVec Ideal S96x256x1024 .f32 :=
  Host.dotGeneral dot_S96x256x4096_S96x4096x1024_S96x256x1024_2_1_1_2_0_0 none (numbers x) (chosen be w)

theorem times_sum (be : IVec S192 32) (x : IVec S24576x2048 32) (w : FVec Ideal S2x16x4096x1024 .f32) (b : Fin 96) (r : Fin 256) (n : Fin 1024) :
    times be x w (ix3 b r n) = ∑ k : Fin 4096, numbers x (ix3 b r k) * chosen be w (ix3 b k n) := by
  unfold times
  pointwise

/-- The reference's gated product where a row block is used, zeros elsewhere, laid out as rows. -/
def silu (be : IVec S192 32) (G U : FVec Ideal S96x256x1024 .f32) : FVec Ideal S24576x1024 .bf16 :=
  truncf .bf16 (shapeCast _ (select (broadcastInDim S96x256x1024 ![0, 1, 2] bcast_S96x1x1_S96x256x1024_0_1_2 (broadcastInDim S96x1x1 ![0] bcast_S96_S96x1x1_0 (cmpi .ne (extractStridedSlice S96 ![96] be slices_S192_S96_96) (broadcastInDim S96 ![] bcast_S_S96 (constantI S_ 32 0#32))))) (mulf (mulf G (Host.divf (broadcastInDim S96x256x1024 ![] bcast_S_S96x256x1024 (constant S_ .f32 0x3F800000#32)) (addf (broadcastInDim S96x256x1024 ![] bcast_S_S96x256x1024 (constant S_ .f32 0x3F800000#32)) (Host.exp (Host.negf G))))) U) (broadcastInDim S96x256x1024 ![] bcast_S_S96x256x1024 (id (constant S_ .f32 0x00000000#32)))) shapeCasts_S96x256x1024_S24576x1024) bitsLt_bf16_f32

theorem silu_apply (be : IVec S192 32) (G U : FVec Ideal S96x256x1024 .f32) (i : Fin 24576) (n : Fin 1024) :
    silu be G U (ix2 i n) = if be (ix1 (⟨96 + i.val / 256 % 96, by omega⟩ : Fin 192)) ≠ 0#32 then
      swish (G (ix3 (⟨i.val / 256, by omega⟩ : Fin 96) (⟨i.val % 256, by omega⟩ : Fin 256) n)) (U (ix3 (⟨i.val / 256, by omega⟩ : Fin 96) (⟨i.val % 256, by omega⟩ : Fin 256) n)) else 0 := by
  have hi := i.isLt
  have hn := n.isLt
  have e : (⟨96 + i.val / 256 % 96, by omega⟩ : Fin 192) = (⟨96 + i.val / 256, by omega⟩ : Fin 192) := Fin.ext (by show 96 + i.val / 256 % 96 = 96 + i.val / 256; omega)
  rw [e]
  unfold silu swish Ideal.logistic
  dsimp only [id]
  pointwise
  exact select_ne _ _ _

end Reference

open Idealize.ShloMosaic Idealize.ShloMosaic.TcCoe

/-- An entry of the reference's product is the sum over the row block's expert's weights. -/
theorem times_apply (be : IVec Cert.MoeUpLastReferenceIdeal.S192 32) (x : IVec Cert.MoeUpLastReferenceIdeal.S24576x2048 32) (w : FVec Ideal Cert.MoeUpLastReferenceIdeal.S2x16x4096x1024 .f32)
    (hbe : ∀ b : Fin 96, (be (ix1 (⟨b.val, by omega⟩ : Fin 192))).toNat < 16) (i : Fin 24576) (n : Fin 1024) :
    times be x w (ix3 (⟨i.val / 256, by omega⟩ : Fin 96) (⟨i.val % 256, by omega⟩ : Fin 256) n) = sumOf be x w i n := by
  rw [times_sum]
  refine Finset.sum_congr rfl fun k _ => congrArg₂ (· * ·) ?_ ?_
  · exact numbers_apply x _ _ k i (by show i.val = 256 * (i.val / 256) + i.val % 256; omega)
  · exact chosen_apply be w _ k n (hbe _)

/-- Where every row block names an expert, the call's result is the reference's. -/
theorem result_eq (be : IVec Cert.MoeUpLastReferenceIdeal.S192 32) (x : IVec Cert.MoeUpLastReferenceIdeal.S24576x2048 32) (wg wu : FVec Ideal Cert.MoeUpLastReferenceIdeal.S2x16x4096x1024 .f32)
    (hbe : ∀ b : Fin 96, (be (ix1 (⟨b.val, by omega⟩ : Fin 192))).toNat < 16) :
    result be x wg wu = silu be (times be x wg) (times be x wu) := by
  funext j
  have e : j = ix2 (⟨(j 0).val, (j 0).isLt⟩ : Fin 24576) (⟨(j 1).val, (j 1).isLt⟩ : Fin 1024) := by
    funext a; fin_cases a <;> rfl
  refine Eq.trans ?_ (congrArg (silu _ _ _) e).symm
  rw [silu_apply, times_apply be x wg hbe, times_apply be x wu hbe]
  rfl

end Cert.MoeUpLastCall
-- ==== Proof.MoeUpLastPre.lean ====
module

public import proofs.«01_k».proof.Pre_experts_named_last
public import proofs.«01_k».proof.Proof.MoeUpPre
public import Idealize.ShloMosaic.Lib.Pointwise

@[expose] public section

noncomputable section

/-! # The last layer's routed experts' precondition: every row block names an expert -/

namespace Cert.MoeUpLastPre

open Cert.MoeUpPre (lt_of_between)
open Idealize.ShloMosaic Cert.Pre_experts_named_last

/-- The shape facts of the precondition. -/
instance facts : Cert.Pre_experts_named_last.Facts where
  slices_S192_S96_0 := by decide
  bcast_S_S96 := by decide

/-- Under the precondition every row block's word is below 16. -/
theorem named_lt {F : FTy → Type} [FloatOps F] (be : IVec S192 32) (x : IVec S24576x2048 32) (wg wu : FVec F S2x16x4096x1024 .f32)
    (h : fn (F := F) be x wg wu = fun _ => 1#1) (b : Fin 96) : (be (ix1 (⟨b.val, by omega⟩ : Fin 192))).toNat < 16 := by
  have hb := congrFun h (ix1 b)
  refine lt_of_between _ (Eq.trans ?_ hb)
  unfold fn
  symm
  pointwise

end Cert.MoeUpLastPre
-- ==== Proof.MoeUpLastIdealOk.lean ====
module

public import proofs.«01_k».proof.Proof.MoeUpLastPre
public import proofs.«01_k».proof.Proof.MoeUpLastIdealPoints

@[expose] public section

set_option maxRecDepth 16384

noncomputable section

/-! # Where every row block names an expert, the weights' blocks exist -/

namespace Cert.MoeUpLastIdeal.Run

open Cert.MoeUpLastIdeal.Gen
open Idealize.ShloMosaic Idealize.ShloMosaic.TcCoe Idealize.SL.Sem

variable {F : FTy → Type} [FloatOps F] (m : (ℓ : Loc nD τ sig) → Buf (Elt F) ℓ)

/-- The place a point reads its expert at is its row block. -/
theorem off1_eq (i : grid0.Coords) : k0_off1 i 0 = (i 1).val := by
  have key : ∀ n : Fin 96, (Scalar.indexCast (BitVec.ofNat 32 n.val)).toNat = n.val := by decide +kernel
  exact key ⟨(i 1).val, (i 1).isLt⟩

/-- The weights' block at any coordinates: the expert its row block names, the column block of the first coordinate. -/
theorem block_le (h : ∀ b : Fin 96, (entry 0 (tbl m 0) b.val).toNat < 16) (i : grid0.Coords) (a : Fin 4) :
    (cc0_transform_1 k0_off1_inb numel1_S1 (tbl m) i a + 1) * S1x1x4096x512.size a ≤ S2x16x4096x1024.size a := by
  have h1 : (i 1).val < 96 := (i 1).isLt
  have h0 : (i 0).val < 2 := (i 0).isLt
  have e1 : (word 0 (tbl m 0) (k0_off1 i) (k0_off1_inb i)).toNat = (entry 0 (tbl m 0) (i 1).val).toNat :=
    congrArg BitVec.toNat (word_eq 0 (tbl m 0) _ _ _ (off1_eq i))
  have hb := h ⟨(i 1).val, h1⟩
  have e2 : (BitVec.ofNat 32 (i 0).val).toNat = (i 0).val := by
    rw [BitVec.toNat_ofNat]; omega
  have e : cc0_transform_1 k0_off1_inb numel1_S1 (tbl m) i = ![1, (entry 0 (tbl m 0) (i 1).val).toNat, 0, (i 0).val] := by
    funext a
    fin_cases a
    · rfl
    · exact e1
    · rfl
    · exact e2
  rw [e]
  fin_cases a
  · show (1 + 1) * 1 ≤ 2
    omega
  · show ((entry 0 (tbl m 0) (i 1).val).toNat + 1) * 1 ≤ 16
    dsimp only at hb
    omega
  · show (0 + 1) * 4096 ≤ 4096
    omega
  · show ((i 0).val + 1) * 512 ≤ 1024
    omega

/-- Where every row block names an expert, every weights' block lies in its array. -/
theorem ok_of_named (h : ∀ b : Fin 96, (entry 0 (tbl m 0) b.val).toNat < 16) : Ok m :=
  ⟨fun i => ⟨block_le m h i, Or.inl rfl⟩, fun i => ⟨block_le m h i, Or.inl rfl⟩⟩

/-- Under the precondition every weights' block lies in its array. -/
theorem ok_of_pre (c : Dev nD)
    (h : Cert.Pre_experts_named_last.fn (F := F) (m ((c.tc : Thread nD τ).loc main_arg0)) (m ((c.tc : Thread nD τ).loc main_arg1)) (m ((c.tc : Thread nD τ).loc main_arg2)) (m ((c.tc : Thread nD τ).loc main_arg3)) = fun _ => 1#1) : Ok m := by
  obtain rfl : c = 0 := Subsingleton.elim _ _
  refine ok_of_named m fun b => ?_
  have hb := b.isLt
  have e : (⟨b.val % 192, Nat.mod_lt _ (by norm_num)⟩ : Fin 192) = (⟨b.val, by omega⟩ : Fin 192) := Fin.ext (Nat.mod_eq_of_lt (by omega))
  have hn := Cert.MoeUpLastPre.named_lt _ _ _ _ h b
  rw [← e] at hn
  exact hn

end Cert.MoeUpLastIdeal.Run

end
-- ==== Proof.OddCombineBlocks.lean ====
module

public import proofs.«01_k».proof.Proof.Gen.OddCombineIdeal.Value
public import proofs.«01_k».proof.Proof.Consts
public import proofs.«01_k».proof.Proof.HalfWords
public import Idealize.ShloMosaic.Lib.Pointwise
public import Idealize.ShloMosaic.Lib.Pipeline.ValueKit

@[expose] public section

set_option maxRecDepth 16384

noncomputable section

/-! # The end of the last layer's experts and the last norm: its result array from its operands -/

namespace Cert.OddCombineCall

open Cert.OddCombineIdeal Cert.OddCombineIdeal.Gen Cert.OddCombineIdeal.Value Idealize.ShloMosaic Idealize.ShloMosaic.TcCoe Idealize.SL.Sem
open Cert.HalfWords

theorem hz : (![0, 0] : Fin 2 → Nat) = fun _ => 0 := funext fun a => by fin_cases a <;> rfl

/-- The body leaves its payload of its blocks. -/
theorem out_eq (c : Dev nD) (i : grid0.Coords) (a3 : Memref sig .tc .vmem S256x1024 .bf16) (h3 : a3.IsWhole)
    (a4 : Memref sig .tc .vmem S1024x4096 .bf16) (h4 : a4.IsWhole)
    (a5 : Memref sig .tc .vmem S2x4096 .f32) (h5 : a5.IsWhole)
    (a6 : Memref sig .tc .vmem S1x4096 .f32) (h6 : a6.IsWhole)
    (a7 : Memref sig .tc .vmem S256x4096 .f32) (h7 : a7.IsWhole)
    (a8 : Memref sig .tc .vmem S256x2048 .i32) (h8 : a8.IsWhole)
    (a9 : Memref sig .tc .vmem S256x2048 .i32) (h9 : a9.IsWhole)
    (a10 : Memref sig .tc .vmem S256x128 .f32) (h10 : a10.IsWhole)
    (a11 : Memref sig .tc .vmem S256x128 .f32) (h11 : a11.IsWhole)
    (a12 : Memref sig .tc .vmem S256x4096 .f32) (h12 : a12.IsWhole)
    (a13 : Memref sig .tc .vmem S8x128 .f32) (h13 : a13.IsWhole)
   (x0 : Vec Ideal S256x1024 .bf16) (x1 : Vec Ideal S1024x4096 .bf16) (x2 : Vec Ideal S2x4096 .f32) (x3 : Vec Ideal S1x4096 .f32)
    (x4 : Vec Ideal S256x4096 .f32) (x5 x6 : Vec Ideal S256x2048 .i32) (x7 x8 : Vec Ideal S256x128 .f32) :
    out0_A_9 c i a3 h3 a4 h4 a5 h5 a6 h6 a7 h7 a8 h8 a9 h9 a10 h10 a11 h11 a12 h12 a13 h13 x0 x1 x2 x3 x4 x5 x6 x7 x8
      = k0_pay1 (k0_pay2 x0 x1) (k0_pay3 x3) x4 x6 (k0_pay4 x7) (k0_pay5 x8) (k0_pay6 i x2) (k0_pay7 x5) (k0_pay8 x5) := by
  unfold out0_A_9
  rw [View.read_writes_eq_canon _ _ _ (cover0_A_9 c i a3 h3 a4 h4 a5 h5 a6 h6 a7 h7 a8 h8 a9 h9 a10 h10 a11 h11 a12 h12 a13 h13 x0 x1 x2 x3 x4 x5 x6 x7 x8)]
  unfold kernelRun0_A
  dsimp only
  sl_unfold_words
  rw [View.canon_unit_zero hz]
  simp only [View.readAt_eq_ld, h3.read_unread, h4.read_unread, h5.read_unread, h6.read_unread, h7.read_unread,
    h8.read_unread, h9.read_unread, h10.read_unread, h11.read_unread,
    View.ld_unit_zero (S := S256x1024) hz, View.ld_unit_zero (S := S1024x4096) hz, View.ld_unit_zero (S := S2x4096) hz,
    View.ld_unit_zero (S := S1x4096) hz,
    View.ld_unit_zero (S := S256x4096) hz, View.ld_unit_zero (S := S256x2048) hz, View.ld_unit_zero (S := S256x128) hz]

/-- The selecting bit: no row lies before row 0. -/
theorem before (i r : ℕ) (hi : i < 32) (hr : r < 256) :
    IntOp.cmpi .slt (IntOp.addi (Scalar.muli (BitVec.ofNat 32 i) 256#32) (BitVec.ofNat 32 r)) 0#32 = 0#1 := by
  have hx : IntOp.addi (Scalar.muli (BitVec.ofNat 32 i) 256#32) (BitVec.ofNat 32 r) = BitVec.ofNat 32 (256 * i + r) := by
    show BitVec.ofNat 32 i * 256#32 + BitVec.ofNat 32 r = _
    refine BitVec.eq_of_toNat_eq ?_
    simp only [BitVec.toNat_add, BitVec.toNat_mul, BitVec.toNat_ofNat]
    omega
  rw [hx]
  show BitVec.ofBool (decide ((BitVec.ofNat 32 (256 * i + r)).toInt < (0#32 : BitVec 32).toInt)) = _
  have h1 : (BitVec.ofNat 32 (256 * i + r)).toInt = ((256 * i + r : ℕ) : ℤ) := by
    rw [BitVec.toInt_eq_toNat_cond, BitVec.toNat_ofNat, Nat.mod_eq_of_lt (by omega), if_pos (by omega)]
  have h2 : (0#32 : BitVec 32).toInt = 0 := by decide
  rw [h1, h2, decide_eq_false (by omega)]
  rfl

/-- A selection by that bit. -/
theorem select_before (i r : ℕ) (hi : i < 32) (hr : r < 256) (a b : EReal) :
    Scalar.select (IntOp.cmpi .slt (IntOp.addi (Scalar.muli (BitVec.ofNat 32 i) 256#32) (BitVec.ofNat 32 r)) 0#32) a b = b := by
  rw [before i r hi hr]
  rfl

/-- A shift by sixteen. -/
theorem shli_16 (w : BitVec 32) : IntOp.shli ArithUnit.vector w 16#32 = w <<< 16 := by
  unfold IntOp.shli
  rfl

/-- A block of words read as numbers: four tiles of 1024 columns side by side. -/
def tiles (w : Vec Ideal S256x2048 .i32) : FVec Ideal S256x4096 .f32 :=
  concatenate S256x4096 1 [⟨S256x1024, extractStridedSlice S256x1024 ![0, 0] (k0_pay7 w) slices_S256x2048_o0_0_S256x1024⟩,
    ⟨S256x1024, extractStridedSlice S256x1024 ![0, 0] (k0_pay8 w) slices_S256x2048_o0_0_S256x1024⟩,
    ⟨S256x1024, extractStridedSlice S256x1024 ![0, 1024] (k0_pay7 w) slices_S256x2048_o0_1024_S256x1024⟩,
    ⟨S256x1024, extractStridedSlice S256x1024 ![0, 1024] (k0_pay8 w) slices_S256x2048_o0_1024_S256x1024⟩]
    concatenates_S256x1024_S256x1024_S256x1024_S256x1024_S256x4096_d1

theorem tiles_apply (w : Vec Ideal S256x2048 .i32) (r : Fin 256) (n : Fin 4096) : tiles w (ix2 r n) = half (T := 256) w r n := by
  have hn := n.isLt
  unfold tiles k0_pay8 k0_pay7
  dsimp only
  pointwise
  by_cases h0 : n.val < 1024
  · refine (dif_pos h0).trans ((congrArg _ (shli_16 _)).trans (half_low w r n _ ?_ ?_)) <;> (try simp only) <;> omega
  · refine (dif_neg h0).trans ?_
    by_cases h1 : n.val - 1024 < 1024
    · refine (dif_pos h1).trans (half_high w r n _ ?_ ?_) <;> (try simp only) <;> omega
    · refine (dif_neg h1).trans ?_
      by_cases h2 : n.val - 1024 - 1024 < 1024
      · refine (dif_pos h2).trans ((congrArg _ (shli_16 _)).trans (half_low w r n _ ?_ ?_)) <;> (try simp only) <;> omega
      · refine (dif_neg h2).trans (half_high w r n _ ?_ ?_) <;> (try simp only) <;> omega

/-- What the body normalises: the residual plus the gated sum of the two weighted rows and the product. -/
def mixedBlock (i : grid0.Coords) (x0 : Vec Ideal S256x1024 .bf16) (x1 : Vec Ideal S1024x4096 .bf16) (x2 : Vec Ideal S2x4096 .f32)
    (x4 : Vec Ideal S256x4096 .f32) (x5 x6 : Vec Ideal S256x2048 .i32) (x7 x8 : Vec Ideal S256x128 .f32) : FVec Ideal S256x4096 .f32 :=
  addf x4 (mulf (k0_pay6 i x2) (addf (addf
    (mulf (tiles x5) (broadcastTo S256x4096 (extractStridedSlice S256x1 ![0, 0] (k0_pay4 x7) slices_S256x128_o0_0_S256x1) broadcasts_S256x1_S256x4096))
    (mulf (tiles x6) (broadcastTo S256x4096 (extractStridedSlice S256x1 ![0, 0] (k0_pay5 x8) slices_S256x128_o0_0_S256x1) broadcasts_S256x1_S256x4096)))
    (k0_pay2 x0 x1)))

theorem mixedBlock_apply (i : grid0.Coords) (x0 : Vec Ideal S256x1024 .bf16) (x1 : Vec Ideal S1024x4096 .bf16) (x2 : Vec Ideal S2x4096 .f32)
    (x4 : Vec Ideal S256x4096 .f32) (x5 x6 : Vec Ideal S256x2048 .i32) (x7 x8 : Vec Ideal S256x128 .f32) (r : Fin 256) (n : Fin 4096) :
    mixedBlock i x0 x1 x2 x4 x5 x6 x7 x8 (ix2 r n) = x4 (ix2 r n) + x2 (ix2 1 n)
        * ((half (T := 256) x5 r n * x7 (ix2 r 0) + half (T := 256) x6 r n * x8 (ix2 r 0)) + ∑ k : Fin 1024, x0 (ix2 r k) * x1 (ix2 k n)) := by
  unfold mixedBlock k0_pay6 k0_pay2 k0_pay4 k0_pay5
  dsimp only
  pointwise
  rw [select_before _ _ (i 0).isLt r.isLt, tiles_apply, tiles_apply]

/-- The norm of a row of the body's block, times the gain. -/
def normBlock (y : FVec Ideal S256x4096 .f32) (g : FVec Ideal S1x4096 .f32) : FVec Ideal S256x4096 .f32 :=
  mulf (mulf y (broadcastTo S256x4096 (rsqrt (addf (divf (shapeCast S256x1 (multiReduction .add [1] S256 (mulf y y) 0x00000000#32
    reduces_S256x4096_S256 (.inl rfl) rfl) shapeCasts_S256_S256x1) (broadcast S256x1 (Scalar.ofBits .f32 0x45800000#32)))
    (broadcast S256x1 (Scalar.ofBits .f32 0x358637BD#32)))) broadcasts_S256x1_S256x4096)) (broadcastTo S256x4096 g broadcasts_S1x4096_S256x4096)

/-- A number over the root of a mean square, times a gain. -/
def scaled (y s g : EReal) : EReal :=
  y * Ideal.rsqrt (Ideal.div s (Ideal.ofBits .f32 0x45800000#32) + Ideal.ofBits .f32 0x358637BD#32) * g

theorem normBlock_apply (y : FVec Ideal S256x4096 .f32) (g : FVec Ideal S1x4096 .f32) (r : Fin 256) (n : Fin 4096) :
    normBlock y g (ix2 r n) = scaled (y (ix2 r n)) (∑ k : Fin 4096, y (ix2 r k) * y (ix2 r k)) (g (ix2 0 n)) := by
  unfold normBlock scaled
  pointwise

/-- An entry of what the body leaves. -/
theorem pay_apply (i : grid0.Coords) (x0 : Vec Ideal S256x1024 .bf16) (x1 : Vec Ideal S1024x4096 .bf16) (x2 : Vec Ideal S2x4096 .f32) (x3 : Vec Ideal S1x4096 .f32)
    (x4 : Vec Ideal S256x4096 .f32) (x5 x6 : Vec Ideal S256x2048 .i32) (x7 x8 : Vec Ideal S256x128 .f32) (r : Fin 256) (n : Fin 4096) :
    k0_pay1 (k0_pay2 x0 x1) (k0_pay3 x3) x4 x6 (k0_pay4 x7) (k0_pay5 x8) (k0_pay6 i x2) (k0_pay7 x5) (k0_pay8 x5) (ix2 r n)
      = scaled (mixedBlock i x0 x1 x2 x4 x5 x6 x7 x8 (ix2 r n))
          (∑ k : Fin 4096, mixedBlock i x0 x1 x2 x4 x5 x6 x7 x8 (ix2 r k) * mixedBlock i x0 x1 x2 x4 x5 x6 x7 x8 (ix2 r k)) (x3 (ix2 0 n)) := by
  have e : k0_pay1 (k0_pay2 x0 x1) (k0_pay3 x3) x4 x6 (k0_pay4 x7) (k0_pay5 x8) (k0_pay6 i x2) (k0_pay7 x5) (k0_pay8 x5)
      = normBlock (mixedBlock i x0 x1 x2 x4 x5 x6 x7 x8) (k0_pay3 x3) := rfl
  rw [e, normBlock_apply]
  unfold k0_pay3
  pointwise

/-- An entry before the norm, from whole operands: the residual plus the gated sum of the two weighted rows and the product. -/
def mixed (A : FVec Ideal S8192x1024 .bf16) (W : FVec Ideal S1024x4096 .bf16) (g : FVec Ideal S2x4096 .f32)
    (x : FVec Ideal S8192x4096 .f32) (r0 r1 : IVec S8192x2048 32) (w0 w1 : FVec Ideal S8192x128 .f32) (i : Fin 8192) (n : Fin 4096) : EReal :=
  x (ix2 i n) + g (ix2 1 n)
    * ((half (T := 8192) r0 i n * w0 (ix2 i 0) + half (T := 8192) r1 i n * w1 (ix2 i 0)) + ∑ k : Fin 1024, A (ix2 i k) * W (ix2 k n))

/-- The result from whole operands: each row over the root of its mean square, times the gain. -/
def result (A : FVec Ideal S8192x1024 .bf16) (W : FVec Ideal S1024x4096 .bf16) (g : FVec Ideal S2x4096 .f32) (fg : FVec Ideal S1x4096 .f32)
    (x : FVec Ideal S8192x4096 .f32) (r0 r1 : IVec S8192x2048 32) (w0 w1 : FVec Ideal S8192x128 .f32) : FVec Ideal S8192x4096 .f32 := fun i =>
  scaled (mixed A W g x r0 r1 w0 w1 (⟨(i 0).val, (i 0).isLt⟩ : Fin 8192) (⟨(i 1).val, (i 1).isLt⟩ : Fin 4096))
    (∑ k : Fin 4096, mixed A W g x r0 r1 w0 w1 (⟨(i 0).val, (i 0).isLt⟩ : Fin 8192) k * mixed A W g x r0 r1 w0 w1 (⟨(i 0).val, (i 0).isLt⟩ : Fin 8192) k)
    (fg (ix2 0 (⟨(i 1).val, (i 1).isLt⟩ : Fin 4096)))

/-- The index maps: point `t` is row block `t`. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_9.flush t = true :=
  (by decide +kernel : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_9.flush t = true)

theorem lt_N (t : Fin cfg0.N) : t.val < 32 := lt_of_lt_of_eq t.isLt N_0

/-- Row `y` of row block `i`. -/
def row (i : ℕ) (y : ℕ) : Fin 8192 := ⟨(256 * i + y) % 8192, Nat.mod_lt _ (by norm_num)⟩

/-- Row block `i` of the left operand. -/
def rowsOf (A : FVec Ideal S8192x1024 .bf16) (i : ℕ) : FVec Ideal S256x1024 .bf16 := fun y => A (ix2 (row i (y 0).val) (y 1))

/-- Row block `i` of the residual. -/
def blockOf (x : FVec Ideal S8192x4096 .f32) (i : ℕ) : FVec Ideal S256x4096 .f32 := fun y => x (ix2 (row i (y 0).val) (y 1))

/-- Row block `i` of an array of words. -/
def wordsOf (w : IVec S8192x2048 32) (i : ℕ) : IVec S256x2048 32 := fun y => w (ix2 (row i (y 0).val) (y 1))

/-- Row block `i` of an array of row weights. -/
def weightsOf (w : FVec Ideal S8192x128 .f32) (i : ℕ) : FVec Ideal S256x128 .f32 := fun y => w (ix2 (row i (y 0).val) (y 1))

variable (m : (ℓ : Loc nD τ sig) → Buf (Elt Ideal) ℓ)

theorem iblk0_eq (c : Dev nD) (t : Fin cfg0.N) : iblk m c 0 t = rowsOf (V m c main_arg0) t.val := by
  funext y
  have := lt_N t
  unfold rowsOf row
  blk_ext [iblk, idx t]

theorem iblk1_eq (c : Dev nD) (t : Fin cfg0.N) : iblk m c 1 t = V m c main_v9 := by
  funext y
  blk_ext [iblk, idx t]

theorem iblk2_eq (c : Dev nD) (t : Fin cfg0.N) : iblk m c 2 t = V m c main_v5 := by
  funext y
  blk_ext [iblk, idx t]

theorem iblk3_eq (c : Dev nD) (t : Fin cfg0.N) : iblk m c 3 t = V m c main_v6 := by
  funext y
  blk_ext [iblk, idx t]

theorem iblk4_eq (c : Dev nD) (t : Fin cfg0.N) : iblk m c 4 t = blockOf (V m c main_arg3) t.val := by
  funext y
  have := lt_N t
  unfold blockOf row
  blk_ext [iblk, idx t]

theorem iblk5_eq (c : Dev nD) (t : Fin cfg0.N) : iblk m c 5 t = wordsOf (V m c main_arg4) t.val := by
  funext y
  have := lt_N t
  unfold wordsOf row
  blk_ext [iblk, idx t]

theorem iblk6_eq (c : Dev nD) (t : Fin cfg0.N) : iblk m c 6 t = wordsOf (V m c main_arg5) t.val := by
  funext y
  have := lt_N t
  unfold wordsOf row
  blk_ext [iblk, idx t]

theorem iblk7_eq (c : Dev nD) (t : Fin cfg0.N) : iblk m c 7 t = weightsOf (V m c main_v1) t.val := by
  funext y
  have := lt_N t
  unfold weightsOf row
  blk_ext [iblk, idx t]

theorem iblk8_eq (c : Dev nD) (t : Fin cfg0.N) : iblk m c 8 t = weightsOf (V m c main_v3) t.val := by
  funext y
  have := lt_N t
  unfold weightsOf row
  blk_ext [iblk, idx t]

/-- A row of the block the body normalises is the row before the norm. -/
theorem mixedBlock_eq (c : Dev nD) (t : Fin cfg0.N) (i : grid0.Coords) (r : Fin 256) (n : Fin 4096) :
    mixedBlock i (rowsOf (V m c main_arg0) t.val) (V m c main_v9) (V m c main_v5) (blockOf (V m c main_arg3) t.val) (wordsOf (V m c main_arg4) t.val)
      (wordsOf (V m c main_arg5) t.val) (weightsOf (V m c main_v1) t.val) (weightsOf (V m c main_v3) t.val) (ix2 r n)
      = mixed (V m c main_arg0) (V m c main_v9) (V m c main_v5) (V m c main_arg3) (V m c main_arg4) (V m c main_arg5) (V m c main_v1) (V m c main_v3) (row t.val r.val) n := by
  rw [mixedBlock_apply]
  rfl

/-- What point `t` writes back is its block of the whole result. -/
theorem flushed_eq (c : Dev nD) (t : Fin cfg0.N) :
    (dats m 0 c).flushed 9 t = ((cfg0.win 9).blk t).view.read (Elt Ideal)
      (result (V m c main_arg0) (V m c main_v9) (V m c main_v5) (V m c main_v6) (V m c main_arg3) (V m c main_arg4) (V m c main_arg5) (V m c main_v1) (V m c main_v3)) := by
  rw [flushed9_A, out_eq, iblk0_eq, iblk1_eq, iblk2_eq, iblk3_eq, iblk4_eq, iblk5_eq, iblk6_eq, iblk7_eq, iblk8_eq]
  have ht := lt_N t
  have hidx := (idx t).2.2.2.2.2.2.2.2.2.1
  funext y
  have hy0 : (y 0).val < 256 := (y 0).isLt
  have hy1 : (y 1).val < 4096 := (y 1).isLt
  have hb0 : (((cfg0.win 9).blk t).view.emb y 0).val = win0_9.index t (0 : Fin 2) * 256 + 1 * (y 0).val := rfl
  have hb1 : (((cfg0.win 9).blk t).view.emb y 1).val = win0_9.index t (1 : Fin 2) * 4096 + 1 * (y 1).val := rfl
  rw [hidx] at hb0 hb1
  have hb0 : (((cfg0.win 9).blk t).view.emb y 0).val = t.val * 256 + 1 * (y 0).val := hb0
  have hb1 : (((cfg0.win 9).blk t).view.emb y 1).val = 0 * 4096 + 1 * (y 1).val := hb1
  have e : (cfg0.win 9).xinj (grid0.coords t) y = ix2 (⟨(y 0).val, hy0⟩ : Fin 256) (⟨(y 1).val, hy1⟩ : Fin 4096) := by
    funext a; fin_cases a <;> rfl
  show k0_pay1 _ _ _ _ _ _ _ _ _ ((cfg0.win 9).xinj (grid0.coords t) y) = result _ _ _ _ _ _ _ _ _ (((cfg0.win 9).blk t).view.emb y)
  have er : row t.val (y 0).val = ⟨(((cfg0.win 9).blk t).view.emb y 0).val, (((cfg0.win 9).blk t).view.emb y 0).isLt⟩ :=
    Fin.ext (show (256 * t.val + (y 0).val) % 8192 = (((cfg0.win 9).blk t).view.emb y 0).val by rw [hb0]; omega)
  have es : (⟨(y 1).val, hy1⟩ : Fin 4096) = ⟨(((cfg0.win 9).blk t).view.emb y 1).val, (((cfg0.win 9).blk t).view.emb y 1).isLt⟩ :=
    Fin.ext (show (y 1).val = (((cfg0.win 9).blk t).view.emb y 1).val by rw [hb1]; omega)
  rw [e, pay_apply]
  unfold result
  rw [← er, ← es]
  refine congrArg₂ (fun a s => scaled a s _) (mixedBlock_eq m c t _ _ _) (Finset.sum_congr rfl fun k _ => ?_)
  exact congrArg₂ (· * ·) (mixedBlock_eq m c t _ _ _) (mixedBlock_eq m c t _ _ _)

theorem mem_blk (t : Fin cfg0.N) (i : S8192x4096.Idx) :
    i ∈ ((cfg0.win 9).blk t).view.set ↔ ∀ a : Fin 2, win0_9.index t a * S256x4096.size a ≤ (i a).val ∧ (i a).val < win0_9.index t a * S256x4096.size a + S256x4096.size a := by
  show i ∈ ((View.whole main_v10).slice (win0_9.rect t)).set ↔ _
  rw [View.set_slice_whole, Rect.mem_set_unit]
  exact Iff.rfl

/-- The result array after the run, from the operands. -/
theorem final (c : Dev nD) : (dats m 0 c).arrAt 9 cfg0.N
    = result (V m c main_arg0) (V m c main_v9) (V m c main_v5) (V m c main_v6) (V m c main_arg3) (V m c main_arg4) (V m c main_arg5) (V m c main_v1) (V m c main_v3) :=
  (dats m 0 c).arrAt_eq_of_cover 9 _ (fun t _ => flushed_eq m c t) fun i => by
    have h0 : (i 0).val < 8192 := (i 0).isLt
    have h1 : (i 1).val < 4096 := (i 1).isLt
    have hN : (i 0).val / 256 < cfg0.N := by
      rw [show cfg0.N = 32 from N_0]; omega
    have hx := idx ⟨(i 0).val / 256, hN⟩
    refine ⟨⟨_, hN⟩, hx.2.2.2.2.2.2.2.2.2.2, (mem_blk _ _).2 fun a => ?_⟩
    rw [hx.2.2.2.2.2.2.2.2.2.1]
    fin_cases a
    · show (i 0).val / 256 * 256 ≤ (i 0).val ∧ (i 0).val < (i 0).val / 256 * 256 + 256
      omega
    · show 0 * 4096 ≤ (i 1).val ∧ (i 1).val < 0 * 4096 + 4096
      omega

end Cert.OddCombineCall
-- ==== Proof.OddCombineEquation.lean ====
module

public import proofs.«01_k».proof.Proof.OddCombineBlocks
public import proofs.«01_k».proof.Proof.Gen.OddCombineReferenceIdeal.Run

@[expose] public section

set_option maxRecDepth 16384

noncomputable section

/-! # The end of the last layer's experts and the last norm: the reference's result, and that the two agree -/

namespace Cert.OddCombineCall

section Operands

open Cert.OddCombineIdeal Cert.OddCombineIdeal.Gen Idealize.ShloMosaic Idealize.ShloMosaic.TcCoe Idealize.SL.Sem

/-- The gates, cut from the modulation before the call. -/
def gates (md : FVec Ideal S2x6x4096 .f32) : FVec Ideal S2x4096 .f32 :=
  shapeCast _ (extractStridedSlice S2x1x4096 ![0, 5, 0] md slices_S2x6x4096_S2x1x4096_0_5_0) shapeCasts_S2x1x4096_S2x4096

theorem gates_apply (md : FVec Ideal S2x6x4096 .f32) (a : Fin 2) (n : Fin 4096) : gates md (ix2 a n) = md (ix3 a 5 n) := by
  unfold gates
  pointwise

/-- The layer's weights. -/
def weights (sd : FVec Ideal S2x1024x4096 .f32) : FVec Ideal S1024x4096 .f32 :=
  shapeCast _ (extractStridedSlice S1x1024x4096 ![1, 0, 0] sd slices_S2x1024x4096_S1x1024x4096_1_0_0) shapeCasts_S1x1024x4096_S1024x4096

theorem weights_apply (sd : FVec Ideal S2x1024x4096 .f32) (k : Fin 1024) (n : Fin 4096) : weights sd (ix2 k n) = sd (ix3 1 k n) := by
  unfold weights
  pointwise

/-- The first expert's row weights, one column repeated. -/
def first (w : FVec Ideal S8192x2 .f32) : FVec Ideal S8192x128 .f32 :=
  broadcastInDim S8192x128 ![0, 1] bcast_S8192x1_S8192x128_0_1 (extractStridedSlice S8192x1 ![0, 0] w slices_S8192x2_S8192x1_0_0)

theorem first_apply (w : FVec Ideal S8192x2 .f32) (r : Fin 8192) (n : Fin 128) : first w (ix2 r n) = w (ix2 r 0) := by
  unfold first
  pointwise

/-- The second expert's. -/
def second (w : FVec Ideal S8192x2 .f32) : FVec Ideal S8192x128 .f32 :=
  broadcastInDim S8192x128 ![0, 1] bcast_S8192x1_S8192x128_0_1 (extractStridedSlice S8192x1 ![0, 1] w slices_S8192x2_S8192x1_0_1)

theorem second_apply (w : FVec Ideal S8192x2 .f32) (r : Fin 8192) (n : Fin 128) : second w (ix2 r n) = w (ix2 r 1) := by
  unfold second
  pointwise

variable (m : (ℓ : Loc nD τ sig) → Buf (Elt Ideal) ℓ) (c : Dev nD)

theorem V_gates : V m c main_v5 = gates (m ((c : Thread nD τ).loc main_arg2)) := by
  unfold gates
  simp only [V, hostOps0, List.flatten_cons, List.flatten_nil, List.append_nil, List.cons_append, List.nil_append]
  after_results <;> rfl

theorem V_weights : V m c main_v9 = weights (m ((c : Thread nD τ).loc main_arg1)) := by
  unfold weights
  simp only [V, hostOps0, List.flatten_cons, List.flatten_nil, List.append_nil, List.cons_append, List.nil_append]
  after_results <;> rfl

theorem V_first : V m c main_v1 = first (m ((c : Thread nD τ).loc main_arg6)) := by
  unfold first
  simp only [V, hostOps0, List.flatten_cons, List.flatten_nil, List.append_nil, List.cons_append, List.nil_append]
  after_results <;> rfl

theorem V_second : V m c main_v3 = second (m ((c : Thread nD τ).loc main_arg6)) := by
  unfold second
  simp only [V, hostOps0, List.flatten_cons, List.flatten_nil, List.append_nil, List.cons_append, List.nil_append]
  after_results <;> rfl

/-- The gain as one row. -/
def gain (g : FVec Ideal S4096 .f32) : FVec Ideal S1x4096 .f32 := shapeCast _ g shapeCasts_S4096_S1x4096

theorem gain_apply (g : FVec Ideal S4096 .f32) (n : Fin 4096) : gain g (ix2 0 n) = g (ix1 n) := by
  unfold gain
  pointwise

theorem V_gain : V m c main_v6 = gain (m ((c : Thread nD τ).loc main_arg7)) := by
  unfold gain
  simp only [V, hostOps0, List.flatten_cons, List.flatten_nil, List.append_nil, List.cons_append, List.nil_append]
  after_results <;> rfl

end Operands

section Reference

open Cert.OddCombineReferenceIdeal Cert.OddCombineReferenceIdeal.Gen Cert.OddCombineReferenceIdeal.Value Idealize.ShloMosaic Idealize.ShloMosaic.TcCoe Idealize.SL.Sem
open Cert.HalfWords

/-- The reference's numbers in rows of words. -/
def numbers (w : IVec S8192x2048 32) : FVec Ideal S8192x4096 .f32 :=
  extf .f32 (shapeCast _ (transpose S8192x2x2x1024 [0, 1, 3, 2] (shapeCast _ (bitcastToFloat (F := Ideal) .bf16 (Host.bitcastConvertNarrow S8192x2048x2 16 w splits_S8192x2048_w32_S8192x2048x2_w16)) shapeCasts_S8192x2048x2_S8192x2x1024x2) transposes_S8192x2x1024x2_S8192x2x2x1024_0_1_3_2) shapeCasts_S8192x2x2x1024_S8192x4096) bitsLt_bf16_f32

theorem numbers_apply (w : IVec S8192x2048 32) (r : Fin 8192) (n : Fin 4096) : numbers w (ix2 r n) = half (T := 8192) w r n := by
  have hn := n.isLt
  unfold numbers
  pointwise
  unfold half
  refine congrArg (fun q => Ideal.ofBits .bf16 (BitVec.extractLsb' (n.val / 1024 % 2 * 16) 16 (w q))) ?_
  funext a
  fin_cases a
  · rfl
  · exact Fin.ext (show n.val / 2048 * 1024 + n.val % 1024 = (n.val / 2048 * 1024 + n.val % 1024) % 2048 by omega)

/-- The reference's sum of the experts: the two routed rows times their weights, plus the shared expert's product. -/
def sums (A : FVec Ideal S8192x1024 .bf16) (sd : FVec Ideal S2x1024x4096 .f32) (r0 r1 : IVec S8192x2048 32) (w : FVec Ideal S8192x2 .f32) : FVec Ideal S8192x4096 .f32 :=
  addf (addf (mulf (numbers r0) (broadcastInDim S8192x4096 ![0, 1] bcast_S8192x1_S8192x4096_0_1 (extractStridedSlice S8192x1 ![0, 0] w slices_S8192x2_S8192x1_0_0)))
    (mulf (numbers r1) (broadcastInDim S8192x4096 ![0, 1] bcast_S8192x1_S8192x4096_0_1 (extractStridedSlice S8192x1 ![0, 1] w slices_S8192x2_S8192x1_0_1))))
    (Host.dotGeneral dot_S8192x1024_S1024x4096_S8192x4096_1_0_0_1_n_n none (extf .f32 A bitsLt_bf16_f32)
      (shapeCast _ (extractStridedSlice S1x1024x4096 ![1, 0, 0] sd slices_S2x1024x4096_S1x1024x4096_1_0_0) shapeCasts_S1x1024x4096_S1024x4096))

theorem sums_apply (A : FVec Ideal S8192x1024 .bf16) (sd : FVec Ideal S2x1024x4096 .f32) (r0 r1 : IVec S8192x2048 32) (w : FVec Ideal S8192x2 .f32)
    (i : Fin 8192) (n : Fin 4096) : sums A sd r0 r1 w (ix2 i n)
      = (half (T := 8192) r0 i n * w (ix2 i 0) + half (T := 8192) r1 i n * w (ix2 i 1)) + ∑ k : Fin 1024, A (ix2 i k) * sd (ix3 1 k n) := by
  unfold sums
  pointwise
  rw [numbers_apply, numbers_apply]

/-- The reference's rows before the norm, from the experts' sum: the residual plus the gate times the sum. -/
def gated (P : FVec Ideal S8192x4096 .f32) (md : FVec Ideal S2x6x4096 .f32) (x : FVec Ideal S8192x4096 .f32) : FVec Ideal S8192x4096 .f32 :=
  addf x (mulf (broadcastInDim S8192x4096 ![0, 1] bcast_S1x4096_S8192x4096_0_1 (broadcastInDim S1x4096 ![1] bcast_S4096_S1x4096_1 (shapeCast _ (extractStridedSlice S1x1x4096 ![1, 5, 0] md slices_S2x6x4096_S1x1x4096_1_5_0) shapeCasts_S1x1x4096_S4096))) P)

theorem gated_apply (P : FVec Ideal S8192x4096 .f32) (md : FVec Ideal S2x6x4096 .f32) (x : FVec Ideal S8192x4096 .f32)
    (i : Fin 8192) (n : Fin 4096) : gated P md x (ix2 i n) = x (ix2 i n) + md (ix3 1 5 n) * P (ix2 i n) := by
  unfold gated
  pointwise

/-- The reference's norm. -/
def norm (y : FVec Ideal S8192x4096 .f32) (g : FVec Ideal S4096 .f32) : FVec Ideal S8192x4096 .f32 :=
  mulf (mulf y (broadcastInDim S8192x4096 ![0, 1] bcast_S8192x1_S8192x4096_0_1 (Host.rsqrt (addf (Host.divf (broadcastInDim S8192x1 ![0] bcast_S8192_S8192x1_0 (Host.reduceAdd (mulf y y) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))

theorem norm_apply (y : FVec Ideal S8192x4096 .f32) (g : FVec Ideal S4096 .f32) (i : Fin 8192) (n : Fin 4096) :
    norm y g (ix2 i n) = scaled (y (ix2 i n)) (∑ k : Fin 4096, y (ix2 i k) * y (ix2 i k)) (g (ix1 n)) := by
  unfold norm scaled
  pointwise

/-- The reference's result is these. -/
theorem res_eq (m : (ℓ : Loc nD τ sig) → Buf (Elt Ideal) ℓ) (c : Dev nD) :
    res_out0 m c = norm (gated (sums (m ((c.tc : Thread nD τ).loc main_arg0)) (m ((c.tc : Thread nD τ).loc main_arg1))
      (m ((c.tc : Thread nD τ).loc main_arg4)) (m ((c.tc : Thread nD τ).loc main_arg5)) (m ((c.tc : Thread nD τ).loc main_arg6)))
      (m ((c.tc : Thread nD τ).loc main_arg2)) (m ((c.tc : Thread nD τ).loc main_arg3))) (m ((c.tc : Thread nD τ).loc main_arg7)) := rfl

end Reference

open Idealize.ShloMosaic Idealize.ShloMosaic.TcCoe

/-- The call's result array is the reference's. -/
theorem value_eq (m : (ℓ : Loc Cert.OddCombineIdeal.nD Cert.OddCombineIdeal.τ Cert.OddCombineIdeal.sig) → Buf (Elt Ideal) ℓ)
    (c : Dev Cert.OddCombineIdeal.nD) :
    (Cert.OddCombineIdeal.Gen.dats m 0 c).arrAt 9 Cert.OddCombineIdeal.cfg0.N
      = norm (gated (sums (m ((c.tc : Thread _ _).loc Cert.OddCombineIdeal.main_arg0)) (m ((c.tc : Thread _ _).loc Cert.OddCombineIdeal.main_arg1))
          (m ((c.tc : Thread _ _).loc Cert.OddCombineIdeal.main_arg4)) (m ((c.tc : Thread _ _).loc Cert.OddCombineIdeal.main_arg5))
          (m ((c.tc : Thread _ _).loc Cert.OddCombineIdeal.main_arg6))) (m ((c.tc : Thread _ _).loc Cert.OddCombineIdeal.main_arg2))
          (m ((c.tc : Thread _ _).loc Cert.OddCombineIdeal.main_arg3))) (m ((c.tc : Thread _ _).loc Cert.OddCombineIdeal.main_arg7)) := by
  rw [final, Cert.OddCombineIdeal.Gen.V_main_arg0, Cert.OddCombineIdeal.Gen.V_main_arg3, Cert.OddCombineIdeal.Gen.V_main_arg4,
    Cert.OddCombineIdeal.Gen.V_main_arg5, V_gates, V_weights, V_first, V_second, V_gain]
  funext x
  have e : x = ix2 (⟨(x 0).val, (x 0).isLt⟩ : Fin 8192) (⟨(x 1).val, (x 1).isLt⟩ : Fin 4096) := by
    funext a; fin_cases a <;> rfl
  refine Eq.trans ?_ (congrArg (norm _ _) e).symm
  rw [norm_apply]
  unfold result
  have h : ∀ n : Fin 4096, mixed (m ((c.tc : Thread _ _).loc Cert.OddCombineIdeal.main_arg0)) (weights (m ((c.tc : Thread _ _).loc Cert.OddCombineIdeal.main_arg1)))
      (gates (m ((c.tc : Thread _ _).loc Cert.OddCombineIdeal.main_arg2))) (m ((c.tc : Thread _ _).loc Cert.OddCombineIdeal.main_arg3))
      (m ((c.tc : Thread _ _).loc Cert.OddCombineIdeal.main_arg4)) (m ((c.tc : Thread _ _).loc Cert.OddCombineIdeal.main_arg5))
      (first (m ((c.tc : Thread _ _).loc Cert.OddCombineIdeal.main_arg6))) (second (m ((c.tc : Thread _ _).loc Cert.OddCombineIdeal.main_arg6)))
      (⟨(x 0).val, (x 0).isLt⟩ : Fin 8192) n
      = gated (sums (m ((c.tc : Thread _ _).loc Cert.OddCombineIdeal.main_arg0)) (m ((c.tc : Thread _ _).loc Cert.OddCombineIdeal.main_arg1))
          (m ((c.tc : Thread _ _).loc Cert.OddCombineIdeal.main_arg4)) (m ((c.tc : Thread _ _).loc Cert.OddCombineIdeal.main_arg5))
          (m ((c.tc : Thread _ _).loc Cert.OddCombineIdeal.main_arg6))) (m ((c.tc : Thread _ _).loc Cert.OddCombineIdeal.main_arg2))
          (m ((c.tc : Thread _ _).loc Cert.OddCombineIdeal.main_arg3)) (ix2 (⟨(x 0).val, (x 0).isLt⟩ : Fin 8192) n) := fun n => by
    rw [gated_apply, sums_apply]
    unfold mixed
    rw [gates_apply, first_apply, second_apply]
    refine congrArg₂ (· + ·) rfl (congrArg₂ (· * ·) rfl (congrArg₂ (· + ·) rfl (Finset.sum_congr rfl fun k _ => ?_)))
    rw [weights_apply]
  rw [gain_apply]
  exact congrArg₂ (fun a s => scaled a s _) (h _) (Finset.sum_congr rfl fun k _ => congrArg₂ (· * ·) (h k) (h k))

end Cert.OddCombineCall
-- ==== Proof.Pre.lean ====
module

public import proofs.«01_k».proof.Pre_finite
public import proofs.«01_k».proof.Pre_finite_odd_in
public import proofs.«01_k».proof.Pre_finite_uq
public import proofs.«01_k».proof.Proof.Consts
public import Idealize.ShloMosaic.Lib.Pointwise

@[expose] public section

set_option maxRecDepth 16384

noncomputable section

/-! # The preconditions: every entry is a real -/

namespace Cert.Pre

open Idealize.ShloMosaic Cert.Pre_finite

/-- The shape facts of the attention's precondition. -/
instance facts : Cert.Pre_finite.Facts where
  bitsLt_bf16_f32 := by decide
  bcast_S_S8192x4096 := by decide
  bcast_S_S8448x4096 := by decide
  bcast_S_S8448x128 := by decide

/-- An entry whose absolute value compares below infinity is a real. -/
theorem real_of_lt (x y : EReal) (hy : y = Ideal.ofBits .f32 0x7F800000#32)
    (h : Ideal.cmp .olt (max (x : EReal) (-x)) y = 1#1) : ∃ r : ℝ, x = ((r : ℝ) : EReal) := by
  rw [hy, Consts.posInf] at h
  refine Consts.real_of_abs_lt ?_ ?_
  · rintro rfl
    revert h
    simp [Ideal.cmp]
  · rintro rfl
    revert h
    simp [Ideal.cmp]

/-- Under the precondition every entry of the three arrays is a real. -/
theorem real (Q : FVec Ideal S8192x4096 .bf16) (KV : FVec Ideal S8448x4096 .bf16) (KR : FVec Ideal S8448x128 .bf16)
    (h0 : (fn (F := Ideal) Q KV KR).1 = fun _ => 1#1) (h1 : (fn (F := Ideal) Q KV KR).2.1 = fun _ => 1#1)
    (h2 : (fn (F := Ideal) Q KV KR).2.2 = fun _ => 1#1) :
    (∀ j, ∃ r : ℝ, Q j = ((r : ℝ) : EReal)) ∧ (∀ j, ∃ r : ℝ, KV j = ((r : ℝ) : EReal)) ∧ ∀ j, ∃ r : ℝ, KR j = ((r : ℝ) : EReal) :=
  ⟨fun j => real_of_lt _ _ rfl (congrFun h0 j), fun j => real_of_lt _ _ rfl (congrFun h1 j),
    fun j => real_of_lt _ _ rfl (congrFun h2 j)⟩

/-- The shape facts of the precondition of the odd layers' input projection. -/
instance facts_finite_odd_in : Cert.Pre_finite_odd_in.Facts where
  bitsLt_bf16_f32 := by decide
  bcast_S_S8448x4096 := by decide
  bcast_S_S4096x3648 := by decide

/-- Under the precondition of the odd layers' input projection every entry of the two arrays is a real. -/
theorem real_finite_odd_in (A : FVec Ideal Cert.Pre_finite_odd_in.S8448x4096 .bf16) (B : FVec Ideal Cert.Pre_finite_odd_in.S4096x3648 .f32)
    (h0 : (Cert.Pre_finite_odd_in.fn (F := Ideal) A B).1 = fun _ => 1#1) (h1 : (Cert.Pre_finite_odd_in.fn (F := Ideal) A B).2 = fun _ => 1#1) :
    (∀ j, ∃ r : ℝ, A j = ((r : ℝ) : EReal)) ∧ ∀ j, ∃ r : ℝ, B j = ((r : ℝ) : EReal) :=
  ⟨fun j => real_of_lt _ _ rfl (congrFun h0 j), fun j => real_of_lt _ _ rfl (congrFun h1 j)⟩

/-- The shape facts of the precondition of the query up-projection. -/
instance facts_finite_uq : Cert.Pre_finite_uq.Facts where
  bitsLt_bf16_f32 := by decide
  bcast_S_S8448x1024 := by decide
  bcast_S_S1024x3072 := by decide

/-- Under the precondition of the query up-projection every entry of the two arrays is a real. -/
theorem real_finite_uq (A : FVec Ideal Cert.Pre_finite_uq.S8448x1024 .bf16) (B : FVec Ideal Cert.Pre_finite_uq.S1024x3072 .f32)
    (h0 : (Cert.Pre_finite_uq.fn (F := Ideal) A B).1 = fun _ => 1#1) (h1 : (Cert.Pre_finite_uq.fn (F := Ideal) A B).2 = fun _ => 1#1) :
    (∀ j, ∃ r : ℝ, A j = ((r : ℝ) : EReal)) ∧ ∀ j, ∃ r : ℝ, B j = ((r : ℝ) : EReal) :=
  ⟨fun j => real_of_lt _ _ rfl (congrFun h0 j), fun j => real_of_lt _ _ rfl (congrFun h1 j)⟩

end Cert.Pre
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.EvenInIdeal.Value
public import proofs.«01_k».proof.Proof.Gen.EvenInReferenceIdeal.Run
public import proofs.«01_k».proof.Proof.Gen.EvenOutIdeal.Value
public import proofs.«01_k».proof.Proof.Gen.EvenOutReferenceIdeal.Run
public import proofs.«01_k».proof.Proof.Gen.OddInIdeal.Value
public import proofs.«01_k».proof.Proof.Gen.OddInReferenceIdeal.Run
public import proofs.«01_k».proof.Proof.Gen.OddOutIdeal.Value
public import proofs.«01_k».proof.Proof.Gen.OddOutReferenceIdeal.Run
public import proofs.«01_k».proof.Proof.Gen.UqIdeal.Value
public import proofs.«01_k».proof.Proof.Gen.UqReferenceIdeal.Run
public import proofs.«01_k».proof.Proof.Gen.UkvIdeal.Value
public import proofs.«01_k».proof.Proof.Gen.UkvReferenceIdeal.Run
public import proofs.«01_k».proof.Proof.Gen.SharedUpIdeal.Value
public import proofs.«01_k».proof.Proof.Gen.SharedUpReferenceIdeal.Run
public import proofs.«01_k».proof.Proof.Gen.EvenCombineIdeal.Value
public import proofs.«01_k».proof.Proof.Gen.EvenCombineReferenceIdeal.Run
public import proofs.«01_k».proof.Proof.Gen.OddCombineIdeal.Value
public import proofs.«01_k».proof.Proof.Gen.OddCombineReferenceIdeal.Run
public import proofs.«01_k».proof.Proof.Gen.MoeUpReferenceIdeal.Run
public import proofs.«01_k».proof.Proof.Gen.MoeUp.Launch
public import proofs.«01_k».proof.Proof.Gen.MoeUp.Skeleton
public import proofs.«01_k».proof.Proof.Gen.MoeUpIdeal.Launch
public import proofs.«01_k».proof.Proof.Gen.MoeUpIdeal.Skeleton
public import proofs.«01_k».proof.Proof.Gen.SharedUpLastIdeal.Value
public import proofs.«01_k».proof.Proof.Gen.SharedUpLastReferenceIdeal.Run
public import proofs.«01_k».proof.Proof.Gen.MoeUpLastReferenceIdeal.Run
public import proofs.«01_k».proof.Proof.Gen.MoeUpLast.Launch
public import proofs.«01_k».proof.Proof.Gen.MoeUpLast.Skeleton
public import proofs.«01_k».proof.Proof.Gen.MoeUpLastIdeal.Launch
public import proofs.«01_k».proof.Proof.Gen.MoeUpLastIdeal.Skeleton

public import proofs.«01_k».proof.Proof.Gen.EvenIn.Frame
public import proofs.«01_k».proof.Proof.Gen.EvenOut.Frame
public import proofs.«01_k».proof.Proof.Gen.OddIn.Frame
public import proofs.«01_k».proof.Proof.Gen.OddOut.Frame
public import proofs.«01_k».proof.Proof.Gen.Uq.Frame
public import proofs.«01_k».proof.Proof.Gen.Ukv.Frame
public import proofs.«01_k».proof.Proof.Gen.SharedUp.Frame
public import proofs.«01_k».proof.Proof.Gen.SharedUpLast.Frame
public import proofs.«01_k».proof.Proof.Gen.EvenCombine.Frame
public import proofs.«01_k».proof.Proof.Gen.OddCombine.Frame
public import proofs.«01_k».proof.Proof.Equation
public import proofs.«01_k».proof.Proof.EvenInEquation
public import proofs.«01_k».proof.Proof.EvenOutEquation
public import proofs.«01_k».proof.Proof.OddInEquation
public import proofs.«01_k».proof.Proof.OddOutEquation
public import proofs.«01_k».proof.Proof.UqEquation
public import proofs.«01_k».proof.Proof.UkvEquation
public import proofs.«01_k».proof.Proof.SharedUpEquation
public import proofs.«01_k».proof.Proof.SharedUpLastEquation
public import proofs.«01_k».proof.Proof.EvenCombineEquation
public import proofs.«01_k».proof.Proof.MoeUpFrame
public import proofs.«01_k».proof.Proof.MoeUpEquation
public import proofs.«01_k».proof.Proof.MoeUpOk
public import proofs.«01_k».proof.Proof.MoeUpIdealOk
public import proofs.«01_k».proof.Proof.MoeUpLastFrame
public import proofs.«01_k».proof.Proof.MoeUpLastEquation
public import proofs.«01_k».proof.Proof.MoeUpLastOk
public import proofs.«01_k».proof.Proof.MoeUpLastIdealOk
public import proofs.«01_k».proof.Proof.OddCombineEquation
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.SL.Sem

/-- The attention reference terminates with its arguments unchanged and its counters zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite arrays the attention call's result is the reference's. -/
theorem algebraic_attention : algebraic_KernelIdeal_ReferenceIdeal_pre_finite (hPre_finite := Cert.Pre.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hQ, hKV, hKR⟩ := Cert.Pre.real _ _ _ (hpre c).1 (hpre c).2.1 (hpre c).2.2
  refine (h c).1.trans ((Cert.AttnRef.res_eq m' c).trans ?_)
  rw [(hagree c).1, (hagree c).2.1, (hagree c).2.2]
  exact Cert.Attn.value_eq m c hQ hKV hKR

/-- The reference of the even layers' input projection terminates with its arguments unchanged and its counters zero. -/
theorem quiescent_EvenInReferenceIdeal : quiescent_EvenInReferenceIdeal := fun m ρ _ =>
  (θ_run Cert.EvenInReferenceIdeal.defs _ _).mono (fun r h => ⟨fun c => (h c).2, sem_eq_zero_of_no_sems (by decide) r.2⟩)
    (Cert.EvenInReferenceIdeal.Value.run (F := Ideal) m ρ)

/-- The result of the even layers' input projection is the reference's. -/
theorem algebraic_EvenIn : algebraic_EvenInIdeal_EvenInReferenceIdeal := by
  intro m ρ m' ρ' _ hagree
  refine ⟨_, Cert.EvenInIdeal.Value.run_blocks (F := Ideal) m ρ, ?_⟩
  refine (θ_run Cert.EvenInReferenceIdeal.defs _ _).mono (fun _ h c => ⟨?_, (h c).2⟩) (Cert.EvenInReferenceIdeal.Value.run (F := Ideal) m' ρ')
  refine (h c).1.trans ((Cert.EvenInCall.res_eq m' c).trans ?_)
  rw [(hagree c).1, (hagree c).2]
  exact (Cert.EvenInCall.value_eq m c).symm

/-- The reference of the even layers' output projection with its gated residual terminates with its arguments unchanged and its counters zero. -/
theorem quiescent_EvenOutReferenceIdeal : quiescent_EvenOutReferenceIdeal := fun m ρ _ =>
  (θ_run Cert.EvenOutReferenceIdeal.defs _ _).mono (fun r h => ⟨fun c => (h c).2, sem_eq_zero_of_no_sems (by decide) r.2⟩)
    (Cert.EvenOutReferenceIdeal.Value.run (F := Ideal) m ρ)

/-- The result of the even layers' output projection with its gated residual is the reference's. -/
theorem algebraic_EvenOut : algebraic_EvenOutIdeal_EvenOutReferenceIdeal := by
  intro m ρ m' ρ' _ hagree
  refine ⟨_, Cert.EvenOutIdeal.Value.run_blocks (F := Ideal) m ρ, ?_⟩
  refine (θ_run Cert.EvenOutReferenceIdeal.defs _ _).mono (fun _ h c => ⟨?_, (h c).2⟩) (Cert.EvenOutReferenceIdeal.Value.run (F := Ideal) m' ρ')
  refine (h c).1.trans ?_
  rw [(hagree c).1, (hagree c).2.1, (hagree c).2.2.1, (hagree c).2.2.2.1, (hagree c).2.2.2.2]
  exact (Cert.EvenOutCall.value_eq m c).symm

/-- The reference of the odd layers' input projection terminates with its arguments unchanged and its counters zero. -/
theorem quiescent_OddInReferenceIdeal : quiescent_OddInReferenceIdeal := fun m ρ _ =>
  (θ_run Cert.OddInReferenceIdeal.defs _ _).mono (fun r h => ⟨fun c => (h c).2, sem_eq_zero_of_no_sems (by decide) r.2⟩)
    (Cert.OddInReferenceIdeal.Value.run (F := Ideal) m ρ)

/-- On finite arrays the result of the odd layers' input projection is the reference's. -/
theorem algebraic_OddIn : algebraic_OddInIdeal_OddInReferenceIdeal_pre_finite_odd_in (hPre_finite_odd_in := Cert.Pre.facts_finite_odd_in) := by
  intro m ρ m' ρ' hpre hagree
  refine ⟨_, Cert.OddInIdeal.Value.run_blocks (F := Ideal) m ρ, ?_⟩
  refine (θ_run Cert.OddInReferenceIdeal.defs _ _).mono (fun _ h c => ⟨?_, (h c).2⟩) (Cert.OddInReferenceIdeal.Value.run (F := Ideal) m' ρ')
  obtain ⟨h0, h1⟩ := Cert.Pre.real_finite_odd_in _ _ (hpre c).1 (hpre c).2
  refine (h c).1.trans ?_
  rw [(hagree c).1, (hagree c).2]
  exact (Cert.OddInCall.value_eq m c h0 h1).symm

/-- The reference of the odd layers' output projection with its gated residual terminates with its arguments unchanged and its counters zero. -/
theorem quiescent_OddOutReferenceIdeal : quiescent_OddOutReferenceIdeal := fun m ρ _ =>
  (θ_run Cert.OddOutReferenceIdeal.defs _ _).mono (fun r h => ⟨fun c => (h c).2, sem_eq_zero_of_no_sems (by decide) r.2⟩)
    (Cert.OddOutReferenceIdeal.Value.run (F := Ideal) m ρ)

/-- The result of the odd layers' output projection with its gated residual is the reference's. -/
theorem algebraic_OddOut : algebraic_OddOutIdeal_OddOutReferenceIdeal := by
  intro m ρ m' ρ' _ hagree
  refine ⟨_, Cert.OddOutIdeal.Value.run_blocks (F := Ideal) m ρ, ?_⟩
  refine (θ_run Cert.OddOutReferenceIdeal.defs _ _).mono (fun _ h c => ⟨?_, (h c).2⟩) (Cert.OddOutReferenceIdeal.Value.run (F := Ideal) m' ρ')
  refine (h c).1.trans ?_
  rw [(hagree c).1, (hagree c).2.1, (hagree c).2.2.1, (hagree c).2.2.2.1, (hagree c).2.2.2.2]
  exact (Cert.OddOutCall.value_eq m c).symm

/-- The reference of the query up-projection terminates with its arguments unchanged and its counters zero. -/
theorem quiescent_UqReferenceIdeal : quiescent_UqReferenceIdeal := fun m ρ _ =>
  (θ_run Cert.UqReferenceIdeal.defs _ _).mono (fun r h => ⟨fun c => (h c).2, sem_eq_zero_of_no_sems (by decide) r.2⟩)
    (Cert.UqReferenceIdeal.Value.run (F := Ideal) m ρ)

/-- On finite arrays the result of the query up-projection is the reference's. -/
theorem algebraic_Uq : algebraic_UqIdeal_UqReferenceIdeal_pre_finite_uq (hPre_finite_uq := Cert.Pre.facts_finite_uq) := by
  intro m ρ m' ρ' hpre hagree
  refine ⟨_, Cert.UqIdeal.Value.run_blocks (F := Ideal) m ρ, ?_⟩
  refine (θ_run Cert.UqReferenceIdeal.defs _ _).mono (fun _ h c => ⟨?_, (h c).2⟩) (Cert.UqReferenceIdeal.Value.run (F := Ideal) m' ρ')
  obtain ⟨h0, h1⟩ := Cert.Pre.real_finite_uq _ _ (hpre c).1 (hpre c).2
  refine (h c).1.trans ?_
  rw [(hagree c).1, (hagree c).2]
  exact (Cert.UqCall.value_eq m c h0 h1).symm

/-- The reference of the key and value up-projection terminates with its arguments unchanged and its counters zero. -/
theorem quiescent_UkvReferenceIdeal : quiescent_UkvReferenceIdeal := fun m ρ _ =>
  (θ_run Cert.UkvReferenceIdeal.defs _ _).mono (fun r h => ⟨fun c => (h c).2, sem_eq_zero_of_no_sems (by decide) r.2⟩)
    (Cert.UkvReferenceIdeal.Value.run (F := Ideal) m ρ)

/-- The result of the key and value up-projection is the reference's. -/
theorem algebraic_Ukv : algebraic_UkvIdeal_UkvReferenceIdeal := by
  intro m ρ m' ρ' _ hagree
  refine ⟨_, Cert.UkvIdeal.Value.run_blocks (F := Ideal) m ρ, ?_⟩
  refine (θ_run Cert.UkvReferenceIdeal.defs _ _).mono (fun _ h c => ⟨?_, (h c).2⟩) (Cert.UkvReferenceIdeal.Value.run (F := Ideal) m' ρ')
  refine (h c).1.trans ?_
  rw [(hagree c).1, (hagree c).2]
  exact (Cert.UkvCall.value_eq m c).symm

/-- The reference of the shared experts' up-projection terminates with its arguments unchanged and its counters zero. -/
theorem quiescent_SharedUpReferenceIdeal : quiescent_SharedUpReferenceIdeal := fun m ρ _ =>
  (θ_run Cert.SharedUpReferenceIdeal.defs _ _).mono (fun r h => ⟨fun c => (h c).2, sem_eq_zero_of_no_sems (by decide) r.2⟩)
    (Cert.SharedUpReferenceIdeal.Value.run (F := Ideal) m ρ)

/-- The result of the shared experts' up-projection is the reference's. -/
theorem algebraic_SharedUp : algebraic_SharedUpIdeal_SharedUpReferenceIdeal := by
  intro m ρ m' ρ' _ hagree
  refine ⟨_, Cert.SharedUpIdeal.Value.run (F := Ideal) m ρ, ?_⟩
  refine (θ_run Cert.SharedUpReferenceIdeal.defs _ _).mono (fun _ h c => ⟨?_, (h c).2⟩) (Cert.SharedUpReferenceIdeal.Value.run (F := Ideal) m' ρ')
  refine (h c).1.trans ?_
  rw [(hagree c).1, (hagree c).2.1, (hagree c).2.2]
  exact (Cert.SharedUpCall.value_eq m c).symm

/-- The reference of the end of the even layers' experts terminates with its arguments unchanged and its counters zero. -/
theorem quiescent_EvenCombineReferenceIdeal : quiescent_EvenCombineReferenceIdeal := fun m ρ _ =>
  (θ_run Cert.EvenCombineReferenceIdeal.defs _ _).mono (fun r h => ⟨fun c => (h c).2, sem_eq_zero_of_no_sems (by decide) r.2⟩)
    (Cert.EvenCombineReferenceIdeal.Value.run (F := Ideal) m ρ)

/-- The result of the end of the even layers' experts is the reference's. -/
theorem algebraic_EvenCombine : algebraic_EvenCombineIdeal_EvenCombineReferenceIdeal := by
  intro m ρ m' ρ' _ hagree
  refine ⟨_, Cert.EvenCombineIdeal.Value.run_blocks (F := Ideal) m ρ, ?_⟩
  refine (θ_run Cert.EvenCombineReferenceIdeal.defs _ _).mono (fun _ h c => ⟨?_, (h c).2⟩) (Cert.EvenCombineReferenceIdeal.Value.run (F := Ideal) m' ρ')
  refine (h c).1.trans ?_
  rw [(hagree c).1, (hagree c).2.1, (hagree c).2.2.1, (hagree c).2.2.2.1, (hagree c).2.2.2.2.1, (hagree c).2.2.2.2.2.1, (hagree c).2.2.2.2.2.2]
  exact (Cert.EvenCombineCall.value_eq m c).symm

/-- The reference of the end of the last layer's experts and the last norm terminates with its arguments unchanged and its counters zero. -/
theorem quiescent_OddCombineReferenceIdeal : quiescent_OddCombineReferenceIdeal := fun m ρ _ =>
  (θ_run Cert.OddCombineReferenceIdeal.defs _ _).mono (fun r h => ⟨fun c => (h c).2, sem_eq_zero_of_no_sems (by decide) r.2⟩)
    (Cert.OddCombineReferenceIdeal.Value.run (F := Ideal) m ρ)

/-- The result of the end of the last layer's experts and the last norm is the reference's. -/
theorem algebraic_OddCombine : algebraic_OddCombineIdeal_OddCombineReferenceIdeal := by
  intro m ρ m' ρ' _ hagree
  refine ⟨_, Cert.OddCombineIdeal.Value.run_blocks (F := Ideal) m ρ, ?_⟩
  refine (θ_run Cert.OddCombineReferenceIdeal.defs _ _).mono (fun _ h c => ⟨?_, (h c).2⟩) (Cert.OddCombineReferenceIdeal.Value.run (F := Ideal) m' ρ')
  refine (h c).1.trans ((Cert.OddCombineCall.res_eq m' c).trans ?_)
  rw [(hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.OddCombineCall.value_eq m c).symm

/-- The reference of the routed experts' up-projection terminates with its arguments unchanged and its counters zero. -/
theorem quiescent_MoeUpReferenceIdeal : quiescent_MoeUpReferenceIdeal (hPre_experts_named := Cert.MoeUpPre.facts) := fun m ρ _ =>
  (θ_run Cert.MoeUpReferenceIdeal.defs _ _).mono (fun r h => ⟨fun c => (h c).2, sem_eq_zero_of_no_sems (by decide) r.2⟩)
    (Cert.MoeUpReferenceIdeal.Value.run (F := Ideal) m ρ)

/-- Where every row block names an expert, the result of the routed experts' up-projection is the reference's. -/
theorem algebraic_MoeUp : algebraic_MoeUpIdeal_MoeUpReferenceIdeal (hPre_experts_named := Cert.MoeUpPre.facts) := by
  intro m ρ m' ρ' hpre hagree
  refine ⟨_, Cert.MoeUpCall.run m ρ (Cert.MoeUpIdeal.Run.ok_of_pre m 0 (hpre 0)), ?_⟩
  refine (θ_run Cert.MoeUpReferenceIdeal.defs _ _).mono (fun _ h c => ⟨?_, (h c).2⟩) (Cert.MoeUpReferenceIdeal.Value.run (F := Ideal) m' ρ')
  refine (h c).1.trans ?_
  rw [(hagree c).1, (hagree c).2.1, (hagree c).2.2.1, (hagree c).2.2.2]
  exact (Cert.MoeUpCall.result_eq _ _ _ _ (Cert.MoeUpPre.named_lt _ _ _ _ (hpre c))).symm

/-- The reference of the last layer's shared experts' up-projection terminates with its arguments unchanged and its counters zero. -/
theorem quiescent_SharedUpLastReferenceIdeal : quiescent_SharedUpLastReferenceIdeal := fun m ρ _ =>
  (θ_run Cert.SharedUpLastReferenceIdeal.defs _ _).mono (fun r h => ⟨fun c => (h c).2, sem_eq_zero_of_no_sems (by decide) r.2⟩)
    (Cert.SharedUpLastReferenceIdeal.Value.run (F := Ideal) m ρ)

/-- The result of the last layer's shared experts' up-projection is the reference's. -/
theorem algebraic_SharedUpLast : algebraic_SharedUpLastIdeal_SharedUpLastReferenceIdeal := by
  intro m ρ m' ρ' _ hagree
  refine ⟨_, Cert.SharedUpLastIdeal.Value.run (F := Ideal) m ρ, ?_⟩
  refine (θ_run Cert.SharedUpLastReferenceIdeal.defs _ _).mono (fun _ h c => ⟨?_, (h c).2⟩) (Cert.SharedUpLastReferenceIdeal.Value.run (F := Ideal) m' ρ')
  refine (h c).1.trans ?_
  rw [(hagree c).1, (hagree c).2.1, (hagree c).2.2]
  exact (Cert.SharedUpLastCall.value_eq m c).symm

/-- The reference of the last layer's routed experts' up-projection terminates with its arguments unchanged and its counters zero. -/
theorem quiescent_MoeUpLastReferenceIdeal : quiescent_MoeUpLastReferenceIdeal (hPre_experts_named_last := Cert.MoeUpLastPre.facts) := fun m ρ _ =>
  (θ_run Cert.MoeUpLastReferenceIdeal.defs _ _).mono (fun r h => ⟨fun c => (h c).2, sem_eq_zero_of_no_sems (by decide) r.2⟩)
    (Cert.MoeUpLastReferenceIdeal.Value.run (F := Ideal) m ρ)

/-- Where every row block names an expert, the result of the last layer's routed experts' up-projection is the reference's. -/
theorem algebraic_MoeUpLast : algebraic_MoeUpLastIdeal_MoeUpLastReferenceIdeal (hPre_experts_named_last := Cert.MoeUpLastPre.facts) := by
  intro m ρ m' ρ' hpre hagree
  refine ⟨_, Cert.MoeUpLastCall.run m ρ (Cert.MoeUpLastIdeal.Run.ok_of_pre m 0 (hpre 0)), ?_⟩
  refine (θ_run Cert.MoeUpLastReferenceIdeal.defs _ _).mono (fun _ h c => ⟨?_, (h c).2⟩) (Cert.MoeUpLastReferenceIdeal.Value.run (F := Ideal) m' ρ')
  refine (h c).1.trans ?_
  rw [(hagree c).1, (hagree c).2.1, (hagree c).2.2.1, (hagree c).2.2.2]
  exact (Cert.MoeUpLastCall.result_eq _ _ _ _ (Cert.MoeUpLastPre.named_lt _ _ _ _ (hpre c))).symm

theorem claim : Cert.Claim := ⟨Cert.Kernel.Gen.facts, Cert.KernelIdeal.Gen.facts, Cert.ReferenceIdeal.Gen.facts, Cert.EvenIn.Gen.facts, Cert.EvenInIdeal.Gen.facts, Cert.EvenInReferenceIdeal.Gen.facts, Cert.EvenOut.Gen.facts, Cert.EvenOutIdeal.Gen.facts, Cert.EvenOutReferenceIdeal.Gen.facts, Cert.OddIn.Gen.facts, Cert.OddInIdeal.Gen.facts, Cert.OddInReferenceIdeal.Gen.facts, Cert.OddOut.Gen.facts, Cert.OddOutIdeal.Gen.facts, Cert.OddOutReferenceIdeal.Gen.facts, Cert.Uq.Gen.facts, Cert.UqIdeal.Gen.facts, Cert.UqReferenceIdeal.Gen.facts, Cert.Ukv.Gen.facts, Cert.UkvIdeal.Gen.facts, Cert.UkvReferenceIdeal.Gen.facts, Cert.SharedUp.Gen.facts, Cert.SharedUpIdeal.Gen.facts, Cert.SharedUpReferenceIdeal.Gen.facts, Cert.EvenCombine.Gen.facts, Cert.EvenCombineIdeal.Gen.facts, Cert.EvenCombineReferenceIdeal.Gen.facts, Cert.OddCombine.Gen.facts, Cert.OddCombineIdeal.Gen.facts, Cert.OddCombineReferenceIdeal.Gen.facts, Cert.MoeUp.Gen.facts, Cert.MoeUpIdeal.Gen.facts, Cert.MoeUpReferenceIdeal.Gen.facts, Cert.SharedUpLast.Gen.facts, Cert.SharedUpLastIdeal.Gen.facts, Cert.SharedUpLastReferenceIdeal.Gen.facts, Cert.MoeUpLast.Gen.facts, Cert.MoeUpLastIdeal.Gen.facts, Cert.MoeUpLastReferenceIdeal.Gen.facts, Cert.Pre.facts, Cert.Pre.facts_finite_odd_in, Cert.Pre.facts_finite_uq, Cert.MoeUpPre.facts, Cert.MoeUpLastPre.facts,
  fun m ρ _ => Cert.Kernel.Gen.frame m ρ,
  fun m ρ _ => Cert.KernelIdeal.Gen.frame m ρ,
  fun m ρ _ => Cert.KernelIdeal.Gen.frame m ρ,
  quiescent_ReferenceIdeal,
  fun m ρ _ => quiescent_ReferenceIdeal m ρ trivial,
  fun m ρ _ => Cert.EvenIn.Gen.frame m ρ,
  fun m ρ _ => Cert.EvenInIdeal.Gen.frame m ρ,
  quiescent_EvenInReferenceIdeal,
  fun m ρ _ => Cert.EvenOut.Gen.frame m ρ,
  fun m ρ _ => Cert.EvenOutIdeal.Gen.frame m ρ,
  quiescent_EvenOutReferenceIdeal,
  fun m ρ _ => Cert.OddIn.Gen.frame m ρ,
  fun m ρ _ => Cert.OddInIdeal.Gen.frame m ρ,
  fun m ρ _ => Cert.OddInIdeal.Gen.frame m ρ,
  quiescent_OddInReferenceIdeal,
  fun m ρ _ => quiescent_OddInReferenceIdeal m ρ trivial,
  fun m ρ _ => Cert.OddOut.Gen.frame m ρ,
  fun m ρ _ => Cert.OddOutIdeal.Gen.frame m ρ,
  quiescent_OddOutReferenceIdeal,
  fun m ρ _ => Cert.Uq.Gen.frame m ρ,
  fun m ρ _ => Cert.UqIdeal.Gen.frame m ρ,
  fun m ρ _ => Cert.UqIdeal.Gen.frame m ρ,
  quiescent_UqReferenceIdeal,
  fun m ρ _ => quiescent_UqReferenceIdeal m ρ trivial,
  fun m ρ _ => Cert.Ukv.Gen.frame m ρ,
  fun m ρ _ => Cert.UkvIdeal.Gen.frame m ρ,
  quiescent_UkvReferenceIdeal,
  fun m ρ _ => Cert.SharedUp.Gen.frame m ρ,
  fun m ρ _ => Cert.SharedUpIdeal.Gen.frame m ρ,
  quiescent_SharedUpReferenceIdeal,
  fun m ρ _ => Cert.EvenCombine.Gen.frame m ρ,
  fun m ρ _ => Cert.EvenCombineIdeal.Gen.frame m ρ,
  quiescent_EvenCombineReferenceIdeal,
  fun m ρ _ => Cert.OddCombine.Gen.frame m ρ,
  fun m ρ _ => Cert.OddCombineIdeal.Gen.frame m ρ,
  quiescent_OddCombineReferenceIdeal,
  fun m ρ h => Cert.MoeUp.Run.frame m ρ (Cert.MoeUp.Run.ok_of_pre m 0 (h 0)),
  fun m ρ h => Cert.MoeUpIdeal.Run.frame m ρ (Cert.MoeUpIdeal.Run.ok_of_pre m 0 (h 0)),
  quiescent_MoeUpReferenceIdeal,
  fun m ρ _ => Cert.SharedUpLast.Gen.frame m ρ,
  fun m ρ _ => Cert.SharedUpLastIdeal.Gen.frame m ρ,
  quiescent_SharedUpLastReferenceIdeal,
  fun m ρ h => Cert.MoeUpLast.Run.frame m ρ (Cert.MoeUpLast.Run.ok_of_pre m 0 (h 0)),
  fun m ρ h => Cert.MoeUpLastIdeal.Run.frame m ρ (Cert.MoeUpLastIdeal.Run.ok_of_pre m 0 (h 0)),
  quiescent_MoeUpLastReferenceIdeal,
  (trivial : preserves_Kernel_KernelIdeal),
  algebraic_attention,
  (trivial : preserves_EvenIn_EvenInIdeal),
  algebraic_EvenIn,
  (trivial : preserves_EvenOut_EvenOutIdeal),
  algebraic_EvenOut,
  (trivial : preserves_OddIn_OddInIdeal),
  algebraic_OddIn,
  (trivial : preserves_OddOut_OddOutIdeal),
  algebraic_OddOut,
  (trivial : preserves_Uq_UqIdeal),
  algebraic_Uq,
  (trivial : preserves_Ukv_UkvIdeal),
  algebraic_Ukv,
  (trivial : preserves_SharedUp_SharedUpIdeal),
  algebraic_SharedUp,
  (trivial : preserves_EvenCombine_EvenCombineIdeal),
  algebraic_EvenCombine,
  (trivial : preserves_OddCombine_OddCombineIdeal),
  algebraic_OddCombine,
  (trivial : preserves_MoeUp_MoeUpIdeal),
  algebraic_MoeUp,
  (trivial : preserves_SharedUpLast_SharedUpLastIdeal),
  algebraic_SharedUpLast,
  (trivial : preserves_MoeUpLast_MoeUpLastIdeal),
  algebraic_MoeUpLast⟩

end Cert.Proof

end
